-- ==== Defs.lean ====
def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueriedIdeal (m : (ℓ : Loc Cert.QueriedIdeal.nD Cert.QueriedIdeal.τ Cert.QueriedIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_scored [hPre_scored : Cert.Pre_scored.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_scored.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))) = (fun _ => 1#1)

def Pre_AttendedIdeal (m : (ℓ : Loc Cert.AttendedIdeal.nD Cert.AttendedIdeal.τ Cert.AttendedIdeal.sig) → Buf (Elt Ideal) ℓ) : Prop :=
  True

def Pre_AttendedIdeal_scored [hPre_scored : Cert.Pre_scored.Facts] (m : (ℓ : Loc Cert.AttendedIdeal.nD Cert.AttendedIdeal.τ Cert.AttendedIdeal.sig) → Buf (Elt Ideal) ℓ) : Prop :=
  ∀ c : Dev Cert.AttendedIdeal.nD,
    (Cert.Pre_scored.fn (F := Ideal) (m ((c.tc : Thread Cert.AttendedIdeal.nD Cert.AttendedIdeal.τ).loc Cert.AttendedIdeal.main_arg0)) (m ((c.tc : Thread Cert.AttendedIdeal.nD Cert.AttendedIdeal.τ).loc Cert.AttendedIdeal.main_arg1)) (m ((c.tc : Thread Cert.AttendedIdeal.nD Cert.AttendedIdeal.τ).loc Cert.AttendedIdeal.main_arg2)) (m ((c.tc : Thread Cert.AttendedIdeal.nD Cert.AttendedIdeal.τ).loc Cert.AttendedIdeal.main_arg3))) = (fun _ => 1#1)

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingIdeal_finite [hPre_finite : Cert.Pre_finite.Facts] (m : (ℓ : Loc Cert.GatingIdeal.nD Cert.GatingIdeal.τ Cert.GatingIdeal.sig) → Buf (Elt Ideal) ℓ) : Prop :=
  ∀ c : Dev Cert.GatingIdeal.nD,
    (Cert.Pre_finite.fn (F := Ideal) (m ((c.tc : Thread Cert.GatingIdeal.nD Cert.GatingIdeal.τ).loc Cert.GatingIdeal.main_arg0)) (m ((c.tc : Thread Cert.GatingIdeal.nD Cert.GatingIdeal.τ).loc Cert.GatingIdeal.main_arg1)) (m ((c.tc : Thread Cert.GatingIdeal.nD Cert.GatingIdeal.τ).loc Cert.GatingIdeal.main_arg2)) (m ((c.tc : Thread Cert.GatingIdeal.nD Cert.GatingIdeal.τ).loc Cert.GatingIdeal.main_arg3)) (m ((c.tc : Thread Cert.GatingIdeal.nD Cert.GatingIdeal.τ).loc Cert.GatingIdeal.main_arg4))) = (fun _ => 1#1)

def Pre_GatedIdeal (m : (ℓ : Loc Cert.GatedIdeal.nD Cert.GatedIdeal.τ Cert.GatedIdeal.sig) → Buf (Elt Ideal) ℓ) : Prop :=
  True

def Pre_GatedIdeal_finite [hPre_finite : Cert.Pre_finite.Facts] (m : (ℓ : Loc Cert.GatedIdeal.nD Cert.GatedIdeal.τ Cert.GatedIdeal.sig) → Buf (Elt Ideal) ℓ) : Prop :=
  ∀ c : Dev Cert.GatedIdeal.nD,
    (Cert.Pre_finite.fn (F := Ideal) (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3)) (m ((c.tc : Thread Cert.GatedIdeal.nD Cert.GatedIdeal.τ).loc Cert.GatedIdeal.main_arg4))) = (fun _ => 1#1)

def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pre : Cert.Pre_pre.Facts] (m : (ℓ : Loc Cert.Reference.nD Cert.Reference.τ Cert.Reference.sig) → Buf (Elt Bits) ℓ) : Prop :=
  ∀ c : Dev Cert.Reference.nD,
    (Cert.Pre_pre.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Scatter [hPre_routed : Cert.Pre_routed.Facts] (m : (ℓ : Loc Cert.Scatter.nD Cert.Scatter.τ Cert.Scatter.sig) → Buf (Elt Bits) ℓ) : Prop :=
  ∀ c : Dev Cert.Scatter.nD,
    (Cert.Pre_routed.fn (F := Bits) (m ((c.tc : Thread Cert.Scatter.nD Cert.Scatter.τ).loc Cert.Scatter.main_arg0)) (m ((c.tc : Thread Cert.Scatter.nD Cert.Scatter.τ).loc Cert.Scatter.main_arg1)) (m ((c.tc : Thread Cert.Scatter.nD Cert.Scatter.τ).loc Cert.Scatter.main_arg2)) (m ((c.tc : Thread Cert.Scatter.nD Cert.Scatter.τ).loc Cert.Scatter.main_arg3))) = (fun _ => 1#1)

def Pre_ScatterIdeal [hPre_routed : Cert.Pre_routed.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_routed.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1)) (m ((c.tc : Thread Cert.ScatterIdeal.nD Cert.ScatterIdeal.τ).loc Cert.ScatterIdeal.main_arg2)) (m ((c.tc : Thread Cert.ScatterIdeal.nD Cert.ScatterIdeal.τ).loc Cert.ScatterIdeal.main_arg3))) = (fun _ => 1#1)

def Pre_CombinedIdeal [hPre_routed : Cert.Pre_routed.Facts] (m : (ℓ : Loc Cert.CombinedIdeal.nD Cert.CombinedIdeal.τ Cert.CombinedIdeal.sig) → Buf (Elt Ideal) ℓ) : Prop :=
  ∀ c : Dev Cert.CombinedIdeal.nD,
    (Cert.Pre_routed.fn (F := Ideal) (m ((c.tc : Thread Cert.CombinedIdeal.nD Cert.CombinedIdeal.τ).loc Cert.CombinedIdeal.main_arg0)) (m ((c.tc : Thread Cert.CombinedIdeal.nD Cert.CombinedIdeal.τ).loc Cert.CombinedIdeal.main_arg1)) (m ((c.tc : Thread Cert.CombinedIdeal.nD Cert.CombinedIdeal.τ).loc Cert.CombinedIdeal.main_arg2)) (m ((c.tc : Thread Cert.CombinedIdeal.nD Cert.CombinedIdeal.τ).loc Cert.CombinedIdeal.main_arg3))) = (fun _ => 1#1)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueriedIdeal [hQueriedIdeal : Cert.QueriedIdeal.Facts] : Prop :=
  ∀ (m : (ℓ : Loc Cert.QueriedIdeal.nD Cert.QueriedIdeal.τ Cert.QueriedIdeal.sig) → Buf (Elt Ideal) ℓ) (g : Dev Cert.QueriedIdeal.nD → PrngReg), Pre_QueriedIdeal m →
    θ_run (Cert.QueriedIdeal.defs (F := Ideal)) (onTc (τ := Cert.QueriedIdeal.τ) (Cert.QueriedIdeal.main (F := Ideal))) ⟨m, fun _ => 0, g⟩ (fun r => (∀ c : Dev Cert.QueriedIdeal.nD,
      r.2.mem ((c.tc : Thread Cert.QueriedIdeal.nD Cert.QueriedIdeal.τ).loc Cert.QueriedIdeal.main_arg0) = m ((c.tc : Thread Cert.QueriedIdeal.nD Cert.QueriedIdeal.τ).loc Cert.QueriedIdeal.main_arg0)
      ∧ r.2.mem ((c.tc : Thread Cert.QueriedIdeal.nD Cert.QueriedIdeal.τ).loc Cert.QueriedIdeal.main_arg1) = m ((c.tc : Thread Cert.QueriedIdeal.nD Cert.QueriedIdeal.τ).loc Cert.QueriedIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_scored [hAttentionIdeal : Cert.AttentionIdeal.Facts] [hPre_scored : Cert.Pre_scored.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_scored m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttendedIdeal [hAttendedIdeal : Cert.AttendedIdeal.Facts] : Prop :=
  ∀ (m : (ℓ : Loc Cert.AttendedIdeal.nD Cert.AttendedIdeal.τ Cert.AttendedIdeal.sig) → Buf (Elt Ideal) ℓ) (g : Dev Cert.AttendedIdeal.nD → PrngReg), Pre_AttendedIdeal m →
    θ_run (Cert.AttendedIdeal.defs (F := Ideal)) (onTc (τ := Cert.AttendedIdeal.τ) (Cert.AttendedIdeal.main (F := Ideal))) ⟨m, fun _ => 0, g⟩ (fun r => (∀ c : Dev Cert.AttendedIdeal.nD,
      r.2.mem ((c.tc : Thread Cert.AttendedIdeal.nD Cert.AttendedIdeal.τ).loc Cert.AttendedIdeal.main_arg0) = m ((c.tc : Thread Cert.AttendedIdeal.nD Cert.AttendedIdeal.τ).loc Cert.AttendedIdeal.main_arg0)
      ∧ r.2.mem ((c.tc : Thread Cert.AttendedIdeal.nD Cert.AttendedIdeal.τ).loc Cert.AttendedIdeal.main_arg1) = m ((c.tc : Thread Cert.AttendedIdeal.nD Cert.AttendedIdeal.τ).loc Cert.AttendedIdeal.main_arg1)
      ∧ r.2.mem ((c.tc : Thread Cert.AttendedIdeal.nD Cert.AttendedIdeal.τ).loc Cert.AttendedIdeal.main_arg2) = m ((c.tc : Thread Cert.AttendedIdeal.nD Cert.AttendedIdeal.τ).loc Cert.AttendedIdeal.main_arg2)
      ∧ r.2.mem ((c.tc : Thread Cert.AttendedIdeal.nD Cert.AttendedIdeal.τ).loc Cert.AttendedIdeal.main_arg3) = m ((c.tc : Thread Cert.AttendedIdeal.nD Cert.AttendedIdeal.τ).loc Cert.AttendedIdeal.main_arg3))
      ∧ r.2.sem = fun _ => 0)

def quiescent_AttendedIdeal_pre_scored [hAttendedIdeal : Cert.AttendedIdeal.Facts] [hPre_scored : Cert.Pre_scored.Facts] : Prop :=
  ∀ (m : (ℓ : Loc Cert.AttendedIdeal.nD Cert.AttendedIdeal.τ Cert.AttendedIdeal.sig) → Buf (Elt Ideal) ℓ) (g : Dev Cert.AttendedIdeal.nD → PrngReg), Pre_AttendedIdeal_scored m →
    θ_run (Cert.AttendedIdeal.defs (F := Ideal)) (onTc (τ := Cert.AttendedIdeal.τ) (Cert.AttendedIdeal.main (F := Ideal))) ⟨m, fun _ => 0, g⟩ (fun r => (∀ c : Dev Cert.AttendedIdeal.nD,
      r.2.mem ((c.tc : Thread Cert.AttendedIdeal.nD Cert.AttendedIdeal.τ).loc Cert.AttendedIdeal.main_arg0) = m ((c.tc : Thread Cert.AttendedIdeal.nD Cert.AttendedIdeal.τ).loc Cert.AttendedIdeal.main_arg0)
      ∧ r.2.mem ((c.tc : Thread Cert.AttendedIdeal.nD Cert.AttendedIdeal.τ).loc Cert.AttendedIdeal.main_arg1) = m ((c.tc : Thread Cert.AttendedIdeal.nD Cert.AttendedIdeal.τ).loc Cert.AttendedIdeal.main_arg1)
      ∧ r.2.mem ((c.tc : Thread Cert.AttendedIdeal.nD Cert.AttendedIdeal.τ).loc Cert.AttendedIdeal.main_arg2) = m ((c.tc : Thread Cert.AttendedIdeal.nD Cert.AttendedIdeal.τ).loc Cert.AttendedIdeal.main_arg2)
      ∧ r.2.mem ((c.tc : Thread Cert.AttendedIdeal.nD Cert.AttendedIdeal.τ).loc Cert.AttendedIdeal.main_arg3) = m ((c.tc : Thread Cert.AttendedIdeal.nD Cert.AttendedIdeal.τ).loc Cert.AttendedIdeal.main_arg3))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingIdeal_pre_finite [hGatingIdeal : Cert.GatingIdeal.Facts] [hPre_finite : Cert.Pre_finite.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal_finite m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ r.2.sem = fun _ => 0)

def quiescent_GatedIdeal_pre_finite [hGatedIdeal : Cert.GatedIdeal.Facts] [hPre_finite : Cert.Pre_finite.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal_finite m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ r.2.sem = fun _ => 0)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pre : Cert.Pre_pre.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Scatter [hScatter : Cert.Scatter.Facts] [hPre_routed : Cert.Pre_routed.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3))
      ∧ r.2.sem = fun _ => 0)

def quiescent_ScatterIdeal [hScatterIdeal : Cert.ScatterIdeal.Facts] [hPre_routed : Cert.Pre_routed.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ r.2.sem = fun _ => 0)

def quiescent_CombinedIdeal [hCombinedIdeal : Cert.CombinedIdeal.Facts] [hPre_routed : Cert.Pre_routed.Facts] : Prop :=
  ∀ (m : (ℓ : Loc Cert.CombinedIdeal.nD Cert.CombinedIdeal.τ Cert.CombinedIdeal.sig) → Buf (Elt Ideal) ℓ) (g : Dev Cert.CombinedIdeal.nD → PrngReg), Pre_CombinedIdeal m →
    θ_run (Cert.CombinedIdeal.defs (F := Ideal)) (onTc (τ := Cert.CombinedIdeal.τ) (Cert.CombinedIdeal.main (F := Ideal))) ⟨m, fun _ => 0, g⟩ (fun r => (∀ c : Dev Cert.CombinedIdeal.nD,
      r.2.mem ((c.tc : Thread Cert.CombinedIdeal.nD Cert.CombinedIdeal.τ).loc Cert.CombinedIdeal.main_arg0) = m ((c.tc : Thread Cert.CombinedIdeal.nD Cert.CombinedIdeal.τ).loc Cert.CombinedIdeal.main_arg0)
      ∧ r.2.mem ((c.tc : Thread Cert.CombinedIdeal.nD Cert.CombinedIdeal.τ).loc Cert.CombinedIdeal.main_arg1) = m ((c.tc : Thread Cert.CombinedIdeal.nD Cert.CombinedIdeal.τ).loc Cert.CombinedIdeal.main_arg1)
      ∧ r.2.mem ((c.tc : Thread Cert.CombinedIdeal.nD Cert.CombinedIdeal.τ).loc Cert.CombinedIdeal.main_arg2) = m ((c.tc : Thread Cert.CombinedIdeal.nD Cert.CombinedIdeal.τ).loc Cert.CombinedIdeal.main_arg2)
      ∧ r.2.mem ((c.tc : Thread Cert.CombinedIdeal.nD Cert.CombinedIdeal.τ).loc Cert.CombinedIdeal.main_arg3) = m ((c.tc : Thread Cert.CombinedIdeal.nD Cert.CombinedIdeal.τ).loc Cert.CombinedIdeal.main_arg3))
      ∧ r.2.sem = fun _ => 0)

def preserves_Query_QueryIdeal : Prop :=
  True

def algebraic_QueryIdeal_QueriedIdeal [hQueryIdeal : Cert.QueryIdeal.Facts] [hQueriedIdeal : Cert.QueriedIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueriedIdeal.nD Cert.QueriedIdeal.τ Cert.QueriedIdeal.sig) → Buf (Elt Ideal) ℓ) (g' : Dev Cert.QueriedIdeal.nD → PrngReg), Pre_QueryIdeal m →
    (∀ c : Dev Cert.QueryIdeal.nD,
      m' ((c.tc : Thread Cert.QueriedIdeal.nD Cert.QueriedIdeal.τ).loc Cert.QueriedIdeal.main_arg0) = m ((c.tc : Thread Cert.QueryIdeal.nD Cert.QueryIdeal.τ).loc Cert.QueryIdeal.main_arg0)
      ∧ m' ((c.tc : Thread Cert.QueriedIdeal.nD Cert.QueriedIdeal.τ).loc Cert.QueriedIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v5)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v5) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueriedIdeal.defs (F := Ideal)) (onTc (τ := Cert.QueriedIdeal.τ) (Cert.QueriedIdeal.main (F := Ideal))) ⟨m', fun _ => 0, g'⟩ (fun r => ∀ c : Dev Cert.QueriedIdeal.nD,
          r.2.mem ((c.tc : Thread Cert.QueriedIdeal.nD Cert.QueriedIdeal.τ).loc Cert.QueriedIdeal.main_v2) = v0 c
          ∧ r.2.mem ((c.tc : Thread Cert.QueriedIdeal.nD Cert.QueriedIdeal.τ).loc Cert.QueriedIdeal.main_arg0) = m' ((c.tc : Thread Cert.QueriedIdeal.nD Cert.QueriedIdeal.τ).loc Cert.QueriedIdeal.main_arg0)
          ∧ r.2.mem ((c.tc : Thread Cert.QueriedIdeal.nD Cert.QueriedIdeal.τ).loc Cert.QueriedIdeal.main_arg1) = m' ((c.tc : Thread Cert.QueriedIdeal.nD Cert.QueriedIdeal.τ).loc Cert.QueriedIdeal.main_arg1))

def preserves_Attention_AttentionIdeal : Prop :=
  True

def algebraic_AttentionIdeal_AttendedIdeal_pre_scored [hAttentionIdeal : Cert.AttentionIdeal.Facts] [hAttendedIdeal : Cert.AttendedIdeal.Facts] [hPre_scored : Cert.Pre_scored.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttendedIdeal.nD Cert.AttendedIdeal.τ Cert.AttendedIdeal.sig) → Buf (Elt Ideal) ℓ) (g' : Dev Cert.AttendedIdeal.nD → PrngReg), Pre_AttentionIdeal_scored m →
    (∀ c : Dev Cert.AttentionIdeal.nD,
      m' ((c.tc : Thread Cert.AttendedIdeal.nD Cert.AttendedIdeal.τ).loc Cert.AttendedIdeal.main_arg0) = m ((c.tc : Thread Cert.AttentionIdeal.nD Cert.AttentionIdeal.τ).loc Cert.AttentionIdeal.main_arg0)
      ∧ m' ((c.tc : Thread Cert.AttendedIdeal.nD Cert.AttendedIdeal.τ).loc Cert.AttendedIdeal.main_arg1) = m ((c.tc : Thread Cert.AttentionIdeal.nD Cert.AttentionIdeal.τ).loc Cert.AttentionIdeal.main_arg1)
      ∧ m' ((c.tc : Thread Cert.AttendedIdeal.nD Cert.AttendedIdeal.τ).loc Cert.AttendedIdeal.main_arg2) = m ((c.tc : Thread Cert.AttentionIdeal.nD Cert.AttentionIdeal.τ).loc Cert.AttentionIdeal.main_arg2)
      ∧ m' ((c.tc : Thread Cert.AttendedIdeal.nD Cert.AttendedIdeal.τ).loc Cert.AttendedIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v4)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v4) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttendedIdeal.defs (F := Ideal)) (onTc (τ := Cert.AttendedIdeal.τ) (Cert.AttendedIdeal.main (F := Ideal))) ⟨m', fun _ => 0, g'⟩ (fun r => ∀ c : Dev Cert.AttendedIdeal.nD,
          r.2.mem ((c.tc : Thread Cert.AttendedIdeal.nD Cert.AttendedIdeal.τ).loc Cert.AttendedIdeal.main_v29) = v0 c
          ∧ r.2.mem ((c.tc : Thread Cert.AttendedIdeal.nD Cert.AttendedIdeal.τ).loc Cert.AttendedIdeal.main_arg0) = m' ((c.tc : Thread Cert.AttendedIdeal.nD Cert.AttendedIdeal.τ).loc Cert.AttendedIdeal.main_arg0)
          ∧ r.2.mem ((c.tc : Thread Cert.AttendedIdeal.nD Cert.AttendedIdeal.τ).loc Cert.AttendedIdeal.main_arg1) = m' ((c.tc : Thread Cert.AttendedIdeal.nD Cert.AttendedIdeal.τ).loc Cert.AttendedIdeal.main_arg1)
          ∧ r.2.mem ((c.tc : Thread Cert.AttendedIdeal.nD Cert.AttendedIdeal.τ).loc Cert.AttendedIdeal.main_arg2) = m' ((c.tc : Thread Cert.AttendedIdeal.nD Cert.AttendedIdeal.τ).loc Cert.AttendedIdeal.main_arg2)
          ∧ r.2.mem ((c.tc : Thread Cert.AttendedIdeal.nD Cert.AttendedIdeal.τ).loc Cert.AttendedIdeal.main_arg3) = m' ((c.tc : Thread Cert.AttendedIdeal.nD Cert.AttendedIdeal.τ).loc Cert.AttendedIdeal.main_arg3))

def preserves_Gating_GatingIdeal : Prop :=
  True

def algebraic_GatingIdeal_GatedIdeal_pre_finite [hGatingIdeal : Cert.GatingIdeal.Facts] [hGatedIdeal : Cert.GatedIdeal.Facts] [hPre_finite : Cert.Pre_finite.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatedIdeal.nD Cert.GatedIdeal.τ Cert.GatedIdeal.sig) → Buf (Elt Ideal) ℓ) (g' : Dev Cert.GatedIdeal.nD → PrngReg), Pre_GatingIdeal_finite m →
    (∀ c : Dev Cert.GatingIdeal.nD,
      m' ((c.tc : Thread Cert.GatedIdeal.nD Cert.GatedIdeal.τ).loc Cert.GatedIdeal.main_arg0) = m ((c.tc : Thread Cert.GatingIdeal.nD Cert.GatingIdeal.τ).loc Cert.GatingIdeal.main_arg0)
      ∧ m' ((c.tc : Thread Cert.GatedIdeal.nD Cert.GatedIdeal.τ).loc Cert.GatedIdeal.main_arg1) = m ((c.tc : Thread Cert.GatingIdeal.nD Cert.GatingIdeal.τ).loc Cert.GatingIdeal.main_arg1)
      ∧ m' ((c.tc : Thread Cert.GatedIdeal.nD Cert.GatedIdeal.τ).loc Cert.GatedIdeal.main_arg2) = m ((c.tc : Thread Cert.GatingIdeal.nD Cert.GatingIdeal.τ).loc Cert.GatingIdeal.main_arg2)
      ∧ m' ((c.tc : Thread Cert.GatedIdeal.nD Cert.GatedIdeal.τ).loc Cert.GatedIdeal.main_arg3) = m ((c.tc : Thread Cert.GatingIdeal.nD Cert.GatingIdeal.τ).loc Cert.GatingIdeal.main_arg3)
      ∧ m' ((c.tc : Thread Cert.GatedIdeal.nD Cert.GatedIdeal.τ).loc Cert.GatedIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v3_0)) (v1 : (c : Dev Cert.GatingIdeal.nD) → Buf (Elt Ideal) ((c.tc : Thread Cert.GatingIdeal.nD Cert.GatingIdeal.τ).loc Cert.GatingIdeal.main_v3_1)) (v2 : (c : Dev Cert.GatingIdeal.nD) → Buf (Elt Ideal) ((c.tc : Thread Cert.GatingIdeal.nD Cert.GatingIdeal.τ).loc Cert.GatingIdeal.main_v3_2)) (v3 : (c : Dev Cert.GatingIdeal.nD) → Buf (Elt Ideal) ((c.tc : Thread Cert.GatingIdeal.nD Cert.GatingIdeal.τ).loc Cert.GatingIdeal.main_v3_3)) (v4 : (c : Dev Cert.GatingIdeal.nD) → Buf (Elt Ideal) ((c.tc : Thread Cert.GatingIdeal.nD Cert.GatingIdeal.τ).loc Cert.GatingIdeal.main_v3_4)) (v5 : (c : Dev Cert.GatingIdeal.nD) → Buf (Elt Ideal) ((c.tc : Thread Cert.GatingIdeal.nD Cert.GatingIdeal.τ).loc Cert.GatingIdeal.main_v3_5)) (v6 : (c : Dev Cert.GatingIdeal.nD) → Buf (Elt Ideal) ((c.tc : Thread Cert.GatingIdeal.nD Cert.GatingIdeal.τ).loc Cert.GatingIdeal.main_v3_6)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v3_0) = v0 c
          ∧ r.2.mem ((c.tc : Thread Cert.GatingIdeal.nD Cert.GatingIdeal.τ).loc Cert.GatingIdeal.main_v3_1) = v1 c
          ∧ r.2.mem ((c.tc : Thread Cert.GatingIdeal.nD Cert.GatingIdeal.τ).loc Cert.GatingIdeal.main_v3_2) = v2 c
          ∧ r.2.mem ((c.tc : Thread Cert.GatingIdeal.nD Cert.GatingIdeal.τ).loc Cert.GatingIdeal.main_v3_3) = v3 c
          ∧ r.2.mem ((c.tc : Thread Cert.GatingIdeal.nD Cert.GatingIdeal.τ).loc Cert.GatingIdeal.main_v3_4) = v4 c
          ∧ r.2.mem ((c.tc : Thread Cert.GatingIdeal.nD Cert.GatingIdeal.τ).loc Cert.GatingIdeal.main_v3_5) = v5 c
          ∧ r.2.mem ((c.tc : Thread Cert.GatingIdeal.nD Cert.GatingIdeal.τ).loc Cert.GatingIdeal.main_v3_6) = v6 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatedIdeal.defs (F := Ideal)) (onTc (τ := Cert.GatedIdeal.τ) (Cert.GatedIdeal.main (F := Ideal))) ⟨m', fun _ => 0, g'⟩ (fun r => ∀ c : Dev Cert.GatedIdeal.nD,
          r.2.mem ((c.tc : Thread Cert.GatedIdeal.nD Cert.GatedIdeal.τ).loc Cert.GatedIdeal.main_v71) = v0 c
          ∧ r.2.mem ((c.tc : Thread Cert.GatedIdeal.nD Cert.GatedIdeal.τ).loc Cert.GatedIdeal.main_v29) = v1 c
          ∧ r.2.mem ((c.tc : Thread Cert.GatedIdeal.nD Cert.GatedIdeal.τ).loc Cert.GatedIdeal.main_v78) = v2 c
          ∧ r.2.mem ((c.tc : Thread Cert.GatedIdeal.nD Cert.GatedIdeal.τ).loc Cert.GatedIdeal.main_v79) = v3 c
          ∧ r.2.mem ((c.tc : Thread Cert.GatedIdeal.nD Cert.GatedIdeal.τ).loc Cert.GatedIdeal.main_v77) = v4 c
          ∧ r.2.mem ((c.tc : Thread Cert.GatedIdeal.nD Cert.GatedIdeal.τ).loc Cert.GatedIdeal.main_v80) = v5 c
          ∧ r.2.mem ((c.tc : Thread Cert.GatedIdeal.nD Cert.GatedIdeal.τ).loc Cert.GatedIdeal.main_v81) = v6 c
          ∧ r.2.mem ((c.tc : Thread Cert.GatedIdeal.nD Cert.GatedIdeal.τ).loc Cert.GatedIdeal.main_arg0) = m' ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m' ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m' ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m' ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m' ((c.tc : Thread Cert.GatedIdeal.nD Cert.GatedIdeal.τ).loc Cert.GatedIdeal.main_arg4))

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Scatter_ScatterIdeal : Prop :=
  True

def algebraic_ScatterIdeal_CombinedIdeal [hScatterIdeal : Cert.ScatterIdeal.Facts] [hCombinedIdeal : Cert.CombinedIdeal.Facts] [hPre_routed : Cert.Pre_routed.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.CombinedIdeal.nD Cert.CombinedIdeal.τ Cert.CombinedIdeal.sig) → Buf (Elt Ideal) ℓ) (g' : Dev Cert.CombinedIdeal.nD → PrngReg), Pre_ScatterIdeal m →
    (∀ c : Dev Cert.ScatterIdeal.nD,
      m' ((c.tc : Thread Cert.CombinedIdeal.nD Cert.CombinedIdeal.τ).loc Cert.CombinedIdeal.main_arg0) = m ((c.tc : Thread Cert.ScatterIdeal.nD Cert.ScatterIdeal.τ).loc Cert.ScatterIdeal.main_arg0)
      ∧ m' ((c.tc : Thread Cert.CombinedIdeal.nD Cert.CombinedIdeal.τ).loc Cert.CombinedIdeal.main_arg1) = m ((c.tc : Thread Cert.ScatterIdeal.nD Cert.ScatterIdeal.τ).loc Cert.ScatterIdeal.main_arg1)
      ∧ m' ((c.tc : Thread Cert.CombinedIdeal.nD Cert.CombinedIdeal.τ).loc Cert.CombinedIdeal.main_arg2) = m ((c.tc : Thread Cert.ScatterIdeal.nD Cert.ScatterIdeal.τ).loc Cert.ScatterIdeal.main_arg2)
      ∧ m' ((c.tc : Thread Cert.CombinedIdeal.nD Cert.CombinedIdeal.τ).loc Cert.CombinedIdeal.main_arg3) = m ((c.tc : Thread Cert.ScatterIdeal.nD Cert.ScatterIdeal.τ).loc Cert.ScatterIdeal.main_arg3)) →
    ∃ (v0 : (c : Dev Cert.ScatterIdeal.nD) → Buf (Elt Ideal) ((c.tc : Thread Cert.ScatterIdeal.nD Cert.ScatterIdeal.τ).loc Cert.ScatterIdeal.main_v16)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v16) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ θ_run (Cert.CombinedIdeal.defs (F := Ideal)) (onTc (τ := Cert.CombinedIdeal.τ) (Cert.CombinedIdeal.main (F := Ideal))) ⟨m', fun _ => 0, g'⟩ (fun r => ∀ c : Dev Cert.CombinedIdeal.nD,
          r.2.mem ((c.tc : Thread Cert.CombinedIdeal.nD Cert.CombinedIdeal.τ).loc Cert.CombinedIdeal.main_v9) = v0 c
          ∧ r.2.mem ((c.tc : Thread Cert.CombinedIdeal.nD Cert.CombinedIdeal.τ).loc Cert.CombinedIdeal.main_arg0) = m' ((c.tc : Thread Cert.CombinedIdeal.nD Cert.CombinedIdeal.τ).loc Cert.CombinedIdeal.main_arg0)
          ∧ r.2.mem ((c.tc : Thread Cert.CombinedIdeal.nD Cert.CombinedIdeal.τ).loc Cert.CombinedIdeal.main_arg1) = m' ((c.tc : Thread Cert.CombinedIdeal.nD Cert.CombinedIdeal.τ).loc Cert.CombinedIdeal.main_arg1)
          ∧ r.2.mem ((c.tc : Thread Cert.CombinedIdeal.nD Cert.CombinedIdeal.τ).loc Cert.CombinedIdeal.main_arg2) = m' ((c.tc : Thread Cert.CombinedIdeal.nD Cert.CombinedIdeal.τ).loc Cert.CombinedIdeal.main_arg2)
          ∧ r.2.mem ((c.tc : Thread Cert.CombinedIdeal.nD Cert.CombinedIdeal.τ).loc Cert.CombinedIdeal.main_arg3) = m' ((c.tc : Thread Cert.CombinedIdeal.nD Cert.CombinedIdeal.τ).loc Cert.CombinedIdeal.main_arg3))

def Claim : Prop :=
  ∃ (hQuery : Cert.Query.Facts) (hQueryIdeal : Cert.QueryIdeal.Facts) (hQueriedIdeal : Cert.QueriedIdeal.Facts) (hAttention : Cert.Attention.Facts) (hAttentionIdeal : Cert.AttentionIdeal.Facts) (hAttendedIdeal : Cert.AttendedIdeal.Facts) (hGating : Cert.Gating.Facts) (hGatingIdeal : Cert.GatingIdeal.Facts) (hGatedIdeal : Cert.GatedIdeal.Facts) (hKernel : Cert.Kernel.Facts) (hKernelIdeal : Cert.KernelIdeal.Facts) (hReferenceIdeal : Cert.ReferenceIdeal.Facts) (hReference : Cert.Reference.Facts) (hScatter : Cert.Scatter.Facts) (hScatterIdeal : Cert.ScatterIdeal.Facts) (hCombinedIdeal : Cert.CombinedIdeal.Facts) (hPre_scored : Cert.Pre_scored.Facts) (hPre_finite : Cert.Pre_finite.Facts) (hPre_pre : Cert.Pre_pre.Facts) (hPre_routed : Cert.Pre_routed.Facts),
    quiescent_Query (hQuery := hQuery)
    ∧ quiescent_QueryIdeal (hQueryIdeal := hQueryIdeal)
    ∧ quiescent_QueriedIdeal (hQueriedIdeal := hQueriedIdeal)
    ∧ quiescent_Attention (hAttention := hAttention)
    ∧ quiescent_AttentionIdeal (hAttentionIdeal := hAttentionIdeal)
    ∧ quiescent_AttentionIdeal_pre_scored (hAttentionIdeal := hAttentionIdeal) (hPre_scored := hPre_scored)
    ∧ quiescent_AttendedIdeal (hAttendedIdeal := hAttendedIdeal)
    ∧ quiescent_AttendedIdeal_pre_scored (hAttendedIdeal := hAttendedIdeal) (hPre_scored := hPre_scored)
    ∧ quiescent_Gating (hGating := hGating)
    ∧ quiescent_GatingIdeal (hGatingIdeal := hGatingIdeal)
    ∧ quiescent_GatingIdeal_pre_finite (hGatingIdeal := hGatingIdeal) (hPre_finite := hPre_finite)
    ∧ quiescent_GatedIdeal (hGatedIdeal := hGatedIdeal)
    ∧ quiescent_GatedIdeal_pre_finite (hGatedIdeal := hGatedIdeal) (hPre_finite := hPre_finite)
    ∧ quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ quiescent_Reference (hReference := hReference) (hPre_pre := hPre_pre)
    ∧ quiescent_Scatter (hScatter := hScatter) (hPre_routed := hPre_routed)
    ∧ quiescent_ScatterIdeal (hScatterIdeal := hScatterIdeal) (hPre_routed := hPre_routed)
    ∧ quiescent_CombinedIdeal (hCombinedIdeal := hCombinedIdeal) (hPre_routed := hPre_routed)
    ∧ preserves_Query_QueryIdeal
    ∧ algebraic_QueryIdeal_QueriedIdeal (hQueryIdeal := hQueryIdeal) (hQueriedIdeal := hQueriedIdeal)
    ∧ preserves_Attention_AttentionIdeal
    ∧ algebraic_AttentionIdeal_AttendedIdeal_pre_scored (hAttentionIdeal := hAttentionIdeal) (hAttendedIdeal := hAttendedIdeal) (hPre_scored := hPre_scored)
    ∧ preserves_Gating_GatingIdeal
    ∧ algebraic_GatingIdeal_GatedIdeal_pre_finite (hGatingIdeal := hGatingIdeal) (hGatedIdeal := hGatedIdeal) (hPre_finite := hPre_finite)
    ∧ preserves_Kernel_KernelIdeal
    ∧ algebraic_KernelIdeal_ReferenceIdeal (hKernelIdeal := hKernelIdeal) (hReferenceIdeal := hReferenceIdeal) (hPre_pre := hPre_pre)
    ∧ bitexact_Kernel_Reference (hKernel := hKernel) (hReference := hReference) (hPre_pre := hPre_pre)
    ∧ preserves_Scatter_ScatterIdeal
    ∧ algebraic_ScatterIdeal_CombinedIdeal (hScatterIdeal := hScatterIdeal) (hCombinedIdeal := hCombinedIdeal) (hPre_routed := hPre_routed)
-- ==== Pre_finite.lean ====
abbrev S1x2048x1024 : Shape := ⟨3, ![1, 2048, 1024]⟩
abbrev S_ : Shape := ⟨0, ![]⟩
abbrev S9x1024x64 : Shape := ⟨3, ![9, 1024, 64]⟩
abbrev S1024x128 : Shape := ⟨2, ![1024, 128]⟩
abbrev S128 : Shape := ⟨1, ![128]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S9x1024x64 : S_.BroadcastsInDim S9x1024x64 (![] : Fin 0 → Fin S9x1024x64.rank)
  reducesTo_S9x1024x64_S_d0_1_2 : S9x1024x64.ReducesTo [0, 1, 2] S_

variable [Facts]

def fn {F : FTy → Type} [FloatOps F] (main_arg0 : FVec F S1x2048x1024 .f32) (main_arg1 : IVec S_ 32) (main_arg2 : FVec F S9x1024x64 .f32) (main_arg3 : FVec F S1024x128 .f32) (main_arg4 : FVec F S128 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S9x1024x64 .f32 := Host.absf main_arg2
  let main_cst_0 : FVec F S_ .f32 := constant S_ .f32 0x7F800000#32
  let main_v5 : FVec F S9x1024x64 .f32 := broadcastInDim S9x1024x64 ![] bcast_S_S9x1024x64 main_cst_0
  let main_v6 : IVec S9x1024x64 1 := cmpf .olt main_v4 main_v5
  let main_c_1 : IVec S_ 1 := constantI S_ 1 1#1
  let main_v7 : IVec S_ 1 := (fun x v => Host.reduce IntOp.andi x v reducesTo_S9x1024x64_S_d0_1_2 h_S_) main_v6 main_c_1
  let main_v8 : IVec S_ 1 := andi main_v3 main_v7
  main_v8
-- ==== Pre_pre.lean ====
abbrev S65536x128 : Shape := ⟨2, ![65536, 128]⟩
abbrev S1x32768 : Shape := ⟨2, ![1, 32768]⟩
abbrev S_ : Shape := ⟨0, ![]⟩

class Facts : Prop where
  bcast_S_S1x32768 : S_.BroadcastsInDim S1x32768 (![] : Fin 0 → Fin S1x32768.rank)
  reducesTo_S1x32768_S_d0_1 : S1x32768.ReducesTo [0, 1] S_
  h_S_ : 0 < S_.numel

variable [Facts]

def fn {F : FTy → Type} [FloatOps F] (main_arg0 : FVec F S65536x128 .f32) (main_arg1 : IVec S1x32768 32) : IVec S_ 1 :=
  let main_c : IVec S_ 32 := constantI S_ 32 0#32
  let main_v0 : IVec S1x32768 32 := broadcastInDim S1x32768 ![] bcast_S_S1x32768 main_c
  let main_v1 : IVec S1x32768 1 := cmpi .sge main_arg1 main_v0
  let main_c_0 : IVec S_ 32 := constantI S_ 32 65536#32
  let main_v2 : IVec S1x32768 32 := broadcastInDim S1x32768 ![] bcast_S_S1x32768 main_c_0
  let main_v3 : IVec S1x32768 1 := cmpi .slt main_arg1 main_v2
  let main_v4 : IVec S1x32768 1 := andi main_v1 main_v3
  let main_c_1 : IVec S_ 1 := constantI S_ 1 1#1
  let main_v5 : IVec S_ 1 := (fun x v => Host.reduce IntOp.andi x v reducesTo_S1x32768_S_d0_1 h_S_) main_v4 main_c_1
  main_v5
-- ==== Pre_routed.lean ====
abbrev S16x2048x128 : Shape := ⟨3, ![16, 2048, 128]⟩
abbrev S2048x16 : Shape := ⟨2, ![2048, 16]⟩
abbrev S2048x64 : Shape := ⟨2, ![2048, 64]⟩
abbrev S64x64x1024 : Shape := ⟨3, ![64, 64, 1024]⟩
abbrev S2048 : Shape := ⟨1, ![2048]⟩
abbrev S2048x1 : Shape := ⟨2, ![2048, 1]⟩
abbrev S_ : Shape := ⟨0, ![]⟩
abbrev S2048x16x1 : Shape := ⟨3, ![2048, 16, 1]⟩
abbrev S2048x1x16 : Shape := ⟨3, ![2048, 1, 16]⟩
abbrev S2048x16x16 : Shape := ⟨3, ![2048, 16, 16]⟩
abbrev S1x1x64 : Shape := ⟨3, ![1, 1, 64]⟩
abbrev S2048x16x64 : Shape := ⟨3, ![2048, 16, 64]⟩
abbrev S16x16 : Shape := ⟨2, ![16, 16]⟩
abbrev S1x16x16 : Shape := ⟨3, ![1, 16, 16]⟩

class Facts : Prop where
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x16_0_1 : S2048x1.BroadcastsInDim S2048x16 (![0, 1] : Fin 2 → Fin S2048x16.rank)
  bcast_S2048x16_S2048x16x1_0_1 : S2048x16.BroadcastsInDim S2048x16x1 (![0, 1] : Fin 2 → Fin S2048x16x1.rank)
  bcast_S2048x16_S2048x1x16_0_2 : S2048x16.BroadcastsInDim S2048x1x16 (![0, 2] : Fin 2 → Fin S2048x1x16.rank)
  bcast_S2048x16x1_S2048x16x16_0_1_2 : S2048x16x1.BroadcastsInDim S2048x16x16 (![0, 1, 2] : Fin 3 → Fin S2048x16x16.rank)
  bcast_S2048x1x16_S2048x16x16_0_1_2 : S2048x1x16.BroadcastsInDim S2048x16x16 (![0, 1, 2] : Fin 3 → Fin S2048x16x16.rank)
  bcast_S2048x16x1_S2048x16x64_0_1_2 : S2048x16x1.BroadcastsInDim S2048x16x64 (![0, 1, 2] : Fin 3 → Fin S2048x16x64.rank)
  bcast_S1x1x64_S2048x16x64_0_1_2 : S1x1x64.BroadcastsInDim S2048x16x64 (![0, 1, 2] : Fin 3 → Fin S2048x16x64.rank)
  bcast_S_S2048x16 : S_.BroadcastsInDim S2048x16 (![] : Fin 0 → Fin S2048x16.rank)
  reducesTo_S2048x16_S_d0_1 : S2048x16.ReducesTo [0, 1] S_
  h_S_ : 0 < S_.numel
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S2048x16x16_0_1_2 : S1x16x16.BroadcastsInDim S2048x16x16 (![0, 1, 2] : Fin 3 → Fin S2048x16x16.rank)
  reducesTo_S2048x16x16_S_d0_1_2 : S2048x16x16.ReducesTo [0, 1, 2] S_
  reducesTo_S2048x16x64_S2048x64_d1 : S2048x16x64.ReducesTo [1] S2048x64
  reducesTo_S2048x64_S_d0_1 : S2048x64.ReducesTo [0, 1] S_

variable [Facts]

def fn_one_hot {F : FTy → Type} [FloatOps F] (arg0 : IVec S2048x16 32) : FVec F S2048x16x64 .f32 :=
  let v0 : IVec S2048x16x1 32 := broadcastInDim S2048x16x1 ![0, 1] bcast_S2048x16_S2048x16x1_0_1 arg0
  let v1 : IVec S1x1x64 32 := iotaInDim S1x1x64 32 2
  let v2 : IVec S2048x16x64 32 := broadcastInDim S2048x16x64 ![0, 1, 2] bcast_S2048x16x1_S2048x16x64_0_1_2 v0
  let v3 : IVec S2048x16x64 32 := broadcastInDim S2048x16x64 ![0, 1, 2] bcast_S1x1x64_S2048x16x64_0_1_2 v1
  let v4 : IVec S2048x16x64 1 := cmpi .eq v2 v3
  let v5 : FVec F S2048x16x64 .f32 := uitofp .f32 v4
  v5

def fn_part1 {F : FTy → Type} [FloatOps F] (main_arg2 : FVec F S2048x64 .f32) (main_v5 : IVec S2048x16 32) (main_v10 : IVec S2048x16x16 1) (main_v11 : FVec F S2048x16x64 .f32) (main_v19 : IVec S2048x16 1) : IVec S_ 1 :=
  let main_c_3 : IVec S_ 32 := constantI S_ 32 64#32
  let main_v20 : IVec S2048x16 32 := broadcastInDim S2048x16 ![] bcast_S_S2048x16 main_c_3
  let main_v21 : IVec S2048x16 1 := cmpi .slt main_v5 main_v20
  let main_v22 : IVec S2048x16 1 := andi main_v19 main_v21
  let main_c_4 : IVec S_ 1 := constantI S_ 1 1#1
  let main_v23 : IVec S_ 1 := (fun x v => Host.reduce IntOp.andi x v reducesTo_S2048x16_S_d0_1 h_S_) main_v22 main_c_4
  let main_v24 : IVec S16x16 32 := iotaInDim S16x16 32 0
  let main_v25 : IVec S16x16 32 := iotaInDim S16x16 32 1
  let main_c_5 : IVec S_ 32 := constantI S_ 32 0#32
  let main_v26 : IVec S16x16 32 := broadcastInDim S16x16 ![] bcast_S_S16x16 main_c_5
  let main_v27 : IVec S16x16 32 := addi main_v24 main_v26
  let main_v28 : IVec S16x16 1 := cmpi .eq main_v27 main_v25
  let main_v29 : IVec S1x16x16 1 := broadcastInDim S1x16x16 ![1, 2] bcast_S16x16_S1x16x16_1_2 main_v28
  let main_v30 : IVec S2048x16x16 1 := broadcastInDim S2048x16x16 ![0, 1, 2] bcast_S1x16x16_S2048x16x16_0_1_2 main_v29
  let main_v31 : IVec S2048x16x16 1 := cmpi .eq main_v10 main_v30
  let main_c_6 : IVec S_ 1 := constantI S_ 1 1#1
  let main_v32 : IVec S_ 1 := (fun x v => Host.reduce IntOp.andi x v reducesTo_S2048x16x16_S_d0_1_2 h_S_) main_v31 main_c_6
  let main_v33 : IVec S_ 1 := andi main_v23 main_v32
  let main_cst : FVec F S_ .f32 := constant S_ .f32 0x00000000#32
  let main_v34 : FVec F S2048x64 .f32 := (fun x v => Host.reduceAdd x v reducesTo_S2048x16x64_S2048x64_d1 h_S_) main_v11 main_cst
  let main_v35 : IVec S2048x64 1 := cmpf .oeq main_arg2 main_v34
  let main_c_7 : IVec S_ 1 := constantI S_ 1 1#1
  let main_v36 : IVec S_ 1 := (fun x v => Host.reduce IntOp.andi x v reducesTo_S2048x64_S_d0_1 h_S_) main_v35 main_c_7
  let main_v37 : IVec S_ 1 := andi main_v33 main_v36
  main_v37

def fn {F : FTy → Type} [FloatOps F] (main_arg0 : FVec F S16x2048x128 .f32) (main_arg1 : IVec S2048x16 32) (main_arg2 : FVec F S2048x64 .f32) (main_arg3 : FVec F S64x64x1024 .f32) : IVec S_ 1 :=
  let main_v0 : IVec S2048 32 := iotaInDim S2048 32 0
  let main_v1 : IVec S2048x1 32 := broadcastInDim S2048x1 ![0] bcast_S2048_S2048x1_0 main_v0
  let main_c : IVec S_ 32 := constantI S_ 32 64#32
  let main_v2 : IVec S2048x1 32 := broadcastInDim S2048x1 ![] bcast_S_S2048x1 main_c
  let main_v3 : IVec S2048x1 32 := muli main_v2 main_v1
  let main_v4 : IVec S2048x16 32 := broadcastInDim S2048x16 ![0, 1] bcast_S2048x1_S2048x16_0_1 main_v3
  let main_v5 : IVec S2048x16 32 := subi main_arg1 main_v4
  let main_v6 : IVec S2048x16x1 32 := broadcastInDim S2048x16x1 ![0, 1] bcast_S2048x16_S2048x16x1_0_1 main_v5
  let main_v7 : IVec S2048x1x16 32 := broadcastInDim S2048x1x16 ![0, 2] bcast_S2048x16_S2048x1x16_0_2 main_v5
  let main_v8 : IVec S2048x16x16 32 := broadcastInDim S2048x16x16 ![0, 1, 2] bcast_S2048x16x1_S2048x16x16_0_1_2 main_v6
  let main_v9 : IVec S2048x16x16 32 := broadcastInDim S2048x16x16 ![0, 1, 2] bcast_S2048x1x16_S2048x16x16_0_1_2 main_v7
  let main_v10 : IVec S2048x16x16 1 := cmpi .eq main_v8 main_v9
  let main_v11 : FVec F S2048x16x64 .f32 := fn_one_hot (F := F) main_v5
  let main_c_0 : IVec S_ 32 := constantI S_ 32 0#32
  let main_v12 : IVec S2048x16 32 := broadcastInDim S2048x16 ![] bcast_S_S2048x16 main_c_0
  let main_v13 : IVec S2048x16 1 := cmpi .sge main_arg1 main_v12
  let main_c_1 : IVec S_ 32 := constantI S_ 32 131072#32
  let main_v14 : IVec S2048x16 32 := broadcastInDim S2048x16 ![] bcast_S_S2048x16 main_c_1
  let main_v15 : IVec S2048x16 1 := cmpi .slt main_arg1 main_v14
  let main_v16 : IVec S2048x16 1 := andi main_v13 main_v15
  let main_c_2 : IVec S_ 32 := constantI S_ 32 0#32
  let main_v17 : IVec S2048x16 32 := broadcastInDim S2048x16 ![] bcast_S_S2048x16 main_c_2
  let main_v18 : IVec S2048x16 1 := cmpi .sge main_v5 main_v17
  let main_v19 : IVec S2048x16 1 := andi main_v16 main_v18
  fn_part1 (F := F) main_arg2 main_v5 main_v10 main_v11 main_v19
-- ==== Pre_scored.lean ====
abbrev S16x2048x128 : Shape := ⟨3, ![16, 2048, 128]⟩
abbrev S2048x128 : Shape := ⟨2, ![2048, 128]⟩
abbrev S2048x16 : Shape := ⟨2, ![2048, 16]⟩
abbrev S16x2048 : Shape := ⟨2, ![16, 2048]⟩
abbrev S16x2048x1 : Shape := ⟨3, ![16, 2048, 1]⟩
abbrev S_ : Shape := ⟨0, ![]⟩
abbrev S16x2048x64 : Shape := ⟨3, ![16, 2048, 64]⟩
abbrev S2048x64 : Shape := ⟨2, ![2048, 64]⟩

class Facts : Prop where
  transposes_S2048x16_S16x2048_1_0 : S2048x16.Transposes [1, 0] S16x2048
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  slices_S16x2048x128_S16x2048x64_0_0_0 : S16x2048x128.Slices ![0, 0, 0] S16x2048x64
  slices_S16x2048x128_S16x2048x64_0_0_64 : S16x2048x128.Slices ![0, 0, 64] S16x2048x64
  bcast_S16x2048x1_S16x2048x64_0_1_2 : S16x2048x1.BroadcastsInDim S16x2048x64 (![0, 1, 2] : Fin 3 → Fin S16x2048x64.rank)
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  slices_S2048x128_S2048x64_0_0 : S2048x128.Slices ![0, 0] S2048x64
  bcast_S_S2048x64 : S_.BroadcastsInDim S2048x64 (![] : Fin 0 → Fin S2048x64.rank)
  reducesTo_S2048x64_S_d0_1 : S2048x64.ReducesTo [0, 1] S_

variable [Facts]

def fn_where {F : FTy → Type} [FloatOps F] (arg0 : IVec S16x2048x1 1) (arg1 : FVec F S16x2048x64 .f32) (arg2 : FVec F S16x2048x64 .f32) : FVec F S16x2048x64 .f32 :=
  let v0 : IVec S16x2048x64 1 := broadcastInDim S16x2048x64 ![0, 1, 2] bcast_S16x2048x1_S16x2048x64_0_1_2 arg0
  let v1 : FVec F S16x2048x64 .f32 := select v0 arg1 arg2
  v1

def fn {F : FTy → Type} [FloatOps F] (main_arg0 : FVec F S16x2048x128 .f32) (main_arg1 : FVec F S2048x128 .f32) (main_arg2 : FVec F S2048x16 .f32) (main_arg3 : IVec S2048x16 32) : IVec S_ 1 :=
  let main_v0 : IVec S16x2048 32 := (transpose S16x2048 [1, 0] · transposes_S2048x16_S16x2048_1_0) main_arg3
  let main_v1 : IVec S16x2048x1 32 := broadcastInDim S16x2048x1 ![0, 1] bcast_S16x2048_S16x2048x1_0_1 main_v0
  let main_c : IVec S_ 32 := constantI S_ 32 0#32
  let main_v2 : IVec S16x2048x1 32 := broadcastInDim S16x2048x1 ![] bcast_S_S16x2048x1 main_c
  let main_v3 : IVec S16x2048x1 1 := cmpi .eq main_v1 main_v2
  let main_v4 : FVec F S16x2048x64 .f32 := (extractStridedSlice S16x2048x64 ![0, 0, 0] · slices_S16x2048x128_S16x2048x64_0_0_0) main_arg0
  let main_v5 : FVec F S16x2048x64 .f32 := (extractStridedSlice S16x2048x64 ![0, 0, 64] · slices_S16x2048x128_S16x2048x64_0_0_64) main_arg0
  let main_v6 : FVec F S16x2048x64 .f32 := fn_where (F := F) main_v3 main_v4 main_v5
  let main_v7 : FVec F S16x2048x64 .f32 := Host.absf main_v6
  let main_cst : FVec F S_ .f32 := constant S_ .f32 0x7F800000#32
  let main_v8 : FVec F S16x2048x64 .f32 := broadcastInDim S16x2048x64 ![] bcast_S_S16x2048x64 main_cst
  let main_v9 : IVec S16x2048x64 1 := cmpf .olt main_v7 main_v8
  let main_c_0 : IVec S_ 1 := constantI S_ 1 1#1
  let main_v10 : IVec S_ 1 := (fun x v => Host.reduce IntOp.andi x v reducesTo_S16x2048x64_S_d0_1_2 h_S_) main_v9 main_c_0
  let main_v11 : FVec F S2048x64 .f32 := (extractStridedSlice S2048x64 ![0, 0] · slices_S2048x128_S2048x64_0_0) main_arg1
  let main_v12 : FVec F S2048x64 .f32 := Host.absf main_v11
  let main_cst_1 : FVec F S_ .f32 := constant S_ .f32 0x7F800000#32
  let main_v13 : FVec F S2048x64 .f32 := broadcastInDim S2048x64 ![] bcast_S_S2048x64 main_cst_1
  let main_v14 : IVec S2048x64 1 := cmpf .olt main_v12 main_v13
  let main_c_2 : IVec S_ 1 := constantI S_ 1 1#1
  let main_v15 : IVec S_ 1 := (fun x v => Host.reduce IntOp.andi x v reducesTo_S2048x64_S_d0_1 h_S_) main_v14 main_c_2
  let main_v16 : IVec S_ 1 := andi main_v10 main_v15
  main_v16
-- ==== Query.lean ====
abbrev S1x2048x1024 : Shape := ⟨3, ![1, 2048, 1024]⟩
abbrev S64x1024x64 : Shape := ⟨3, ![64, 1024, 64]⟩
abbrev S2048x1024 : Shape := ⟨2, ![2048, 1024]⟩
abbrev S1024x64x64 : Shape := ⟨3, ![1024, 64, 64]⟩
abbrev S1024x4096 : Shape := ⟨2, ![1024, 4096]⟩
abbrev S2048x4096 : Shape := ⟨2, ![2048, 4096]⟩
abbrev S256x1024 : Shape := ⟨2, ![256, 1024]⟩
abbrev S256x4096 : Shape := ⟨2, ![256, 4096]⟩

abbrev nBuf : Space → Nat
  | .hbm => 8
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S64x1024x64, .f32⟩
  | .hbm, ⟨2, _⟩ => ⟨S2048x1024, .f32⟩
  | .hbm, ⟨3, _⟩ => ⟨S2048x1024, .bf16⟩
  | .hbm, ⟨4, _⟩ => ⟨S1024x64x64, .f32⟩
  | .hbm, ⟨5, _⟩ => ⟨S1024x4096, .f32⟩
  | .hbm, ⟨6, _⟩ => ⟨S1024x4096, .bf16⟩
  | .hbm, ⟨7, _⟩ => ⟨S2048x4096, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S256x4096, .f32⟩
  | .local _ .vmem, ⟨4, _⟩ => ⟨S256x4096, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QueriedIdeal.lean ====
abbrev S1x2048x1024 : Shape := ⟨3, ![1, 2048, 1024]⟩
abbrev S64x1024x64 : Shape := ⟨3, ![64, 1024, 64]⟩
abbrev S2048x1024 : Shape := ⟨2, ![2048, 1024]⟩
abbrev S2048x64x64 : Shape := ⟨3, ![2048, 64, 64]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S64x1024x64, .f32⟩
  | .hbm, ⟨2, _⟩ => ⟨S2048x1024, .f32⟩
  | .hbm, ⟨3, _⟩ => ⟨S2048x64x64, .f32⟩
  | .hbm, ⟨4, _⟩ => ⟨S2048x4096, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attention.lean ====
abbrev S16x2048x128 : Shape := ⟨3, ![16, 2048, 128]⟩
abbrev S2048x128 : Shape := ⟨2, ![2048, 128]⟩
abbrev S2048x16 : Shape := ⟨2, ![2048, 16]⟩
abbrev S2048x64 : Shape := ⟨2, ![2048, 64]⟩
abbrev S1x256x128 : Shape := ⟨3, ![1, 256, 128]⟩
abbrev S256x16 : Shape := ⟨2, ![256, 16]⟩
abbrev S256 : Shape := ⟨1, ![256]⟩
abbrev S256x1 : Shape := ⟨2, ![256, 1]⟩
abbrev S256x128 : Shape := ⟨2, ![256, 128]⟩
abbrev S256x64 : Shape := ⟨2, ![256, 64]⟩
abbrev S256x2048 : Shape := ⟨2, ![256, 2048]⟩

abbrev nBuf : Space → Nat
  | .hbm => 9
  | .vmem => 10
  | .smem => 0
  | _ => 0

abbrev bufTy : (tb : Table) → Fin (tcTables nBuf tb) → BufTy
  | .hbm, ⟨0, _⟩ => ⟨S16x2048x128, .f32⟩
  | .hbm, ⟨1, _⟩ => ⟨S2048x128, .f32⟩
  | .hbm, ⟨2, _⟩ => ⟨S2048x16, .f32⟩
  | .hbm, ⟨3, _⟩ => ⟨S2048x16, .i32⟩
  | .hbm, ⟨4, _⟩ => ⟨S2048x64, .f32⟩
  | .hbm, ⟨5, _⟩ => ⟨S2048x64, .bf16⟩
  | .hbm, ⟨6, _⟩ => ⟨S2048x64, .f32⟩
  | .hbm, ⟨7, _⟩ => ⟨S2048x64, .bf16⟩
  | .hbm, ⟨8, _⟩ => ⟨S16x2048x128, .f32⟩
  | .local _ .vmem, ⟨0, _⟩ => ⟨S1x256x128, .f32⟩
  | .local _ .vmem, ⟨1, _⟩ => ⟨S1x256x128, .f32⟩
  | .local _ .vmem, ⟨2, _⟩ => ⟨S2048x64, .bf16⟩
  | .local _ .vmem, ⟨3, _⟩ => ⟨S2048x64, .bf16⟩
  | .local _ .vmem, ⟨4, _⟩ => ⟨S256x16, .f32⟩
  | .local _ .vmem, ⟨5, _⟩ => ⟨S256x16, .f32⟩
  | .local _ .vmem, ⟨6, _⟩ => ⟨S256x16, .i32⟩
  | .local _ .vmem, ⟨7, _⟩ => ⟨S256x16, .i32⟩
  | .local _ .vmem, ⟨8, _⟩ => ⟨S1x256x128, .f32⟩
  | .local _ .vmem, ⟨9, _⟩ => ⟨S1x256x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttendedIdeal.lean ====
abbrev S16x2048x128 : Shape := ⟨3, ![16, 2048, 128]⟩
abbrev S2048x128 : Shape := ⟨2, ![2048, 128]⟩
abbrev S2048x16 : Shape := ⟨2, ![2048, 16]⟩
abbrev S16x2048 : Shape := ⟨2, ![16, 2048]⟩
abbrev S16x2048x1 : Shape := ⟨3, ![16, 2048, 1]⟩
abbrev S_ : Shape := ⟨0, ![]⟩
abbrev S16x2048x64 : Shape := ⟨3, ![16, 2048, 64]⟩
abbrev S2048x64 : Shape := ⟨2, ![2048, 64]⟩
abbrev S16x2048x2048 : Shape := ⟨3, ![16, 2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S2048x128, .f32⟩
  | .hbm, ⟨2, _⟩ => ⟨S2048x16, .f32⟩
  | .hbm, ⟨3, _⟩ => ⟨S2048x16, .i32⟩
  | .hbm, ⟨4, _⟩ => ⟨S16x2048, .i32⟩
  | .hbm, ⟨5, _⟩ => ⟨S16x2048x1, .i32⟩
  | .hbm, ⟨6, _⟩ => ⟨S_, .i32⟩
  | .hbm, ⟨7, _⟩ => ⟨S16x2048x1, .i32⟩
  | .hbm, ⟨8, _⟩ => ⟨S16x2048x1, .i1⟩
  | .hbm, ⟨9, _⟩ => ⟨S16x2048x64, .f32⟩
  | .hbm, ⟨10, _⟩ => ⟨S16x2048x64, .f32⟩
  | .hbm, ⟨11, _⟩ => ⟨S16x2048x64, .i1⟩
  | .hbm, ⟨12, _⟩ => ⟨S16x2048x64, .f32⟩
  | .hbm, ⟨13, _⟩ => ⟨S2048x64, .f32⟩
  | .hbm, ⟨14, _⟩ => ⟨S2048x64, .f32⟩
  | .hbm, ⟨15, _⟩ => ⟨S16x2048x2048, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x2048x64, .f32⟩
  | .hbm, ⟨34, _⟩ => ⟨S16x2048, .f32⟩
  | .hbm, ⟨35, _⟩ => ⟨S16x2048x1, .f32⟩
  | .hbm, ⟨36, _⟩ => ⟨S16x2048x64, .f32⟩
  | .hbm, ⟨37, _⟩ => ⟨S16x2048x64, .f32⟩
  | .hbm, ⟨38, _⟩ => ⟨S_, .f32⟩
  | .hbm, ⟨39, _⟩ => ⟨S16x2048x64, .f32⟩
  | .hbm, ⟨40, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Gating.lean ====
abbrev S1x2048x1024 : Shape := ⟨3, ![1, 2048, 1024]⟩
abbrev S_ : Shape := ⟨0, ![]⟩
abbrev S9x1024x64 : Shape := ⟨3, ![9, 1024, 64]⟩
abbrev S1024x128 : Shape := ⟨2, ![1024, 128]⟩
abbrev S128 : Shape := ⟨1, ![128]⟩
abbrev S2048x1024 : Shape := ⟨2, ![2048, 1024]⟩
abbrev S1x1024x64 : Shape := ⟨3, ![1, 1024, 64]⟩
abbrev S1024x64 : Shape := ⟨2, ![1024, 64]⟩
abbrev S1x128 : Shape := ⟨2, ![1, 128]⟩
abbrev S2048x128 : Shape := ⟨2, ![2048, 128]⟩
abbrev S2048x16 : Shape := ⟨2, ![2048, 16]⟩
abbrev S2048x64 : Shape := ⟨2, ![2048, 64]⟩
abbrev S1x1 : Shape := ⟨2, ![1, 1]⟩
abbrev S256x1024 : Shape := ⟨2, ![256, 1024]⟩
abbrev S256x128 : Shape := ⟨2, ![256, 128]⟩
abbrev S256x16 : Shape := ⟨2, ![256, 16]⟩
abbrev S256x64 : Shape := ⟨2, ![256, 64]⟩
abbrev S1x64 : Shape := ⟨2, ![1, 64]⟩
abbrev S256 : Shape := ⟨1, ![256]⟩
abbrev S256x1 : Shape := ⟨2, ![256, 1]⟩
abbrev S64 : Shape := ⟨1, ![64]⟩
abbrev S1x256x1 : Shape := ⟨3, ![1, 256, 1]⟩
abbrev S1 : Shape := ⟨1, ![1]⟩
abbrev S1x1x1 : Shape := ⟨3, ![1, 1, 1]⟩
abbrev S1x1x64 : Shape := ⟨3, ![1, 1, 64]⟩

abbrev nBuf : Space → Nat
  | .hbm => 23
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S_, .i32⟩
  | .hbm, ⟨2, _⟩ => ⟨S9x1024x64, .f32⟩
  | .hbm, ⟨3, _⟩ => ⟨S1024x128, .f32⟩
  | .hbm, ⟨4, _⟩ => ⟨S128, .f32⟩
  | .hbm, ⟨5, _⟩ => ⟨S2048x1024, .f32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1x1024x64, .f32⟩
  | .hbm, ⟨14, _⟩ => ⟨S1024x64, .f32⟩
  | .hbm, ⟨15, _⟩ => ⟨S1x128, .f32⟩
  | .hbm, ⟨16, _⟩ => ⟨S2048x128, .f32⟩
  | .hbm, ⟨17, _⟩ => ⟨S2048x16, .f32⟩
  | .hbm, ⟨18, _⟩ => ⟨S2048x16, .i32⟩
  | .hbm, ⟨19, _⟩ => ⟨S2048x16, .i32⟩
  | .hbm, ⟨20, _⟩ => ⟨S2048x16, .i32⟩
  | .hbm, ⟨21, _⟩ => ⟨S2048x64, .f32⟩
  | .hbm, ⟨22, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S1024x64, .f32⟩
  | .local _ .vmem, ⟨3, _⟩ => ⟨S1024x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x16, .f32⟩
  | .local _ .vmem, ⟨8, _⟩ => ⟨S256x16, .f32⟩
  | .local _ .vmem, ⟨9, _⟩ => ⟨S256x16, .i32⟩
  | .local _ .vmem, ⟨10, _⟩ => ⟨S256x16, .i32⟩
  | .local _ .vmem, ⟨11, _⟩ => ⟨S256x16, .i32⟩
  | .local _ .vmem, ⟨12, _⟩ => ⟨S256x16, .i32⟩
  | .local _ .vmem, ⟨13, _⟩ => ⟨S256x16, .i32⟩
  | .local _ .vmem, ⟨14, _⟩ => ⟨S256x16, .i32⟩
  | .local _ .vmem, ⟨15, _⟩ => ⟨S256x64, .f32⟩
  | .local _ .vmem, ⟨16, _⟩ => ⟨S256x64, .f32⟩
  | .local _ .vmem, ⟨17, _⟩ => ⟨S1x1, .f32⟩
  | .local _ .vmem, ⟨18, _⟩ => ⟨S1x64, .f32⟩
  | .local _ .vmem, ⟨19, _⟩ => ⟨S1x64, .f32⟩
  | .local _ .vmem, ⟨20, _⟩ => ⟨S1x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_c_0 : Ref sig .tc := ⟨.hbm, 8, rfl⟩
abbrev main_call0_v1 : Ref sig .tc := ⟨.hbm, 9, rfl⟩
abbrev main_call0_v2 : Ref sig .tc := ⟨.hbm, 10, rfl⟩
abbrev main_call0_c_1 : Ref sig .tc := ⟨.hbm, 11, rfl⟩
abbrev main_call0_c_2 : Ref sig .tc := ⟨.hbm, 12, rfl⟩
abbrev main_call0_v3 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v3_4 : Ref sig .tc := ⟨.hbm, 20, rfl⟩
abbrev main_v3_5 : Ref sig .tc := ⟨.hbm, 21, rfl⟩
abbrev main_v3_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v457 : BitVec 1 := Scalar.cmpi .eq arg0 c0_i32
  let v458 : BitVec 32 := Scalar.extui v457
  let c0_i32_149 : BitVec 32 := 0#32
  let v459 : BitVec 1 := Scalar.cmpi .ne v458 c0_i32_149
  v459

def k0_cond2 (i : grid0.Coords) : BitVec 1 :=
  let arg0 : BitVec 32 := BitVec.ofNat 32 (i 0).val
  let c7_i32 : BitVec 32 := 7#32
  let v485 : BitVec 1 := Scalar.cmpi .eq arg0 c7_i32
  let v486 : BitVec 32 := Scalar.extui v485
  let c0_i32_165 : BitVec 32 := 0#32
  let v487 : BitVec 1 := Scalar.cmpi .ne v486 c0_i32_165
  v487

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x16 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GatedIdeal.lean ====
abbrev S1x2048x1024 : Shape := ⟨3, ![1, 2048, 1024]⟩
abbrev S_ : Shape := ⟨0, ![]⟩
abbrev S9x1024x64 : Shape := ⟨3, ![9, 1024, 64]⟩
abbrev S1024x128 : Shape := ⟨2, ![1024, 128]⟩
abbrev S128 : Shape := ⟨1, ![128]⟩
abbrev S2048x1024 : Shape := ⟨2, ![2048, 1024]⟩
abbrev S1x1024x64 : Shape := ⟨3, ![1, 1024, 64]⟩
abbrev S1024x64 : Shape := ⟨2, ![1024, 64]⟩
abbrev S2048x64 : Shape := ⟨2, ![2048, 64]⟩
abbrev S2048 : Shape := ⟨1, ![2048]⟩
abbrev S2048x1 : Shape := ⟨2, ![2048, 1]⟩
abbrev S2048x16 : Shape := ⟨2, ![2048, 16]⟩
abbrev S2048x16x1 : Shape := ⟨3, ![2048, 16, 1]⟩
abbrev S1x1x64 : Shape := ⟨3, ![1, 1, 64]⟩
abbrev S2048x16x64 : Shape := ⟨3, ![2048, 16, 64]⟩
abbrev S64 : Shape := ⟨1, ![64]⟩
abbrev S1 : Shape := ⟨1, ![1]⟩
abbrev S2048x128 : Shape := ⟨2, ![2048, 128]⟩
abbrev S1x128 : Shape := ⟨2, ![1, 128]⟩
abbrev S1x1 : Shape := ⟨2, ![1, 1]⟩

abbrev nBuf : Space → Nat
  | .hbm => 190
  | .vmem => 0
  | .smem => 0
  | _ => 0

abbrev hbmTy0_0 (i : Nat) : BufTy := match i % 128 with
  | 0 => ⟨S1x2048x1024, .f32⟩
  | 1 => ⟨S_, .i32⟩
  | 2 => ⟨S9x1024x64, .f32⟩
  | 3 => ⟨S1024x128, .f32⟩
  | 4 => ⟨S128, .f32⟩
  | 5 => ⟨S2048x1024, .f32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S1x1024x64, .f32⟩
  | 28 => ⟨S1024x64, .f32⟩
  | 29 => ⟨S2048x64, .f32⟩
  | 30 => ⟨S_, .f32⟩
  | 31 => ⟨S2048, .f32⟩
  | 32 => ⟨S_, .f32⟩
  | 33 => ⟨S2048, .f32⟩
  | 34 => ⟨S2048, .f32⟩
  | 35 => ⟨S2048x1, .f32⟩
  | 36 => ⟨S2048x64, .f32⟩
  | 37 => ⟨S2048x64, .f32⟩
  | 38 => ⟨S2048x64, .f32⟩
  | 39 => ⟨S_, .f32⟩
  | 40 => ⟨S2048, .f32⟩
  | 41 => ⟨S2048x1, .f32⟩
  | 42 => ⟨S2048x64, .f32⟩
  | 43 => ⟨S2048x64, .f32⟩
  | 44 => ⟨S2048x16, .f32⟩
  | 45 => ⟨S2048x16, .i32⟩
  | 46 => ⟨S_, .f32⟩
  | 47 => ⟨S2048, .f32⟩
  | 48 => ⟨S2048x1, .f32⟩
  | 49 => ⟨S_, .f32⟩
  | 50 => ⟨S2048x1, .f32⟩
  | 51 => ⟨S2048x1, .f32⟩
  | 52 => ⟨S2048x16, .f32⟩
  | 53 => ⟨S2048x16, .f32⟩
  | 54 => ⟨S2048x16x1, .i32⟩
  | 55 => ⟨S1x1x64, .i32⟩
  | 56 => ⟨S2048x16x64, .i32⟩
  | 57 => ⟨S2048x16x64, .i32⟩
  | 58 => ⟨S2048x16x64, .i1⟩
  | 59 => ⟨S2048x16x64, .f32⟩
  | 60 => ⟨S_, .f32⟩
  | 61 => ⟨S64, .f32⟩
  | 62 => ⟨S_, .f32⟩
  | 63 => ⟨S64, .f32⟩
  | 64 => ⟨S64, .f32⟩
  | 65 => ⟨S_, .f32⟩
  | 66 => ⟨S_, .f32⟩
  | 67 => ⟨S_, .f32⟩
  | 68 => ⟨S_, .f32⟩
  | 69 => ⟨S64, .f32⟩
  | 70 => ⟨S64, .f32⟩
  | 71 => ⟨S_, .i32⟩
  | 72 => ⟨S_, .f32⟩
  | 73 => ⟨S_, .f32⟩
  | 74 => ⟨S1, .f32⟩
  | 75 => ⟨S_, .f32⟩
  | 76 => ⟨S1, .f32⟩
  | 77 => ⟨S1, .f32⟩
  | 78 => ⟨S64, .f32⟩
  | 79 => ⟨S64, .f32⟩
  | 80 => ⟨S64, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .i1⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S64, .f32⟩
  | 101 => ⟨S_, .f32⟩
  | 102 => ⟨S_, .f32⟩
  | 103 => ⟨S_, .f32⟩
  | 104 => ⟨S_, .f32⟩
  | 105 => ⟨S64, .f32⟩
  | 106 => ⟨S64, .f32⟩
  | 107 => ⟨S64, .f32⟩
  | 108 => ⟨S_, .f32⟩
  | 109 => ⟨S_, .f32⟩
  | 110 => ⟨S_, .f32⟩
  | 111 => ⟨S_, .f32⟩
  | 112 => ⟨S64, .f32⟩
  | 113 => ⟨S64, .f32⟩
  | 114 => ⟨S64, .f32⟩
  | 115 => ⟨S_, .f32⟩
  | 116 => ⟨S_, .f32⟩
  | 117 => ⟨S_, .f32⟩
  | 118 => ⟨S_, .f32⟩
  | 119 => ⟨S2048x64, .f32⟩
  | 120 => ⟨S_, .f32⟩
  | 121 => ⟨S2048, .f32⟩
  | 122 => ⟨S2048, .f32⟩
  | 123 => ⟨S2048, .f32⟩
  | 124 => ⟨S_, .f32⟩
  | 125 => ⟨S_, .f32⟩
  | 126 => ⟨S_, .f32⟩
  | 127 => ⟨S_, .f32⟩
  | _ => ⟨S1x2048x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S2048x128, .f32⟩
  | 9 => ⟨S1x128, .f32⟩
  | 10 => ⟨S2048x128, .f32⟩
  | 11 => ⟨S2048x128, .f32⟩
  | 12 => ⟨S2048, .i32⟩
  | 13 => ⟨S2048x1, .i32⟩
  | 14 => ⟨S_, .i32⟩
  | 15 => ⟨S2048x1, .i32⟩
  | 16 => ⟨S2048x1, .i32⟩
  | 17 => ⟨S2048x16, .i32⟩
  | 18 => ⟨S2048x16, .i32⟩
  | 19 => ⟨S_, .i32⟩
  | 20 => ⟨S_, .i32⟩
  | 21 => ⟨S2048x16, .i32⟩
  | 22 => ⟨S2048x16, .i32⟩
  | 23 => ⟨S2048x16, .i32⟩
  | 24 => ⟨S_, .i32⟩
  | 25 => ⟨S2048x16, .i32⟩
  | 26 => ⟨S2048x16, .i1⟩
  | 27 => ⟨S2048x16, .i32⟩
  | 28 => ⟨S2048x16, .i32⟩
  | 29 => ⟨S_, .i32⟩
  | 30 => ⟨S2048x16, .i32⟩
  | 31 => ⟨S2048x16, .i1⟩
  | 32 => ⟨S2048x16, .i1⟩
  | 33 => ⟨S_, .i32⟩
  | 34 => ⟨S2048x16, .i32⟩
  | 35 => ⟨S2048x16, .i32⟩
  | 36 => ⟨S2048x16, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S2048x16, .i32⟩
  | 44 => ⟨S2048x16, .i32⟩
  | 45 => ⟨S_, .i32⟩
  | 46 => ⟨S2048x16, .i32⟩
  | 47 => ⟨S2048x16, .i1⟩
  | 48 => ⟨S_, .i32⟩
  | 49 => ⟨S2048x16, .i32⟩
  | 50 => ⟨S2048x16, .i1⟩
  | 51 => ⟨S_, .i32⟩
  | 52 => ⟨S_, .i1⟩
  | 53 => ⟨S2048x16, .i1⟩
  | 54 => ⟨S2048x16, .i1⟩
  | 55 => ⟨S2048x16, .i1⟩
  | 56 => ⟨S2048x16, .i32⟩
  | 57 => ⟨S2048x16, .i32⟩
  | 58 => ⟨S2048x16, .i32⟩
  | 59 => ⟨S_, .f32⟩
  | 60 => ⟨S2048x64, .f32⟩
  | 61 => ⟨S1x1, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_c_2 : Ref sig .tc := ⟨.hbm, 12, rfl⟩
abbrev main_v4 : Ref sig .tc := ⟨.hbm, 13, rfl⟩
abbrev main_c_3 : Ref sig .tc := ⟨.hbm, 14, rfl⟩
abbrev main_c_4 : Ref sig .tc := ⟨.hbm, 15, rfl⟩
abbrev main_v5 : Ref sig .tc := ⟨.hbm, 16, rfl⟩
abbrev main_c_5 : Ref sig .tc := ⟨.hbm, 17, rfl⟩
abbrev main_v6 : Ref sig .tc := ⟨.hbm, 18, rfl⟩
abbrev main_c_6 : Ref sig .tc := ⟨.hbm, 19, rfl⟩
abbrev main_c_7 : Ref sig .tc := ⟨.hbm, 20, rfl⟩
abbrev main_v7 : Ref sig .tc := ⟨.hbm, 21, rfl⟩
abbrev main_c_8 : Ref sig .tc := ⟨.hbm, 22, rfl⟩
abbrev main_c_9 : Ref sig .tc := ⟨.hbm, 23, rfl⟩
abbrev main_v8 : Ref sig .tc := ⟨.hbm, 24, rfl⟩
abbrev main_c_10 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_cst_11 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_12 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_values : Ref sig .tc := ⟨.hbm, 44, rfl⟩
abbrev main_indices : Ref sig .tc := ⟨.hbm, 45, rfl⟩
abbrev main_cst_13 : Ref sig .tc := ⟨.hbm, 46, rfl⟩
abbrev main_v24 : Ref sig .tc := ⟨.hbm, 47, rfl⟩
abbrev main_v25 : Ref sig .tc := ⟨.hbm, 48, rfl⟩
abbrev main_cst_14 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v30 : Ref sig .tc := ⟨.hbm, 59, rfl⟩
abbrev main_cst_15 : Ref sig .tc := ⟨.hbm, 60, rfl⟩
abbrev main_v31 : Ref sig .tc := ⟨.hbm, 61, rfl⟩
abbrev main_cst_16 : Ref sig .tc := ⟨.hbm, 62, rfl⟩
abbrev main_v32 : Ref sig .tc := ⟨.hbm, 63, rfl⟩
abbrev main_v33 : Ref sig .tc := ⟨.hbm, 64, rfl⟩
abbrev main_cst_17 : Ref sig .tc := ⟨.hbm, 65, rfl⟩
abbrev main_v34 : Ref sig .tc := ⟨.hbm, 66, rfl⟩
abbrev main_cst_18 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_19 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_cst_2 : Ref sig .tc := ⟨.hbm, 84, rfl⟩
abbrev main_call1_v9 : Ref sig .tc := ⟨.hbm, 85, rfl⟩
abbrev main_call1_v10 : Ref sig .tc := ⟨.hbm, 86, rfl⟩
abbrev main_call1_cst_3 : Ref sig .tc := ⟨.hbm, 87, rfl⟩
abbrev main_call1_v11 : Ref sig .tc := ⟨.hbm, 88, rfl⟩
abbrev main_call1_cst_4 : Ref sig .tc := ⟨.hbm, 89, rfl⟩
abbrev main_call1_call0_v0 : Ref sig .tc := ⟨.hbm, 90, rfl⟩
abbrev main_v38 : Ref sig .tc := ⟨.hbm, 91, rfl⟩
abbrev main_cst_20 : Ref sig .tc := ⟨.hbm, 92, rfl⟩
abbrev main_v39 : Ref sig .tc := ⟨.hbm, 93, rfl⟩
abbrev main_cst_21 : Ref sig .tc := ⟨.hbm, 94, rfl⟩
abbrev main_v40 : Ref sig .tc := ⟨.hbm, 95, rfl⟩
abbrev main_v41 : Ref sig .tc := ⟨.hbm, 96, rfl⟩
abbrev main_cst_22 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_23 : Ref sig .tc := ⟨.hbm, 101, rfl⟩
abbrev main_v45 : Ref sig .tc := ⟨.hbm, 102, rfl⟩
abbrev main_cst_24 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_cst_25 : Ref sig .tc := ⟨.hbm, 108, rfl⟩
abbrev main_v50 : Ref sig .tc := ⟨.hbm, 109, rfl⟩
abbrev main_cst_26 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_cst_27 : Ref sig .tc := ⟨.hbm, 115, rfl⟩
abbrev main_v55 : Ref sig .tc := ⟨.hbm, 116, rfl⟩
abbrev main_cst_28 : Ref sig .tc := ⟨.hbm, 117, rfl⟩
abbrev main_v56 : Ref sig .tc := ⟨.hbm, 118, rfl⟩
abbrev main_v57 : Ref sig .tc := ⟨.hbm, 119, rfl⟩
abbrev main_cst_29 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_30 : Ref sig .tc := ⟨.hbm, 124, rfl⟩
abbrev main_v61 : Ref sig .tc := ⟨.hbm, 125, rfl⟩
abbrev main_cst_31 : Ref sig .tc := ⟨.hbm, 126, rfl⟩
abbrev main_v62 : Ref sig .tc := ⟨.hbm, 127, rfl⟩
abbrev main_cst_32 : Ref sig .tc := ⟨.hbm, 128, rfl⟩
abbrev main_v63 : Ref sig .tc := ⟨.hbm, 129, rfl⟩
abbrev main_cst_33 : Ref sig .tc := ⟨.hbm, 130, rfl⟩
abbrev main_v64 : Ref sig .tc := ⟨.hbm, 131, rfl⟩
abbrev main_v65 : Ref sig .tc := ⟨.hbm, 132, rfl⟩
abbrev main_cst_34 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_c_35 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_c_36 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_v8 : Ref sig .tc := ⟨.hbm, 156, rfl⟩
abbrev main_call2_c : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_c_0 : Ref sig .tc := ⟨.hbm, 161, rfl⟩
abbrev main_call2_v12 : Ref sig .tc := ⟨.hbm, 162, rfl⟩
abbrev main_call2_v13 : Ref sig .tc := ⟨.hbm, 163, rfl⟩
abbrev main_v78 : Ref sig .tc := ⟨.hbm, 164, rfl⟩
abbrev main_c_37 : Ref sig .tc := ⟨.hbm, 165, rfl⟩
abbrev main_call3_v0 : Ref sig .tc := ⟨.hbm, 166, rfl⟩
abbrev main_call3_c : Ref sig .tc := ⟨.hbm, 167, rfl⟩
abbrev main_call3_v1 : Ref sig .tc := ⟨.hbm, 168, rfl⟩
abbrev main_call3_c_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_c_1 : Ref sig .tc := ⟨.hbm, 173, rfl⟩
abbrev main_call3_v5 : Ref sig .tc := ⟨.hbm, 174, rfl⟩
abbrev main_call3_v6 : Ref sig .tc := ⟨.hbm, 175, rfl⟩
abbrev main_call3_c_2 : Ref sig .tc := ⟨.hbm, 176, rfl⟩
abbrev main_call3_v7 : Ref sig .tc := ⟨.hbm, 177, rfl⟩
abbrev main_call3_v8 : Ref sig .tc := ⟨.hbm, 178, rfl⟩
abbrev main_call3_c_3 : Ref sig .tc := ⟨.hbm, 179, rfl⟩
abbrev main_call3_v9 : Ref sig .tc := ⟨.hbm, 180, rfl⟩
abbrev main_call3_v10 : Ref sig .tc := ⟨.hbm, 181, rfl⟩
abbrev main_call3_v11 : Ref sig .tc := ⟨.hbm, 182, rfl⟩
abbrev main_call3_v12 : Ref sig .tc := ⟨.hbm, 183, rfl⟩
abbrev main_call3_v13 : Ref sig .tc := ⟨.hbm, 184, rfl⟩
abbrev main_call3_v14 : Ref sig .tc := ⟨.hbm, 185, rfl⟩
abbrev main_v79 : Ref sig .tc := ⟨.hbm, 186, rfl⟩
abbrev main_cst_38 : Ref sig .tc := ⟨.hbm, 187, rfl⟩
abbrev main_v80 : Ref sig .tc := ⟨.hbm, 188, rfl⟩
abbrev main_v81 : Ref sig .tc := ⟨.hbm, 189, rfl⟩

abbrev nD : Nat := 1
abbrev τ : Topo := Topo.v7x

variable {F : FTy → Type} [FloatOps F]
-- ==== Kernel.lean ====
abbrev S65536x128 : Shape := ⟨2, ![65536, 128]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S65536x128, .f32⟩
  | .hbm, ⟨1, _⟩ => ⟨S1x32768, .i32⟩
  | .hbm, ⟨2, _⟩ => ⟨S32768x128, .f32⟩
  | .local .scVector .vmem, ⟨0, _⟩ => ⟨S2x1x128, .i32⟩
  | .local .scVector .vmem, ⟨1, _⟩ => ⟨S2x128x128, .f32⟩
  | _, _ => ⟨S65536x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S32768x128.size a)
theorem k0_off19_inb : ∀ (i : grid0.Coords) (v33_4_r0 : BitVec 32) (k0_hw5 : k0_chk5 i v33_4_r0), ∀ a, (k0_off19 i v33_4_r0) a + S128x128.size a ≤ S32768x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S65536x128 : Shape := ⟨2, ![65536, 128]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1x32768, .i32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S1, .i32⟩
  | .hbm, ⟨12, _⟩ => ⟨S_, .i32⟩
  | .hbm, ⟨13, _⟩ => ⟨S32768x1, .i32⟩
  | .hbm, ⟨14, _⟩ => ⟨S32768x1, .i1⟩
  | .hbm, ⟨15, _⟩ => ⟨S1x1, .i32⟩
  | .hbm, ⟨16, _⟩ => ⟨S32768x1, .i32⟩
  | .hbm, ⟨17, _⟩ => ⟨S32768x1, .i1⟩
  | .hbm, ⟨18, _⟩ => ⟨S32768x1, .i1⟩
  | .hbm, ⟨19, _⟩ => ⟨S_, .i1⟩
  | .hbm, ⟨20, _⟩ => ⟨S32768, .i1⟩
  | .hbm, ⟨21, _⟩ => ⟨S32768x128, .f32⟩
  | .hbm, ⟨22, _⟩ => ⟨S32768x128, .i1⟩
  | .hbm, ⟨23, _⟩ => ⟨S_, .f32⟩
  | .hbm, ⟨24, _⟩ => ⟨S32768x128, .f32⟩
  | .hbm, ⟨25, _⟩ => ⟨S32768x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Scatter.lean ====
abbrev S16x2048x128 : Shape := ⟨3, ![16, 2048, 128]⟩
abbrev S2048x16 : Shape := ⟨2, ![2048, 16]⟩
abbrev S2048x64 : Shape := ⟨2, ![2048, 64]⟩
abbrev S64x64x1024 : Shape := ⟨3, ![64, 64, 1024]⟩
abbrev S16x2048 : Shape := ⟨2, ![16, 2048]⟩
abbrev S1x32768 : Shape := ⟨2, ![1, 32768]⟩
abbrev S32768x128 : Shape := ⟨2, ![32768, 128]⟩
abbrev S131072x128 : Shape := ⟨2, ![131072, 128]⟩
abbrev S2x128x128 : Shape := ⟨3, ![2, 128, 128]⟩
abbrev S2 : Shape := ⟨1, ![2]⟩
abbrev S2x1x128 : Shape := ⟨3, ![2, 1, 128]⟩
abbrev S1x128x128 : Shape := ⟨3, ![1, 128, 128]⟩
abbrev S128x128 : Shape := ⟨2, ![128, 128]⟩
abbrev S1 : Shape := ⟨1, ![1]⟩
abbrev S_ : Shape := ⟨0, ![]⟩
abbrev S1x1x128 : Shape := ⟨3, ![1, 1, 128]⟩
abbrev S1x128 : Shape := ⟨2, ![1, 128]⟩
abbrev S128 : Shape := ⟨1, ![128]⟩
abbrev S2048x8192 : Shape := ⟨2, ![2048, 8192]⟩
abbrev S64x128x1024 : Shape := ⟨3, ![64, 128, 1024]⟩
abbrev S8192x1024 : Shape := ⟨2, ![8192, 1024]⟩
abbrev S64x64 : Shape := ⟨2, ![64, 64]⟩
abbrev S64x64x128 : Shape := ⟨3, ![64, 64, 128]⟩
abbrev S64x8192 : Shape := ⟨2, ![64, 8192]⟩
abbrev S2048x1024 : Shape := ⟨2, ![2048, 1024]⟩
abbrev S256x8192 : Shape := ⟨2, ![256, 8192]⟩
abbrev S256x64 : Shape := ⟨2, ![256, 64]⟩
abbrev S256x1024 : Shape := ⟨2, ![256, 1024]⟩

abbrev nBuf : Table → Nat
  | .hbm => 24
  | .local .tc .vmem => 8
  | .local .scVector .vmem => 2
  | _ => 0

abbrev bufTy : (tb : Table) → Fin (nBuf tb) → BufTy
  | .hbm, ⟨0, _⟩ => ⟨S16x2048x128, .f32⟩
  | .hbm, ⟨1, _⟩ => ⟨S2048x16, .i32⟩
  | .hbm, ⟨2, _⟩ => ⟨S2048x64, .f32⟩
  | .hbm, ⟨3, _⟩ => ⟨S64x64x1024, .f32⟩
  | .hbm, ⟨4, _⟩ => ⟨S16x2048, .i32⟩
  | .hbm, ⟨5, _⟩ => ⟨S1x32768, .i32⟩
  | .hbm, ⟨6, _⟩ => ⟨S32768x128, .f32⟩
  | .hbm, ⟨7, _⟩ => ⟨S131072x128, .f32⟩
  | .hbm, ⟨8, _⟩ => ⟨S2048x8192, .f32⟩
  | .hbm, ⟨9, _⟩ => ⟨S_, .i32⟩
  | .hbm, ⟨10, _⟩ => ⟨S_, .f32⟩
  | .hbm, ⟨11, _⟩ => ⟨S64x128x1024, .f32⟩
  | .hbm, ⟨12, _⟩ => ⟨S8192x1024, .f32⟩
  | .hbm, ⟨13, _⟩ => ⟨S8192x1024, .bf16⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S64x64, .bf16⟩
  | .hbm, ⟨21, _⟩ => ⟨S64x64x128, .bf16⟩
  | .hbm, ⟨22, _⟩ => ⟨S64x8192, .bf16⟩
  | .hbm, ⟨23, _⟩ => ⟨S2048x1024, .f32⟩
  | .local .tc .vmem, ⟨0, _⟩ => ⟨S256x8192, .f32⟩
  | .local .tc .vmem, ⟨1, _⟩ => ⟨S256x8192, .f32⟩
  | .local .tc .vmem, ⟨2, _⟩ => ⟨S256x64, .f32⟩
  | .local .tc .vmem, ⟨3, _⟩ => ⟨S256x64, .f32⟩
  | .local .tc .vmem, ⟨4, _⟩ => ⟨S64x8192, .bf16⟩
  | .local .tc .vmem, ⟨5, _⟩ => ⟨S8192x1024, .bf16⟩
  | .local .tc .vmem, ⟨6, _⟩ => ⟨S256x1024, .f32⟩
  | .local .tc .vmem, ⟨7, _⟩ => ⟨S256x1024, .f32⟩
  | .local .scVector .vmem, ⟨0, _⟩ => ⟨S2x128x128, .f32⟩
  | .local .scVector .vmem, ⟨1, _⟩ => ⟨S2x1x128, .i32⟩
  | _, _ => ⟨S16x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v2_scv : Ref sig .scVector := ⟨.hbm, 6, rfl⟩
abbrev main_v1_scv : Ref sig .scVector := ⟨.hbm, 5, rfl⟩
abbrev main_v3_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  let c0_i32_16_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
def k0_off4 : Fin 3 → Nat :=
  let c0_i32_22_r0 : BitVec 32 := 0#32
  let c2_i32_23_r0 : BitVec 32 := 2#32
  let v32_r0 : BitVec 32 := Scalar.remui c0_i32_22_r0 c2_i32_23_r0
  let c0_i32_25_r0 : BitVec 32 := 0#32
  let c0_i32_26_r0 : BitVec 32 := 0#32
  ![v32_r0.toNat, 0, 0]
def k0_off5 (i : grid0.Coords) : Fin 2 → Nat :=
  let c0_i32_27_r0 : BitVec 32 := 0#32
  let c128_i32_24_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v33_r0 : BitVec 32 := Scalar.muli c128_i32_24_r0 v7_r0
  ![0, v33_r0.toNat]
@[reducible] def k0_t1_loop : Scf.Loop 32 :=
  let c0_i32_36_r0 : BitVec 32 := 0#32
  let c8_i32_37_r0 : BitVec 32 := 8#32
  let v43_r0 : BitVec 32 := Scalar.addi c0_i32_36_r0 c8_i32_37_r0
  let c1_i32_38_r0 : BitVec 32 := 1#32
  ⟨c0_i32_36_r0, v43_r0, c1_i32_38_r0⟩
def k0_off6 (arg6_r0 : BitVec 32) : Fin 3 → Nat :=
  let c2_i32_104_r0 : BitVec 32 := 2#32
  let v151_r0 : BitVec 32 := Scalar.remui arg6_r0 c2_i32_104_r0
  let c0_i32_106_r0 : BitVec 32 := 0#32
  let c0_i32_107_r0 : BitVec 32 := 0#32
  ![v151_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let true_63_r0 : BitVec 1 := 1#1
  let c1_i32_62_r0 : BitVec 32 := 1#32
  let v73_r0 : BitVec 32 := Scalar.addi arg10_r0 c1_i32_62_r0
  let v74_r0 : BitVec 32 := Scalar.select true_63_r0 v73_r0 arg10_r0
  let c8_i32_64_r0 : BitVec 32 := 8#32
  let v75_r0 : BitVec 1 := Scalar.cmpi .eq v74_r0 c8_i32_64_r0
  let c0_i32_65_r0 : BitVec 32 := 0#32
  let v76_r0 : BitVec 32 := Scalar.select v75_r0 c0_i32_65_r0 v74_r0
  let v77_r0 : BitVec 32 := Scalar.addi v76_r0 v4
  let v83_r0 : BitVec 1 := Scalar.cmpi .ne v67_r0 v77_r0
  let c0_i32_36_r0 : BitVec 32 := 0#32
  let c1_i32_38_r0 : BitVec 32 := 1#32
  let arg5_r0 : BitVec 32 := Scf.iv c0_i32_36_r0 c1_i32_38_r0 k0_t1
  let c7_i32_70_r0 : BitVec 32 := 7#32
  let v84_r0 : BitVec 1 := Scalar.cmpi .sge arg5_r0 c7_i32_70_r0
  let true_71_r0 : BitVec 1 := 1#1
  let v85_r0 : BitVec 1 := Scalar.xori v84_r0 true_71_r0
  let v86_r0 : BitVec 1 := Scalar.andi v83_r0 v85_r0
  let true_72_r0 : BitVec 1 := 1#1
  let v87_r0 : BitVec 1 := Scalar.andi v86_r0 true_72_r0
  let v88_r0 : BitVec 32 := Scalar.extui v87_r0
  let c0_i32_73_r0 : BitVec 32 := 0#32
  let v89_r0 : BitVec 1 := Scalar.cmpi .ne v88_r0 c0_i32_73_r0
  v89_r0

def k0_off7 (i : grid0.Coords) (arg10_r0 : BitVec 32) : Fin 2 → Nat :=
  let c128_i32_105_r0 : BitVec 32 := 128#32
  let true_63_r0 : BitVec 1 := 1#1
  let c1_i32_62_r0 : BitVec 32 := 1#32
  let v73_r0 : BitVec 32 := Scalar.addi arg10_r0 c1_i32_62_r0
  let v74_r0 : BitVec 32 := Scalar.select true_63_r0 v73_r0 arg10_r0
  let c8_i32_64_r0 : BitVec 32 := 8#32
  let v75_r0 : BitVec 1 := Scalar.cmpi .eq v74_r0 c8_i32_64_r0
  let c0_i32_65_r0 : BitVec 32 := 0#32
  let v76_r0 : BitVec 32 := Scalar.select v75_r0 c0_i32_65_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v77_r0 : BitVec 32 := Scalar.addi v76_r0 v4
  let v152_r0 : BitVec 32 := Scalar.muli c128_i32_105_r0 v77_r0
  let c0_i32_108_r0 : BitVec 32 := 0#32
  ![v152_r0.toNat, 0]
def k0_off8 (arg6_r0 : BitVec 32) : Fin 1 → Nat :=
  let c2_i32_104_r0 : BitVec 32 := 2#32
  let v151_r0 : BitVec 32 := Scalar.remui arg6_r0 c2_i32_104_r0
  ![v151_r0.toNat]
def k0_off9 (arg8_r0 : BitVec 32) : Fin 3 → Nat :=
  let c2_i32_104_r0 : BitVec 32 := 2#32
  let v151_r0 : BitVec 32 := Scalar.remui arg8_r0 c2_i32_104_r0
  let c0_i32_106_r0 : BitVec 32 := 0#32
  let c0_i32_107_r0 : BitVec 32 := 0#32
  ![v151_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let true_63_r0 : BitVec 1 := 1#1
  let c1_i32_62_r0 : BitVec 32 := 1#32
  let v73_r0 : BitVec 32 := Scalar.addi arg10_r0 c1_i32_62_r0
  let v74_r0 : BitVec 32 := Scalar.select true_63_r0 v73_r0 arg10_r0
  let c8_i32_64_r0 : BitVec 32 := 8#32
  let v75_r0 : BitVec 1 := Scalar.cmpi .eq v74_r0 c8_i32_64_r0
  let c0_i32_65_r0 : BitVec 32 := 0#32
  let v76_r0 : BitVec 32 := Scalar.select v75_r0 c0_i32_65_r0 v74_r0
  let v77_r0 : BitVec 32 := Scalar.addi v76_r0 v4
  let v93_r0 : BitVec 1 := Scalar.cmpi .ne v67_r0 v77_r0
  let c0_i32_36_r0 : BitVec 32 := 0#32
  let c1_i32_38_r0 : BitVec 32 := 1#32
  let arg5_r0 : BitVec 32 := Scf.iv c0_i32_36_r0 c1_i32_38_r0 k0_t1
  let c7_i32_76_r0 : BitVec 32 := 7#32
  let v94_r0 : BitVec 1 := Scalar.cmpi .sge arg5_r0 c7_i32_76_r0
  let true_77_r0 : BitVec 1 := 1#1
  let v95_r0 : BitVec 1 := Scalar.xori v94_r0 true_77_r0
  let v96_r0 : BitVec 1 := Scalar.andi v93_r0 v95_r0
  let true_78_r0 : BitVec 1 := 1#1
  let v97_r0 : BitVec 1 := Scalar.andi v96_r0 true_78_r0
  let v98_r0 : BitVec 32 := Scalar.extui v97_r0
  let c0_i32_79_r0 : BitVec 32 := 0#32
  let v99_r0 : BitVec 1 := Scalar.cmpi .ne v98_r0 c0_i32_79_r0
  v99_r0

def k0_off10 (i : grid0.Coords) (arg10_r0 : BitVec 32) : Fin 2 → Nat :=
  let c0_i32_108_r0 : BitVec 32 := 0#32
  let c128_i32_105_r0 : BitVec 32 := 128#32
  let true_63_r0 : BitVec 1 := 1#1
  let c1_i32_62_r0 : BitVec 32 := 1#32
  let v73_r0 : BitVec 32 := Scalar.addi arg10_r0 c1_i32_62_r0
  let v74_r0 : BitVec 32 := Scalar.select true_63_r0 v73_r0 arg10_r0
  let c8_i32_64_r0 : BitVec 32 := 8#32
  let v75_r0 : BitVec 1 := Scalar.cmpi .eq v74_r0 c8_i32_64_r0
  let c0_i32_65_r0 : BitVec 32 := 0#32
  let v76_r0 : BitVec 32 := Scalar.select v75_r0 c0_i32_65_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v77_r0 : BitVec 32 := Scalar.addi v76_r0 v4
  let v152_r0 : BitVec 32 := Scalar.muli c128_i32_105_r0 v77_r0
  ![0, v152_r0.toNat]
def k0_off11 (arg8_r0 : BitVec 32) : Fin 1 → Nat :=
  let c2_i32_104_r0 : BitVec 32 := 2#32
  let v151_r0 : BitVec 32 := Scalar.remui arg8_r0 c2_i32_104_r0
  ![v151_r0.toNat]
def k0_off12 (arg7_r0 : BitVec 32) : Fin 3 → Nat :=
  let c2_i32_105_r0 : BitVec 32 := 2#32
  let v152_r0 : BitVec 32 := Scalar.remui arg7_r0 c2_i32_105_r0
  let c0_i32_106_r0 : BitVec 32 := 0#32
  let c0_i32_107_r0 : BitVec 32 := 0#32
  ![v152_r0.toNat, 0, 0]
def k0_cond3 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let true_59_r0 : BitVec 1 := 1#1
  let c1_i32_58_r0 : BitVec 32 := 1#32
  let v68_r0 : BitVec 32 := Scalar.subi arg10_r0 c1_i32_58_r0
  let v69_r0 : BitVec 32 := Scalar.select true_59_r0 v68_r0 arg10_r0
  let c_m1_i32_60_r0 : BitVec 32 := 4294967295#32
  let v70_r0 : BitVec 1 := Scalar.cmpi .eq v69_r0 c_m1_i32_60_r0
  let c7_i32_61_r0 : BitVec 32 := 7#32
  let v71_r0 : BitVec 32 := Scalar.select v70_r0 c7_i32_61_r0 v69_r0
  let v72_r0 : BitVec 32 := Scalar.addi v71_r0 v4
  let v103_r0 : BitVec 1 := Scalar.cmpi .ne v67_r0 v72_r0
  let c0_i32_36_r0 : BitVec 32 := 0#32
  let c1_i32_38_r0 : BitVec 32 := 1#32
  let arg5_r0 : BitVec 32 := Scf.iv c0_i32_36_r0 c1_i32_38_r0 k0_t1
  let c0_i32_56_r0 : BitVec 32 := 0#32
  let v65_r0 : BitVec 1 := Scalar.cmpi .eq arg5_r0 c0_i32_56_r0
  let v104_r0 : BitVec 1 := Scalar.ori v103_r0 v65_r0
  let c0_i32_82_r0 : BitVec 32 := 0#32
  let v105_r0 : BitVec 1 := Scalar.cmpi .sge arg5_r0 c0_i32_82_r0
  let v106_r0 : BitVec 1 := Scalar.andi v104_r0 v105_r0
  let v107_r0 : BitVec 32 := Scalar.extui v106_r0
  let c0_i32_83_r0 : BitVec 32 := 0#32
  let v108_r0 : BitVec 1 := Scalar.cmpi .ne v107_r0 c0_i32_83_r0
  v108_r0

def k0_off13 (i : grid0.Coords) (arg10_r0 : BitVec 32) : Fin 2 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let v151_r0 : BitVec 32 := Scalar.muli c128_i32_104_r0 v67_r0
  let c0_i32_108_r0 : BitVec 32 := 0#32
  ![v151_r0.toNat, 0]
def k0_off14 (arg7_r0 : BitVec 32) : Fin 1 → Nat :=
  let c2_i32_105_r0 : BitVec 32 := 2#32
  let v152_r0 : BitVec 32 := Scalar.remui arg7_r0 c2_i32_105_r0
  ![v152_r0.toNat]
def k0_off15 (arg9_r0 : BitVec 32) : Fin 3 → Nat :=
  let c2_i32_105_r0 : BitVec 32 := 2#32
  let v152_r0 : BitVec 32 := Scalar.remui arg9_r0 c2_i32_105_r0
  let c0_i32_106_r0 : BitVec 32 := 0#32
  let c0_i32_107_r0 : BitVec 32 := 0#32
  ![v152_r0.toNat, 0, 0]
def k0_cond4 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let true_59_r0 : BitVec 1 := 1#1
  let c1_i32_58_r0 : BitVec 32 := 1#32
  let v68_r0 : BitVec 32 := Scalar.subi arg10_r0 c1_i32_58_r0
  let v69_r0 : BitVec 32 := Scalar.select true_59_r0 v68_r0 arg10_r0
  let c_m1_i32_60_r0 : BitVec 32 := 4294967295#32
  let v70_r0 : BitVec 1 := Scalar.cmpi .eq v69_r0 c_m1_i32_60_r0
  let c7_i32_61_r0 : BitVec 32 := 7#32
  let v71_r0 : BitVec 32 := Scalar.select v70_r0 c7_i32_61_r0 v69_r0
  let v72_r0 : BitVec 32 := Scalar.addi v71_r0 v4
  let v109_r0 : BitVec 1 := Scalar.cmpi .ne v67_r0 v72_r0
  let c0_i32_36_r0 : BitVec 32 := 0#32
  let c1_i32_38_r0 : BitVec 32 := 1#32
  let arg5_r0 : BitVec 32 := Scf.iv c0_i32_36_r0 c1_i32_38_r0 k0_t1
  let c0_i32_56_r0 : BitVec 32 := 0#32
  let v65_r0 : BitVec 1 := Scalar.cmpi .eq arg5_r0 c0_i32_56_r0
  let v110_r0 : BitVec 1 := Scalar.ori v109_r0 v65_r0
  let c0_i32_84_r0 : BitVec 32 := 0#32
  let v111_r0 : BitVec 1 := Scalar.cmpi .sge arg5_r0 c0_i32_84_r0
  let v112_r0 : BitVec 1 := Scalar.andi v110_r0 v111_r0
  let v113_r0 : BitVec 32 := Scalar.extui v112_r0
  let c0_i32_85_r0 : BitVec 32 := 0#32
  let v114_r0 : BitVec 1 := Scalar.cmpi .ne v113_r0 c0_i32_85_r0
  v114_r0

def k0_off16 (i : grid0.Coords) (arg10_r0 : BitVec 32) : Fin 2 → Nat :=
  let c0_i32_108_r0 : BitVec 32 := 0#32
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let v151_r0 : BitVec 32 := Scalar.muli c128_i32_104_r0 v67_r0
  ![0, v151_r0.toNat]
def k0_off17 (arg9_r0 : BitVec 32) : Fin 1 → Nat :=
  let c2_i32_105_r0 : BitVec 32 := 2#32
  let v152_r0 : BitVec 32 := Scalar.remui arg9_r0 c2_i32_105_r0
  ![v152_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off6 arg6_r0) a + S1x128x128.size a ≤ S2x128x128.size a) ∧
  (∀ (k0_h1 : k0_cond1 i k0_t1 arg10_r0 = 1#1), ∀ a, (k0_off7 i arg10_r0) a + S128x128.size a ≤ S32768x128.size a) ∧
  (∀ (k0_h1 : k0_cond1 i k0_t1 arg10_r0 = 1#1), ∀ a, (k0_off8 arg6_r0) a + S1.size a ≤ S2.size a) ∧
  (∀ (k0_h2 : k0_cond2 i k0_t1 arg10_r0 = 1#1), ∀ a, (k0_off9 arg8_r0) a + S1x1x128.size a ≤ S2x1x128.size a) ∧
  (∀ (k0_h2 : k0_cond2 i k0_t1 arg10_r0 = 1#1), ∀ a, (k0_off10 i arg10_r0) a + S1x128.size a ≤ S1x32768.size a) ∧
  (∀ (k0_h2 : k0_cond2 i k0_t1 arg10_r0 = 1#1), ∀ a, (k0_off11 arg8_r0) a + S1.size a ≤ S2.size a) ∧
  (∀ (k0_h3 : k0_cond3 i k0_t1 arg10_r0 = 1#1), ∀ a, (k0_off12 arg7_r0) a + S1x128x128.size a ≤ S2x128x128.size a) ∧
  (∀ (k0_h3 : k0_cond3 i k0_t1 arg10_r0 = 1#1), ∀ a, (k0_off13 i arg10_r0) a + S128x128.size a ≤ S32768x128.size a) ∧
  (∀ (k0_h3 : k0_cond3 i k0_t1 arg10_r0 = 1#1), ∀ a, (k0_off14 arg7_r0) a + S1.size a ≤ S2.size a) ∧
  (∀ (k0_h4 : k0_cond4 i k0_t1 arg10_r0 = 1#1), ∀ a, (k0_off15 arg9_r0) a + S1x1x128.size a ≤ S2x1x128.size a) ∧
  (∀ (k0_h4 : k0_cond4 i k0_t1 arg10_r0 = 1#1), ∀ a, (k0_off16 i arg10_r0) a + S1x128.size a ≤ S1x32768.size a) ∧
  (∀ (k0_h4 : k0_cond4 i k0_t1 arg10_r0 = 1#1), ∀ a, (k0_off17 arg9_r0) a + S1.size a ≤ S2.size a)
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1x128x128.size a ≤ S2x128x128.size a := fun i k0_t1 arg6_r0 arg7_r0 arg8_r0 arg9_r0 arg10_r0 k0_hw1 k0_h1 => k0_hw1.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off7 i arg10_r0) a + S128x128.size a ≤ S32768x128.size a := fun i k0_t1 arg6_r0 arg7_r0 arg8_r0 arg9_r0 arg10_r0 k0_hw1 k0_h1 => k0_hw1.2.1 k0_h1
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off8 arg6_r0) a + S1.size a ≤ S2.size a := fun i k0_t1 arg6_r0 arg7_r0 arg8_r0 arg9_r0 arg10_r0 k0_hw1 k0_h1 => k0_hw1.2.2.1 k0_h1
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg8_r0) a + S1x1x128.size a ≤ S2x1x128.size a := fun i k0_t1 arg6_r0 arg7_r0 arg8_r0 arg9_r0 arg10_r0 k0_hw1 k0_h2 => k0_hw1.2.2.2.1 k0_h2
theorem k0_off10_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off10 i arg10_r0) a + S1x128.size a ≤ S1x32768.size a := fun i k0_t1 arg6_r0 arg7_r0 arg8_r0 arg9_r0 arg10_r0 k0_hw1 k0_h2 => k0_hw1.2.2.2.2.1 k0_h2
theorem k0_off11_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off11 arg8_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off12 arg7_r0) a + S1x128x128.size a ≤ S2x128x128.size a := fun i k0_t1 arg6_r0 arg7_r0 arg8_r0 arg9_r0 arg10_r0 k0_hw1 k0_h3 => k0_hw1.2.2.2.2.2.2.1 k0_h3
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off13 i arg10_r0) a + S128x128.size a ≤ S32768x128.size a := fun i k0_t1 arg6_r0 arg7_r0 arg8_r0 arg9_r0 arg10_r0 k0_hw1 k0_h3 => k0_hw1.2.2.2.2.2.2.2.1 k0_h3
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off14 arg7_r0) a + S1.size a ≤ S2.size a := fun i k0_t1 arg6_r0 arg7_r0 arg8_r0 arg9_r0 arg10_r0 k0_hw1 k0_h3 => k0_hw1.2.2.2.2.2.2.2.2.1 k0_h3
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off15 arg9_r0) a + S1x1x128.size a ≤ S2x1x128.size a := fun i k0_t1 arg6_r0 arg7_r0 arg8_r0 arg9_r0 arg10_r0 k0_hw1 k0_h4 => k0_hw1.2.2.2.2.2.2.2.2.2.1 k0_h4
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off16 i arg10_r0) a + S1x128.size a ≤ S1x32768.size a := fun i k0_t1 arg6_r0 arg7_r0 arg8_r0 arg9_r0 arg10_r0 k0_hw1 k0_h4 => k0_hw1.2.2.2.2.2.2.2.2.2.2.1 k0_h4
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off17 arg9_r0) a + S1.size a ≤ S2.size a := fun i k0_t1 arg6_r0 arg7_r0 arg8_r0 arg9_r0 arg10_r0 k0_hw1 k0_h4 => k0_hw1.2.2.2.2.2.2.2.2.2.2.2 k0_h4

def k0_off18 (arg7_r0 : BitVec 32) : Fin 3 → Nat :=
  let c2_i32_86_r0 : BitVec 32 := 2#32
  let v115_r0 : BitVec 32 := Scalar.remui arg7_r0 c2_i32_86_r0
  let c0_i32_104_r1 : BitVec 32 := 0#32
  let c0_i32_105_r1 : BitVec 32 := 0#32
  ![v115_r0.toNat, 0, 0]

def k0_chk2 (arg7_r0 : BitVec 32) : Prop :=
  (∀ a, (k0_off18 arg7_r0) a + S1x128x128.size a ≤ S2x128x128.size a)
theorem k0_off18_inb : ∀ (arg7_r0 : BitVec 32) (k0_hw2 : k0_chk2 arg7_r0), ∀ a, (k0_off18 arg7_r0) a + S1x128x128.size a ≤ S2x128x128.size a := fun arg7_r0 k0_hw2 => k0_hw2

def k0_off19 (arg9_r0 : BitVec 32) : Fin 3 → Nat :=
  let c2_i32_87_r0 : BitVec 32 := 2#32
  let v116_r0 : BitVec 32 := Scalar.remui arg9_r0 c2_i32_87_r0
  let c0_i32_106_r1 : BitVec 32 := 0#32
  let c0_i32_107_r1 : BitVec 32 := 0#32
  ![v116_r0.toNat, 0, 0]

def k0_chk3 (arg9_r0 : BitVec 32) : Prop :=
  (∀ a, (k0_off19 arg9_r0) a + S1x1x128.size a ≤ S2x1x128.size a)
theorem k0_off19_inb : ∀ (arg9_r0 : BitVec 32) (k0_hw3 : k0_chk3 arg9_r0), ∀ a, (k0_off19 arg9_r0) a + S1x1x128.size a ≤ S2x1x128.size a := fun arg9_r0 k0_hw3 => k0_hw3

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x8192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CombinedIdeal.lean ====
abbrev S16x2048x128 : Shape := ⟨3, ![16, 2048, 128]⟩
abbrev S2048x16 : Shape := ⟨2, ![2048, 16]⟩
abbrev S2048x64 : Shape := ⟨2, ![2048, 64]⟩
abbrev S64x64x1024 : Shape := ⟨3, ![64, 64, 1024]⟩
abbrev S2048 : Shape := ⟨1, ![2048]⟩
abbrev S2048x1 : Shape := ⟨2, ![2048, 1]⟩
abbrev S_ : Shape := ⟨0, ![]⟩
abbrev S2048x16x1 : Shape := ⟨3, ![2048, 16, 1]⟩
abbrev S1x1x64 : Shape := ⟨3, ![1, 1, 64]⟩
abbrev S2048x16x64 : Shape := ⟨3, ![2048, 16, 64]⟩
abbrev S16x2048x64 : Shape := ⟨3, ![16, 2048, 64]⟩
abbrev S2048x64x64 : Shape := ⟨3, ![2048, 64, 64]⟩
abbrev S2048x1024 : Shape := ⟨2, ![2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S2048x16, .i32⟩
  | .hbm, ⟨2, _⟩ => ⟨S2048x64, .f32⟩
  | .hbm, ⟨3, _⟩ => ⟨S64x64x1024, .f32⟩
  | .hbm, ⟨4, _⟩ => ⟨S2048, .i32⟩
  | .hbm, ⟨5, _⟩ => ⟨S2048x1, .i32⟩
  | .hbm, ⟨6, _⟩ => ⟨S_, .i32⟩
  | .hbm, ⟨7, _⟩ => ⟨S2048x1, .i32⟩
  | .hbm, ⟨8, _⟩ => ⟨S2048x1, .i32⟩
  | .hbm, ⟨9, _⟩ => ⟨S2048x16, .i32⟩
  | .hbm, ⟨10, _⟩ => ⟨S2048x16, .i32⟩
  | .hbm, ⟨11, _⟩ => ⟨S2048x16x1, .i32⟩
  | .hbm, ⟨12, _⟩ => ⟨S1x1x64, .i32⟩
  | .hbm, ⟨13, _⟩ => ⟨S2048x16x64, .i32⟩
  | .hbm, ⟨14, _⟩ => ⟨S2048x16x64, .i32⟩
  | .hbm, ⟨15, _⟩ => ⟨S2048x16x64, .i1⟩
  | .hbm, ⟨16, _⟩ => ⟨S2048x16x64, .f32⟩
  | .hbm, ⟨17, _⟩ => ⟨S16x2048x64, .f32⟩
  | .hbm, ⟨18, _⟩ => ⟨S2048x64x64, .f32⟩
  | .hbm, ⟨19, _⟩ => ⟨S2048x1024, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.Words.lean ====
/-
  The word arithmetic of the row gather's pipelined loop. A tile handles eight consecutive blocks of 128 rows; trip `t`
  carries five counters (copies in issued, copies in awaited, copies out issued, copies out awaited, step), which are
  `carried t`. At those counters every offset of the loop's body is a numeral in the tile's coordinates and `t`: slot
  `t % 2` of each double buffer, block `base i + t` of the arrays left in HBM. Each fact is evaluated over the 32 tiles
  and the eight trips.
-/
module

public import proofs.«01_k».proof.Defs
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Gather

open Cert.KernelIdeal Cert.KernelIdeal.Gen
open Idealize.ShloMosaic

/-- The tile's first block. -/
abbrev base (i : grid0.Coords) : ℕ := 8 * (i 1).val + 128 * (i 0).val

/-- The counters before trip `t`. -/
abbrev carried (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 (t % 8))

/-- The tile's first block as the program computes it. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 8#32

theorem trips_eq : k0_t1_loop.trips = 8 := by decide +kernel

/-! ## The conditions -/

theorem cond1_lt : ∀ (i : grid0.Coords) (t : Fin k0_t1_loop.trips), t.val < 7 → k0_cond1 i t (BitVec.ofNat 32 t.val) = 1#1 := by decide +kernel
theorem cond1_last : ∀ (i : grid0.Coords) (t : Fin k0_t1_loop.trips), ¬ t.val < 7 → ¬ k0_cond1 i t (BitVec.ofNat 32 t.val) = 1#1 := by decide +kernel
theorem cond2_all : ∀ (i : grid0.Coords) (t : Fin k0_t1_loop.trips), k0_cond2 i t (BitVec.ofNat 32 t.val) = 1#1 := by decide +kernel
theorem cond5_all : ∀ (i : grid0.Coords) (t : Fin k0_t1_loop.trips), k0_cond5 i t (BitVec.ofNat 32 t.val) = 1#1 := by decide +kernel
theorem cond7_pos : ∀ (i : grid0.Coords) (t : Fin k0_t1_loop.trips), 0 < t.val → k0_cond7 i t (BitVec.ofNat 32 t.val) = 1#1 := by decide +kernel
theorem cond7_zero : ∀ (i : grid0.Coords) (t : Fin k0_t1_loop.trips), ¬ 0 < t.val → ¬ k0_cond7 i t (BitVec.ofNat 32 t.val) = 1#1 := by decide +kernel

/-! ## The checks -/

theorem chk3_all : ∀ (t : Fin k0_t1_loop.trips), k0_chk3 (BitVec.ofNat 32 t.val) := by decide +kernel
theorem chk2_all : ∀ (t : Fin k0_t1_loop.trips), k0_chk2 (BitVec.ofNat 32 t.val) := by decide +kernel
theorem chk1_all : ∀ (i : grid0.Coords) (t : Fin k0_t1_loop.trips),
    k0_chk1 i t (BitVec.ofNat 32 (min (t.val + 1) 8)) (BitVec.ofNat 32 t.val) (BitVec.ofNat 32 t.val) (BitVec.ofNat 32 (t.val - 1)) (BitVec.ofNat 32 t.val) := by
  decide +kernel
theorem chk5_end : ∀ (i : grid0.Coords), k0_chk5 i (BitVec.ofNat 32 0) := by decide +kernel
theorem chk4_end : k0_chk4 (BitVec.ofNat 32 7) := by decide +kernel

/-! ## The offsets -/

theorem off4_at : ∀ (t : Fin 8), k0_off4 (BitVec.ofNat 32 t.val) = ![t.val % 2, 0, 0] := by decide +kernel
theorem off5_at : ∀ (i : grid0.Coords) (t : Fin 7), k0_off5 i (BitVec.ofNat 32 t.val) = ![0, 128 * (base i + (t.val + 1))] := by decide +kernel
theorem off6_at : ∀ (t : Fin 8), k0_off6 (BitVec.ofNat 32 t.val) = ![t.val % 2] := by decide +kernel
theorem off7_at : ∀ (t : Fin 8), k0_off7 (BitVec.ofNat 32 t.val) = ![t.val % 2, 0, 0] := by decide +kernel
theorem off8_at : ∀ (i : grid0.Coords) (t : Fin 8), k0_off8 i (BitVec.ofNat 32 t.val) = ![0, 128 * (base i + t.val)] := by decide +kernel
theorem off9_at : ∀ (t : Fin 8), k0_off9 (BitVec.ofNat 32 t.val) = ![t.val % 2] := by decide +kernel
theorem off10_at : ∀ (t : Fin 8), k0_off10 (BitVec.ofNat 32 t.val) = ![t.val % 2, 0, 0] := by decide +kernel
theorem off11_at : ∀ (t : Fin 8), k0_off11 (BitVec.ofNat 32 t.val) = ![t.val % 2, 0, 0] := by decide +kernel
theorem off12_at : ∀ (t : Fin 8), k0_off12 (BitVec.ofNat 32 t.val) = ![t.val % 2, 0, 0] := by decide +kernel
theorem off13_at : ∀ (i : grid0.Coords) (t : Fin 8), k0_off13 i (BitVec.ofNat 32 t.val) = ![128 * (base i + t.val), 0] := by decide +kernel
theorem off14_at : ∀ (t : Fin 8), k0_off14 (BitVec.ofNat 32 t.val) = ![t.val % 2] := by decide +kernel
theorem off15_at : ∀ (t : Fin 8), k0_off15 (BitVec.ofNat 32 t.val) = ![t.val % 2, 0, 0] := by decide +kernel
theorem off16_at : ∀ (i : grid0.Coords) (t : Fin 8), 0 < t.val → k0_off16 i (BitVec.ofNat 32 t.val) = ![128 * (base i + (t.val - 1)), 0] := by decide +kernel
theorem off17_at : ∀ (t : Fin 8), k0_off17 (BitVec.ofNat 32 t.val) = ![t.val % 2] := by decide +kernel
theorem off19_end : ∀ (i : grid0.Coords), k0_off19 i (BitVec.ofNat 32 0) = ![128 * (base i + 7), 0] := by decide +kernel
theorem off20_end : k0_off20 (BitVec.ofNat 32 7) = ![1] := by decide +kernel
theorem off21_end : k0_off21 (BitVec.ofNat 32 7) = ![1, 0, 0] := by decide +kernel
theorem off2_at : ∀ (i : grid0.Coords), k0_off2 i = ![0, 128 * (base i + 0)] := by decide +kernel

end Cert.Proof.Gather

end
-- ==== Proof.Setup.lean ====
/-
  The row gather as the launch theorem sees it: the program's configuration, the resource algebra, the arrays the call
  reads and writes, the contents it leaves in its result (`G`), and the views one tile's pipeline addresses — the two
  slots of each double buffer, the tile's blocks of the index list and of the result, the transfers' counters.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.ValueKit.Geometry
public import Idealize.ShloMosaic.Lib.ValueIdxCore
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration and the resource algebra -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and what the call leaves in its result -/

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- The table's row an index word names. -/
abbrev rowAt (w : BitVec 32) : Fin 65536 := ⟨w.toNat % 65536, Nat.mod_lt _ (by decide)⟩

/-- The gathered rows: row `r` is the table's row at index `r`. -/
def gathered (tab : S65536x128.Idx → Elt F .f32) (idx : S1x32768.Idx → BitVec 32) : S32768x128.Idx → Elt F .f32 :=
  fun x => tab (ix2 (rowAt (idx (ix2 (0 : Fin 1) (x 0 : Fin 32768)))) (x 1 : Fin 128))

/-! ## The views a tile addresses -/

local notation "tV" => (Memref.whole Cert.KernelIdeal.main_arg0_scv : Memref Cert.KernelIdeal.sig Kind.scVector Space.hbm Cert.KernelIdeal.S65536x128 EltTy.f32)
local notation "iV" => (Memref.whole Cert.KernelIdeal.main_arg1_scv : Memref Cert.KernelIdeal.sig Kind.scVector Space.hbm Cert.KernelIdeal.S1x32768 EltTy.i32)
local notation "oV" => (Memref.whole Cert.KernelIdeal.main_v0_scv : Memref Cert.KernelIdeal.sig Kind.scVector Space.hbm Cert.KernelIdeal.S32768x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

theorem slotI_inb (n : ℕ) : ∀ a, (![n % 2, 0, 0] : Fin 3 → ℕ) a + S1x1x128.size a ≤ S2x1x128.size a := by
  intro a; have := Nat.mod_lt n (y := 2) (by decide)
  match a with
  | 0 => show n % 2 + 1 ≤ 2; omega
  | 1 => show 0 + 1 ≤ 1; omega
  | 2 => show 0 + 128 ≤ 128; omega
theorem slotR_inb (n : ℕ) : ∀ a, (![n % 2, 0, 0] : Fin 3 → ℕ) a + S1x128x128.size a ≤ S2x128x128.size a := by
  intro a; have := Nat.mod_lt n (y := 2) (by decide)
  match a with
  | 0 => show n % 2 + 1 ≤ 2; omega
  | 1 => show 0 + 128 ≤ 128; omega
  | 2 => show 0 + 128 ≤ 128; omega
theorem sem_inb (n : ℕ) : ∀ a, (![n % 2] : Fin 1 → ℕ) a + S1.size a ≤ S2.size a := by
  intro a; have := Nat.mod_lt n (y := 2) (by decide)
  match a with
  | 0 => show n % 2 + 1 ≤ 2; omega
theorem base_lt (L : grid0.Coords) : base L ≤ 248 := by
  have h0 : (L 0).val < 2 := (L 0).isLt
  have h1 : (L 1).val < 16 := (L 1).isLt
  show 8 * (L 1).val + 128 * (L 0).val ≤ 248; omega
theorem blkI_inb (L : grid0.Coords) (t : ℕ) : ∀ a, (![0, 128 * (base L + t % 8)] : Fin 2 → ℕ) a + S1x128.size a ≤ S1x32768.size a := by
  intro a; have := Nat.mod_lt t (y := 8) (by decide); have := base_lt L
  match a with
  | 0 => show 0 + 1 ≤ 1; omega
  | 1 => show 128 * (base L + t % 8) + 128 ≤ 32768; omega
theorem blkO_lt (L : grid0.Coords) (t : ℕ) (x : S128x128.Idx) : 128 * (base L + t % 8) + (x 0).val < 32768 := by
  have := Nat.mod_lt t (y := 8) (by decide); have := base_lt L; have : (x 0).val < 128 := (x 0).isLt
  omega
theorem blkO_inb (L : grid0.Coords) (t : ℕ) : ∀ a, (![128 * (base L + t % 8), 0] : Fin 2 → ℕ) a + S128x128.size a ≤ S32768x128.size a := by
  intro a; have := Nat.mod_lt t (y := 8) (by decide); have := base_lt L
  match a with
  | 0 => show 128 * (base L + t % 8) + 128 ≤ 32768; omega
  | 1 => show 0 + 128 ≤ 128; omega

/-- Slot `n % 2` of the index scratch, squeezed to one row of 128 indices. -/
abbrev slotI (n : ℕ) : Memref sig .scVector .vmem S1x128 .i32 :=
  ((sV).slice (Rect.unit (s := S2x1x128) ![n % 2, 0, 0] S1x1x128.size (slotI_inb n)) (fun _ => rfl)).squeeze S1x128 squeezes_S1x1x128_S1x128
/-- Slot `n % 2` of the row scratch: 128 gathered rows. -/
abbrev slotR (n : ℕ) : Memref sig .scVector .vmem S128x128 .f32 :=
  ((rV).slice (Rect.unit (s := S2x128x128) ![n % 2, 0, 0] S1x128x128.size (slotR_inb n)) (fun _ => rfl)).squeeze S128x128 squeezes_S1x128x128_S128x128
/-- The indices of the tile's block `t`. -/
abbrev blkI (L : grid0.Coords) (t : ℕ) : Memref sig .scVector .hbm S1x128 .i32 :=
  (iV).slice (Rect.unit (s := S1x32768) ![0, 128 * (base L + t % 8)] S1x128.size (blkI_inb L t)) (fun _ => rfl)
/-- The result's rows of the tile's block `t`. -/
abbrev blkO (L : grid0.Coords) (t : ℕ) : Memref sig .scVector .hbm S128x128 .f32 :=
  (oV).slice (Rect.unit (s := S32768x128) ![128 * (base L + t % 8), 0] S128x128.size (blkO_inb L t)) (fun _ => rfl)
/-- The counter of the copies into, and of the copies out of, slot `n % 2`. -/
abbrev semI (n : ℕ) : DmaSem sig := ((cc0_scoped1.slice (Rect.unit (s := S2) ![n % 2] S1.size (sem_inb n))).squeeze S_ squeezes_S1_S_).sem
abbrev semO (n : ℕ) : DmaSem sig := ((cc0_scoped3.slice (Rect.unit (s := S2) ![n % 2] S1.size (sem_inb n))).squeeze S_ squeezes_S1_S_).sem
/-- All of the table, and the list the gather reads from slot `n % 2`. -/
abbrev tabAll : Memref sig .scVector .hbm S65536x128 .f32 :=
  (tV).slice (Rect.unit (s := S65536x128) ![0, 0] S65536x128.size inb_S65536x128_S65536x128_0_0) (fun _ => rfl)
abbrev listI (n : ℕ) : Memref sig .scVector .vmem S128 .i32 :=
  ((slotI n).slice (Rect.unit (s := S1x128) ![0, 0] S1x128.size inb_S1x128_S1x128_0_0) (fun _ => rfl)).squeeze S128 squeezes_S1x128_S128

/-! A view the program spells at a computed offset is the one above at the offset's value. -/

theorem slotI_of {n : ℕ} {off : Fin 3 → ℕ} (h : off = ![n % 2, 0, 0]) (inb : ∀ a, off a + S1x1x128.size a ≤ S2x1x128.size a) (hr) :
    ((sV).slice (Rect.unit (s := S2x1x128) off S1x1x128.size inb) hr).squeeze S1x128 squeezes_S1x1x128_S1x128 = slotI n := by subst h; rfl
theorem slotR_of {n : ℕ} {off : Fin 3 → ℕ} (h : off = ![n % 2, 0, 0]) (inb : ∀ a, off a + S1x128x128.size a ≤ S2x128x128.size a) (hr) :
    ((rV).slice (Rect.unit (s := S2x128x128) off S1x128x128.size inb) hr).squeeze S128x128 squeezes_S1x128x128_S128x128 = slotR n := by subst h; rfl
theorem blkI_of {L : grid0.Coords} {t : ℕ} {off : Fin 2 → ℕ} (h : off = ![0, 128 * (base L + t % 8)]) (inb : ∀ a, off a + S1x128.size a ≤ S1x32768.size a) (hr) :
    (iV).slice (Rect.unit (s := S1x32768) off S1x128.size inb) hr = blkI L t := by subst h; rfl
theorem blkO_of {L : grid0.Coords} {t : ℕ} {off : Fin 2 → ℕ} (h : off = ![128 * (base L + t % 8), 0]) (inb : ∀ a, off a + S128x128.size a ≤ S32768x128.size a) (hr) :
    (oV).slice (Rect.unit (s := S32768x128) off S128x128.size inb) hr = blkO L t := by subst h; rfl
theorem semI_of {n : ℕ} {off : Fin 1 → ℕ} (h : off = ![n % 2]) (inb : ∀ a, off a + S1.size a ≤ S2.size a) :
    ((cc0_scoped1.slice (Rect.unit (s := S2) off S1.size inb)).squeeze S_ squeezes_S1_S_).sem = semI n := by subst h; rfl
theorem semO_of {n : ℕ} {off : Fin 1 → ℕ} (h : off = ![n % 2]) (inb : ∀ a, off a + S1.size a ≤ S2.size a) :
    ((cc0_scoped3.slice (Rect.unit (s := S2) off S1.size inb)).squeeze S_ squeezes_S1_S_).sem = semO n := by subst h; rfl

theorem slotI_two (n : ℕ) : slotI (n + 2) = slotI n := slotI_of (by rw [Nat.add_mod_right]) _ _
theorem slotR_two (n : ℕ) : slotR (n + 2) = slotR n := slotR_of (by rw [Nat.add_mod_right]) _ _
theorem semI_two (n : ℕ) : semI (n + 2) = semI n := semI_of (by rw [Nat.add_mod_right]) _
theorem semO_two (n : ℕ) : semO (n + 2) = semO n := semO_of (by rw [Nat.add_mod_right]) _

/-! ## The sets of elements behind them -/

theorem mem_slotI (n : ℕ) (x : S2x1x128.Idx) : x ∈ (slotI n).view.set ↔ (x 0).val = n % 2 := by
  rw [show (slotI n).view.set = (Rect.unit (s := S2x1x128) ![n % 2, 0, 0] S1x1x128.size (slotI_inb n)).set from
    (View.set_reshape _ _).trans (View.set_slice_whole _ _)]
  refine Rect.mem_set_unit.trans ⟨fun h => ?_, fun h a => ?_⟩
  · have h0 := h 0
    change n % 2 ≤ (x 0).val ∧ (x 0).val < n % 2 + 1 at h0
    omega
  · match a with
    | 0 => show n % 2 ≤ (x 0).val ∧ (x 0).val < n % 2 + 1; omega
    | 1 => show 0 ≤ (x 1).val ∧ (x 1).val < 0 + 1; have : (x 1).val < 1 := (x 1).isLt; omega
    | 2 => show 0 ≤ (x 2).val ∧ (x 2).val < 0 + 128; have : (x 2).val < 128 := (x 2).isLt; omega
theorem mem_slotR (n : ℕ) (x : S2x128x128.Idx) : x ∈ (slotR n).view.set ↔ (x 0).val = n % 2 := by
  rw [show (slotR n).view.set = (Rect.unit (s := S2x128x128) ![n % 2, 0, 0] S1x128x128.size (slotR_inb n)).set from
    (View.set_reshape _ _).trans (View.set_slice_whole _ _)]
  refine Rect.mem_set_unit.trans ⟨fun h => ?_, fun h a => ?_⟩
  · have h0 := h 0
    change n % 2 ≤ (x 0).val ∧ (x 0).val < n % 2 + 1 at h0
    omega
  · match a with
    | 0 => show n % 2 ≤ (x 0).val ∧ (x 0).val < n % 2 + 1; omega
    | 1 => show 0 ≤ (x 1).val ∧ (x 1).val < 0 + 128; have : (x 1).val < 128 := (x 1).isLt; omega
    | 2 => show 0 ≤ (x 2).val ∧ (x 2).val < 0 + 128; have : (x 2).val < 128 := (x 2).isLt; omega
theorem mem_blkO (L : grid0.Coords) (t : ℕ) (x : S32768x128.Idx) :
    x ∈ (blkO L t).view.set ↔ 128 * (base L + t % 8) ≤ (x 0).val ∧ (x 0).val < 128 * (base L + t % 8) + 128 := by
  rw [show (blkO L t).view.set = (Rect.unit (s := S32768x128) ![128 * (base L + t % 8), 0] S128x128.size (blkO_inb L t)).set from View.set_slice_whole _ _]
  refine Rect.mem_set_unit.trans ⟨fun h => h 0, fun h a => ?_⟩
  match a with
  | 0 => exact h
  | 1 => show 0 ≤ (x 1).val ∧ (x 1).val < 0 + 128; have : (x 1).val < 128 := (x 1).isLt; omega
theorem set_tabAll : (tabAll).view.set = Finset.univ := by
  refine (View.set_slice_whole _ _).trans ?_
  ext x
  refine Rect.mem_set_unit.trans ⟨fun _ => Finset.mem_univ x, fun _ a => ?_⟩
  match a with
  | 0 => show 0 ≤ (x 0).val ∧ (x 0).val < 0 + 65536; have : (x 0).val < 65536 := (x 0).isLt; omega
  | 1 => show 0 ≤ (x 1).val ∧ (x 1).val < 0 + 128; have : (x 1).val < 128 := (x 1).isLt; omega
theorem set_listI (n : ℕ) : (listI n).view.set = (slotI n).view.set := by
  show (((slotI n).view.slice _).reshape S128 _).set = _
  rw [View.set_reshape, View.set_slice]
  have : (Rect.unit (s := S1x128) ![0, 0] S1x128.size inb_S1x128_S1x128_0_0).set = Finset.univ := by
    ext x
    refine Rect.mem_set_unit.trans ⟨fun _ => Finset.mem_univ x, fun _ a => ?_⟩
    match a with
    | 0 => show 0 ≤ (x 0).val ∧ (x 0).val < 0 + 1; have : (x 0).val < 1 := (x 0).isLt; omega
    | 1 => show 0 ≤ (x 1).val ∧ (x 1).val < 0 + 128; have : (x 1).val < 128 := (x 1).isLt; omega
  rw [this]; rfl

/-! ## What the views read -/

/-- The list in slot `n`, at position `k`: the slot's own reading at `(0, k)`. -/
theorem read_listI (n : ℕ) (f : (slotI n).view.ty.Contents (Elt F)) (k : S128.Idx) :
    (listI n).view.read (Elt F) f k = (slotI n).view.read (Elt F) f (ix2 (0 : Fin 1) (k 0 : Fin 128)) := by
  have h1 : (listI n).view.read (Elt F) f k
      = (slotI n).view.read (Elt F) f ((Rect.unit (s := S1x128) ![0, 0] S1x128.size inb_S1x128_S1x128_0_0).emb (Shape.reshapeEquiv squeezes_S1x128_S128.numel_eq k)) := rfl
  rw [h1, show Shape.reshapeEquiv squeezes_S1x128_S128.numel_eq k = (Fin.cons ⟨0, Nat.one_pos⟩ k : (⟨2, Matrix.vecCons 1 ![128]⟩ : Shape).Idx) from
    Shape.reshapeEquiv_cons_one _ _]
  congr 1; funext a; apply Fin.ext
  rw [ValueKit.rect_emb_unit_val]
  match a with
  | 0 => rfl
  | 1 => show 0 + (k 0).val = (k 0).val; omega

/-- Block `t` of the index list, at `(0, k)`. -/
theorem read_blkI (L : grid0.Coords) (t : ℕ) (f : S1x32768.Idx → BitVec 32) (k : Fin 128) (r : Fin 32768)
    (hr : r.val = 128 * (base L + t % 8) + k.val) :
    (blkI L t).view.read (Elt F) f (ix2 (0 : Fin 1) k) = f (ix2 (0 : Fin 1) r) := by
  show f ((Rect.unit (s := S1x32768) ![0, 128 * (base L + t % 8)] S1x128.size (blkI_inb L t)).emb (ix2 (0 : Fin 1) k)) = _
  congr 1; funext a; apply Fin.ext
  rw [ValueKit.rect_emb_unit_val]
  match a with
  | 0 => rfl
  | 1 => exact hr.symm

/-- Block `t` of the result, at `(k, l)`. -/
theorem emb_blkO (L : grid0.Coords) (t : ℕ) (x : S128x128.Idx) (a : Fin 2) :
    ((blkO L t).view.emb x a : Fin _).val = (![128 * (base L + t % 8), 0] : Fin 2 → ℕ) a + (x a).val :=
  ValueKit.rect_emb_unit_val _ _ _ _ _

end Cert.Proof.Gather

end
-- ==== Proof.Moves.lean ====
/-
  The five moves of one tile's pipeline, each a transfer on one slot of a double buffer, with what the slot holds before
  and after: a block of indices copied in, awaited, its rows gathered, copied out to the result, awaited. A slot is free,
  has a copy in flight, or is ready; the result's rows of the tile are the blocks already written (at the gathered rows),
  those in flight, and those still to write.
-/
module

public import proofs.«01_k».proof.Proof.Setup

@[expose] public section

set_option maxRecDepth 16384

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)

/-- What the call leaves in its result. -/
abbrev G : Buf (Elt F) (oLoc d) := gathered (m (tLoc d)) (m (iLoc d))

/-- A tile's share of the index list goes half to each slot. -/
def qs (q : PosShare TreeShare) (n : ℕ) : PosShare TreeShare := if n % 2 = 0 then q.left else q.right
theorem qs_two (q : PosShare TreeShare) (n : ℕ) : qs q (n + 2) = qs q n := by unfold qs; rw [Nat.add_mod_right]

/-! ## What a slot holds -/

/-- Slot `n` of the index scratch free: its counter at zero, some contents, its share of the index list at hand. -/
def inFree (q : PosShare TreeShare) (n : ℕ) : sProp 𝕄 :=
  iprop(semVal (thr d L, SemLoc.dma (semI n)) 0 ∗ (∃ f, (slotI n).view.loc (thr d L) ↦[(slotI n).view.set]{fullShare} f)
    ∗ iLoc d ↦{qs q n} m (iLoc d))
/-- Slot `t` holding the indices of block `t`. -/
def inReady (q : PosShare TreeShare) (t : ℕ) : sProp 𝕄 :=
  iprop(semVal (thr d L, SemLoc.dma (semI t)) 0
    ∗ (∃ f, ⌜(slotI t).view.read (Elt F) f = (blkI L t).view.read (Elt F) (m (iLoc d))⌝
        ∗ (slotI t).view.loc (thr d L) ↦[(slotI t).view.set]{fullShare} f)
    ∗ iLoc d ↦{qs q t} m (iLoc d))
/-- The copy of block `t`'s indices into slot `t` in flight: it holds the block's part of the share. -/
def inFlight (q : PosShare TreeShare) (t : ℕ) : sProp 𝕄 :=
  iprop(Transfers.Flight countersEmb (thr d L) (SemLoc.dma (semI t)) (default : HIx 1) (slotI t).view.dmaCredit
      iprop((∃ f, ⌜(slotI t).view.read (Elt F) f = (blkI L t).view.read (Elt F) (m (iLoc d))⌝
          ∗ (slotI t).view.loc (thr d L) ↦[(slotI t).view.set]{fullShare} f)
        ∗ iLoc d ↦[(blkI L t).view.set]{qs q t} m (iLoc d))
    ∗ iLoc d ↦[Finset.univ \ (blkI L t).view.set]{qs q t} m (iLoc d))
/-- Slot `n` of the row scratch free. -/
def outFree (n : ℕ) : sProp 𝕄 :=
  iprop(semVal (thr d L, SemLoc.dma (semO n)) 0 ∗ ∃ f, (slotR n).view.loc (thr d L) ↦[(slotR n).view.set]{fullShare} f)
/-- Slot `t` of the row scratch holding block `t`'s gathered rows. -/
def outReady (t : ℕ) : sProp 𝕄 :=
  iprop(semVal (thr d L, SemLoc.dma (semO t)) 0
    ∗ ∃ f, ⌜(slotR t).view.read (Elt F) f = (blkO L t).view.read (Elt F) (G m d)⌝
        ∗ (slotR t).view.loc (thr d L) ↦[(slotR t).view.set]{fullShare} f)
/-- The copy of slot `t` to block `t` of the result in flight. -/
def outFlight (t : ℕ) : sProp 𝕄 :=
  Transfers.Flight countersEmb (thr d L) (SemLoc.dma (semO t)) (default : HIx 1) (blkO L t).view.dmaCredit
      iprop((oLoc d ↦[(blkO L t).view.set]{fullShare} G m d)
        ∗ ∃ f, (slotR t).view.loc (thr d L) ↦[(slotR t).view.set]{fullShare} f)

/-- Rows `[128 (base + a), 128 (base + b))` of the result. -/
def rowsOf (a b : ℕ) : Finset S32768x128.Idx :=
  Finset.univ.filter fun x => 128 * (base L + a) ≤ (x 0).val ∧ (x 0).val < 128 * (base L + b)

/-- The tile's blocks written, and still to write, before block `t`. -/
def done (t : ℕ) : sProp 𝕄 := oLoc d ↦[rowsOf L 0 t]{fullShare} G m d
def todo (t : ℕ) : sProp 𝕄 := oLoc d ↦[rowsOf L t 8]{fullShare} m (oLoc d)

/-- What the thread owes throughout, its waits recorded. -/
def owing (O : CellTallies nD τ sig (HIx 1)) (W : Waits sig (HIx 1)) : sProp 𝕄 :=
  iprop(∃ W', ⌜∀ p ∈ W', p ∈ W ∨ p.2 = none⌝ ∗ owes (thr d L) O W')

theorem inFree_two (q : PosShare TreeShare) (n : ℕ) : (inFree m d L q (n + 2) : sProp 𝕄) = inFree m d L q n := by
  unfold inFree; rw [slotI_two, semI_two, qs_two]
theorem outFree_two (n : ℕ) : (outFree d L (n + 2) : sProp 𝕄) = outFree d L n := by
  unfold outFree; rw [slotR_two, semO_two]

omit [FloatOps F] in
theorem rowsOf_split {a b c : ℕ} (hab : a ≤ b) (hbc : b ≤ c) : rowsOf L a c = rowsOf L a b ∪ rowsOf L b c := by
  ext x; simp only [rowsOf, Finset.mem_filter, Finset.mem_union, Finset.mem_univ, true_and]; omega
omit [FloatOps F] in
theorem rowsOf_disjoint {a b c : ℕ} : Disjoint (rowsOf L a b) (rowsOf L b c) := by
  refine Finset.disjoint_left.mpr fun x h h' => ?_
  simp only [rowsOf, Finset.mem_filter, Finset.mem_univ, true_and] at h h'; omega
omit [FloatOps F] in
theorem rowsOf_block {t : ℕ} (ht : t < 8) : rowsOf L t (t + 1) = (blkO L t).view.set := by
  ext x; rw [mem_blkO, Nat.mod_eq_of_lt ht]; simp only [rowsOf, Finset.mem_filter, Finset.mem_univ, true_and]; omega

/-- One more wait at the transfers' index is recorded. -/
theorem owing_insert {O : CellTallies nD τ sig (HIx 1)} {W W' : Waits sig (HIx 1)} (h : ∀ p ∈ W', p ∈ W ∨ p.2 = none) {sm : SemLoc sig} :
    (owes (thr d L) O (insert (sm, (default : HIx 1)) W') : sProp 𝕄) ⊢ iprop(∃ W', ⌜∀ p ∈ W', p ∈ W ∨ p.2 = none⌝ ∗ owes (thr d L) O W') := by
  iintro HO
  iexists _; isplitr; swap; · iexact HO
  ipureintro; intro p hp
  rcases Finset.mem_insert.mp hp with hp | hp
  · exact .inr (hp ▸ rfl)
  · exact h p hp

/-! ## What the transfers land -/

theorem copyIn_lands (q : PosShare TreeShare) (t : ℕ) (f : Buf (Elt F) ((slotI t).view.loc (thr d L))) :
    iprop(((slotI t).view.loc (thr d L) ↦[(slotI t).view.set]{fullShare}
          (slotI t).view.write (Elt F) f (ReadAs.same.apply ((blkI L t).view.read (Elt F) (m (iLoc d)))) Finset.univ)
        ∗ (blkI L t).view.loc (thr d L) ↦[(blkI L t).view.set]{qs q t} m (iLoc d))
      ⊢ (iprop((∃ f, ⌜(slotI t).view.read (Elt F) f = (blkI L t).view.read (Elt F) (m (iLoc d))⌝
          ∗ (slotI t).view.loc (thr d L) ↦[(slotI t).view.set]{fullShare} f)
        ∗ iLoc d ↦[(blkI L t).view.set]{qs q t} m (iLoc d)) : sProp 𝕄) := by
  iintro ⟨Hd, Hs⟩
  isplitl [Hd]
  · iexists _; isplitr; swap; · iexact Hd
    ipureintro; exact View.read_write_univ _ _
  · iexact Hs

theorem copyOut_lands (t : ℕ) (f : Buf (Elt F) ((slotR t).view.loc (thr d L)))
    (hf : (slotR t).view.read (Elt F) f = (blkO L t).view.read (Elt F) (G m d)) :
    iprop(((blkO L t).view.loc (thr d L) ↦[(blkO L t).view.set]{fullShare}
          (blkO L t).view.write (Elt F) (m (oLoc d)) (ReadAs.same.apply ((slotR t).view.read (Elt F) f)) Finset.univ)
        ∗ (slotR t).view.loc (thr d L) ↦[(slotR t).view.set]{fullShare} f)
      ⊢ (iprop((oLoc d ↦[(blkO L t).view.set]{fullShare} G m d)
        ∗ ∃ f, (slotR t).view.loc (thr d L) ↦[(slotR t).view.set]{fullShare} f) : sProp 𝕄) := by
  iintro ⟨Hd, Hs⟩
  isplitl [Hd]
  · have e : ∀ i ∈ (blkO L t).view.set, (blkO L t).view.write (Elt F) (m (oLoc d)) (ReadAs.same.apply ((slotR t).view.read (Elt F) f)) Finset.univ i = G m d i := by
      intro i hi
      rw [hf, show ReadAs.same.apply ((blkO L t).view.read (Elt F) (G m d)) = (blkO L t).view.read (Elt F) (G m d) from rfl, View.write_read_eq_piecewise,
        View.setOn_univ, Finset.piecewise_eq_of_mem _ _ _ hi]
    iapply (Entails.of_eq (pointsTo_congr (ℓ := oLoc d) (q := fullShare) e)) $$ Hd
  · iexists f; iexact Hs

/-- What the proof asks of the launch memory: every index names a row of the table. -/
def PreOK : Prop := ∀ (d : Dev nD) (j : S1x32768.Idx), (m (iLoc d) j : BitVec 32).toNat < 65536

omit [FloatOps F] in
theorem list_inb (hpre : PreOK m) (t : ℕ) (fi : Buf (Elt F) ((slotI t).view.loc (thr d L)))
    (hfi : (slotI t).view.read (Elt F) fi = (blkI L t).view.read (Elt F) (m (iLoc d))) (x : S128.Idx) :
    ((listI t).view.read (Elt F) fi x : BitVec 32).toNat < S65536x128.size gathers_S65536x128_S128x128.axis := by
  have e : (listI t).view.read (Elt F) fi x = (blkI L t).view.read (Elt F) (m (iLoc d)) (ix2 (0 : Fin 1) (x 0 : Fin 128)) :=
    (read_listI t fi x).trans (congrFun hfi _)
  rw [e]
  exact hpre d _

omit [FloatOps F] in
/-- The gather's payload is block `t` of the gathered rows. -/
theorem gathered_block (t : ℕ) (fi : Buf (Elt F) ((slotI t).view.loc (thr d L)))
    (hfi : (slotI t).view.read (Elt F) fi = (blkI L t).view.read (Elt F) (m (iLoc d)))
    (hin : ∀ x, ((listI t).view.read (Elt F) fi x : BitVec 32).toNat < S65536x128.size gathers_S65536x128_S128x128.axis) {hn} :
    SparseCore.gatherPayload gathers_S65536x128_S128x128 ((tabAll).view.read (Elt F) (m (tLoc d))) (SparseCore.rows ((listI t).view.read (Elt F) fi) hn hin)
      = (blkO L t).view.read (Elt F) (G m d) := by
  funext x
  have hk : S128.rowMajor.symm ((x gathers_S65536x128_S128x128.axis').cast hn.symm) = ix1 (x 0 : Fin 128) := by
    refine (Equiv.symm_apply_eq _).mpr (Fin.ext ?_)
    exact (Shape.rowMajor_val_one (d := ![128]) (ix1 (x 0 : Fin 128))).symm
  have hb : (blkO L t).view.emb x 0 = (⟨128 * (base L + t % 8) + (x 0).val, blkO_lt L t x⟩ : Fin 32768) := Fin.ext (emb_blkO L t x 0)
  have hw : (listI t).view.read (Elt F) fi (S128.rowMajor.symm ((x gathers_S65536x128_S128x128.axis').cast hn.symm))
      = m (iLoc d) (ix2 (0 : Fin 1) ((blkO L t).view.emb x 0 : Fin 32768)) := by
    refine (congrArg ((listI t).view.read (Elt F) fi) hk).trans ((read_listI t fi _).trans ((congrFun hfi _).trans ?_))
    refine (read_blkI (F := F) L t (m (iLoc d)) (x 0 : Fin 128) ⟨128 * (base L + t % 8) + (x 0).val, blkO_lt L t x⟩ rfl).trans ?_
    exact congrArg (fun r : Fin 32768 => m (iLoc d) (ix2 (0 : Fin 1) r)) hb.symm
  have hlt := hin (S128.rowMajor.symm ((x gathers_S65536x128_S128x128.axis').cast hn.symm))
  show m (tLoc d) ((tabAll).view.emb (gathers_S65536x128_S128x128.idx _ x)) = m (tLoc d) (ix2 (rowAt (m (iLoc d) (ix2 (0 : Fin 1) ((blkO L t).view.emb x 0 : Fin 32768)))) ((blkO L t).view.emb x 1 : Fin 128))
  congr 1; funext a; apply Fin.ext
  refine (ValueKit.rect_emb_unit_val _ _ _ _ a).trans ?_
  match a with
  | 0 =>
    refine (Nat.zero_add _).trans ?_
    refine (congrArg Fin.val (Shape.Gathers.idx_axis gathers_S65536x128_S128x128 _ x)).trans ?_
    show ((listI t).view.read (Elt F) fi (S128.rowMajor.symm ((x gathers_S65536x128_S128x128.axis').cast hn.symm)) : BitVec 32).toNat = _ % 65536
    rw [hw] at hlt ⊢
    exact (Nat.mod_eq_of_lt hlt).symm
  | 1 =>
    refine (Nat.zero_add _).trans ((Shape.Gathers.idx_of_ne gathers_S65536x128_S128x128 _ x 1 (by decide)).trans ?_)
    exact ((emb_blkO L t x 1).trans (Nat.zero_add _)).symm

omit [FloatOps F] in
/-- The rows of a slot are awaited together as the slot. -/
theorem rows_credit (t : ℕ) : ∑ j, ((slotR t).slice (S128x128.rowRect gathers_S65536x128_S128x128.axis' j)
    (S128x128.stride_rowRect gathers_S65536x128_S128x128.axis' j)).view.dmaCredit = (slotR t).view.dmaCredit := by
  show ∑ j, ((slotR 0).slice (S128x128.rowRect gathers_S65536x128_S128x128.axis' j)
    (S128x128.stride_rowRect gathers_S65536x128_S128x128.axis' j)).view.dmaCredit = (slotR 0).view.dmaCredit
  decide

/-! ## The moves -/

variable {Q : PUnit.{1} → sProp (MT nD τ sig (HIx 1) (Elt F) ℕ UU ℕ)}

local notation "WP" => wp frame (wpE (defs₀ (F := F)) 𝒱₀ (thr d L) none) Set.univ

/-- Copying block `t`'s indices into its free slot. -/
theorem wp_copyIn (q : PosShare TreeShare) (t : ℕ) {src : Memref sig .scVector .hbm S1x128 .i32} {dst : Memref sig .scVector .vmem S1x128 .i32} {sm : DmaSem sig}
    (hs : src = blkI L t) (hd : dst = slotI t) (hm : sm = semI t) {hsrc hdst hsem} :
    inFree m d L q t ⊢ iprop((inFlight m d L q t -∗ Q ⟨⟩) -∗ WP (Prog.lift (.enqueueDma src (.here dst) (.dma sm) hsrc hdst hsem)) Q) := by
  subst hs hd hm
  unfold inFree
  iintro ⟨Hv, ⟨%f, Hf⟩, Hi⟩ Hk
  ihave Hi' := (pointsTo_split_subset (q := qs q t) (f := m (iLoc d)) (S := Finset.univ) (Finset.subset_univ (blkI L t).view.set)).1 $$ Hi
  icases Hi' with ⟨Hs, Hr⟩
  iapply (Transfers.wp_dmaLocal countersEmb 𝒱₀ (thr d L) none (default : HIx 1) (slotI t).view.dmaCredit rfl
    (View.dmaCredit_pos _ (by decide)) (Finset.Subset.refl _)) $$ [Hs Hf Hv]
  · isplitl [Hs]; · iexact Hs
    isplitl [Hf]; · iexact Hf
    iexact Hv
  iintro Hfl
  rw [wp_ret]
  imodintro
  iapply Hk
  unfold inFlight
  isplitl [Hfl]
  · iapply (Transfers.Flight_mono countersEmb (thr d L) (copyIn_lands m d L q t f)) $$ Hfl
  · iexact Hr

/-- Its wait. -/
theorem wp_waitIn (q : PosShare TreeShare) (t : ℕ) {O : CellTallies nD τ sig (HIx 1)} {W : Waits sig (HIx 1)}
    {src : Memref sig .scVector .hbm S1x128 .i32} {dst : Memref sig .scVector .vmem S1x128 .i32} {sm : DmaSem sig}
    (hd : dst = slotI t) (hm : sm = semI t) {hsrc hdst} :
    iprop(inFlight m d L q t ∗ owing d L O W ∗ Transfers.MayWaits (thr d L) (default : HIx 1) O)
      ⊢ iprop(((inReady m d L q t ∗ owing d L O W) -∗ Q ⟨⟩) -∗ WP (Prog.lift (.waitDma2 sm src dst hsrc hdst)) Q) := by
  subst hd hm
  unfold inFlight owing
  iintro ⟨⟨Hfl, Hr⟩, ⟨%W', %hW', HO⟩, Hmw⟩ Hk
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma (semI t))) $$ Hmw
  iintro ⟨⟨Hd, Hs⟩, Hv, HO⟩
  rw [wp_ret]
  imodintro
  iapply Hk
  isplitr [HO]
  · unfold inReady
    isplitl [Hv]; · iexact Hv
    isplitl [Hd]; · iexact Hd
    iapply (pointsTo_split_subset (q := qs q t) (f := m (iLoc d)) (S := Finset.univ) (Finset.subset_univ (blkI L t).view.set)).2
    isplitl [Hs] <;> iassumption
  · iapply (owing_insert d L hW') $$ HO

/-- Copying slot `t` out to block `t` of the result, the first still to write. -/
theorem wp_copyOut (t : ℕ) (ht : t < 8) {src : Memref sig .scVector .vmem S128x128 .f32} {dst : Memref sig .scVector .hbm S128x128 .f32} {sm : DmaSem sig}
    (hs : src = slotR t) (hd : dst = blkO L t) (hm : sm = semO t) {hsrc hdst hsem} :
    iprop(outReady m d L t ∗ todo m d L t)
      ⊢ iprop(((outFlight m d L t ∗ todo m d L (t + 1)) -∗ Q ⟨⟩) -∗ WP (Prog.lift (.enqueueDma src (.here dst) (.dma sm) hsrc hdst hsem)) Q) := by
  subst hs hd hm
  unfold outReady todo
  iintro ⟨⟨Hv, ⟨%f, %hf, Hf⟩⟩, Ho⟩ Hk
  rw [rowsOf_split L (Nat.le_succ t) (show t + 1 ≤ 8 by omega), rowsOf_block L ht]
  ihave Ho' := (pointsTo_union (q := fullShare) (f := m (oLoc d)) (rowsOf_block L ht ▸ rowsOf_disjoint L (a := t) (b := t + 1) (c := 8))).1 $$ Ho
  icases Ho' with ⟨Hb, Ho⟩
  iapply (Transfers.wp_dmaLocal countersEmb 𝒱₀ (thr d L) none (default : HIx 1) (blkO L t).view.dmaCredit rfl
    (View.dmaCredit_pos _ (by decide)) (Finset.Subset.refl _)) $$ [Hf Hb Hv]
  · isplitl [Hf]; · iexact Hf
    isplitl [Hb]; · iexact Hb
    iexact Hv
  iintro Hfl
  rw [wp_ret]
  imodintro
  iapply Hk
  isplitr [Ho]
  · unfold outFlight
    iapply (Transfers.Flight_mono countersEmb (thr d L) (copyOut_lands m d L t f hf)) $$ Hfl
  · iexact Ho

/-- Its wait: the block joins those written. -/
theorem wp_waitOut (t : ℕ) (ht : t < 8) {O : CellTallies nD τ sig (HIx 1)} {W : Waits sig (HIx 1)}
    {src : Memref sig .scVector .vmem S128x128 .f32} {dst : Memref sig .scVector .hbm S128x128 .f32} {sm : DmaSem sig}
    (hd : dst = blkO L t) (hm : sm = semO t) {hsrc hdst} :
    iprop(outFlight m d L t ∗ done m d L t ∗ owing d L O W ∗ Transfers.MayWaits (thr d L) (default : HIx 1) O)
      ⊢ iprop(((outFree d L t ∗ done m d L (t + 1) ∗ owing d L O W) -∗ Q ⟨⟩) -∗ WP (Prog.lift (.waitDma2 sm src dst hsrc hdst)) Q) := by
  subst hd hm
  unfold outFlight owing done
  iintro ⟨Hfl, Hdone, ⟨%W', %hW', HO⟩, Hmw⟩ Hk
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma (semO t))) $$ Hmw
  iintro ⟨⟨Hb, Hr⟩, Hv, HO⟩
  rw [wp_ret]
  imodintro
  iapply Hk
  isplitl [Hv Hr]
  · unfold outFree
    isplitl [Hv] <;> iassumption
  isplitr [HO]
  · rw [rowsOf_split L (Nat.zero_le t) (Nat.le_succ t), rowsOf_block L ht]
    iapply (pointsTo_union (q := fullShare) (f := G m d) (rowsOf_block L ht ▸ rowsOf_disjoint L (a := 0) (b := t) (c := t + 1))).2
    isplitl [Hdone] <;> iassumption
  · iapply (owing_insert d L hW') $$ HO

/-- Gathering block `t`'s rows: the transfer through the list in the index slot, and its wait; the index slot is free
    again, the row slot ready. -/
theorem wp_gather (hpre : PreOK m) (q qt : PosShare TreeShare) (t : ℕ) {O : CellTallies nD τ sig (HIx 1)} {W : Waits sig (HIx 1)}
    {dst dst' : Memref sig .scVector .vmem S128x128 .f32} {offs : Memref sig .scVector .vmem S128 .i32} {src' : Memref sig .scVector .hbm S65536x128 .f32}
    (hd : dst = slotR t) (hd' : dst' = slotR t) (ho : offs = listI t) {hp hn hsrc he hsp hr hsrc' hdst'} :
    iprop(inReady m d L q t ∗ outFree d L t ∗ (tLoc d ↦{qt} m (tLoc d)) ∗ semVal (thr d L, SemLoc.dma cc0_scoped4.sem) 0
        ∗ owing d L O W ∗ Transfers.MayWaits (thr d L) (default : HIx 1) O)
      ⊢ iprop(((inFree m d L q t ∗ outReady m d L t ∗ (tLoc d ↦{qt} m (tLoc d)) ∗ semVal (thr d L, SemLoc.dma cc0_scoped4.sem) 0 ∗ owing d L O W) -∗ Q ⟨⟩)
          -∗ WP (SparseCore.enqueueIndirectGather hp tabAll dst gathers_S65536x128_S128x128 offs hn cc0_scoped4.sem hsrc he hsp hr >>= fun _ =>
              SparseCore.waitIndirectGather cc0_scoped4.sem src' dst' hsrc' hdst') Q) := by
  subst hd hd' ho
  unfold inReady outFree owing
  iintro ⟨⟨HvI, ⟨%fi, %hfi, Hfi⟩, Hi⟩, ⟨HvR, ⟨%fr, Hfr⟩⟩, Ht, Hvg, ⟨%W', %hW', HO⟩, Hmw⟩ Hk
  ihave Ht' := (Entails.of_eq (show (tLoc d ↦{qt} m (tLoc d) : sProp 𝕄) = (tabAll).view.loc (thr d L) ↦[(tabAll).view.set]{qt} m (tLoc d) by rw [set_tabAll])) $$ Ht
  ihave Hfi' := (Entails.of_eq (show ((slotI t).view.loc (thr d L) ↦[(slotI t).view.set]{fullShare} fi : sProp 𝕄)
    = (listI t).view.loc (thr d L) ↦[(listI t).view.set]{fullShare} fi by rw [set_listI])) $$ Hfi
  have hin := list_inb m d L hpre t fi hfi
  iapply (SparseCore.wp_indirectGatherLocal countersEmb 𝒱₀ (thr d L) none (hg := gathers_S65536x128_S128x128) (default : HIx 1)
      (slotR t).view.dmaCredit (rows_credit t) (by decide) hin) $$ [Ht' Hfr Hfi' Hvg]
  · isplitl [Ht']; · iexact Ht'
    isplitl [Hfr]; · iexact Hfr
    isplitl [Hfi']; · iexact Hfi'
    iexact Hvg
  iintro Hfl
  unfold SparseCore.waitIndirectGather
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma cc0_scoped4.sem)) $$ Hmw
  iintro ⟨⟨Hfr, Ht, Hfi⟩, Hvg, HO⟩
  rw [wp_ret]
  imodintro
  iapply Hk
  isplitl [HvI Hfi Hi]
  · unfold inFree
    isplitl [HvI]; · iexact HvI
    isplitl [Hfi]
    · iexists fi
      iapply (Entails.of_eq (show ((listI t).view.loc (thr d L) ↦[(listI t).view.set]{fullShare} fi : sProp 𝕄)
        = (slotI t).view.loc (thr d L) ↦[(slotI t).view.set]{fullShare} fi by rw [set_listI])) $$ Hfi
    iexact Hi
  isplitl [HvR Hfr]
  · unfold outReady
    isplitl [HvR]; · iexact HvR
    iexists _
    isplitr; swap; · iexact Hfr
    ipureintro
    rw [View.read_write_univ]
    exact gathered_block m d L t fi hfi hin
  isplitl [Ht]
  · iapply (Entails.of_eq (show (tLoc d ↦{qt} m (tLoc d) : sProp 𝕄) = (tabAll).view.loc (thr d L) ↦[(tabAll).view.set]{qt} m (tLoc d) by rw [set_tabAll]).symm) $$ Ht
  isplitl [Hvg]; · iexact Hvg
  iapply (owing_insert d L hW') $$ HO

end Cert.Proof.Gather

end
-- ==== Proof.Tile.lean ====
/-
  One tile's task. Before trip `t` of the pipelined loop the indices of block `t` are in flight to their slot, the rows of
  block `t - 1` in flight from theirs, everything else free; the trip issues the next copy in, awaits its own, gathers,
  issues the copy out and awaits the previous one. After the eight trips the last copy out is awaited and the tile's rows
  of the result are the gathered rows.
-/
module

public import proofs.«01_k».proof.Proof.Moves

@[expose] public section

set_option maxRecDepth 16384

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)

local notation "tV" => (Memref.whole Cert.KernelIdeal.main_arg0_scv : Memref Cert.KernelIdeal.sig Kind.scVector Space.hbm Cert.KernelIdeal.S65536x128 EltTy.f32)
local notation "iV" => (Memref.whole Cert.KernelIdeal.main_arg1_scv : Memref Cert.KernelIdeal.sig Kind.scVector Space.hbm Cert.KernelIdeal.S1x32768 EltTy.i32)
local notation "oV" => (Memref.whole Cert.KernelIdeal.main_v0_scv : Memref Cert.KernelIdeal.sig Kind.scVector Space.hbm Cert.KernelIdeal.S32768x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

/-- Before trip `t`. -/
def Inv (q qt : PosShare TreeShare) (O : CellTallies nD τ sig (HIx 1)) (W : Waits sig (HIx 1)) (t : ℕ)
    (acc : BitVec 32 × BitVec 32 × BitVec 32 × BitVec 32 × BitVec 32) : sProp 𝕄 :=
  iprop(⌜acc = carried t⌝ ∗ Transfers.MayWaits (thr d L) (default : HIx 1) O
    ∗ (if t < 8 then inFlight m d L q t else inFree m d L q t) ∗ inFree m d L q (t + 1)
    ∗ outFree d L t ∗ (if 0 < t then outFlight m d L (t - 1) else outFree d L (t + 1))
    ∗ done m d L (t - 1) ∗ todo m d L t
    ∗ (tLoc d ↦{qt} m (tLoc d)) ∗ semVal (thr d L, SemLoc.dma cc0_scoped4.sem) 0 ∗ owing d L O W)

/-- The counters before a trip of the loop, and after it. -/
abbrev counters (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 t)

local notation "WP" => wp frame (wpE (defs₀ (F := F)) 𝒱₀ (thr d L) none) Set.univ

/-- What the first part of trip `t` hands on: its side conditions and the words it computed. -/
abbrev handed (t : Fin k0_t1_loop.trips) : Σ' (_ : k0_chk3 (BitVec.ofNat 32 t.val)) (_ : k0_chk2 (BitVec.ofNat 32 t.val))
    (_ : k0_chk1 L t (BitVec.ofNat 32 (min (t.val + 1) 8)) (BitVec.ofNat 32 t.val) (BitVec.ofNat 32 t.val) (BitVec.ofNat 32 (t.val - 1)) (BitVec.ofNat 32 t.val))
    (_ : BitVec 32) (_ : BitVec 1) (_ : BitVec 1) (_ : BitVec 32) (_ : BitVec 32) (_ : BitVec 32) (_ : BitVec 32), BitVec 1 :=
  ⟨chk3_all t, chk2_all t, chk1_all L t, BitVec.ofNat 32 t.val, BitVec.ofBool (t.val = 0), BitVec.ofBool (t.val = 7),
    baseW L + BitVec.ofNat 32 t.val, baseW L + BitVec.ofNat 32 ((t.val + 7) % 8), baseW L + BitVec.ofNat 32 ((t.val + 1) % 8),
    BitVec.ofNat 32 (min (t.val + 2) 8), 1#1⟩

theorem part1 (q : PosShare TreeShare) (t : Fin k0_t1_loop.trips) (ht : t.val < 8) {Q : _ → sProp (MT nD τ sig (HIx 1) (Elt F) ℕ UU ℕ)} :
    inFree m d L q (t.val + 1) ⊢ iprop(((if t.val + 1 < 8 then inFlight m d L q (t.val + 1) else inFree m d L q (t.val + 1)) -∗ Q (handed L t))
      -∗ WP (k0_part1 L tV (Memref.isWhole_whole _) iV (Memref.isWhole_whole _) oV (Memref.isWhole_whole _)
            sV (Memref.isWhole_whole _) cc0_scoped1 rV (Memref.isWhole_whole _) cc0_scoped3 cc0_scoped4 (baseW L) 0#32 1#32 t
            (BitVec.ofNat 32 (min (t.val + 1) 8)) (BitVec.ofNat 32 t.val) (BitVec.ofNat 32 t.val) (BitVec.ofNat 32 (t.val - 1)) (BitVec.ofNat 32 t.val)) Q) := by
  rw [k0_part1_eq_skeleton]
  unfold k0_part1_skel
  have hc3 := chk3_all t
  have hc2 := chk2_all t
  have hc1 := chk1_all L t
  iintro HiB Hk
  sl_exec
  rw [(by decide +kernel : ∀ (t : Fin k0_t1_loop.trips), part1.sl.arg5_r0 t = BitVec.ofNat 32 t.val) t,
    (by decide +kernel : ∀ (t : Fin k0_t1_loop.trips), part1.sl.v64_r0 t = BitVec.ofBool (t.val = 0)) t,
    (by decide +kernel : ∀ (t : Fin k0_t1_loop.trips), part1.sl.v65_r0 t = BitVec.ofBool (t.val = 7)) t,
    (by decide +kernel : ∀ L (t : Fin k0_t1_loop.trips), part1.sl.v66_r0 L t = baseW L + BitVec.ofNat 32 t.val) L t,
    (by decide +kernel : ∀ L (t : Fin k0_t1_loop.trips), part1.sl.v71_r0 L t = baseW L + BitVec.ofNat 32 ((t.val + 7) % 8)) L t,
    (by decide +kernel : ∀ L (t : Fin k0_t1_loop.trips), part1.sl.v76_r0 L t = baseW L + BitVec.ofNat 32 ((t.val + 1) % 8)) L t]
  by_cases h7 : t.val < 7
  · rw [dif_pos (cond1_lt L t h7)]
    have hmin : min (t.val + 1) 8 = t.val + 1 := by omega
    have e5 : k0_off5 L (BitVec.ofNat 32 t.val) = ![0, 128 * (base L + (t.val + 1) % 8)] := by
      rw [Nat.mod_eq_of_lt (by omega)]; exact off5_at L ⟨t.val, h7⟩
    have e4 : k0_off4 (BitVec.ofNat 32 (min (t.val + 1) 8)) = ![(t.val + 1) % 2, 0, 0] := by rw [hmin]; exact off4_at ⟨t.val + 1, by omega⟩
    have e6 : k0_off6 (BitVec.ofNat 32 (min (t.val + 1) 8)) = ![(t.val + 1) % 2] := by rw [hmin]; exact off6_at ⟨t.val + 1, by omega⟩
    rw [wp_bind]
    iapply (wp_copyIn m d L q (t.val + 1) (blkI_of e5 _ _) (slotI_of e4 _ _) (semI_of e6 _)) $$ HiB
    iintro HiB
    sl_exec
    rw [wp_ret]
    imodintro
    rw [(by decide +kernel : ∀ L (t : Fin k0_t1_loop.trips), part1.sl.v91_r0 L t = BitVec.ofNat 32 (min (t.val + 2) 8)) L t,
      (by decide +kernel : ∀ L (t : Fin k0_t1_loop.trips), part1.sl.v96_r0 L t = 1#1) L t]
    iapply Hk
    rw [if_pos (by omega)]
    iexact HiB
  · rw [dif_neg (cond1_last L t h7)]
    sl_exec
    rw [wp_ret]
    imodintro
    rw [(by decide +kernel : ∀ L (t : Fin k0_t1_loop.trips), part1.sl.v91_r0_1 L t = BitVec.ofNat 32 (min (t.val + 2) 8)) L t,
      (by decide +kernel : ∀ L (t : Fin k0_t1_loop.trips), part1.sl.v96_r0_1 L t = 1#1) L t]
    iapply Hk
    rw [if_neg (by omega)]
    iexact HiB

theorem part2 (hpre : PreOK m) (q qt : PosShare TreeShare) (O : CellTallies nD τ sig (HIx 1)) (W : Waits sig (HIx 1)) (t : Fin k0_t1_loop.trips) (ht : t.val < 8)
    {Q : PUnit.{1} → sProp (MT nD τ sig (HIx 1) (Elt F) ℕ UU ℕ)} {h3 h2 h1 a5 a64 a65 a66 a71 a76 a96} :
    iprop(inFlight m d L q t.val ∗ outFree d L t.val ∗ (tLoc d ↦{qt} m (tLoc d)) ∗ semVal (thr d L, SemLoc.dma cc0_scoped4.sem) 0
        ∗ owing d L O W ∗ Transfers.MayWaits (thr d L) (default : HIx 1) O)
      ⊢ iprop(((inFree m d L q t.val ∗ outReady m d L t.val ∗ (tLoc d ↦{qt} m (tLoc d)) ∗ semVal (thr d L, SemLoc.dma cc0_scoped4.sem) 0 ∗ owing d L O W) -∗ Q ⟨⟩)
      -∗ WP (k0_part2 L tV (Memref.isWhole_whole _) iV (Memref.isWhole_whole _) oV (Memref.isWhole_whole _)
            sV (Memref.isWhole_whole _) cc0_scoped1 rV (Memref.isWhole_whole _) cc0_scoped3 cc0_scoped4 t
            (BitVec.ofNat 32 (min (t.val + 1) 8)) (BitVec.ofNat 32 t.val) (BitVec.ofNat 32 t.val) (BitVec.ofNat 32 (t.val - 1)) (BitVec.ofNat 32 t.val)
            h3 h2 h1 a5 a64 a65 a66 a71 a76 a96) Q) := by
  rw [k0_part2_eq_skeleton]
  unfold k0_part2_skel
  rw [dif_pos (cond2_all L t)]
  iintro ⟨HiA, HoA, Ht, Hvg, HO, #Hmw⟩ Hk
  rw [wp_bind]
  iapply (wp_waitIn m d L q t.val (slotI_of (off7_at ⟨t.val, ht⟩) _ _) (semI_of (off9_at ⟨t.val, ht⟩) _)) $$ [HiA HO]
  · isplitl [HiA]; · iexact HiA
    isplitl [HO]; · iexact HO
    iexact Hmw
  iintro ⟨HiA, HO⟩
  simp only [ite_self]
  simp only [wp_bind]
  have HG := fun (Q₀ : PUnit.{1} → sProp (MT nD τ sig (HIx 1) (Elt F) ℕ UU ℕ)) hp hn hsrc he hsp hr src' hsrc' hdst' => wp_gather (Q := Q₀) m d L hpre q qt t.val (O := O) (W := W)
    (slotR_of (off10_at ⟨t.val, ht⟩) (k0_off10_inb _ h2) (fun _ => rfl)) (slotR_of (off10_at ⟨t.val, ht⟩) (k0_off10_inb _ h2) (fun _ => rfl))
    (congrArg (fun v : Memref sig .scVector .vmem S1x128 .i32 => (v.slice (Rect.unit (s := S1x128) ![0, 0] S1x128.size inb_S1x128_S1x128_0_0) (fun _ => rfl)).squeeze S128 squeezes_S1x128_S128)
      (slotI_of (off11_at ⟨t.val, ht⟩) (k0_off11_inb _ h3) (fun _ => rfl))) (hp := hp) (hn := hn) (hsrc := hsrc) (he := he) (hsp := hsp) (hr := hr) (src' := src') (hsrc' := hsrc') (hdst' := hdst')
  simp only [wp_bind] at HG
  iapply (HG _ trivial rfl (View.wordExact_bits rfl) rfl (Or.inl trivial) _ _ _ _) $$ [HiA HoA Ht Hvg HO]
  · isplitl [HiA]; · iexact HiA
    isplitl [HoA]; · iexact HoA
    isplitl [Ht]; · iexact Ht
    isplitl [Hvg]; · iexact Hvg
    isplitl [HO]; · iexact HO
    iexact Hmw
  iintro H
  rw [wp_pure]
  imodintro
  iapply Hk $$ H

theorem trip_body (hpre : PreOK m) (q qt : PosShare TreeShare) (O : CellTallies nD τ sig (HIx 1)) (W : Waits sig (HIx 1)) (t : Fin k0_t1_loop.trips) (ht : t.val < 8) :
    iprop(Transfers.MayWaits (thr d L) (default : HIx 1) O
        ∗ inFlight m d L q t.val ∗ inFree m d L q (t.val + 1)
        ∗ outFree d L t.val ∗ (if 0 < t.val then outFlight m d L (t.val - 1) else outFree d L (t.val + 1))
        ∗ done m d L (t.val - 1) ∗ todo m d L t.val
        ∗ (tLoc d ↦{qt} m (tLoc d)) ∗ semVal (thr d L, SemLoc.dma cc0_scoped4.sem) 0 ∗ owing d L O W)
      ⊢ WP (k0_t1_body L tV (Memref.isWhole_whole _) iV (Memref.isWhole_whole _) oV (Memref.isWhole_whole _)
            sV (Memref.isWhole_whole _) cc0_scoped1 rV (Memref.isWhole_whole _) cc0_scoped3 cc0_scoped4 (baseW L) t (counters t.val))
          (Inv m d L q qt O W (t.val + 1)) := by
  unfold k0_t1_body
  simp only [counters]
  iintro ⟨#Hmw, HiA, HiB, HoA, HoB, Hdone, Htodo, Ht, Hvg, HO⟩
  rw [wp_bind]
  iapply (part1 m d L q t ht) $$ HiB
  iintro HiB
  rw [wp_bind]
  iapply (part2 m d L hpre q qt O W t ht) $$ [HiA HoA Ht Hvg HO]
  · isplitl [HiA]; · iexact HiA
    isplitl [HoA]; · iexact HoA
    isplitl [Ht]; · iexact Ht
    isplitl [Hvg]; · iexact Hvg
    isplitl [HO]; · iexact HO
    iexact Hmw
  iintro ⟨HiA, HoA, Ht, Hvg, HO⟩
  rw [dif_pos (cond5_all L t)]
  rw [wp_bind]
  iapply (wp_copyOut m d L t.val ht (slotR_of (off12_at ⟨t.val, ht⟩) _ _)
    (blkO_of ((off13_at L ⟨t.val, ht⟩).trans (by rw [Nat.mod_eq_of_lt ht])) _ _) (semO_of (off14_at ⟨t.val, ht⟩) _)) $$ [HoA Htodo]
  · isplitl [HoA]; · iexact HoA
    iexact Htodo
  iintro ⟨HoA, Htodo⟩
  simp only [ite_self]
  have hout : (outFree d L t.val : sProp 𝕄) = outFree d L (t.val + 1 + 1) := (outFree_two d L t.val).symm
  by_cases h0 : 0 < t.val
  · rw [dif_pos (cond7_pos L t h0)]
    ihave HoB := (Entails.of_eq (if_pos h0)) $$ HoB
    have e15 : k0_off15 (BitVec.ofNat 32 (t.val - 1)) = ![(t.val - 1) % 2, 0, 0] := off15_at ⟨t.val - 1, by omega⟩
    have e16 : k0_off16 L (BitVec.ofNat 32 t.val) = ![128 * (base L + (t.val - 1) % 8), 0] := by
      rw [Nat.mod_eq_of_lt (by omega)]; exact off16_at L ⟨t.val, ht⟩ h0
    have e17 : k0_off17 (BitVec.ofNat 32 (t.val - 1)) = ![(t.val - 1) % 2] := off17_at ⟨t.val - 1, by omega⟩
    rw [wp_bind]
    iapply (wp_waitOut m d L (t.val - 1) (by omega) (blkO_of e16 _ _) (semO_of e17 _)) $$ [HoB Hdone HO]
    · isplitl [HoB]; · iexact HoB
      isplitl [Hdone]; · iexact Hdone
      isplitl [HO]; · iexact HO
      iexact Hmw
    iintro ⟨HoB, Hdone, HO⟩
    rw [wp_pure]
    imodintro
    unfold Inv
    isplitr
    · ipureintro
      clear e15 e16 e17 hout
      revert L t; decide +kernel
    isplitr; · iexact Hmw
    isplitl [HiB]; · iexact HiB
    isplitl [HiA]; · rw [show t.val + 1 + 1 = t.val + 2 from rfl, inFree_two]; iexact HiA
    isplitl [HoB]; · rw [(by omega : t.val + 1 = t.val - 1 + 2), outFree_two]; iexact HoB
    isplitl [HoA]; · rw [if_pos (Nat.succ_pos _), Nat.add_sub_cancel]; iexact HoA
    isplitl [Hdone]; · rw [(by omega : t.val + 1 - 1 = t.val - 1 + 1)]; iexact Hdone
    isplitl [Htodo]; · iexact Htodo
    isplitl [Ht]; · iexact Ht
    isplitl [Hvg]; · iexact Hvg
    iexact HO
  · rw [dif_neg (cond7_zero L t h0)]
    ihave HoB := (Entails.of_eq (if_neg h0)) $$ HoB
    rw [wp_pure]
    imodintro
    unfold Inv
    isplitr
    · ipureintro
      clear hout
      revert L t; decide +kernel
    isplitr; · iexact Hmw
    isplitl [HiB]; · iexact HiB
    isplitl [HiA]; · rw [show t.val + 1 + 1 = t.val + 2 from rfl, inFree_two]; iexact HiA
    isplitl [HoB]; · iexact HoB
    isplitl [HoA]; · rw [if_pos (Nat.succ_pos _), Nat.add_sub_cancel]; iexact HoA
    isplitl [Hdone]; · rw [(by omega : t.val + 1 - 1 = t.val - 1)]; iexact Hdone
    isplitl [Htodo]; · iexact Htodo
    isplitl [Ht]; · iexact Ht
    isplitl [Hvg]; · iexact Hvg
    iexact HO

omit [FloatOps F] in
theorem rowsOf_none : rowsOf L 0 0 = ∅ := by
  ext x; simp only [rowsOf, Finset.mem_filter, Finset.mem_univ, true_and, Finset.notMem_empty, iff_false]; omega

/-- One trip of the loop keeps the invariant. -/
theorem trip (hpre : PreOK m) (q qt : PosShare TreeShare) (O : CellTallies nD τ sig (HIx 1)) (W : Waits sig (HIx 1)) (t : Fin k0_t1_loop.trips)
    (acc : BitVec 32 × BitVec 32 × BitVec 32 × BitVec 32 × BitVec 32) :
    Inv m d L q qt O W t.val acc
      ⊢ WP (k0_t1_body L tV (Memref.isWhole_whole _) iV (Memref.isWhole_whole _) oV (Memref.isWhole_whole _)
            sV (Memref.isWhole_whole _) cc0_scoped1 rV (Memref.isWhole_whole _) cc0_scoped3 cc0_scoped4 (baseW L) t acc)
          (Inv m d L q qt O W (t.val + 1)) := by
  have ht : t.val < 8 := lt_of_lt_of_eq t.isLt trips_eq
  unfold Inv
  iintro ⟨%hacc, Hmw, HiA, HR⟩
  subst hacc
  rw [(by unfold carried counters; rw [Nat.mod_eq_of_lt ht] : carried t.val = counters t.val)]
  iapply (trip_body m d L hpre q qt O W t ht)
  isplitl [Hmw]; · iexact Hmw
  isplitl [HiA]; · iapply (Entails.of_eq (if_pos ht)) $$ HiA
  iexact HR

/-- One tile's task over what its slots hold: its rows of the result become the gathered rows. -/
theorem tile_core (hpre : PreOK m) (q qt : PosShare TreeShare) (O : CellTallies nD τ sig (HIx 1)) (W : Waits sig (HIx 1)) :
    iprop(Transfers.MayWaits (thr d L) (default : HIx 1) O
        ∗ inFree m d L q 0 ∗ inFree m d L q 1 ∗ outFree d L 0 ∗ outFree d L 1 ∗ todo m d L 0
        ∗ (tLoc d ↦{qt} m (tLoc d)) ∗ semVal (thr d L, SemLoc.dma cc0_scoped4.sem) 0 ∗ owing d L O W)
      ⊢ WP (cc0_run L tV (Memref.isWhole_whole _) iV (Memref.isWhole_whole _) oV (Memref.isWhole_whole _)
            sV (Memref.isWhole_whole _) cc0_scoped1 rV (Memref.isWhole_whole _) cc0_scoped3 cc0_scoped4)
          fun _ => iprop(inFree m d L q 0 ∗ inFree m d L q 1 ∗ outFree d L 0 ∗ outFree d L 1 ∗ done m d L 8
            ∗ (tLoc d ↦{qt} m (tLoc d)) ∗ semVal (thr d L, SemLoc.dma cc0_scoped4.sem) 0 ∗ owing d L O W) := by
  rw [cc0_run_eq_skeleton]
  unfold cc0_run_skel
  rw [k0_part3_eq_skeleton, k0_part4_eq_skeleton]
  unfold k0_part3_skel k0_part4_skel
  iintro ⟨#Hmw, HiA, HiB, HoA, HoB, Htodo, Ht, Hvg, HO⟩
  rw [wp_bind, wp_bind]
  iapply (wp_copyIn m d L q 0 (blkI_of (off2_at L) _ _) (slotI_of k0_off1_eq _ _) (semI_of k0_off3_eq _)) $$ HiA
  iintro HiA
  rw [wp_pure]
  imodintro
  rw [wp_bind, wp_bind]
  iapply (Scf.wp_for _ _ _ _ _ _ k0_t1_ok _ _ (Inv m d L q qt O W) (trip m d L hpre q qt O W))
  isplitl [HiA HiB HoA HoB Htodo Ht Hvg HO]
  · unfold Inv
    isplitr; · ipureintro; decide +kernel
    isplitr; · iexact Hmw
    isplitl [HiA]; · rw [if_pos (by decide)]; iexact HiA
    isplitl [HiB]; · iexact HiB
    isplitl [HoA]; · iexact HoA
    isplitl [HoB]; · rw [if_neg (by decide)]; iexact HoB
    isplitr; · unfold done; rw [rowsOf_none, pointsTo_empty]; iempintro
    isplitl [Htodo]; · iexact Htodo
    isplitl [Ht]; · iexact Ht
    isplitl [Hvg]; · iexact Hvg
    iexact HO
  iintro %acc HI
  ihave HI := (Entails.of_eq (congrArg (fun n => Inv m d L q qt O W n acc) (trips_eq : Scf.trips k0_t1_loop.lb k0_t1_loop.ub k0_t1_loop.st = 8))) $$ HI
  unfold Inv
  icases HI with ⟨%hacc, -, HiA, HiB, HoA, HoB, Hdone, -, Ht, Hvg, HO⟩
  subst hacc
  have hc5 := chk5_end L
  have hc4 := chk4_end
  unfold carried
  sl_exec
  ihave HoB := (Entails.of_eq (if_pos (by decide))) $$ HoB
  iapply (wp_waitOut m d L 7 (by decide) (blkO_of (off19_end L) _ _) (semO_of off20_end _)) $$ [HoB Hdone HO]
  · isplitl [HoB]; · iexact HoB
    isplitl [Hdone]; · iexact Hdone
    isplitl [HO]; · iexact HO
    iexact Hmw
  iintro ⟨HoB, Hdone, HO⟩
  have eI : ∀ n, (inFree m d L q (n + 8) : sProp 𝕄) = inFree m d L q n := fun n =>
    (inFree_two m d L q (n + 6)).trans ((inFree_two m d L q (n + 4)).trans ((inFree_two m d L q (n + 2)).trans (inFree_two m d L q n)))
  have eO : ∀ n, (outFree d L (n + 6) : sProp 𝕄) = outFree d L n := fun n =>
    (outFree_two d L (n + 4)).trans ((outFree_two d L (n + 2)).trans (outFree_two d L n))
  ihave HiA := (Entails.of_eq ((if_neg (by decide)).trans (eI 0))) $$ HiA
  ihave HiB := (Entails.of_eq (eI 1)) $$ HiB
  ihave HoA := (Entails.of_eq ((eO 2).trans (outFree_two d L 0))) $$ HoA
  ihave HoB := (Entails.of_eq (eO 1)) $$ HoB
  isplitl [HiA]; · iexact HiA
  isplitl [HiB]; · iexact HiB
  isplitl [HoA]; · iexact HoA
  isplitl [HoB]; · iexact HoB
  isplitl [Hdone]; · iexact Hdone
  isplitl [Ht]; · iexact Ht
  isplitl [Hvg]; · iexact Hvg
  iexact HO

end Cert.Proof.Gather

end
-- ==== Proof.Shared.lean ====
/-
  Facts about ownership that both launches use: a buffer as its two halves, an empty resource over a set, and the waits a
  tile's obligation lets it record.
-/
module

public import Idealize.ShloMosaic.Lib.SparseCore.Quiescent
public import Idealize.ShloMosaic.Lib.Tactic

@[expose] public section

noncomputable section

namespace Cert.Proof.Shared

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig (HIx 1) Val ℕ U ℕ

/-- A buffer at some contents is its two halves, each at some contents: one way. -/
theorem halves_split {ℓ : Loc nD τ sig} {A B : Finset (Idx ℓ)} (hd : Disjoint A B) (hu : A ∪ B = Finset.univ) :
    (iprop(∃ f, ℓ ↦{fullShare} f) : sProp 𝕄) ⊢ iprop((∃ f, ℓ ↦[A]{fullShare} f) ∗ ∃ f, ℓ ↦[B]{fullShare} f) := by
  iintro ⟨%f, H⟩
  ihave H := (Entails.of_eq (congrArg (fun s => (ℓ ↦[s]{fullShare} f : sProp 𝕄)) hu.symm)) $$ H
  ihave H := (pointsTo_union hd).1 $$ H
  icases H with ⟨HA, HB⟩
  isplitl [HA]
  · iexists f; iexact HA
  · iexists f; iexact HB

/-- The two halves, each at some contents, are the buffer at some contents. -/
theorem halves_join {ℓ : Loc nD τ sig} {A B : Finset (Idx ℓ)} (hd : Disjoint A B) (hu : A ∪ B = Finset.univ) :
    iprop((∃ f, ℓ ↦[A]{fullShare} f) ∗ ∃ f, ℓ ↦[B]{fullShare} f) ⊢ (iprop(∃ f, ℓ ↦{fullShare} f) : sProp 𝕄) := by
  iintro ⟨⟨%f, HA⟩, ⟨%g, HB⟩⟩
  ihave H := (pointsTo_join (ℓ := ℓ) (q := fullShare) (f := f) (g := g) hd) $$ [HA HB]
  · isplitl [HA]
    · iexact HA
    · iexact HB
  iexists (B.piecewise g f)
  iapply (Entails.of_eq (congrArg (fun s => (ℓ ↦[s]{fullShare} B.piecewise g f : sProp 𝕄)) hu)) $$ H

theorem halves {ℓ : Loc nD τ sig} {A B : Finset (Idx ℓ)} (hd : Disjoint A B) (hu : A ∪ B = Finset.univ) :
    (iprop(∃ f, ℓ ↦{fullShare} f) : sProp 𝕄) = iprop((∃ f, ℓ ↦[A]{fullShare} f) ∗ ∃ f, ℓ ↦[B]{fullShare} f) :=
  Entails.antisymm (halves_split hd hu) (halves_join hd hu)

theorem bigSep_emps {I : Type} (s : Finset I) : (bigSep s fun _ => iprop(emp)) = (iprop(emp) : sProp 𝕄) := bigSep_emp_const s

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Shared

end
-- ==== Proof.Launch.lean ====
/-
  The call as a whole: what a tile is handed and hands back, in terms of its scratch and its counters; the table, the
  index list and the result dealt to the two SparseCores and their sixteen tiles each; the launch; the program's run,
  which ends with the gathered rows in the result and the arguments unchanged.
-/
module

public import proofs.«01_k».proof.Proof.Tile
public import proofs.«01_k».proof.Proof.Shared
public import Idealize.ShloMosaic.Lib.ShareLeaves

@[expose] public section

set_option maxRecDepth 16384

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Shared
open Idealize.ShloMosaic.ShareLeaves (leaf pointsTo_leaves)

variable {F : FTy → Type}

local notation "𝕄" => MT nD τ sig (HIx 1) (Elt F) ℕ UU ℕ

variable [FloatOps F] (m : (ℓ : Loc nD τ sig) → Buf (Elt F) ℓ) (ρ : Dev nD → PrngReg) (d : Dev nD) (L : grid0.Coords)

local notation "tV" => (Memref.whole Cert.KernelIdeal.main_arg0_scv : Memref Cert.KernelIdeal.sig Kind.scVector Space.hbm Cert.KernelIdeal.S65536x128 EltTy.f32)
local notation "iV" => (Memref.whole Cert.KernelIdeal.main_arg1_scv : Memref Cert.KernelIdeal.sig Kind.scVector Space.hbm Cert.KernelIdeal.S1x32768 EltTy.i32)
local notation "oV" => (Memref.whole Cert.KernelIdeal.main_v0_scv : Memref Cert.KernelIdeal.sig Kind.scVector Space.hbm Cert.KernelIdeal.S32768x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

/-! ## A scratch buffer and its two slots -/

omit [FloatOps F] in
theorem slotsI : (iprop(∃ f, (thr d L).loc cc0_scoped0 ↦{fullShare} f) : sProp 𝕄)
    = iprop((∃ f, (slotI 0).view.loc (thr d L) ↦[(slotI 0).view.set]{fullShare} f) ∗ ∃ f, (slotI 1).view.loc (thr d L) ↦[(slotI 1).view.set]{fullShare} f) := by
  refine halves (ℓ := (thr d L).loc cc0_scoped0) (A := (slotI 0).view.set) (B := (slotI 1).view.set) ?_ ?_
  · refine Finset.disjoint_left.mpr fun x h h' => ?_
    have h := (mem_slotI 0 x).mp h; have h' := (mem_slotI 1 x).mp h'; omega
  · refine Finset.eq_univ_of_forall fun x => Finset.mem_union.mpr ?_
    have hx : ((x : S2x1x128.Idx) 0).val < 2 := ((x : S2x1x128.Idx) 0).isLt
    rcases Nat.lt_or_ge ((x : S2x1x128.Idx) 0).val 1 with h | h
    · exact .inl ((mem_slotI 0 x).mpr (by omega))
    · exact .inr ((mem_slotI 1 x).mpr (by omega))
omit [FloatOps F] in
theorem slotsR : (iprop(∃ f, (thr d L).loc cc0_scoped2 ↦{fullShare} f) : sProp 𝕄)
    = iprop((∃ f, (slotR 0).view.loc (thr d L) ↦[(slotR 0).view.set]{fullShare} f) ∗ ∃ f, (slotR 1).view.loc (thr d L) ↦[(slotR 1).view.set]{fullShare} f) := by
  refine halves (ℓ := (thr d L).loc cc0_scoped2) (A := (slotR 0).view.set) (B := (slotR 1).view.set) ?_ ?_
  · refine Finset.disjoint_left.mpr fun x h h' => ?_
    have h := (mem_slotR 0 x).mp h; have h' := (mem_slotR 1 x).mp h'; omega
  · refine Finset.eq_univ_of_forall fun x => Finset.mem_union.mpr ?_
    have hx : ((x : S2x128x128.Idx) 0).val < 2 := ((x : S2x128x128.Idx) 0).isLt
    rcases Nat.lt_or_ge ((x : S2x128x128.Idx) 0).val 1 with h | h
    · exact .inl ((mem_slotR 0 x).mpr (by omega))
    · exact .inr ((mem_slotR 1 x).mpr (by omega))

/-! ## A tile's own buffers and counters -/

/-- The five counters a tile's copies credit. -/
def cells : Finset (SemLoc sig) := {.dma (semI 0), .dma (semI 1), .dma (semO 0), .dma (semO 1), .dma cc0_scoped4.sem}

omit [FloatOps F] in
theorem cells_own : cells.map ⟨fun s => (thr d L, s), fun _ _ h => (Prod.mk.inj h).2⟩ ⊆ ownCells (thr d L) := by
  intro g hg
  obtain ⟨s, hs, rfl⟩ := Finset.mem_map.mp hg
  exact mem_ownCells.mpr ⟨rfl, (by decide : ∀ s ∈ cells, s.isScoped .scVector = true) s hs⟩

omit [FloatOps F] in
theorem ownSems0_tile :
    (ownSems0 (thr d L) : sProp 𝕄)
      = iprop((semVal (thr d L, SemLoc.dma (semI 0)) 0 ∗ semVal (thr d L, SemLoc.dma (semI 1)) 0
          ∗ semVal (thr d L, SemLoc.dma (semO 0)) 0 ∗ semVal (thr d L, SemLoc.dma (semO 1)) 0 ∗ semVal (thr d L, SemLoc.dma cc0_scoped4.sem) 0)
          ∗ bigSep (ownCells (thr d L) \ cells.map ⟨fun s => (thr d L, s), fun _ _ h => (Prod.mk.inj h).2⟩) fun g => semVal g 0) := by
  unfold SparseCore.Cfg.ownSems0
  rw [SparseCore.bigSep_sdiff_split' (cells_own d L), bigSep_map, cells,
    SparseCore.bigSep_insert' (by decide), SparseCore.bigSep_insert' (by decide), SparseCore.bigSep_insert' (by decide),
    SparseCore.bigSep_insert' (by decide), bigSep_singleton]
  rfl

omit [FloatOps F] in
theorem ownBufs_tile :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## What is dealt, and the task -/

/-- The table and the index list at a share, and some rows of the result. -/
def part (q : PosShare TreeShare) (rows : Finset S32768x128.Idx) (f : Buf (Elt F) (oLoc d)) : sProp 𝕄 :=
  iprop((tLoc d ↦{q} m (tLoc d)) ∗ (iLoc d ↦{q} m (iLoc d)) ∗ oLoc d ↦[rows]{fullShare} f)

instance part_storable (q : PosShare TreeShare) (rows : Finset S32768x128.Idx) (f : Buf (Elt F) (oLoc d)) :
    BI.Storable (upEmb : UEmb _ (MT nD τ sig (HIx 1) (Elt F) ℕ UU ℕ)) (part m d q rows f) := by
  unfold part; infer_instance

theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ part m d q (rowsOf L 0 8) (m (oLoc d))
        ∗ scopedBufs (thr d L) ∗ scopedSems0 (thr d L) ∗ owes (thr d L) O W)
      ⊢ wp frame (wpE (defs₀ (F := F)) 𝒱₀ (thr d L) none) Set.univ
          (cc0_run L tV (Memref.isWhole_whole _) iV (Memref.isWhole_whole _) oV (Memref.isWhole_whole _)
            sV (Memref.isWhole_whole _) cc0_scoped1 rV (Memref.isWhole_whole _) cc0_scoped3 cc0_scoped4)
          fun _ => iprop(part m d q (rowsOf L 0 8) (G m d)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  rw [ownSems0_tile, ownBufs_tile, slotsI, slotsR]
  unfold part
  iintro ⟨#Hlv, -, ⟨Ht, Hi, Ho⟩, ⟨⟨HI0, HI1⟩, ⟨HR0, HR1⟩, Hbufs⟩, ⟨⟨Ha, Hb, Hc, Hd, He⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (pointsTo_share (PosShare.mem_left_op_right q)).1 $$ Hi
  icases Hi with ⟨Hi0, Hi1⟩
  iapply (wp_wand_r frame _ _)
  isplitl [Hmw Ht Hi0 Hi1 Ho HI0 HI1 HR0 HR1 Ha Hb Hc Hd He HO]
  · iapply (tile_core m d L hpre q q O W)
    isplitl [Hmw]; · iexact Hmw
    unfold inFree outFree todo owing
    isplitl [Ha HI0 Hi0]
    · isplitl [Ha]; · iexact Ha
      isplitl [HI0]; · iexact HI0
      iexact Hi0
    isplitl [Hb HI1 Hi1]
    · isplitl [Hb]; · iexact Hb
      isplitl [HI1]; · iexact HI1
      iexact Hi1
    isplitl [Hc HR0]
    · isplitl [Hc]; · iexact Hc
      iexact HR0
    isplitl [Hd HR1]
    · isplitl [Hd]; · iexact Hd
      iexact HR1
    isplitl [Ho]; · iexact Ho
    isplitl [Ht]; · iexact Ht
    isplitl [He]; · iexact He
    iexists W; isplitr
    · ipureintro; exact fun p hp => .inl hp
    · iexact HO
  iintro %_ H
  unfold inFree outFree done owing
  icases H with ⟨⟨Ha, HI0, Hi0⟩, ⟨Hb, HI1, Hi1⟩, ⟨Hc, HR0⟩, ⟨Hd, HR1⟩, Ho, Ht, He, HO⟩
  isplitl [Ht Hi0 Hi1 Ho]
  · isplitl [Ht]; · iexact Ht
    isplitl [Hi0 Hi1]
    · iapply (pointsTo_share (PosShare.mem_left_op_right q)).2
      isplitl [Hi0]; · iexact Hi0
      iexact Hi1
    iexact Ho
  isplitl [HI0 HI1 HR0 HR1 Hbufs]
  · isplitl [HI0 HI1]
    · isplitl [HI0]; · iexact HI0
      iexact HI1
    isplitl [HR0 HR1]
    · isplitl [HR0]; · iexact HR0
      iexact HR1
    iexact Hbufs
  isplitl [Ha Hb Hc Hd He Hsems]
  · isplitr [Hsems]
    · isplitl [Ha]; · iexact Ha
      isplitl [Hb]; · iexact Hb
      isplitl [Hc]; · iexact Hc
      isplitl [Hd]; · iexact Hd
      iexact He
    iexact Hsems
  iexact HO

/-! ## The call's payments and its obligation -/

/-- The place of tile `s` of SparseCore `c` in the call's grid. -/
def coordsV (c : Fin (grid0.bound 0)) (s : Fin (grid0.bound 1)) : grid0.Coords :=
  fun | 0 => c | 1 => s | ⟨_ + 2, h⟩ => absurd h (Nat.not_lt.2 (Nat.le_add_left _ _))

/-- The rows of the result SparseCore `c` writes. -/
def coreRows (c : Fin 2) : Finset S32768x128.Idx :=
  Finset.univ.filter fun x => 16384 * c.val ≤ (x 0).val ∧ (x 0).val < 16384 * (c.val + 1)

/-- The rows tile `i` of SparseCore `c` writes. -/
abbrev tileRows (c : Fin 2) (i : Fin 16) : Finset S32768x128.Idx := rowsOf (coordsV c i) 0 8

/-- What a SparseCore, and a tile, is handed (`f` the result's first contents) and hands back (`f` the gathered rows). -/
abbrev corePart (d : Dev nD) (c : Fin 2) (f : Buf (Elt F) (oLoc d)) : sProp 𝕄 := part m d (leaf 1 fullShare c) (coreRows c) f
abbrev tilePart (d : Dev nD) (c : Fin 2) (i : Fin 16) (f : Buf (Elt F) (oLoc d)) : sProp 𝕄 :=
  part m d (leaf 4 (leaf 1 fullShare c) i) (tileRows c i) f

def P : (K (F := F)).Pay (nD := nD) (Val := Elt F) (Name := ℕ) (U := UU) where
  st := fun q d c => match q with | 0 => corePart m d (Fin.cast nCore_zero c) (m (oLoc d))
  dn := fun q d c => match q with | 0 => corePart m d (Fin.cast nCore_zero c) (G m d)
  go := fun q d c i => match q with | 0 => tilePart m d (Fin.cast nCore_zero c) (Fin.cast nSub_zero i) (m (oLoc d))
  td := fun q d c i => match q with | 0 => tilePart m d (Fin.cast nCore_zero c) (Fin.cast nSub_zero i) (G m d)
  x := fun _ _ => iprop(emp)

instance P_storable : (P (F := F) m).IsStorable where
  st q d _ := match q with | 0 => part_storable m d _ _ _
  dn q d _ := match q with | 0 => part_storable m d _ _ _
  go q d _ _ := match q with | 0 => part_storable m d _ _ _
  td q d _ _ := match q with | 0 => part_storable m d _ _ _

theorem defs₀_vector (c : Fin τ.nSC) (s : Fin τ.nSub) :
    defs₀ (F := F) (.scVector c s) 0 ()
      = SparseCore.onTile hcore0 hsub0 (fun c s => cc0_run (coordsV c s) tV (Memref.isWhole_whole _) iV (Memref.isWhole_whole _) oV (Memref.isWhole_whole _)
            sV (Memref.isWhole_whole _) cc0_scoped1 rV (Memref.isWhole_whole _) cc0_scoped3 cc0_scoped4) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre _ O W hO).trans (wp_mono frame _ _ fun _ => obl_post)

/-! ## The rows and shares dealt: to the SparseCores, to their tiles -/

omit [FloatOps F] in
theorem coreRows_disjoint : ∀ i ∈ (Finset.univ : Finset (Fin 2)), ∀ j ∈ (Finset.univ : Finset (Fin 2)), i ≠ j → Disjoint (coreRows i) (coreRows j) := by
  intro i _ j _ h
  refine Finset.disjoint_left.mpr fun x hx hy => h (Fin.ext ?_)
  have hx := (Finset.mem_filter.mp hx).2; have hy := (Finset.mem_filter.mp hy).2; omega
omit [FloatOps F] in
theorem coreRows_cover : (Finset.univ : Finset (Fin 2)).biUnion coreRows = Finset.univ := by
  refine Finset.eq_univ_of_forall fun x => ?_
  have hx : ((x : S32768x128.Idx) 0).val < 32768 := (x 0).isLt
  exact Finset.mem_biUnion.mpr ⟨⟨(x 0).val / 16384, by omega⟩, Finset.mem_univ _, Finset.mem_filter.mpr ⟨Finset.mem_univ _, by simp only; omega⟩⟩
omit [FloatOps F] in
theorem base_coordsV (c : Fin 2) (i : Fin 16) : base (coordsV c i) = 8 * i.val + 128 * c.val := rfl
omit [FloatOps F] in
theorem tileRows_disjoint (c : Fin 2) : ∀ i ∈ (Finset.univ : Finset (Fin 16)), ∀ j ∈ (Finset.univ : Finset (Fin 16)), i ≠ j → Disjoint (tileRows c i) (tileRows c j) := by
  intro i _ j _ h
  refine Finset.disjoint_left.mpr fun x hx hy => h (Fin.ext ?_)
  have hx := (Finset.mem_filter.mp hx).2; have hy := (Finset.mem_filter.mp hy).2
  rw [base_coordsV] at hx hy; omega
omit [FloatOps F] in
theorem tileRows_cover (c : Fin 2) : (Finset.univ : Finset (Fin 16)).biUnion (tileRows c) = coreRows c := by
  refine Finset.ext fun x => ⟨fun h => ?_, fun h => ?_⟩
  · obtain ⟨i, -, h⟩ := Finset.mem_biUnion.mp h
    have h := (Finset.mem_filter.mp h).2; rw [base_coordsV] at h
    exact Finset.mem_filter.mpr ⟨Finset.mem_univ _, by omega⟩
  · have h := (Finset.mem_filter.mp h).2
    refine Finset.mem_biUnion.mpr ⟨⟨((x 0).val - 16384 * c.val) / 1024, by omega⟩, Finset.mem_univ _, Finset.mem_filter.mpr ⟨Finset.mem_univ _, ?_⟩⟩
    rw [base_coordsV]; simp only; omega

omit [FloatOps F] in
/-- A share of the three buffers, dealt over disjoint parts of the rows by as many leaves of the share. -/
theorem part_deal (n : ℕ) (q : PosShare TreeShare) (rows : Finset S32768x128.Idx) (R : Fin (2 ^ n) → Finset S32768x128.Idx)
    (hR : ∀ i ∈ Finset.univ, ∀ j ∈ Finset.univ, i ≠ j → Disjoint (R i) (R j)) (hc : Finset.univ.biUnion R = rows) (f : Buf (Elt F) (oLoc d)) :
    part m d q rows f = bigSep Finset.univ fun i : Fin (2 ^ n) => part m d (leaf n q i) (R i) f := by
  unfold part
  rw [bigSep_sep', bigSep_sep', ← pointsTo_leaves, ← pointsTo_leaves, ← pointsTo_biUnion Finset.univ (ℓ := oLoc d) R hR, hc]

omit [FloatOps F] in
theorem cores_deal (f : Buf (Elt F) (oLoc d)) :
    part m d fullShare Finset.univ f = bigSep Finset.univ fun c : Fin 2 => corePart m d c f :=
  part_deal m d 1 fullShare Finset.univ coreRows coreRows_disjoint coreRows_cover f
omit [FloatOps F] in
theorem tiles_deal (c : Fin 2) (f : Buf (Elt F) (oLoc d)) :
    corePart m d c f = bigSep Finset.univ fun i : Fin 16 => tilePart m d c i f :=
  part_deal m d 4 _ _ (tileRows c) (tileRows_disjoint c) (tileRows_cover c) f

theorem vecSplit : (K (F := F)).VecSplit' (P m) 0 := by
  intro d c
  show corePart m d (Fin.cast nCore_zero c) (m (oLoc d)) ⊢ |={Set.univ}=> iprop(
      (bigSep Finset.univ fun i : Fin 16 => tilePart m d (Fin.cast nCore_zero c) i (m (oLoc d)))
      ∗ ((bigSep Finset.univ fun i : Fin 16 => tilePart m d (Fin.cast nCore_zero c) i (G m d))
          -∗ corePart m d (Fin.cast nCore_zero c) (G m d)))
  rw [tiles_deal m d (Fin.cast nCore_zero c) (m (oLoc d)), tiles_deal m d (Fin.cast nCore_zero c) (G m d)]
  iintro H; imodintro
  isplitl [H]; · iexact H
  iintro H; iexact H

/-! ## The launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emps]
  iempintro

omit [FloatOps F] in
theorem unscopedBufs_eq (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- @main on device `d`'s TensorCore: the one call, from the table, the index list and the result; the gathered rows left. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ part m d fullShare Finset.univ (G m d) ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  ihave H := (Entails.of_eq (show iprop((tLoc d ↦{fullShare} m (tLoc d)) ∗ (iLoc d ↦{fullShare} m (iLoc d)) ∗ oLoc d ↦{fullShare} m (oLoc d)) = _ from cores_deal m d (m (oLoc d)))) $$ H
  iapply ((K (F := F)).wp_run (D (F := F)) 𝒱 (EH := EH) (P := P m) κ d 0) $$ [Hst H Hb Hts]
  isplitr; · iexact Hctx
  isplitl [Hst]; · iexact Hst
  isplitl [H]; · iexact H
  iintro ⟨Hst, H⟩
  ihave H := (Entails.of_eq (show (bigSep Finset.univ fun c : Fin ((K (F := F)).nCore 0) => (P m).dn 0 d c) = _ from (cores_deal m d (G m d)).symm)) $$ H
  imodintro
  isplitl [Hst]; · iexact Hst
  isplitr [Hb Hts]; · iexact H
  isplitl [Hb] <;> iassumption

def fq (d : Dev nD) (s' : Phys nD τ sig (Elt F)) : Prop :=
  s'.mem.mem (oLoc d) = G m d ∧ s'.mem.mem (tLoc d) = m (tLoc d) ∧ s'.mem.mem (iLoc d) = m (iLoc d)

set_option maxRecDepth 16384 in
theorem hfin (d : Dev nD) (s' : Phys nD τ sig (Elt F)) : iprop(part m d fullShare Finset.univ (G m d) ∗ SI s') ⊢ (⌜fq m d s'⌝ : sProp 𝕄) := by
  unfold part
  iintro ⟨⟨Ht, Hi, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What every run ends in: the gathered rows in the result, the arguments unchanged, every counter back at zero. -/
def QC : PUnit × MemSt nD τ sig (Elt F) → Prop := fun r =>
  (∀ c : Dev nD, r.2.mem (oLoc c) = G m c ∧ r.2.mem (tLoc c) = m (tLoc c) ∧ r.2.mem (iLoc c) = m (iLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => part m d fullShare Finset.univ (G m d)) (u₀ (F := F)) (sep_elim_left.trans (hu₀ m))
    (hmain m ρ) (fq m) (hfin m) (QC m) (fun _ h hz => ⟨h, hz⟩)

end Cert.Proof.Gather

end
-- ==== Proof.Value.lean ====
/-
  The references' result is the gathered rows: with every index in the table's range the reference's negative wrap and
  its out-of-range mask leave each row the table's row at its index. And what the precondition says of the index list.
-/
module

public import proofs.«01_k».proof.Proof.Setup
public import proofs.«01_k».proof.Proof.Gen.Pre_pre
public import proofs.«01_k».proof.Proof.Gen.ReferenceIdeal
public import Idealize.ShloMosaic.Lib.ReduceAll
public import Idealize.ShloMosaic.Lib.Routing.Ops

@[expose] public section

noncomputable section

namespace Cert.Proof.Gather

open Cert.ReferenceIdeal Cert.ReferenceIdeal.Gen
open Idealize.ShloMosaic
open Idealize.ShloMosaic.ValueIdx (ix1 ix2)

variable {F : FTy → Type} [FloatOps F]

/-- The precondition, at one device's arguments: every index is a row of the table. -/
theorem index_lt {a : FVec F Cert.Pre_pre.S65536x128 .f32} {idx : IVec Cert.Pre_pre.S1x32768 32}
    (h : Cert.Pre_pre.fn a idx = fun _ => 1#1) (j : Cert.Pre_pre.S1x32768.Idx) : (idx j).toNat < 65536 := by
  have : Subsingleton Cert.Pre_pre.S_.Idx := ⟨fun a b => funext fun k : Fin 0 => k.elim0⟩
  have e := Host.reduce_andi_all _ _ _ _ _ (congrFun h (fun k : Fin 0 => k.elim0)) j
  obtain ⟨e1, e2⟩ := IntOp.andi_eq_one.1 e
  have e1 := IntOp.cmpi_sge.1 e1; have e2 := IntOp.cmpi_slt.1 e2
  have e1 : (0#32).toInt ≤ (idx j).toInt := e1
  have e2 : (idx j).toInt < (65536#32).toInt := e2
  simp only [BitVec.toInt_eq_toNat_cond, BitVec.toNat_ofNat, Nat.reducePow, Nat.reduceMod] at e1 e2
  omega

/-- The index list flattened. -/
abbrev flat (idx : IVec S1x32768 32) : IVec S32768 32 := shapeCast _ idx shapeCasts_S1x32768_S32768

/-- The index list as the reference's gather reads it: negative words wrapped. -/
abbrev wrapped (idx : IVec S1x32768 32) : IVec S32768x1 32 :=
  broadcastInDim S32768x1 ![0] bcast_S32768_S32768x1_0 (select (cmpi .slt (flat idx) (broadcastInDim S32768 ![] bcast_S_S32768 (constantI S_ 32 0#32)))
    (addi (flat idx) (broadcastInDim S32768 ![] bcast_S_S32768 (constantI S_ 32 65536#32))) (flat idx))

/-- The mask of the rows whose index is in range. -/
abbrev inRange (w : IVec S32768x1 32) : IVec S32768 1 :=
  Host.reduce IntOp.andi (andi (cmpi .sge w (broadcastInDim S32768x1 ![] bcast_S_S32768x1 (constantI S_ 32 0#32)))
      (cmpi .sle w (broadcastInDim S32768x1 ![0, 1] bcast_S1x1_S32768x1_0_1 (broadcastInDim S1x1 ![1] bcast_S1_S1x1_1 (constantI S1 32 65535#32)))))
    (constantI S_ 1 1#1) reducesTo_S32768x1_S32768_d1 h_S_

theorem flat_apply (idx : IVec S1x32768 32) (r : Fin 32768) : flat idx (ix1 r) = idx (ix2 (0 : Fin 1) r) :=
  (shapeCast_dropUnit_apply ![32768] idx _ (ix1 r)).trans (congrArg idx (funext fun a => by match a with | 0 => rfl | 1 => rfl))

theorem wrapped_apply {idx : IVec S1x32768 32} (hidx : ∀ j, (idx j).toNat < 65536) (j : S32768x1.Idx) :
    wrapped idx j = idx (ix2 (0 : Fin 1) (j 0 : Fin 32768)) := by
  have hk : ∀ k : S32768.Idx, (select (cmpi .slt (flat idx) (broadcastInDim S32768 ![] bcast_S_S32768 (constantI S_ 32 0#32)))
    (addi (flat idx) (broadcastInDim S32768 ![] bcast_S_S32768 (constantI S_ 32 65536#32))) (flat idx)) k = idx (ix2 (0 : Fin 1) (k 0 : Fin 32768)) := by
    intro k
    obtain ⟨r, rfl⟩ : ∃ r : Fin 32768, k = ix1 r := ⟨k 0, funext fun a => by match a with | 0 => rfl⟩
    show Scalar.select (IntOp.cmpi .slt (flat idx (ix1 r)) 0#32) _ (flat idx (ix1 r)) = _
    rw [flat_apply]
    refine if_neg fun h => ?_
    have h : (idx (ix2 (0 : Fin 1) r)).toInt < (0#32).toInt := IntOp.cmpi_slt.1 h
    have := hidx (ix2 (0 : Fin 1) r)
    simp only [BitVec.toInt_eq_toNat_cond, BitVec.toNat_ofNat, Nat.reducePow, Nat.reduceMod] at h
    omega
  exact (hk _).trans rfl

/-- The reference's term is the gathered rows. -/
theorem take_eq (tab : FVec F S65536x128 .f32) (idx : IVec S1x32768 32) (hidx : ∀ j, (idx j).toNat < 65536) :
    select (broadcastInDim S32768x128 ![0] bcast_S32768_S32768x128_0 (inRange (wrapped idx)))
      (Host.gather gather_S65536x128_S32768x1_S32768x128_1_0_n_n_0_1_1128 tab (wrapped idx))
      (broadcastInDim S32768x128 ![] bcast_S_S32768x128 (constant S_ .f32 0x7FC00000#32)) = gathered tab idx := by
  have hw : wrapped idx = fun j => idx (ix2 (0 : Fin 1) (j 0 : Fin 32768)) := funext (wrapped_apply hidx)
  have hm : ∀ r, inRange (wrapped idx) r = 1#1 := by
    intro r
    refine Host.reduce_andi_one _ _ _ _ _ rfl fun i => ?_
    rw [hw]
    refine IntOp.andi_eq_one.2 ⟨IntOp.cmpi_sge.2 ?_, IntOp.cmpi_sle.2 ?_⟩
    · have := hidx (ix2 (0 : Fin 1) (i 0 : Fin 32768))
      show (0#32).toInt ≤ (idx (ix2 (0 : Fin 1) (i 0 : Fin 32768))).toInt
      simp only [BitVec.toInt_eq_toNat_cond, BitVec.toNat_ofNat, Nat.reducePow, Nat.reduceMod]; omega
    · have := hidx (ix2 (0 : Fin 1) (i 0 : Fin 32768))
      show (idx (ix2 (0 : Fin 1) (i 0 : Fin 32768))).toInt ≤ (65535#32).toInt
      simp only [BitVec.toInt_eq_toNat_cond, BitVec.toNat_ofNat, Nat.reducePow, Nat.reduceMod]; omega
  funext x
  obtain ⟨r, c, rfl⟩ : ∃ (r : Fin 32768) (c : Fin 128), x = ix2 r c := ⟨x 0, x 1, funext fun a => by match a with | 0 => rfl | 1 => rfl⟩
  have e1 : broadcastInDim S32768x128 ![0] bcast_S32768_S32768x128_0 (inRange (wrapped idx)) (ix2 r c) = 1#1 := hm _
  show Scalar.select (broadcastInDim S32768x128 ![0] bcast_S32768_S32768x128_0 (inRange (wrapped idx)) (ix2 r c)) _ _ = _
  rw [e1]
  refine (Routing.gather_row _ rfl rfl rfl rfl rfl tab (wrapped idx) r c (rowAt (idx (ix2 (0 : Fin 1) r))) ?_ (by decide)).trans rfl
  rw [hw]
  show idx (ix2 (0 : Fin 1) r) = BitVec.ofNat 32 ((idx (ix2 (0 : Fin 1) r)).toNat % 65536)
  rw [Nat.mod_eq_of_lt (hidx _), BitVec.ofNat_toNat, BitVec.setWidth_eq]

end Cert.Proof.Gather

end
-- ==== Proof.ScatterRouted.lean ====
/-
  What the precondition says of the scatter's arguments: every word of the index array is a row of its token's block of
  64, the words of one token are pairwise different, and the mask is the sum of the selected experts' indicators.
-/
module

public import proofs.«01_k».proof.Proof.Gen.Pre_routed
public import Idealize.ShloMosaic.Lib.ReduceAll
public import Idealize.ShloMosaic.Lib.Pointwise

@[expose] public section

set_option maxRecDepth 16384

noncomputable section

namespace Cert.Proof.Scatter

open Cert.Pre_routed Cert.Pre_routed.Gen
open Idealize.ShloMosaic

variable {F : FTy → Type} [FloatOps F]

/-- Token `t`'s `k`-th expert, as the word the programs compute from the index array. -/
abbrev expert (sc : IVec S2048x16 32) (t : Fin 2048) (k : Fin 16) : BitVec 32 := IntOp.subi (sc (ix2 t k)) (IntOp.muli 64#32 (BitVec.ofNat 32 t.val))

/-- The precondition's integer part: the words are rows of their token's block, pairwise different. -/
structure Routed (sc : IVec S2048x16 32) : Prop where
  lt : ∀ t k, (expert sc t k).toNat < 64
  row : ∀ t k, (sc (ix2 t k)).toNat = 64 * t.val + (expert sc t k).toNat
  inj : ∀ t k k', expert sc t k = expert sc t k' → k = k'

theorem routed_of {a0 : FVec F S16x2048x128 .f32} {sc : IVec S2048x16 32} {mk : FVec F S2048x64 .f32} {wo : FVec F S64x64x1024 .f32}
    (h : Cert.Pre_routed.fn a0 sc mk wo = fun _ => 1#1) : Routed sc := by
  have : Subsingleton S_.Idx := ⟨fun a b => funext fun k : Fin 0 => k.elim0⟩
  obtain ⟨e1, e2⟩ := IntOp.andi_eq_one.1 (IntOp.andi_eq_one.1 (congrFun h (fun k : Fin 0 => k.elim0))).1
  have e1 := fun t k => Host.reduce_andi_all _ _ _ _ _ e1 (ix2 t k)
  have e2 := fun t k k' => Host.reduce_andi_all _ _ _ _ _ e2 (ix3 t k k')
  pointwise at e1
  pointwise at e2
  have hlt : ∀ t k, (expert sc t k).toNat < 64 := by
    intro t k
    obtain ⟨e, e4⟩ := IntOp.andi_eq_one.1 (e1 t k)
    have e3 := IntOp.cmpi_sge.1 (IntOp.andi_eq_one.1 e).2
    have e4 := IntOp.cmpi_slt.1 e4
    have e3 : (0#32).toInt ≤ (expert sc t k).toInt := e3
    have e4 : (expert sc t k).toInt < (64#32).toInt := e4
    simp only [BitVec.toInt_eq_toNat_cond, BitVec.toNat_ofNat, Nat.reducePow, Nat.reduceMod] at e3 e4
    omega
  refine ⟨hlt, fun t k => ?_, fun t k k' e => ?_⟩
  · have h1 := hlt t k
    have h2 : sc (ix2 t k) = expert sc t k + 64#32 * BitVec.ofNat 32 t.val := (BitVec.sub_add_cancel _ _).symm
    have h3 := congrArg BitVec.toNat h2
    rw [BitVec.toNat_add, BitVec.toNat_mul, BitVec.toNat_ofNat, BitVec.toNat_ofNat] at h3
    have := t.isLt
    omega
  · have h2 := IntOp.cmpi_eq.1 (e2 t k k')
    rw [IntOp.cmpi_eq.2 e] at h2
    have h3 := congrArg BitVec.toNat (IntOp.cmpi_eq.1 h2.symm)
    have h3 : (BitVec.ofNat 32 k.val + 0#32).toNat = (BitVec.ofNat 32 k'.val).toNat := h3
    rw [BitVec.add_zero, BitVec.toNat_ofNat, BitVec.toNat_ofNat] at h3
    have := k.isLt; have := k'.isLt
    exact Fin.ext (by omega)

theorem ofBool_one {b : Bool} (h : BitVec.ofBool b = 1#1) : b = true := by
  cases b
  · exact absurd h (by decide)
  · rfl

/-- An equality test read as a float is one or zero. -/
theorem indicator {φ : FTy} {w : ℕ} (a b : BitVec w) : FloatOps.uitofp (F := Ideal) φ (IntOp.cmpi .eq a b) = if a = b then (1 : EReal) else 0 := by
  by_cases h : a = b
  · rw [if_pos h, IntOp.cmpi_eq.2 h]; exact (congrArg Real.toEReal (Nat.cast_one)).trans EReal.coe_one
  · rw [if_neg h, (show IntOp.cmpi .eq a b = 0#1 from (BitVec.eq_zero_or_eq_one _).resolve_right fun e => h (IntOp.cmpi_eq.1 e))]; exact (congrArg Real.toEReal (Nat.cast_zero)).trans EReal.coe_zero

/-- The precondition's float part, at the extended reals: the mask counts the experts selected. -/
theorem mask_of {a0 : FVec Ideal S16x2048x128 .f32} {sc : IVec S2048x16 32} {mk : FVec Ideal S2048x64 .f32} {wo : FVec Ideal S64x64x1024 .f32}
    (h : Cert.Pre_routed.fn a0 sc mk wo = fun _ => 1#1) (t : Fin 2048) (e : Fin 64) :
    mk (ix2 t e) = ∑ k : Fin 16, if expert sc t k = BitVec.ofNat 32 e.val then (1 : EReal) else 0 := by
  have : Subsingleton S_.Idx := ⟨fun a b => funext fun k : Fin 0 => k.elim0⟩
  have e3 := Host.reduce_andi_all _ _ _ _ _ (IntOp.andi_eq_one.1 (congrFun h (fun k : Fin 0 => k.elim0))).2 (ix2 t e)
  pointwise [fn_one_hot] at e3
  have e4 := of_decide_eq_true (ofBool_one e3)
  exact e4.trans (Finset.sum_congr rfl fun k _ => indicator _ _)

end Cert.Proof.Scatter

end
-- ==== Proof.ScatterReference.lean ====
/-
  The reference of the scatter program, element by element: at token `t` and column `c`, over every expert `e` and head
  coordinate `h`, the rows of the slots that selected `e`, summed, times the output weight. The precondition's term and
  the reference's share nothing but the arguments.
-/
module

public import proofs.«01_k».proof.Proof.ScatterRouted
public import proofs.«01_k».proof.Proof.Gen.CombinedIdeal
public import Idealize.ShloMosaic.Lib.Pointwise

@[expose] public section

set_option maxRecDepth 16384

noncomputable section

namespace Cert.Proof.Scatter

open Cert.CombinedIdeal Cert.CombinedIdeal.Gen
open Idealize.ShloMosaic

/-- Coordinate `h` of a head, as a column of the 128-wide rows. -/
abbrev wide (h : Fin 64) : Fin 128 := ⟨h.val, lt_trans h.isLt (by decide)⟩

/-- The row expert `e` received from token `t`, at head coordinate `h`. -/
def received (y : S16x2048x128.Idx → EReal) (sc : IVec S2048x16 32) (t : Fin 2048) (e h : Fin 64) : EReal :=
  ∑ k : Fin 16, (if expert sc t k = BitVec.ofNat 32 e.val then (1 : EReal) else 0) * y (ix3 k t (wide h))

/-- The result's element. -/
def projected (y : S16x2048x128.Idx → EReal) (sc : IVec S2048x16 32) (wo : S64x64x1024.Idx → EReal) (t : Fin 2048) (c : Fin 1024) : EReal :=
  ∑ e : Fin 64, ∑ h : Fin 64, received y sc t e h * wo (ix3 e h c)

theorem reference_apply (y : FVec Ideal S16x2048x128 .f32) (sc : IVec S2048x16 32) (wo : FVec Ideal S64x64x1024 .f32) (t : Fin 2048) (c : Fin 1024) :
    Host.dotGeneral dot_S2048x64x64_S64x64x1024_S2048x1024_12_01_0_2_n_n none (Host.dotGeneral dot_S2048x16x64_S16x2048x64_S2048x64x64_1_0_2_2_0_1 none
      (uitofp (F := Ideal) .f32 (cmpi .eq (broadcastInDim S2048x16x64 ![0, 1, 2] bcast_S2048x16x1_S2048x16x64_0_1_2 (broadcastInDim S2048x16x1 ![0, 1] bcast_S2048x16_S2048x16x1_0_1
        (subi sc (broadcastInDim S2048x16 ![0, 1] bcast_S2048x1_S2048x16_0_1 (muli (broadcastInDim S2048x1 ![] bcast_S_S2048x1 (constantI S_ 32 64#32)) (broadcastInDim S2048x1 ![0] bcast_S2048_S2048x1_0 (iotaInDim S2048 32 0)))))))
        (broadcastInDim S2048x16x64 ![0, 1, 2] bcast_S1x1x64_S2048x16x64_0_1_2 (iotaInDim S1x1x64 32 2))))
      (extractStridedSlice S16x2048x64 ![0, 0, 0] y slices_S16x2048x128_S16x2048x64_0_0_0)) wo (ix2 t c) = projected y sc wo t c := by
  pointwise
  simp only [indicator]
  rfl

end Cert.Proof.Scatter

end
-- ==== Proof.ScatterSum.lean ====
/-
  The sums behind the combine: the product over the 8192 padded columns is the product over 64 experts of 64 columns, and
  a masked row is the row its expert received.
-/
module

public import proofs.«01_k».proof.Proof.ScatterReference

@[expose] public section

noncomputable section

namespace Cert.Proof.Scatter

open Cert.CombinedIdeal
open Idealize.ShloMosaic

/-- The threshold of the mask, as an extended real. -/
theorem half_eq : Ideal.ofBits FTy.f32 1056964608#32 = (((1 : ℝ) / 2 : ℝ) : EReal) := by
  simp [Ideal.ofBits, Ideal.ieee, -EReal.coe_mul]; norm_num

theorem half_lt_one : Ideal.ofBits FTy.f32 1056964608#32 < 1 := by
  rw [half_eq, ← EReal.coe_one]; exact EReal.coe_lt_coe_iff.2 (by norm_num)

theorem half_not_lt_zero : ¬ Ideal.ofBits FTy.f32 1056964608#32 < 0 := by
  rw [half_eq, ← EReal.coe_zero]; exact fun h => absurd (EReal.coe_lt_coe_iff.1 h) (by norm_num)

variable {sc : IVec S2048x16 32}

/-- The number of slots of token `t` that selected expert `e`. -/
abbrev selected (sc : IVec S2048x16 32) (t : Fin 2048) (e : Fin 64) : EReal := ∑ k : Fin 16, if expert sc t k = BitVec.ofNat 32 e.val then (1 : EReal) else 0

theorem selected_one (h : Routed sc) {t : Fin 2048} {e : Fin 64} {k : Fin 16} (hk : expert sc t k = BitVec.ofNat 32 e.val) : selected sc t e = 1 := by
  refine (Finset.sum_eq_single k (fun k' _ hne => if_neg fun e' => hne (h.inj t k' k (e'.trans hk.symm))) fun hn => absurd (Finset.mem_univ _) hn).trans ?_
  exact if_pos hk

theorem selected_zero {t : Fin 2048} {e : Fin 64} (hk : ∀ k, expert sc t k ≠ BitVec.ofNat 32 e.val) : selected sc t e = 0 :=
  Finset.sum_eq_zero fun k _ => if_neg (hk k)

/-- A row masked at the threshold is the row received. -/
theorem masked (h : Routed sc) (y : S16x2048x128.Idx → EReal) (t : Fin 2048) (e x : Fin 64) (z : EReal)
    (hz : ∀ k, expert sc t k = BitVec.ofNat 32 e.val → z = y (ix3 k t (wide x))) :
    (if Ideal.ofBits FTy.f32 1056964608#32 < selected sc t e then z else 0) = received y sc t e x := by
  unfold received
  by_cases hk : ∃ k, expert sc t k = BitVec.ofNat 32 e.val
  · obtain ⟨k, hk⟩ := hk
    rw [selected_one h hk, if_pos half_lt_one, hz k hk]
    refine ((Finset.sum_eq_single k (fun k' _ hne => ?_) fun hn => absurd (Finset.mem_univ _) hn).trans ?_).symm
    · rw [if_neg fun e' => hne (h.inj t k' k (e'.trans hk.symm)), zero_mul]
    · rw [if_pos hk, one_mul]
  · have hk := not_exists.1 hk
    rw [selected_zero hk, if_neg half_not_lt_zero]
    exact (Finset.sum_eq_zero fun k _ => by rw [if_neg (hk k), zero_mul]).symm

/-- Expert `e`'s column `x` among the 8192. -/
abbrev column (e : Fin 64) (x : Fin 128) : Fin 8192 := ⟨128 * e.val + x.val, by omega⟩

theorem sum_columns (f : Fin 8192 → EReal) : ∑ j, f j = ∑ e : Fin 64, ∑ x : Fin 128, f (column e x) := by
  rw [← Equiv.sum_comp (finProdFinEquiv : Fin 64 × Fin 128 ≃ Fin 8192) f, Fintype.sum_prod_type]
  exact Finset.sum_congr rfl fun e _ => Finset.sum_congr rfl fun x _ => congrArg f (Fin.ext (Nat.add_comm _ _))

/-- A sum over 128 columns of which only the first 64 count. -/
theorem sum_half (f : Fin 128 → EReal) (g : Fin 64 → EReal) (h1 : ∀ x : Fin 64, f (wide x) = g x) (h2 : ∀ x : Fin 128, 64 ≤ x.val → f x = 0) :
    ∑ x, f x = ∑ x, g x := by
  refine (Fin.sum_univ_add (a := 64) (b := 64) f).trans ?_
  rw [show (∑ x : Fin 64, f (Fin.natAdd 64 x)) = 0 from Finset.sum_eq_zero fun x _ => h2 _ (Nat.le_add_right _ _), add_zero]
  exact Finset.sum_congr rfl fun x _ => h1 x

/-- The combine's element is the reference's, when its operands are what the program makes of its arguments: `mk` the
    selection, `e` the spreading of an expert over its columns, `w` the weights padded with zeros, `z` the scattered rows. -/
theorem combine_eq (h : Routed sc) (y : S16x2048x128.Idx → EReal) (wo : S64x64x1024.Idx → EReal) (t : Fin 2048) (c : Fin 1024)
    (mk : Fin 64 → EReal) (sp : Fin 64 → Fin 8192 → EReal) (z w : Fin 8192 → EReal)
    (hmk : ∀ e, mk e = selected sc t e)
    (hsp : ∀ e e' x, sp e' (column e x) = if e' = e then 1 else 0)
    (hz : ∀ e x k, expert sc t k = BitVec.ofNat 32 e.val → z (column e (wide x)) = y (ix3 k t (wide x)))
    (hw : ∀ e x, w (column e (wide x)) = wo (ix3 e x c))
    (hw0 : ∀ e (x : Fin 128), 64 ≤ x.val → w (column e x) = 0) :
    ∑ j, (if Ideal.ofBits FTy.f32 1056964608#32 < ∑ e, mk e * sp e j then z j else 0) * w j = projected y sc wo t c := by
  rw [sum_columns]; unfold projected
  have hm : ∀ e x, ∑ e', mk e' * sp e' (column e x) = selected sc t e := fun e x =>
    (Finset.sum_eq_single e (fun e' _ hne => by rw [hsp, if_neg hne, mul_zero]) fun hn => absurd (Finset.mem_univ _) hn).trans (by rw [hsp, if_pos rfl, mul_one, hmk])
  refine Finset.sum_congr rfl fun e _ => sum_half _ _ (fun x => ?_) fun x hx => ?_
  · rw [hm, hw, masked h y t e x _ (hz e x)]
  · rw [hw0 e x hx, mul_zero]

end Cert.Proof.Scatter

end
-- ==== Proof.ScatterWords.lean ====
/-
  The word arithmetic of the row scatter's pipelined loop. A tile handles eight consecutive blocks of 128 rows; trip `t`
  carries five counters (row copies in issued and awaited, index copies in issued and awaited, step), which are
  `carried t`. At those counters the offsets are numerals in the tile's coordinates and `t`: slot `t % 2` of each double
  buffer, block `base i + t` of the rows and of the index list. Each fact is evaluated over the 32 tiles and eight trips.
-/
module

public import proofs.«01_k».proof.Defs
public import Idealize.ShloMosaic.Lib.Tactic
public import proofs.«01_k».proof.Proof.Gen.ScatterIdeal
public import proofs.«01_k».proof.Proof.Gen.ScatterIdeal.Skeleton

@[expose] public section

set_option maxRecDepth 16384

noncomputable section

namespace Cert.Proof.Scatter

open Cert.ScatterIdeal Cert.ScatterIdeal.Gen
open Idealize.ShloMosaic

/-- The tile's first block. -/
abbrev base (i : grid0.Coords) : ℕ := 8 * (i 1).val + 128 * (i 0).val

/-- The counters before trip `t`. -/
abbrev carried (t : ℕ) : BitVec 32 × BitVec 32 × BitVec 32 × BitVec 32 × BitVec 32 :=
  (BitVec.ofNat 32 (min (t + 1) 8), BitVec.ofNat 32 t, BitVec.ofNat 32 (min (t + 1) 8), BitVec.ofNat 32 t, BitVec.ofNat 32 (t % 8))

/-- The tile's first block as the program computes it. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 8#32

theorem trips_eq : k0_t1_loop.trips = 8 := by decide +kernel

/-! ## The conditions -/

theorem cond1_lt : ∀ (i : grid0.Coords) (t : Fin k0_t1_loop.trips), t.val < 7 → k0_cond1 i t (BitVec.ofNat 32 t.val) = 1#1 := by decide +kernel
theorem cond1_last : ∀ (i : grid0.Coords) (t : Fin k0_t1_loop.trips), ¬ t.val < 7 → ¬ k0_cond1 i t (BitVec.ofNat 32 t.val) = 1#1 := by decide +kernel
theorem cond2_lt : ∀ (i : grid0.Coords) (t : Fin k0_t1_loop.trips), t.val < 7 → k0_cond2 i t (BitVec.ofNat 32 t.val) = 1#1 := by decide +kernel
theorem cond2_last : ∀ (i : grid0.Coords) (t : Fin k0_t1_loop.trips), ¬ t.val < 7 → ¬ k0_cond2 i t (BitVec.ofNat 32 t.val) = 1#1 := by decide +kernel
theorem cond3_all : ∀ (i : grid0.Coords) (t : Fin k0_t1_loop.trips), k0_cond3 i t (BitVec.ofNat 32 t.val) = 1#1 := by decide +kernel
theorem cond4_all : ∀ (i : grid0.Coords) (t : Fin k0_t1_loop.trips), k0_cond4 i t (BitVec.ofNat 32 t.val) = 1#1 := by decide +kernel

/-! ## The checks -/

theorem chk3_all : ∀ (t : Fin k0_t1_loop.trips), k0_chk3 (BitVec.ofNat 32 t.val) := by decide +kernel
theorem chk2_all : ∀ (t : Fin k0_t1_loop.trips), k0_chk2 (BitVec.ofNat 32 t.val) := by decide +kernel
theorem chk1_all : ∀ (i : grid0.Coords) (t : Fin k0_t1_loop.trips),
    k0_chk1 i t (BitVec.ofNat 32 (min (t.val + 1) 8)) (BitVec.ofNat 32 t.val) (BitVec.ofNat 32 (min (t.val + 1) 8)) (BitVec.ofNat 32 t.val) (BitVec.ofNat 32 t.val) := by
  decide +kernel

/-! ## The offsets -/

theorem off2_at : ∀ (i : grid0.Coords), k0_off2 i = ![128 * (base i + 0), 0] := by decide +kernel
theorem off5_at : ∀ (i : grid0.Coords), k0_off5 i = ![0, 128 * (base i + 0)] := by decide +kernel
theorem off6_at : ∀ (t : Fin 8), k0_off6 (BitVec.ofNat 32 t.val) = ![t.val % 2, 0, 0] := by decide +kernel
theorem off7_at : ∀ (i : grid0.Coords) (t : Fin 7), k0_off7 i (BitVec.ofNat 32 t.val) = ![128 * (base i + (t.val + 1)), 0] := by decide +kernel
theorem off8_at : ∀ (t : Fin 8), k0_off8 (BitVec.ofNat 32 t.val) = ![t.val % 2] := by decide +kernel
theorem off9_at : ∀ (t : Fin 8), k0_off9 (BitVec.ofNat 32 t.val) = ![t.val % 2, 0, 0] := by decide +kernel
theorem off10_at : ∀ (i : grid0.Coords) (t : Fin 7), k0_off10 i (BitVec.ofNat 32 t.val) = ![0, 128 * (base i + (t.val + 1))] := by decide +kernel
theorem off11_at : ∀ (t : Fin 8), k0_off11 (BitVec.ofNat 32 t.val) = ![t.val % 2] := by decide +kernel
theorem off12_at : ∀ (t : Fin 8), k0_off12 (BitVec.ofNat 32 t.val) = ![t.val % 2, 0, 0] := by decide +kernel
theorem off13_at : ∀ (i : grid0.Coords) (t : Fin 8), k0_off13 i (BitVec.ofNat 32 t.val) = ![128 * (base i + t.val), 0] := by decide +kernel
theorem off14_at : ∀ (t : Fin 8), k0_off14 (BitVec.ofNat 32 t.val) = ![t.val % 2] := by decide +kernel
theorem off15_at : ∀ (t : Fin 8), k0_off15 (BitVec.ofNat 32 t.val) = ![t.val % 2, 0, 0] := by decide +kernel
theorem off16_at : ∀ (i : grid0.Coords) (t : Fin 8), k0_off16 i (BitVec.ofNat 32 t.val) = ![0, 128 * (base i + t.val)] := by decide +kernel
theorem off17_at : ∀ (t : Fin 8), k0_off17 (BitVec.ofNat 32 t.val) = ![t.val % 2] := by decide +kernel
theorem off18_at : ∀ (t : Fin 8), k0_off18 (BitVec.ofNat 32 t.val) = ![t.val % 2, 0, 0] := by decide +kernel
theorem off19_at : ∀ (t : Fin 8), k0_off19 (BitVec.ofNat 32 t.val) = ![t.val % 2, 0, 0] := by decide +kernel

end Cert.Proof.Scatter

end
-- ==== Proof.ScatterSetup.lean ====
/-
  The row scatter as the launch theorem sees it: the program's configuration, the resource algebra, the arrays the call
  reads and writes, the contents it leaves in its result (`scattered`), and the views one tile's pipelines address — the
  two slots of each double buffer, the tile's blocks of rows and of index words, the transfers' counters.
-/
module

public import proofs.«01_k».proof.Defs
public import proofs.«01_k».proof.Proof.ScatterWords
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.ValueKit.Geometry
public import Idealize.ShloMosaic.Lib.ValueIdxCore
public import Idealize.ShloMosaic.Lib.Tactic

@[expose] public section

noncomputable section

namespace Cert.Proof.Scatter

open Cert.ScatterIdeal Cert.ScatterIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration and the resource algebra -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The combine pipeline's own rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) :=
  ((Emb.inl : Emb UP (UP × Counters)).trans (Emb.inr : Emb (UP × Counters) UU)).trans uEmb.toEmb

/-! ## The arrays and what the call leaves in its result -/

abbrev yLoc (d : Dev nD) : Loc nD τ sig := (SparseCore.T d).loc main_v2
abbrev iLoc (d : Dev nD) : Loc nD τ sig := (SparseCore.T d).loc main_v1
abbrev zLoc (d : Dev nD) : Loc nD τ sig := (SparseCore.T d).loc main_v3

/-- The row of the result that word `r` of the list names. -/
abbrev target (idx : S1x32768.Idx → BitVec 32) (r : Fin 32768) : ℕ := (idx (ix2 (0 : Fin 1) r)).toNat

/-- The scattered rows: row `n` of the result is the row whose index word names `n`; a row no word names is as it was. -/
def scattered (rows : S32768x128.Idx → Elt F .f32) (idx : S1x32768.Idx → BitVec 32) (old : S131072x128.Idx → Elt F .f32) : S131072x128.Idx → Elt F .f32 :=
  open scoped Classical in
  fun x => if h : ∃ r : Fin 32768, target idx r = (x 0).val then rows (ix2 h.choose (x 1 : Fin 128)) else old x

theorem scattered_at {rows : S32768x128.Idx → Elt F .f32} {idx : S1x32768.Idx → BitVec 32} {old : S131072x128.Idx → Elt F .f32}
    (hinj : Function.Injective (target idx)) {x : S131072x128.Idx} {r : Fin 32768} (h : target idx r = (x 0).val) :
    scattered rows idx old x = rows (ix2 r (x 1 : Fin 128)) := by
  have h' : ∃ r : Fin 32768, target idx r = (x 0).val := ⟨r, h⟩
  unfold scattered
  rw [dif_pos h', show h'.choose = r from hinj (h'.choose_spec.trans h.symm)]

theorem scattered_else {rows : S32768x128.Idx → Elt F .f32} {idx : S1x32768.Idx → BitVec 32} {old : S131072x128.Idx → Elt F .f32}
    {x : S131072x128.Idx} (h : ¬ ∃ r : Fin 32768, target idx r = (x 0).val) : scattered rows idx old x = old x := dif_neg h

/-! ## The views a tile addresses -/

local notation "yV" => (Memref.whole Cert.ScatterIdeal.main_v2_scv : Memref Cert.ScatterIdeal.sig Kind.scVector Space.hbm Cert.ScatterIdeal.S32768x128 EltTy.f32)
local notation "iV" => (Memref.whole Cert.ScatterIdeal.main_v1_scv : Memref Cert.ScatterIdeal.sig Kind.scVector Space.hbm Cert.ScatterIdeal.S1x32768 EltTy.i32)
local notation "zV" => (Memref.whole Cert.ScatterIdeal.main_v3_scv : Memref Cert.ScatterIdeal.sig Kind.scVector Space.hbm Cert.ScatterIdeal.S131072x128 EltTy.f32)
local notation "rV" => (Memref.whole Cert.ScatterIdeal.cc0_scoped0 : Memref Cert.ScatterIdeal.sig Kind.scVector Space.vmem Cert.ScatterIdeal.S2x128x128 EltTy.f32)
local notation "sV" => (Memref.whole Cert.ScatterIdeal.cc0_scoped2 : Memref Cert.ScatterIdeal.sig Kind.scVector Space.vmem Cert.ScatterIdeal.S2x1x128 EltTy.i32)

theorem slotI_inb (n : ℕ) : ∀ a, (![n % 2, 0, 0] : Fin 3 → ℕ) a + S1x1x128.size a ≤ S2x1x128.size a := by
  intro a; have := Nat.mod_lt n (y := 2) (by decide)
  match a with
  | 0 => show n % 2 + 1 ≤ 2; omega
  | 1 => show 0 + 1 ≤ 1; omega
  | 2 => show 0 + 128 ≤ 128; omega
theorem slotR_inb (n : ℕ) : ∀ a, (![n % 2, 0, 0] : Fin 3 → ℕ) a + S1x128x128.size a ≤ S2x128x128.size a := by
  intro a; have := Nat.mod_lt n (y := 2) (by decide)
  match a with
  | 0 => show n % 2 + 1 ≤ 2; omega
  | 1 => show 0 + 128 ≤ 128; omega
  | 2 => show 0 + 128 ≤ 128; omega
theorem sem_inb (n : ℕ) : ∀ a, (![n % 2] : Fin 1 → ℕ) a + S1.size a ≤ S2.size a := by
  intro a; have := Nat.mod_lt n (y := 2) (by decide)
  match a with
  | 0 => show n % 2 + 1 ≤ 2; omega
theorem base_lt (L : grid0.Coords) : base L ≤ 248 := by
  have h0 : (L 0).val < 2 := (L 0).isLt
  have h1 : (L 1).val < 16 := (L 1).isLt
  show 8 * (L 1).val + 128 * (L 0).val ≤ 248; omega
theorem blkI_inb (L : grid0.Coords) (t : ℕ) : ∀ a, (![0, 128 * (base L + t % 8)] : Fin 2 → ℕ) a + S1x128.size a ≤ S1x32768.size a := by
  intro a; have := Nat.mod_lt t (y := 8) (by decide); have := base_lt L
  match a with
  | 0 => show 0 + 1 ≤ 1; omega
  | 1 => show 128 * (base L + t % 8) + 128 ≤ 32768; omega
theorem blkY_lt (L : grid0.Coords) (t : ℕ) (x : S128x128.Idx) : 128 * (base L + t % 8) + (x 0).val < 32768 := by
  have := Nat.mod_lt t (y := 8) (by decide); have := base_lt L; have : (x 0).val < 128 := (x 0).isLt
  omega
theorem blkY_inb (L : grid0.Coords) (t : ℕ) : ∀ a, (![128 * (base L + t % 8), 0] : Fin 2 → ℕ) a + S128x128.size a ≤ S32768x128.size a := by
  intro a; have := Nat.mod_lt t (y := 8) (by decide); have := base_lt L
  match a with
  | 0 => show 128 * (base L + t % 8) + 128 ≤ 32768; omega
  | 1 => show 0 + 128 ≤ 128; omega

/-- Slot `n % 2` of the index scratch, squeezed to one row of 128 indices. -/
abbrev slotI (n : ℕ) : Memref sig .scVector .vmem S1x128 .i32 :=
  ((sV).slice (Rect.unit (s := S2x1x128) ![n % 2, 0, 0] S1x1x128.size (slotI_inb n)) (fun _ => rfl)).squeeze S1x128 squeezes_S1x1x128_S1x128
/-- Slot `n % 2` of the row scratch: 128 rows. -/
abbrev slotR (n : ℕ) : Memref sig .scVector .vmem S128x128 .f32 :=
  ((rV).slice (Rect.unit (s := S2x128x128) ![n % 2, 0, 0] S1x128x128.size (slotR_inb n)) (fun _ => rfl)).squeeze S128x128 squeezes_S1x128x128_S128x128
/-- The indices of the tile's block `t`. -/
abbrev blkI (L : grid0.Coords) (t : ℕ) : Memref sig .scVector .hbm S1x128 .i32 :=
  (iV).slice (Rect.unit (s := S1x32768) ![0, 128 * (base L + t % 8)] S1x128.size (blkI_inb L t)) (fun _ => rfl)
/-- The rows of the tile's block `t`. -/
abbrev blkY (L : grid0.Coords) (t : ℕ) : Memref sig .scVector .hbm S128x128 .f32 :=
  (yV).slice (Rect.unit (s := S32768x128) ![128 * (base L + t % 8), 0] S128x128.size (blkY_inb L t)) (fun _ => rfl)
/-- The counter of the copies into slot `n % 2` of the index scratch, and of the row scratch. -/
abbrev semI (n : ℕ) : DmaSem sig := ((cc0_scoped3.slice (Rect.unit (s := S2) ![n % 2] S1.size (sem_inb n))).squeeze S_ squeezes_S1_S_).sem
abbrev semR (n : ℕ) : DmaSem sig := ((cc0_scoped1.slice (Rect.unit (s := S2) ![n % 2] S1.size (sem_inb n))).squeeze S_ squeezes_S1_S_).sem
/-- All of the result, and the list the scatter reads from slot `n % 2`. -/
abbrev zAll : Memref sig .scVector .hbm S131072x128 .f32 :=
  (zV).slice (Rect.unit (s := S131072x128) ![0, 0] S131072x128.size inb_S131072x128_S131072x128_0_0) (fun _ => rfl)
abbrev listI (n : ℕ) : Memref sig .scVector .vmem S128 .i32 :=
  ((slotI n).slice (Rect.unit (s := S1x128) ![0, 0] S1x128.size inb_S1x128_S1x128_0_0) (fun _ => rfl)).squeeze S128 squeezes_S1x128_S128

/-! A view the program spells at a computed offset is the one above at the offset's value. -/

theorem slotI_of {n : ℕ} {off : Fin 3 → ℕ} (h : off = ![n % 2, 0, 0]) (inb : ∀ a, off a + S1x1x128.size a ≤ S2x1x128.size a) (hr) :
    ((sV).slice (Rect.unit (s := S2x1x128) off S1x1x128.size inb) hr).squeeze S1x128 squeezes_S1x1x128_S1x128 = slotI n := by subst h; rfl
theorem slotR_of {n : ℕ} {off : Fin 3 → ℕ} (h : off = ![n % 2, 0, 0]) (inb : ∀ a, off a + S1x128x128.size a ≤ S2x128x128.size a) (hr) :
    ((rV).slice (Rect.unit (s := S2x128x128) off S1x128x128.size inb) hr).squeeze S128x128 squeezes_S1x128x128_S128x128 = slotR n := by subst h; rfl
theorem blkI_of {L : grid0.Coords} {t : ℕ} {off : Fin 2 → ℕ} (h : off = ![0, 128 * (base L + t % 8)]) (inb : ∀ a, off a + S1x128.size a ≤ S1x32768.size a) (hr) :
    (iV).slice (Rect.unit (s := S1x32768) off S1x128.size inb) hr = blkI L t := by subst h; rfl
theorem blkY_of {L : grid0.Coords} {t : ℕ} {off : Fin 2 → ℕ} (h : off = ![128 * (base L + t % 8), 0]) (inb : ∀ a, off a + S128x128.size a ≤ S32768x128.size a) (hr) :
    (yV).slice (Rect.unit (s := S32768x128) off S128x128.size inb) hr = blkY L t := by subst h; rfl
theorem semI_of {n : ℕ} {off : Fin 1 → ℕ} (h : off = ![n % 2]) (inb : ∀ a, off a + S1.size a ≤ S2.size a) :
    ((cc0_scoped3.slice (Rect.unit (s := S2) off S1.size inb)).squeeze S_ squeezes_S1_S_).sem = semI n := by subst h; rfl
theorem semR_of {n : ℕ} {off : Fin 1 → ℕ} (h : off = ![n % 2]) (inb : ∀ a, off a + S1.size a ≤ S2.size a) :
    ((cc0_scoped1.slice (Rect.unit (s := S2) off S1.size inb)).squeeze S_ squeezes_S1_S_).sem = semR n := by subst h; rfl

theorem slotI_two (n : ℕ) : slotI (n + 2) = slotI n := slotI_of (by rw [Nat.add_mod_right]) _ _
theorem slotR_two (n : ℕ) : slotR (n + 2) = slotR n := slotR_of (by rw [Nat.add_mod_right]) _ _
theorem semI_two (n : ℕ) : semI (n + 2) = semI n := semI_of (by rw [Nat.add_mod_right]) _
theorem semR_two (n : ℕ) : semR (n + 2) = semR n := semR_of (by rw [Nat.add_mod_right]) _

/-! ## The sets of elements behind them -/

theorem mem_slotI (n : ℕ) (x : S2x1x128.Idx) : x ∈ (slotI n).view.set ↔ (x 0).val = n % 2 := by
  rw [show (slotI n).view.set = (Rect.unit (s := S2x1x128) ![n % 2, 0, 0] S1x1x128.size (slotI_inb n)).set from
    (View.set_reshape _ _).trans (View.set_slice_whole _ _)]
  refine Rect.mem_set_unit.trans ⟨fun h => ?_, fun h a => ?_⟩
  · have h0 := h 0
    change n % 2 ≤ (x 0).val ∧ (x 0).val < n % 2 + 1 at h0
    omega
  · match a with
    | 0 => show n % 2 ≤ (x 0).val ∧ (x 0).val < n % 2 + 1; omega
    | 1 => show 0 ≤ (x 1).val ∧ (x 1).val < 0 + 1; have : (x 1).val < 1 := (x 1).isLt; omega
    | 2 => show 0 ≤ (x 2).val ∧ (x 2).val < 0 + 128; have : (x 2).val < 128 := (x 2).isLt; omega
theorem mem_slotR (n : ℕ) (x : S2x128x128.Idx) : x ∈ (slotR n).view.set ↔ (x 0).val = n % 2 := by
  rw [show (slotR n).view.set = (Rect.unit (s := S2x128x128) ![n % 2, 0, 0] S1x128x128.size (slotR_inb n)).set from
    (View.set_reshape _ _).trans (View.set_slice_whole _ _)]
  refine Rect.mem_set_unit.trans ⟨fun h => ?_, fun h a => ?_⟩
  · have h0 := h 0
    change n % 2 ≤ (x 0).val ∧ (x 0).val < n % 2 + 1 at h0
    omega
  · match a with
    | 0 => show n % 2 ≤ (x 0).val ∧ (x 0).val < n % 2 + 1; omega
    | 1 => show 0 ≤ (x 1).val ∧ (x 1).val < 0 + 128; have : (x 1).val < 128 := (x 1).isLt; omega
    | 2 => show 0 ≤ (x 2).val ∧ (x 2).val < 0 + 128; have : (x 2).val < 128 := (x 2).isLt; omega
theorem mem_blkY (L : grid0.Coords) (t : ℕ) (x : S32768x128.Idx) :
    x ∈ (blkY L t).view.set ↔ 128 * (base L + t % 8) ≤ (x 0).val ∧ (x 0).val < 128 * (base L + t % 8) + 128 := by
  rw [show (blkY L t).view.set = (Rect.unit (s := S32768x128) ![128 * (base L + t % 8), 0] S128x128.size (blkY_inb L t)).set from View.set_slice_whole _ _]
  refine Rect.mem_set_unit.trans ⟨fun h => h 0, fun h a => ?_⟩
  match a with
  | 0 => exact h
  | 1 => show 0 ≤ (x 1).val ∧ (x 1).val < 0 + 128; have : (x 1).val < 128 := (x 1).isLt; omega
theorem emb_zAll (x : S131072x128.Idx) : (zAll).view.emb x = x := by
  funext a; apply Fin.ext
  refine (ValueKit.rect_emb_unit_val _ _ _ _ a).trans ?_
  match a with
  | 0 => exact Nat.zero_add _
  | 1 => exact Nat.zero_add _

/-- Row `j` of the result, as elements. -/
theorem mem_zRow (j : Fin (S131072x128.size 0)) (x : S131072x128.Idx) : x ∈ ((zAll).view.slice (S131072x128.rowRect 0 j)).set ↔ (x 0).val = j.val := by
  constructor
  · intro h
    obtain ⟨y, -, rfl⟩ := Finset.mem_map.mp (show x ∈ Finset.univ.map ((zAll).view.slice (S131072x128.rowRect 0 j)).emb from h)
    show (((zAll).view.emb ((S131072x128.rowRect 0 j).emb y)) 0).val = j.val
    rw [emb_zAll]
    exact (Shape.rowRect_emb_val (0 : Fin S131072x128.rank) j y 0).trans (if_pos rfl)
  · intro h
    have hx : ((zAll).view.slice (S131072x128.rowRect 0 (x 0))).emb (S131072x128.rowProj 0 x) = x := by
      show (zAll).view.emb ((S131072x128.rowRect 0 (x 0)).emb (S131072x128.rowProj 0 x)) = x
      rw [emb_zAll, Shape.rowRect_emb_rowProj]
    rw [← show (x 0 : Fin (S131072x128.size 0)) = j from Fin.ext h]
    have := View.emb_mem_set ((zAll).view.slice (S131072x128.rowRect 0 (x 0))) (S131072x128.rowProj 0 x)
    rw [hx] at this
    exact this
theorem set_listI (n : ℕ) : (listI n).view.set = (slotI n).view.set := by
  show (((slotI n).view.slice _).reshape S128 _).set = _
  rw [View.set_reshape, View.set_slice]
  have : (Rect.unit (s := S1x128) ![0, 0] S1x128.size inb_S1x128_S1x128_0_0).set = Finset.univ := by
    ext x
    refine Rect.mem_set_unit.trans ⟨fun _ => Finset.mem_univ x, fun _ a => ?_⟩
    match a with
    | 0 => show 0 ≤ (x 0).val ∧ (x 0).val < 0 + 1; have : (x 0).val < 1 := (x 0).isLt; omega
    | 1 => show 0 ≤ (x 1).val ∧ (x 1).val < 0 + 128; have : (x 1).val < 128 := (x 1).isLt; omega
  rw [this]; rfl

/-! ## What the views read -/

/-- The list in slot `n`, at position `k`: the slot's own reading at `(0, k)`. -/
theorem read_listI (n : ℕ) (f : (slotI n).view.ty.Contents (Elt F)) (k : S128.Idx) :
    (listI n).view.read (Elt F) f k = (slotI n).view.read (Elt F) f (ix2 (0 : Fin 1) (k 0 : Fin 128)) := by
  have h1 : (listI n).view.read (Elt F) f k
      = (slotI n).view.read (Elt F) f ((Rect.unit (s := S1x128) ![0, 0] S1x128.size inb_S1x128_S1x128_0_0).emb (Shape.reshapeEquiv squeezes_S1x128_S128.numel_eq k)) := rfl
  rw [h1, show Shape.reshapeEquiv squeezes_S1x128_S128.numel_eq k = (Fin.cons ⟨0, Nat.one_pos⟩ k : (⟨2, Matrix.vecCons 1 ![128]⟩ : Shape).Idx) from
    Shape.reshapeEquiv_cons_one _ _]
  congr 1; funext a; apply Fin.ext
  rw [ValueKit.rect_emb_unit_val]
  match a with
  | 0 => rfl
  | 1 => show 0 + (k 0).val = (k 0).val; omega

/-- Block `t` of the index list, at `(0, k)`. -/
theorem read_blkI (L : grid0.Coords) (t : ℕ) (f : S1x32768.Idx → BitVec 32) (k : Fin 128) (r : Fin 32768)
    (hr : r.val = 128 * (base L + t % 8) + k.val) :
    (blkI L t).view.read (Elt F) f (ix2 (0 : Fin 1) k) = f (ix2 (0 : Fin 1) r) := by
  show f ((Rect.unit (s := S1x32768) ![0, 128 * (base L + t % 8)] S1x128.size (blkI_inb L t)).emb (ix2 (0 : Fin 1) k)) = _
  congr 1; funext a; apply Fin.ext
  rw [ValueKit.rect_emb_unit_val]
  match a with
  | 0 => rfl
  | 1 => exact hr.symm

/-- Block `t` of the result, at `(k, l)`. -/
theorem emb_blkY (L : grid0.Coords) (t : ℕ) (x : S128x128.Idx) (a : Fin 2) :
    ((blkY L t).view.emb x a : Fin _).val = (![128 * (base L + t % 8), 0] : Fin 2 → ℕ) a + (x a).val :=
  ValueKit.rect_emb_unit_val _ _ _ _ _

end Cert.Proof.Scatter

end
-- ==== Proof.ScatterMoves.lean ====
/-
  The moves of one tile's two pipelines, each a transfer on one slot of a double buffer, with what the slot holds before
  and after: a block of rows, and of index words, copied in and awaited; the rows scattered through the list and awaited.
  A slot is free, has a copy in flight, or is ready; the result's rows named by the tile's words are those already
  written (at the scattered rows) and those still to write.
-/
module

public import proofs.«01_k».proof.Proof.ScatterSetup

@[expose] public section

set_option maxRecDepth 16384

noncomputable section

namespace Cert.Proof.Scatter

open Cert.ScatterIdeal Cert.ScatterIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)

/-- The rows the call reads: the first argument, its leading two axes joined. -/
def rowsIn : Buf (Elt F) (yLoc d) :=
  shapeCast (s := S16x2048x128) S32768x128 (m ((SparseCore.T d).loc main_arg0) : S16x2048x128.Idx → Elt F .f32) shapeCasts_S16x2048x128_S32768x128
/-- The list of rows it writes: the second argument, transposed and laid out in one row. -/
def listIn : Buf (Elt F) (iLoc d) :=
  shapeCast (s := S16x2048) S1x32768
    (transpose S16x2048 [1, 0] (m ((SparseCore.T d).loc main_arg1) : S2048x16.Idx → Elt F .i32) transposes_S2048x16_S16x2048_1_0) shapeCasts_S16x2048_S1x32768
/-- What the call leaves in its result. -/
def G : Buf (Elt F) (zLoc d) := scattered (rowsIn m d) (listIn m d) (m (zLoc d))

/-- What the proof asks of the launch memory: the words of the list name rows of the result, no two the same. -/
def PreOK : Prop := ∀ d : Dev nD, (∀ r, target (listIn m d) r < 131072) ∧ Function.Injective (target (listIn m d))

/-- A tile's share of an array copied from goes half to each slot. -/
def qs (q : PosShare TreeShare) (n : ℕ) : PosShare TreeShare := if n % 2 = 0 then q.left else q.right
theorem qs_two (q : PosShare TreeShare) (n : ℕ) : qs q (n + 2) = qs q n := by unfold qs; rw [Nat.add_mod_right]

/-! ## What a slot holds -/

section slot
variable {s : Shape} {e : EltTy} (q : PosShare TreeShare) (dst : Memref sig .scVector .vmem s e) (src : Memref sig .scVector .hbm s e) (sm : DmaSem sig)
  (f₀ : Buf (Elt F) (src.view.loc (thr d L)))

/-- Some contents of a slot. -/
def held : sProp 𝕄 := iprop(∃ f, dst.view.loc (thr d L) ↦[dst.view.set]{fullShare} f)
/-- The slot's contents are those of the block `src`. -/
def holds : sProp 𝕄 :=
  iprop(∃ f, ⌜dst.view.read (Elt F) f = src.view.read (Elt F) f₀⌝ ∗ dst.view.loc (thr d L) ↦[dst.view.set]{fullShare} f)
/-- The slot free: its counter at zero, some contents, its share of the array at hand. -/
def free : sProp 𝕄 :=
  iprop(semVal (thr d L, SemLoc.dma sm) 0 ∗ held d L dst ∗ src.view.loc (thr d L) ↦{q} f₀)
/-- The slot holding the block. -/
def ready : sProp 𝕄 :=
  iprop(semVal (thr d L, SemLoc.dma sm) 0 ∗ holds d L dst src f₀ ∗ src.view.loc (thr d L) ↦{q} f₀)
/-- The copy of the block into the slot in flight: it holds the block's part of the share. -/
def flight : sProp 𝕄 :=
  iprop(Transfers.Flight countersEmb (thr d L) (SemLoc.dma sm) (default : HIx 1) dst.view.dmaCredit
      iprop(holds d L dst src f₀ ∗ src.view.loc (thr d L) ↦[src.view.set]{q} f₀)
    ∗ src.view.loc (thr d L) ↦[Finset.univ \ src.view.set]{q} f₀)

theorem copy_lands (f : Buf (Elt F) (dst.view.loc (thr d L))) :
    iprop((dst.view.loc (thr d L) ↦[dst.view.set]{fullShare}
          dst.view.write (Elt F) f (ReadAs.same.apply (src.view.read (Elt F) f₀)) Finset.univ)
        ∗ src.view.loc (thr d L) ↦[src.view.set]{q} f₀)
      ⊢ (iprop(holds d L dst src f₀ ∗ src.view.loc (thr d L) ↦[src.view.set]{q} f₀) : sProp 𝕄) := by
  iintro ⟨Hd, Hs⟩
  isplitl [Hd]
  · unfold holds
    iexists _; isplitr; swap; · iexact Hd
    ipureintro; exact View.read_write_univ _ _
  · iexact Hs
end slot

/-- The slots of the two double buffers: of rows, of index words. -/
abbrev rowFree (q : PosShare TreeShare) (n : ℕ) : sProp 𝕄 := free d L (qs q n) (slotR n) (blkY L n) (semR n) (rowsIn m d)
abbrev rowReady (q : PosShare TreeShare) (t : ℕ) : sProp 𝕄 := ready d L (qs q t) (slotR t) (blkY L t) (semR t) (rowsIn m d)
abbrev rowFlight (q : PosShare TreeShare) (t : ℕ) : sProp 𝕄 := flight d L (qs q t) (slotR t) (blkY L t) (semR t) (rowsIn m d)
abbrev idxFree (q : PosShare TreeShare) (n : ℕ) : sProp 𝕄 := free d L (qs q n) (slotI n) (blkI L n) (semI n) (listIn m d)
abbrev idxReady (q : PosShare TreeShare) (t : ℕ) : sProp 𝕄 := ready d L (qs q t) (slotI t) (blkI L t) (semI t) (listIn m d)
abbrev idxFlight (q : PosShare TreeShare) (t : ℕ) : sProp 𝕄 := flight d L (qs q t) (slotI t) (blkI L t) (semI t) (listIn m d)

theorem rowFree_two (q : PosShare TreeShare) (n : ℕ) : (rowFree m d L q (n + 2) : sProp 𝕄) = rowFree m d L q n := by
  show iprop(semVal (thr d L, SemLoc.dma (semR (n + 2))) 0 ∗ held d L (slotR (n + 2)) ∗ yLoc d ↦{qs q (n + 2)} rowsIn m d) = _
  rw [slotR_two, semR_two, qs_two]; rfl
theorem idxFree_two (q : PosShare TreeShare) (n : ℕ) : (idxFree m d L q (n + 2) : sProp 𝕄) = idxFree m d L q n := by
  show iprop(semVal (thr d L, SemLoc.dma (semI (n + 2))) 0 ∗ held d L (slotI (n + 2)) ∗ iLoc d ↦{qs q (n + 2)} listIn m d) = _
  rw [slotI_two, semI_two, qs_two]; rfl

/-! ## The rows of the result -/

/-- The rows of the result named by words `[128 (base + a), 128 (base + b))` of the list. -/
def rowsOf (a b : ℕ) : Finset S131072x128.Idx :=
  open scoped Classical in
  Finset.univ.filter fun x => ∃ r : Fin 32768, 128 * (base L + a) ≤ r.val ∧ r.val < 128 * (base L + b) ∧ target (listIn m d) r = (x 0).val

theorem mem_rowsOf {a b : ℕ} {x : S131072x128.Idx} :
    x ∈ rowsOf m d L a b ↔ ∃ r : Fin 32768, 128 * (base L + a) ≤ r.val ∧ r.val < 128 * (base L + b) ∧ target (listIn m d) r = (x 0).val := by
  simp only [rowsOf, Finset.mem_filter, Finset.mem_univ, true_and]

/-- The tile's rows written, and still to write, before block `t`. -/
def done (t : ℕ) : sProp 𝕄 := zLoc d ↦[rowsOf m d L 0 t]{fullShare} G m d
def todo (t : ℕ) : sProp 𝕄 := zLoc d ↦[rowsOf m d L t 8]{fullShare} m (zLoc d)

theorem rowsOf_split {a b c : ℕ} (hab : a ≤ b) (hbc : b ≤ c) : rowsOf m d L a c = rowsOf m d L a b ∪ rowsOf m d L b c := by
  ext x; rw [Finset.mem_union, mem_rowsOf, mem_rowsOf, mem_rowsOf]
  constructor
  · rintro ⟨r, h1, h2, h3⟩
    by_cases h : r.val < 128 * (base L + b)
    · exact .inl ⟨r, h1, h, h3⟩
    · exact .inr ⟨r, by omega, h2, h3⟩
  · rintro (⟨r, h1, h2, h3⟩ | ⟨r, h1, h2, h3⟩)
    · exact ⟨r, h1, by omega, h3⟩
    · exact ⟨r, by omega, h2, h3⟩
theorem rowsOf_disjoint (hpre : PreOK m) {a b c : ℕ} : Disjoint (rowsOf m d L a b) (rowsOf m d L b c) := by
  refine Finset.disjoint_left.mpr fun x h h' => ?_
  obtain ⟨r, h1, h2, h3⟩ := (mem_rowsOf m d L).mp h
  obtain ⟨r', h1', h2', h3'⟩ := (mem_rowsOf m d L).mp h'
  have := (hpre d).2 (h3.trans h3'.symm)
  subst this; omega

/-- What the thread owes throughout, its waits recorded. -/
def owing (O : CellTallies nD τ sig (HIx 1)) (W : Waits sig (HIx 1)) : sProp 𝕄 :=
  iprop(∃ W', ⌜∀ p ∈ W', p ∈ W ∨ p.2 = none⌝ ∗ owes (thr d L) O W')

/-- One more wait at the transfers' index is recorded. -/
theorem owing_insert {O : CellTallies nD τ sig (HIx 1)} {W W' : Waits sig (HIx 1)} (h : ∀ p ∈ W', p ∈ W ∨ p.2 = none) {sm : SemLoc sig} :
    (owes (thr d L) O (insert (sm, (default : HIx 1)) W') : sProp 𝕄) ⊢ iprop(∃ W', ⌜∀ p ∈ W', p ∈ W ∨ p.2 = none⌝ ∗ owes (thr d L) O W') := by
  iintro HO
  iexists _; isplitr; swap; · iexact HO
  ipureintro; intro p hp
  rcases Finset.mem_insert.mp hp with hp | hp
  · exact .inr (hp ▸ rfl)
  · exact h p hp

/-! ## The list in a slot, and the rows it names -/

section list
variable (t : ℕ) (fi : Buf (Elt F) ((slotI t).view.loc (thr d L)))
    (hfi : (slotI t).view.read (Elt F) fi = (blkI L t).view.read (Elt F) (listIn m d))

/-- The word of the list behind position `k` of block `t`. -/
abbrev wordOf (L : grid0.Coords) (t : ℕ) (k : Fin 128) : Fin 32768 := ⟨128 * (base L + t % 8) + k.val, blkY_lt L t (ix2 k (0 : Fin 128))⟩

include hfi in
theorem list_word (x : S128.Idx) : ((listI t).view.read (Elt F) fi x : BitVec 32).toNat = target (listIn m d) (wordOf L t (x 0 : Fin 128)) := by
  have e : (listI t).view.read (Elt F) fi x = (blkI L t).view.read (Elt F) (listIn m d) (ix2 (0 : Fin 1) (x 0 : Fin 128)) :=
    (read_listI t fi x).trans (congrFun hfi _)
  rw [e, read_blkI (F := F) L t (listIn m d) (x 0 : Fin 128) (wordOf L t (x 0 : Fin 128)) rfl]

include hfi in
theorem list_inb (hpre : PreOK m) (x : S128.Idx) :
    ((listI t).view.read (Elt F) fi x : BitVec 32).toNat < S131072x128.size gathers_S131072x128_S128x128.axis := by
  rw [list_word m d L t fi hfi]
  exact (hpre d).1 _

/-- The row of the result that position `k` of the list names. -/
abbrev named (hin : ∀ x, ((listI t).view.read (Elt F) fi x : BitVec 32).toNat < S131072x128.size gathers_S131072x128_S128x128.axis)
    (hn : S128.numel = S128x128.size gathers_S131072x128_S128x128.axis') :
    Fin (S128x128.size gathers_S131072x128_S128x128.axis') → Fin (S131072x128.size gathers_S131072x128_S128x128.axis) :=
  SparseCore.rows ((listI t).view.read (Elt F) fi) hn hin

include hfi in
theorem named_val (hin) (hn) (k : Fin 128) : (named d L t fi hin hn k).val = target (listIn m d) (wordOf L t k) := by
  have hk : S128.rowMajor.symm ((k : Fin (S128x128.size gathers_S131072x128_S128x128.axis')).cast hn.symm) = ix1 k := by
    refine (Equiv.symm_apply_eq _).mpr (Fin.ext ?_)
    exact (Shape.rowMajor_val_one (d := ![128]) (ix1 k)).symm
  show ((listI t).view.read (Elt F) fi (S128.rowMajor.symm ((k : Fin (S128x128.size gathers_S131072x128_S128x128.axis')).cast hn.symm)) : BitVec 32).toNat = _
  rw [hk]
  exact list_word m d L t fi hfi (ix1 k)

include hfi in
theorem named_inj (hpre : PreOK m) (hin) (hn) : Function.Injective (named d L t fi hin hn) := by
  intro k k' h
  have h := congrArg Fin.val h
  rw [named_val m d L t fi hfi hin hn k, named_val m d L t fi hfi hin hn k'] at h
  have h := congrArg Fin.val ((hpre d).2 h)
  exact Fin.ext (Nat.add_left_cancel h)

include hfi in
/-- The rows the list names are the rows of block `t`'s words. -/
theorem named_rows (ht : t < 8) (hin) (hn) :
    SparseCore.namedRows (thr d L) (zAll).view gathers_S131072x128_S128x128.axis (named d L t fi hin hn) = rowsOf m d L t (t + 1) := by
  rw [SparseCore.namedRows_eq]
  ext x
  rw [Finset.mem_biUnion, mem_rowsOf]
  constructor
  · rintro ⟨k, -, h⟩
    have h := (mem_zRow _ x).mp h
    refine ⟨wordOf L t k, ?_, ?_, ((named_val m d L t fi hfi hin hn k).symm.trans h.symm)⟩
    · show 128 * (base L + t) ≤ 128 * (base L + t % 8) + k.val
      rw [Nat.mod_eq_of_lt ht]; omega
    · show 128 * (base L + t % 8) + k.val < 128 * (base L + (t + 1))
      have : k.val < 128 := k.isLt
      rw [Nat.mod_eq_of_lt ht]; omega
  · rintro ⟨r, h1, h2, h3⟩
    obtain ⟨k, hk⟩ : ∃ k : Fin 128, k.val = r.val - 128 * (base L + t) := ⟨⟨r.val - 128 * (base L + t), by omega⟩, rfl⟩
    refine ⟨k, Finset.mem_univ _, (mem_zRow (named d L t fi hin hn k) x).mpr ?_⟩
    rw [named_val m d L t fi hfi hin hn, ← h3]
    congr 2
    apply Fin.ext
    show r.val = 128 * (base L + t % 8) + k.val
    rw [hk, Nat.mod_eq_of_lt ht]; omega

include hfi in
/-- What the scatter writes to them is the call's result. -/
theorem scatter_block (hpre : PreOK m) (ht : t < 8) (hin) (hn) (fr : Buf (Elt F) ((slotR t).view.loc (thr d L)))
    (hfr : (slotR t).view.read (Elt F) fr = (blkY L t).view.read (Elt F) (rowsIn m d)) :
    ∀ x ∈ rowsOf m d L t (t + 1), SparseCore.scatterBuf (thr d L) (zAll).view gathers_S131072x128_S128x128.axis (named d L t fi hin hn)
      (SparseCore.scatterRowPayload (thr d L) (slotR t) gathers_S131072x128_S128x128 fr) (m (zLoc d)) x = G m d x := by
  intro x hx
  rw [← named_rows m d L t fi hfi ht hin hn, SparseCore.namedRows_eq] at hx
  obtain ⟨k, -, hk⟩ := Finset.mem_biUnion.mp hx
  rw [SparseCore.scatterBuf_of_mem (thr d L) _ _ _ (named_inj m d L t fi hfi hpre hin hn) _ _ hk]
  have hx0 := (mem_zRow _ x).mp hk
  obtain ⟨y, -, rfl⟩ := Finset.mem_map.mp (show x ∈ Finset.univ.map ((zAll).view.slice (S131072x128.rowRect gathers_S131072x128_S128x128.axis (named d L t fi hin hn k))).emb from hk)
  have hx0 := hx0.trans (named_val m d L t fi hfi hin hn k)
  have hx1 : ((((zAll).view.slice (S131072x128.rowRect gathers_S131072x128_S128x128.axis (named d L t fi hin hn k))).emb y : S131072x128.Idx) 1).val
      = (y (1 : Fin 2)).val := by
    show (((zAll).view.emb ((S131072x128.rowRect 0 (named d L t fi hin hn k)).emb y)) 1).val = _
    rw [emb_zAll]
    exact (Shape.rowRect_emb_val (0 : Fin S131072x128.rank) (named d L t fi hin hn k) y 1).trans (if_neg (by decide))
  refine (View.write_emb_of_mem _ _ (Finset.mem_univ y)).trans ?_
  refine Eq.trans ?_ (scattered_at (rows := rowsIn m d) (old := m (zLoc d)) (hpre d).2 hx0.symm).symm
  show (slotR t).view.read (Elt F) fr ((S128x128.rowRect gathers_S131072x128_S128x128.axis' k).emb _) = _
  rw [hfr]
  show rowsIn m d ((blkY L t).view.emb _) = _
  congr 1
  funext a; apply Fin.ext
  rw [emb_blkY]
  match a with
  | 0 => exact congrArg (128 * (base L + t % 8) + ·) ((Shape.rowRect_emb_val gathers_S131072x128_S128x128.axis' k _ 0).trans (if_pos (by decide)))
  | 1 => exact (Nat.zero_add _).trans (((Shape.rowRect_emb_val gathers_S131072x128_S128x128.axis' k _ 1).trans (if_neg (by decide))).trans ((Shape.idxEquiv_symm_apply_val _ y 1).trans hx1.symm))
end list

/-- A whole slot's rows are awaited together as the slot. -/
theorem rows_credit (d : Dev nD) (L : grid0.Coords) (t : ℕ) (r : Fin (S128x128.size gathers_S131072x128_S128x128.axis') → Fin (S131072x128.size gathers_S131072x128_S128x128.axis)) :
    ∑ j, ((zAll).slice (S131072x128.rowRect gathers_S131072x128_S128x128.axis (r j))
      (S131072x128.stride_rowRect gathers_S131072x128_S128x128.axis (r j))).view.dmaCredit = (slotR t).view.dmaCredit :=
  SparseCore.sum_scatterCredit_eq_srcCredit (thr d L) (slotR t) zAll gathers_S131072x128_S128x128 rfl r (fun _ => rfl) (fun _ => rfl)

/-! ## The moves -/

variable {Q : PUnit.{1} → sProp (MT nD τ sig (HIx 1) (Elt F) ℕ UU ℕ)}

local notation "WP" => wp frame (wpE (defs₀ (F := F)) 𝒱₀ (thr d L) none) Set.univ

/-- Copying a block into its free slot. -/
theorem wp_copyIn {s : Shape} {e : EltTy} (q : PosShare TreeShare) {dst dst' : Memref sig .scVector .vmem s e} {src src' : Memref sig .scVector .hbm s e} {sm sm' : DmaSem sig}
    {f₀ : Buf (Elt F) (src.view.loc (thr d L))} (hs : src' = src) (hd : dst' = dst) (hm : sm' = sm) (hpos : 0 < s.numel) {hsrc hdst hsem} :
    free d L q dst src sm f₀
      ⊢ iprop((flight d L q dst src sm f₀ -∗ Q ⟨⟩) -∗ WP (Prog.lift (.enqueueDma src' (.here dst') (.dma sm') hsrc hdst hsem)) Q) := by
  subst hs hd hm
  unfold free held
  iintro ⟨Hv, ⟨%f, Hf⟩, Hi⟩ Hk
  ihave Hi' := (pointsTo_split_subset (q := q) (f := f₀) (S := Finset.univ) (Finset.subset_univ src'.view.set)).1 $$ Hi
  icases Hi' with ⟨Hs, Hr⟩
  iapply (Transfers.wp_dmaLocal countersEmb 𝒱₀ (thr d L) none (default : HIx 1) dst'.view.dmaCredit rfl
    (View.dmaCredit_pos _ hpos) (Finset.Subset.refl _)) $$ [Hs Hf Hv]
  · isplitl [Hs]; · iexact Hs
    isplitl [Hf]; · iexact Hf
    iexact Hv
  iintro Hfl
  rw [wp_ret]
  imodintro
  iapply Hk
  unfold flight
  isplitl [Hfl]
  · iapply (Transfers.Flight_mono countersEmb (thr d L) (copy_lands d L q dst' src' f₀ f)) $$ Hfl
  · iexact Hr

/-- Its wait. -/
theorem wp_waitIn {s : Shape} {e : EltTy} (q : PosShare TreeShare) {O : CellTallies nD τ sig (HIx 1)} {W : Waits sig (HIx 1)}
    {dst dst' : Memref sig .scVector .vmem s e} {src src' : Memref sig .scVector .hbm s e} {sm sm' : DmaSem sig}
    {f₀ : Buf (Elt F) (src.view.loc (thr d L))} (hd : dst' = dst) (hm : sm' = sm) {hsrc hdst} :
    iprop(flight d L q dst src sm f₀ ∗ owing d L O W ∗ Transfers.MayWaits (thr d L) (default : HIx 1) O)
      ⊢ iprop(((ready d L q dst src sm f₀ ∗ owing d L O W) -∗ Q ⟨⟩) -∗ WP (Prog.lift (.waitDma2 sm' src' dst' hsrc hdst)) Q) := by
  subst hd hm
  unfold flight owing
  iintro ⟨⟨Hfl, Hr⟩, ⟨%W', %hW', HO⟩, Hmw⟩ Hk
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma sm')) $$ Hmw
  iintro ⟨⟨Hd, Hs⟩, Hv, HO⟩
  rw [wp_ret]
  imodintro
  iapply Hk
  isplitr [HO]
  · unfold ready
    isplitl [Hv]; · iexact Hv
    isplitl [Hd]; · iexact Hd
    iapply (pointsTo_split_subset (q := q) (f := f₀) (S := Finset.univ) (Finset.subset_univ src.view.set)).2
    isplitl [Hs] <;> iassumption
  · iapply (owing_insert d L hW') $$ HO

/-- Block `t`'s scatter in flight: it delivers the block's rows of the result and the two slots. -/
def scatFlight (t : ℕ) : sProp 𝕄 :=
  Transfers.Flight countersEmb (thr d L) (SemLoc.dma cc0_scoped4.sem) (default : HIx 1) (slotR t).view.dmaCredit
    iprop((zLoc d ↦[rowsOf m d L t (t + 1)]{fullShare} G m d) ∗ held d L (slotR t) ∗ held d L (slotI t))

/-- What stays at hand while it runs: the two slots' counters at zero and their shares. -/
def aside (q : PosShare TreeShare) (t : ℕ) : sProp 𝕄 :=
  iprop((semVal (thr d L, SemLoc.dma (semR t)) 0 ∗ yLoc d ↦{qs q t} rowsIn m d)
    ∗ semVal (thr d L, SemLoc.dma (semI t)) 0 ∗ iLoc d ↦{qs q t} listIn m d)

theorem scatter_lands (hpre : PreOK m) (t : ℕ) (ht : t < 8) (fi : Buf (Elt F) ((slotI t).view.loc (thr d L)))
    (hfi : (slotI t).view.read (Elt F) fi = (blkI L t).view.read (Elt F) (listIn m d)) (hin) (hn) (fr : Buf (Elt F) ((slotR t).view.loc (thr d L)))
    (hfr : (slotR t).view.read (Elt F) fr = (blkY L t).view.read (Elt F) (rowsIn m d)) :
    iprop(((zAll).view.loc (thr d L) ↦[SparseCore.namedRows (thr d L) (zAll).view gathers_S131072x128_S128x128.axis (named d L t fi hin hn)]{fullShare}
          SparseCore.scatterBuf (thr d L) (zAll).view gathers_S131072x128_S128x128.axis (named d L t fi hin hn)
            (SparseCore.scatterRowPayload (thr d L) (slotR t) gathers_S131072x128_S128x128 fr) (m (zLoc d)))
        ∗ ((slotR t).view.loc (thr d L) ↦[(slotR t).view.set]{fullShare} fr)
        ∗ (listI t).view.loc (thr d L) ↦[(listI t).view.set]{fullShare} fi)
      ⊢ (iprop((zLoc d ↦[rowsOf m d L t (t + 1)]{fullShare} G m d) ∗ held d L (slotR t) ∗ held d L (slotI t)) : sProp 𝕄) := by
  rw [named_rows m d L t fi hfi ht hin hn]
  unfold held
  iintro ⟨Hz, Hr, Hi⟩
  isplitl [Hz]
  · iapply (Entails.of_eq (pointsTo_congr (ℓ := zLoc d) (q := fullShare) (scatter_block m d L t fi hfi hpre ht hin hn fr hfr))) $$ Hz
  isplitl [Hr]
  · iexists fr; iexact Hr
  · iexists fi
    iapply (Entails.of_eq (show ((listI t).view.loc (thr d L) ↦[(listI t).view.set]{fullShare} fi : sProp 𝕄)
        = (slotI t).view.loc (thr d L) ↦[(slotI t).view.set]{fullShare} fi by rw [set_listI])) $$ Hi

/-- Scattering block `t`'s rows through the list in the index slot. -/
theorem wp_scatter (hpre : PreOK m) (q : PosShare TreeShare) (t : ℕ) (ht : t < 8)
    {src : Memref sig .scVector .vmem S128x128 .f32} {offs : Memref sig .scVector .vmem S128 .i32}
    (hs : src = slotR t) (ho : offs = listI t) {hp hn he hsp hr} :
    iprop(rowReady m d L q t ∗ idxReady m d L q t ∗ todo m d L t ∗ semVal (thr d L, SemLoc.dma cc0_scoped4.sem) 0)
      ⊢ iprop(((scatFlight m d L t ∗ aside m d L q t ∗ todo m d L (t + 1)) -∗ Q ⟨⟩)
          -∗ WP (SparseCore.enqueueIndirectScatter hp src zAll gathers_S131072x128_S128x128 offs hn cc0_scoped4.sem he hsp hr >>= Prog.ret) Q) := by
  subst hs ho
  unfold rowReady idxReady ready holds todo
  iintro ⟨⟨HvR, ⟨%fr, %hfr, Hfr⟩, Hy⟩, ⟨HvI, ⟨%fi, %hfi, Hfi⟩, Hi⟩, Hz, Hvg⟩ Hk
  have hin := list_inb m d L t fi hfi hpre
  rw [rowsOf_split m d L (Nat.le_succ t) (show t + 1 ≤ 8 by omega)]
  ihave Hz' := (pointsTo_union (q := fullShare) (f := m (zLoc d)) (rowsOf_disjoint m d L hpre (a := t) (b := t + 1) (c := 8))).1 $$ Hz
  icases Hz' with ⟨Hb, Hz⟩
  ihave Hb := (Entails.of_eq (congrArg (fun s => (zLoc d ↦[s]{fullShare} m (zLoc d) : sProp 𝕄)) (named_rows m d L t fi hfi ht hin hn).symm)) $$ Hb
  ihave Hfi' := (Entails.of_eq (show ((slotI t).view.loc (thr d L) ↦[(slotI t).view.set]{fullShare} fi : sProp 𝕄)
    = (listI t).view.loc (thr d L) ↦[(listI t).view.set]{fullShare} fi by rw [set_listI])) $$ Hfi
  iapply (SparseCore.wp_indirectScatterLocal countersEmb 𝒱₀ (thr d L) none (hg := gathers_S131072x128_S128x128) (default : HIx 1)
      (slotR t).view.dmaCredit (by decide) hin (named_inj m d L t fi hfi hpre hin hn) (rows_credit d L t _)) $$ [Hfr Hb Hfi' Hvg]
  · isplitl [Hfr]; · iexact Hfr
    isplitl [Hb]; · iexact Hb
    isplitl [Hfi']; · iexact Hfi'
    iexact Hvg
  iintro Hfl
  rw [wp_ret]
  imodintro
  iapply Hk
  isplitl [Hfl]
  · unfold scatFlight
    iapply (Transfers.Flight_mono countersEmb (thr d L) (scatter_lands m d L hpre t ht fi hfi hin hn fr hfr)) $$ Hfl
  isplitr [Hz]; swap; · iexact Hz
  unfold aside
  isplitl [HvR Hy]
  · isplitl [HvR]; · iexact HvR
    iexact Hy
  · isplitl [HvI]; · iexact HvI
    iexact Hi

/-- Its wait: the rows join those written, the slots are free. -/
theorem wp_scatterWait (hpre : PreOK m) (q : PosShare TreeShare) (t : ℕ) (ht : t < 8) {O : CellTallies nD τ sig (HIx 1)} {W : Waits sig (HIx 1)}
    {src : Memref sig .scVector .vmem S128x128 .f32} {dst : Memref sig .scVector .hbm S131072x128 .f32}
    (hs : src = slotR t) {hsrc hdst} :
    iprop(scatFlight m d L t ∗ aside m d L q t ∗ done m d L t ∗ owing d L O W ∗ Transfers.MayWaits (thr d L) (default : HIx 1) O)
      ⊢ iprop(((rowFree m d L q t ∗ idxFree m d L q t ∗ done m d L (t + 1) ∗ semVal (thr d L, SemLoc.dma cc0_scoped4.sem) 0 ∗ owing d L O W) -∗ Q ⟨⟩)
          -∗ WP (SparseCore.waitIndirectScatter cc0_scoped4.sem src dst hsrc hdst) Q) := by
  subst hs
  unfold scatFlight aside owing done SparseCore.waitIndirectScatter
  iintro ⟨Hfl, ⟨⟨HvR, Hy⟩, HvI, Hi⟩, Hdone, ⟨%W', %hW', HO⟩, Hmw⟩ Hk
  iapply (Transfers.wp_waitLocalO countersEmb 𝒱₀ (thr d L) none (default : HIx 1) rfl) $$ [Hfl HO Hmw]
  · isplitl [Hfl]; · iexact Hfl
    isplitl [HO]; · iexact HO
    iapply (Transfers.MayWaits.elim (SemLoc.dma cc0_scoped4.sem)) $$ Hmw
  iintro ⟨⟨Hb, HfR, HfI⟩, Hvg, HO⟩
  rw [wp_ret]
  imodintro
  iapply Hk
  unfold rowFree idxFree free
  isplitl [HvR HfR Hy]
  · isplitl [HvR]; · iexact HvR
    isplitl [HfR]; · iexact HfR
    iexact Hy
  isplitl [HvI HfI Hi]
  · isplitl [HvI]; · iexact HvI
    isplitl [HfI]; · iexact HfI
    iexact Hi
  isplitl [Hdone Hb]
  · rw [rowsOf_split m d L (Nat.zero_le t) (Nat.le_succ t)]
    iapply (pointsTo_union (q := fullShare) (f := G m d) (rowsOf_disjoint m d L hpre (a := 0) (b := t) (c := t + 1))).2
    isplitl [Hdone] <;> iassumption
  isplitl [Hvg]; · iexact Hvg
  iapply (owing_insert d L hW') $$ HO

end Cert.Proof.Scatter

end
-- ==== Proof.ScatterTile.lean ====
/-
  One tile's task. Before trip `t` of the pipelined loop the rows and the index words of block `t` are in flight to their
  slots, the other slots free; the trip issues the two next copies, awaits its own two, scatters the rows through the
  words and awaits the scatter. After the eight trips the rows of the result that the tile's words name are written.
-/
module

public import proofs.«01_k».proof.Proof.ScatterMoves

@[expose] public section

set_option maxRecDepth 16384

noncomputable section

namespace Cert.Proof.Scatter

open Cert.ScatterIdeal Cert.ScatterIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)

local notation "yV" => (Memref.whole Cert.ScatterIdeal.main_v2_scv : Memref Cert.ScatterIdeal.sig Kind.scVector Space.hbm Cert.ScatterIdeal.S32768x128 EltTy.f32)
local notation "iV" => (Memref.whole Cert.ScatterIdeal.main_v1_scv : Memref Cert.ScatterIdeal.sig Kind.scVector Space.hbm Cert.ScatterIdeal.S1x32768 EltTy.i32)
local notation "zV" => (Memref.whole Cert.ScatterIdeal.main_v3_scv : Memref Cert.ScatterIdeal.sig Kind.scVector Space.hbm Cert.ScatterIdeal.S131072x128 EltTy.f32)
local notation "rV" => (Memref.whole Cert.ScatterIdeal.cc0_scoped0 : Memref Cert.ScatterIdeal.sig Kind.scVector Space.vmem Cert.ScatterIdeal.S2x128x128 EltTy.f32)
local notation "sV" => (Memref.whole Cert.ScatterIdeal.cc0_scoped2 : Memref Cert.ScatterIdeal.sig Kind.scVector Space.vmem Cert.ScatterIdeal.S2x1x128 EltTy.i32)

local notation "WP" => wp frame (wpE (defs₀ (F := F)) 𝒱₀ (thr d L) none) Set.univ

/-- The counters before a trip of the loop. -/
abbrev counters (t : ℕ) : BitVec 32 × BitVec 32 × BitVec 32 × BitVec 32 × BitVec 32 :=
  (BitVec.ofNat 32 (min (t + 1) 8), BitVec.ofNat 32 t, BitVec.ofNat 32 (min (t + 1) 8), BitVec.ofNat 32 t, BitVec.ofNat 32 t)

/-- A block's copy in flight while there is a block, its slot free after the last. -/
def rowNext (q : PosShare TreeShare) (t : ℕ) : sProp 𝕄 := if t < 8 then rowFlight m d L q t else rowFree m d L q t
def idxNext (q : PosShare TreeShare) (t : ℕ) : sProp 𝕄 := if t < 8 then idxFlight m d L q t else idxFree m d L q t

theorem rowNext_lt (q : PosShare TreeShare) {t : ℕ} (h : t < 8) : rowNext m d L q t = rowFlight m d L q t := if_pos h
theorem rowNext_last (q : PosShare TreeShare) {t : ℕ} (h : ¬ t < 8) : rowNext m d L q t = rowFree m d L q t := if_neg h
theorem idxNext_lt (q : PosShare TreeShare) {t : ℕ} (h : t < 8) : idxNext m d L q t = idxFlight m d L q t := if_pos h
theorem idxNext_last (q : PosShare TreeShare) {t : ℕ} (h : ¬ t < 8) : idxNext m d L q t = idxFree m d L q t := if_neg h

/-- Before trip `t`. -/
def Inv (q : PosShare TreeShare) (O : CellTallies nD τ sig (HIx 1)) (W : Waits sig (HIx 1)) (t : ℕ)
    (acc : BitVec 32 × BitVec 32 × BitVec 32 × BitVec 32 × BitVec 32) : sProp 𝕄 :=
  iprop(⌜acc = carried t⌝ ∗ Transfers.MayWaits (thr d L) (default : HIx 1) O
    ∗ rowNext m d L q t ∗ rowFree m d L q (t + 1) ∗ idxNext m d L q t ∗ idxFree m d L q (t + 1)
    ∗ done m d L t ∗ todo m d L t ∗ semVal (thr d L, SemLoc.dma cc0_scoped4.sem) 0 ∗ owing d L O W)

/-- What the first part of trip `t` hands on: its side conditions and the words it computed. -/
abbrev handed (t : Fin k0_t1_loop.trips) : Σ' (_ : k0_chk3 (BitVec.ofNat 32 t.val)) (_ : k0_chk2 (BitVec.ofNat 32 t.val))
    (_ : k0_chk1 L t (BitVec.ofNat 32 (min (t.val + 1) 8)) (BitVec.ofNat 32 t.val) (BitVec.ofNat 32 (min (t.val + 1) 8)) (BitVec.ofNat 32 t.val) (BitVec.ofNat 32 t.val))
    (_ : BitVec 32) (_ : BitVec 1) (_ : BitVec 1) (_ : BitVec 32) (_ : BitVec 32) (_ : BitVec 32) (_ : BitVec 32) (_ : BitVec 1), BitVec 1 :=
  ⟨chk3_all t, chk2_all t, chk1_all L t, BitVec.ofNat 32 t.val, BitVec.ofBool (t.val = 0), BitVec.ofBool (t.val = 7),
    baseW L + BitVec.ofNat 32 t.val, baseW L + BitVec.ofNat 32 ((t.val + 7) % 8), baseW L + BitVec.ofNat 32 ((t.val + 1) % 8),
    BitVec.ofNat 32 (min (t.val + 2) 8), BitVec.ofBool (t.val < 7), 1#1⟩

theorem part1 (q : PosShare TreeShare) (t : Fin k0_t1_loop.trips) (ht : t.val < 8) {Q : _ → sProp (MT nD τ sig (HIx 1) (Elt F) ℕ UU ℕ)} :
    rowFree m d L q (t.val + 1) ⊢ iprop((rowNext m d L q (t.val + 1) -∗ Q (handed L t))
      -∗ WP (k0_part1 L yV (Memref.isWhole_whole _) iV (Memref.isWhole_whole _) zV (Memref.isWhole_whole _)
            rV (Memref.isWhole_whole _) cc0_scoped1 sV (Memref.isWhole_whole _) cc0_scoped3 cc0_scoped4 (baseW L) 0#32 1#32 t
            (BitVec.ofNat 32 (min (t.val + 1) 8)) (BitVec.ofNat 32 t.val) (BitVec.ofNat 32 (min (t.val + 1) 8)) (BitVec.ofNat 32 t.val) (BitVec.ofNat 32 t.val)) Q) := by
  rw [k0_part1_eq_skeleton]
  unfold k0_part1_skel
  have hc3 := chk3_all t
  have hc2 := chk2_all t
  have hc1 := chk1_all L t
  iintro HiB Hk
  sl_exec
  rw [(by decide +kernel : ∀ (t : Fin k0_t1_loop.trips), part1.sl.arg5_r0 t = BitVec.ofNat 32 t.val) t,
    (by decide +kernel : ∀ (t : Fin k0_t1_loop.trips), part1.sl.v65_r0 t = BitVec.ofBool (t.val = 0)) t,
    (by decide +kernel : ∀ (t : Fin k0_t1_loop.trips), part1.sl.v66_r0 t = BitVec.ofBool (t.val = 7)) t,
    (by decide +kernel : ∀ L (t : Fin k0_t1_loop.trips), part1.sl.v67_r0 L t = baseW L + BitVec.ofNat 32 t.val) L t,
    (by decide +kernel : ∀ L (t : Fin k0_t1_loop.trips), part1.sl.v72_r0 L t = baseW L + BitVec.ofNat 32 ((t.val + 7) % 8)) L t,
    (by decide +kernel : ∀ L (t : Fin k0_t1_loop.trips), part1.sl.v77_r0 L t = baseW L + BitVec.ofNat 32 ((t.val + 1) % 8)) L t]
  by_cases h7 : t.val < 7
  · rw [dif_pos (cond1_lt L t h7)]
    have hmin : min (t.val + 1) 8 = t.val + 1 := by omega
    have e7 : k0_off7 L (BitVec.ofNat 32 t.val) = ![128 * (base L + (t.val + 1) % 8), 0] := by
      rw [Nat.mod_eq_of_lt (by omega)]; exact off7_at L ⟨t.val, h7⟩
    have e6 : k0_off6 (BitVec.ofNat 32 (min (t.val + 1) 8)) = ![(t.val + 1) % 2, 0, 0] := by rw [hmin]; exact off6_at ⟨t.val + 1, by omega⟩
    have e8 : k0_off8 (BitVec.ofNat 32 (min (t.val + 1) 8)) = ![(t.val + 1) % 2] := by rw [hmin]; exact off8_at ⟨t.val + 1, by omega⟩
    rw [wp_bind]
    iapply (wp_copyIn d L (qs q (t.val + 1)) (src := blkY L (t.val + 1)) (f₀ := rowsIn m d) (blkY_of e7 _ _) (slotR_of e6 _ _) (semR_of e8 _) (by decide)) $$ HiB
    iintro HiB
    sl_exec
    rw [wp_ret]
    imodintro
    rw [(by decide +kernel : ∀ L (t : Fin k0_t1_loop.trips), part1.sl.v92_r0 L t = BitVec.ofNat 32 (min (t.val + 2) 8)) L t,
      (by decide +kernel : ∀ L (t : Fin k0_t1_loop.trips), part1.sl.v96_r0 L t = BitVec.ofBool (t.val < 7)) L t]
    iapply Hk
    rw [rowNext_lt m d L q (show t.val + 1 < 8 by omega)]
    iexact HiB
  · rw [dif_neg (cond1_last L t h7)]
    sl_exec
    rw [wp_ret]
    imodintro
    rw [(by decide +kernel : ∀ L (t : Fin k0_t1_loop.trips), part1.sl.v92_r0_1 L t = BitVec.ofNat 32 (min (t.val + 2) 8)) L t,
      (by decide +kernel : ∀ L (t : Fin k0_t1_loop.trips), part1.sl.v96_r0_1 L t = BitVec.ofBool (t.val < 7)) L t]
    iapply Hk
    rw [rowNext_last m d L q (show ¬ t.val + 1 < 8 by omega)]
    iexact HiB

theorem part2 (hpre : PreOK m) (q : PosShare TreeShare) (O : CellTallies nD τ sig (HIx 1)) (W : Waits sig (HIx 1)) (t : Fin k0_t1_loop.trips) (ht : t.val < 8)
    {Q : BitVec 32 → sProp (MT nD τ sig (HIx 1) (Elt F) ℕ UU ℕ)} {h3 h2 h1 a5 a65 a67 a72 a77} :
    iprop(rowFlight m d L q t.val ∗ idxFlight m d L q t.val ∗ idxFree m d L q (t.val + 1) ∗ todo m d L t.val
        ∗ semVal (thr d L, SemLoc.dma cc0_scoped4.sem) 0 ∗ owing d L O W ∗ Transfers.MayWaits (thr d L) (default : HIx 1) O)
      ⊢ iprop(((idxNext m d L q (t.val + 1) ∗ scatFlight m d L t.val ∗ aside m d L q t.val ∗ todo m d L (t.val + 1) ∗ owing d L O W)
          -∗ Q (BitVec.ofNat 32 (min (t.val + 2) 8)))
      -∗ WP (k0_part2 L yV (Memref.isWhole_whole _) iV (Memref.isWhole_whole _) zV (Memref.isWhole_whole _)
            rV (Memref.isWhole_whole _) cc0_scoped1 sV (Memref.isWhole_whole _) cc0_scoped3 cc0_scoped4 t
            (BitVec.ofNat 32 (min (t.val + 1) 8)) (BitVec.ofNat 32 t.val) (BitVec.ofNat 32 (min (t.val + 1) 8)) (BitVec.ofNat 32 t.val) (BitVec.ofNat 32 t.val)
            h3 h2 h1 a5 a65 a67 a72 a77 (BitVec.ofBool (t.val < 7)) 1#1) Q) := by
  rw [k0_part2_eq_skeleton]
  unfold k0_part2_skel
  iintro ⟨HrA, HiA, HiB, Htodo, Hvg, HO, #Hmw⟩ Hk
  by_cases h7 : t.val < 7
  on_goal 1 =>
    rw [dif_pos (cond2_lt L t h7)]
    have hmin : min (t.val + 1) 8 = t.val + 1 := by omega
    have e10 : k0_off10 L (BitVec.ofNat 32 t.val) = ![0, 128 * (base L + (t.val + 1) % 8)] := by
      rw [Nat.mod_eq_of_lt (by omega)]; exact off10_at L ⟨t.val, h7⟩
    have e9 : k0_off9 (BitVec.ofNat 32 (min (t.val + 1) 8)) = ![(t.val + 1) % 2, 0, 0] := by rw [hmin]; exact off9_at ⟨t.val + 1, by omega⟩
    have e11 : k0_off11 (BitVec.ofNat 32 (min (t.val + 1) 8)) = ![(t.val + 1) % 2] := by rw [hmin]; exact off11_at ⟨t.val + 1, by omega⟩
    rw [wp_bind]
    iapply (wp_copyIn d L (qs q (t.val + 1)) (src := blkI L (t.val + 1)) (f₀ := listIn m d) (blkI_of e10 _ _) (slotI_of e9 _ _) (semI_of e11 _) (by decide)) $$ HiB
    iintro HiB
    ihave HiB := (Entails.of_eq (idxNext_lt m d L q (show t.val + 1 < 8 by omega)).symm) $$ HiB
  on_goal 2 =>
    rw [dif_neg (cond2_last L t h7)]
    ihave HiB := (Entails.of_eq (idxNext_last m d L q (show ¬ t.val + 1 < 8 by omega)).symm) $$ HiB
  all_goals
    rw [dif_pos (cond3_all L t)]
    rw [wp_bind]
    iapply (wp_waitIn d L (qs q t.val) (src := blkY L t.val) (f₀ := rowsIn m d) (slotR_of (off12_at ⟨t.val, ht⟩) _ _) (semR_of (off14_at ⟨t.val, ht⟩) _)) $$ [HrA HO]
    · isplitl [HrA]; · iexact HrA
      isplitl [HO]; · iexact HO
      iexact Hmw
    iintro ⟨HrA, HO⟩
    rw [dif_pos (cond4_all L t)]
    rw [wp_bind]
    iapply (wp_waitIn d L (qs q t.val) (src := blkI L t.val) (f₀ := listIn m d) (slotI_of (off15_at ⟨t.val, ht⟩) _ _) (semI_of (off17_at ⟨t.val, ht⟩) _)) $$ [HiA HO]
    · isplitl [HiA]; · iexact HiA
      isplitl [HO]; · iexact HO
      iexact Hmw
    iintro ⟨HiA, HO⟩
    simp only [wp_bind]
    have HG := fun (Q₀ : PUnit.{1} → sProp (MT nD τ sig (HIx 1) (Elt F) ℕ UU ℕ)) hp hn he hsp hr => wp_scatter (Q := Q₀) m d L hpre q t.val ht
      (slotR_of (off18_at ⟨t.val, ht⟩) (k0_off18_inb _ h2) (fun _ => rfl))
      (congrArg (fun v : Memref sig .scVector .vmem S1x128 .i32 => (v.slice (Rect.unit (s := S1x128) ![0, 0] S1x128.size inb_S1x128_S1x128_0_0) (fun _ => rfl)).squeeze S128 squeezes_S1x128_S128)
        (slotI_of (off19_at ⟨t.val, ht⟩) (k0_off19_inb _ h3) (fun _ => rfl))) (hp := hp) (hn := hn) (he := he) (hsp := hsp) (hr := hr)
    simp only [wp_bind] at HG
    iapply (HG _ trivial rfl rfl (Or.inl trivial) (by decide)) $$ [HrA HiA Htodo Hvg]
    · isplitl [HrA]; · iexact HrA
      isplitl [HiA]; · iexact HiA
      isplitl [Htodo]; · iexact Htodo
      iexact Hvg
    iintro ⟨Hsc, Has, Htodo⟩
    rw [(by decide +kernel : ∀ (t : Fin k0_t1_loop.trips), Scalar.select (Scalar.andi (BitVec.ofBool (t.val < 7)) 1#1)
      (Scalar.addi (BitVec.ofNat 32 (min (t.val + 1) 8)) 1#32) (BitVec.ofNat 32 (min (t.val + 1) 8)) = BitVec.ofNat 32 (min (t.val + 2) 8)) t]
    iapply Hk
    isplitl [HiB]; · iexact HiB
    isplitl [Hsc]; · iexact Hsc
    isplitl [Has]; · iexact Has
    isplitl [Htodo]; · iexact Htodo
    iexact HO

theorem trip_body (hpre : PreOK m) (q : PosShare TreeShare) (O : CellTallies nD τ sig (HIx 1)) (W : Waits sig (HIx 1)) (t : Fin k0_t1_loop.trips) (ht : t.val < 8) :
    iprop(Transfers.MayWaits (thr d L) (default : HIx 1) O
        ∗ rowFlight m d L q t.val ∗ rowFree m d L q (t.val + 1) ∗ idxFlight m d L q t.val ∗ idxFree m d L q (t.val + 1)
        ∗ done m d L t.val ∗ todo m d L t.val ∗ semVal (thr d L, SemLoc.dma cc0_scoped4.sem) 0 ∗ owing d L O W)
      ⊢ WP (k0_t1_body L yV (Memref.isWhole_whole _) iV (Memref.isWhole_whole _) zV (Memref.isWhole_whole _)
            rV (Memref.isWhole_whole _) cc0_scoped1 sV (Memref.isWhole_whole _) cc0_scoped3 cc0_scoped4 (baseW L) (Scalar.addi 0#32 (baseW L)) t (counters t.val))
          (Inv m d L q O W (t.val + 1)) := by
  unfold k0_t1_body
  simp only [counters]
  iintro ⟨#Hmw, HrA, HrB, HiA, HiB, Hdone, Htodo, Hvg, HO⟩
  rw [wp_bind]
  iapply (part1 m d L q t ht) $$ HrB
  iintro HrB
  rw [wp_bind]
  iapply (part2 m d L hpre q O W t ht) $$ [HrA HiA HiB Htodo Hvg HO]
  · isplitl [HrA]; · iexact HrA
    isplitl [HiA]; · iexact HiA
    isplitl [HiB]; · iexact HiB
    isplitl [Htodo]; · iexact Htodo
    isplitl [Hvg]; · iexact Hvg
    isplitl [HO]; · iexact HO
    iexact Hmw
  iintro ⟨HiB, Hsc, Has, Htodo, HO⟩
  rw [wp_bind]
  iapply (wp_scatterWait m d L hpre q t.val ht (slotR_of (off18_at ⟨t.val, ht⟩) _ _)) $$ [Hsc Has Hdone HO]
  · isplitl [Hsc]; · iexact Hsc
    isplitl [Has]; · iexact Has
    isplitl [Hdone]; · iexact Hdone
    isplitl [HO]; · iexact HO
    iexact Hmw
  iintro ⟨HrA, HiA, Hdone, Hvg, HO⟩
  simp only [ite_self]
  rw [wp_pure]
  imodintro
  unfold Inv
  isplitr
  · ipureintro
    revert L t; decide +kernel
  isplitr; · iexact Hmw
  isplitl [HrB]; · iexact HrB
  isplitl [HrA]; · rw [show t.val + 1 + 1 = t.val + 2 from rfl, rowFree_two]; iexact HrA
  isplitl [HiB]; · iexact HiB
  isplitl [HiA]; · rw [show t.val + 1 + 1 = t.val + 2 from rfl, idxFree_two]; iexact HiA
  isplitl [Hdone]; · iexact Hdone
  isplitl [Htodo]; · iexact Htodo
  isplitl [Hvg]; · iexact Hvg
  iexact HO

theorem rowsOf_none : rowsOf m d L 0 0 = ∅ := by
  ext x; rw [mem_rowsOf]
  simp only [Finset.notMem_empty, iff_false]
  rintro ⟨r, h1, h2, -⟩; omega

/-- One trip of the loop keeps the invariant. -/
theorem trip (hpre : PreOK m) (q : PosShare TreeShare) (O : CellTallies nD τ sig (HIx 1)) (W : Waits sig (HIx 1)) (t : Fin k0_t1_loop.trips)
    (acc : BitVec 32 × BitVec 32 × BitVec 32 × BitVec 32 × BitVec 32) :
    Inv m d L q O W t.val acc
      ⊢ WP (k0_t1_body L yV (Memref.isWhole_whole _) iV (Memref.isWhole_whole _) zV (Memref.isWhole_whole _)
            rV (Memref.isWhole_whole _) cc0_scoped1 sV (Memref.isWhole_whole _) cc0_scoped3 cc0_scoped4 (baseW L) (Scalar.addi 0#32 (baseW L)) t acc)
          (Inv m d L q O W (t.val + 1)) := by
  have ht : t.val < 8 := lt_of_lt_of_eq t.isLt trips_eq
  unfold Inv
  iintro ⟨%hacc, Hmw, HrA, HrB, HiA, HR⟩
  subst hacc
  rw [(by unfold carried counters; rw [Nat.mod_eq_of_lt ht] : carried t.val = counters t.val)]
  iapply (trip_body m d L hpre q O W t ht)
  isplitl [Hmw]; · iexact Hmw
  isplitl [HrA]; · iapply (Entails.of_eq (rowNext_lt m d L q ht)) $$ HrA
  isplitl [HrB]; · iexact HrB
  isplitl [HiA]; · iapply (Entails.of_eq (idxNext_lt m d L q ht)) $$ HiA
  iexact HR

/-- One tile's task over what its slots hold: the rows its words name are written. -/
theorem tile_core (hpre : PreOK m) (q : PosShare TreeShare) (O : CellTallies nD τ sig (HIx 1)) (W : Waits sig (HIx 1)) :
    iprop(Transfers.MayWaits (thr d L) (default : HIx 1) O
        ∗ rowFree m d L q 0 ∗ rowFree m d L q 1 ∗ idxFree m d L q 0 ∗ idxFree m d L q 1 ∗ todo m d L 0
        ∗ semVal (thr d L, SemLoc.dma cc0_scoped4.sem) 0 ∗ owing d L O W)
      ⊢ WP (cc0_run L yV (Memref.isWhole_whole _) iV (Memref.isWhole_whole _) zV (Memref.isWhole_whole _)
            rV (Memref.isWhole_whole _) cc0_scoped1 sV (Memref.isWhole_whole _) cc0_scoped3 cc0_scoped4)
          fun _ => iprop(rowFree m d L q 0 ∗ rowFree m d L q 1 ∗ idxFree m d L q 0 ∗ idxFree m d L q 1 ∗ done m d L 8
            ∗ semVal (thr d L, SemLoc.dma cc0_scoped4.sem) 0 ∗ owing d L O W) := by
  rw [cc0_run_eq_skeleton]
  unfold cc0_run_skel
  rw [k0_part3_eq_skeleton, k0_part4_eq_skeleton]
  unfold k0_part3_skel k0_part4_skel
  iintro ⟨#Hmw, HrA, HrB, HiA, HiB, Htodo, Hvg, HO⟩
  rw [wp_bind, wp_bind]
  iapply (wp_copyIn d L (qs q 0) (src := blkY L 0) (f₀ := rowsIn m d) (blkY_of (off2_at L) _ _) (slotR_of k0_off1_eq _ _) (semR_of k0_off3_eq _) (by decide)) $$ HrA
  iintro HrA
  rw [wp_pure]
  imodintro
  rw [wp_bind, wp_bind]
  iapply (wp_copyIn d L (qs q 0) (src := blkI L 0) (f₀ := listIn m d) (blkI_of (off5_at L) _ _) (slotI_of k0_off4_eq _ _) (semI_of k0_off3_eq _) (by decide)) $$ HiA
  iintro HiA
  rw [wp_bind]
  iapply (Scf.wp_for _ _ _ _ _ _ k0_t1_ok _ _ (Inv m d L q O W) (trip m d L hpre q O W))
  isplitl [HrA HrB HiA HiB Htodo Hvg HO]
  · unfold Inv
    isplitr; · ipureintro; decide +kernel
    isplitr; · iexact Hmw
    isplitl [HrA]; · rw [rowNext_lt m d L q (by decide)]; iexact HrA
    isplitl [HrB]; · iexact HrB
    isplitl [HiA]; · rw [idxNext_lt m d L q (by decide)]; iexact HiA
    isplitl [HiB]; · iexact HiB
    isplitr; · unfold done; rw [rowsOf_none, pointsTo_empty]; iempintro
    isplitl [Htodo]; · iexact Htodo
    isplitl [Hvg]; · iexact Hvg
    iexact HO
  iintro %acc HI
  ihave HI := (Entails.of_eq (congrArg (fun n => Inv m d L q O W n acc) (trips_eq : Scf.trips k0_t1_loop.lb k0_t1_loop.ub k0_t1_loop.st = 8))) $$ HI
  unfold Inv
  icases HI with ⟨%hacc, -, HrA, HrB, HiA, HiB, Hdone, -, Hvg, HO⟩
  subst hacc
  unfold carried
  rw [wp_pure]
  imodintro
  rw [wp_pure]
  imodintro
  have eR : ∀ n, (rowFree m d L q (n + 8) : sProp 𝕄) = rowFree m d L q n := fun n =>
    (rowFree_two m d L q (n + 6)).trans ((rowFree_two m d L q (n + 4)).trans ((rowFree_two m d L q (n + 2)).trans (rowFree_two m d L q n)))
  have eI : ∀ n, (idxFree m d L q (n + 8) : sProp 𝕄) = idxFree m d L q n := fun n =>
    (idxFree_two m d L q (n + 6)).trans ((idxFree_two m d L q (n + 4)).trans ((idxFree_two m d L q (n + 2)).trans (idxFree_two m d L q n)))
  ihave HrA := (Entails.of_eq ((rowNext_last m d L q (by decide)).trans (eR 0))) $$ HrA
  ihave HrB := (Entails.of_eq (eR 1)) $$ HrB
  ihave HiA := (Entails.of_eq ((idxNext_last m d L q (by decide)).trans (eI 0))) $$ HiA
  ihave HiB := (Entails.of_eq (eI 1)) $$ HiB
  isplitl [HrA]; · iexact HrA
  isplitl [HrB]; · iexact HrB
  isplitl [HiA]; · iexact HiA
  isplitl [HiB]; · iexact HiB
  isplitl [Hdone]; · iexact Hdone
  isplitl [Hvg]; · iexact Hvg
  iexact HO

end Cert.Proof.Scatter

end
-- ==== Proof.ScatterTask.lean ====
/-
  The scatter's tasks: what a tile is handed and hands back, in terms of its scratch and its counters; the rows, the
  index list and the named rows of the result dealt to the two SparseCores and their sixteen tiles each. The rows of the
  result that no word names stay with the TensorCore.
-/
module

public import proofs.«01_k».proof.Proof.ScatterTile
public import proofs.«01_k».proof.Proof.Shared
public import Idealize.ShloMosaic.Lib.ShareLeaves

@[expose] public section

set_option maxRecDepth 16384

noncomputable section

namespace Cert.Proof.Scatter

open Cert.ScatterIdeal Cert.ScatterIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Shared
open Idealize.ShloMosaic.ShareLeaves (leaf pointsTo_leaves)

variable {F : FTy → Type}

local notation "𝕄" => MT nD τ sig (HIx 1) (Elt F) ℕ UU ℕ

variable [FloatOps F] (m : (ℓ : Loc nD τ sig) → Buf (Elt F) ℓ) (d : Dev nD) (L : grid0.Coords)

local notation "yV" => (Memref.whole Cert.ScatterIdeal.main_v2_scv : Memref Cert.ScatterIdeal.sig Kind.scVector Space.hbm Cert.ScatterIdeal.S32768x128 EltTy.f32)
local notation "iV" => (Memref.whole Cert.ScatterIdeal.main_v1_scv : Memref Cert.ScatterIdeal.sig Kind.scVector Space.hbm Cert.ScatterIdeal.S1x32768 EltTy.i32)
local notation "zV" => (Memref.whole Cert.ScatterIdeal.main_v3_scv : Memref Cert.ScatterIdeal.sig Kind.scVector Space.hbm Cert.ScatterIdeal.S131072x128 EltTy.f32)
local notation "rV" => (Memref.whole Cert.ScatterIdeal.cc0_scoped0 : Memref Cert.ScatterIdeal.sig Kind.scVector Space.vmem Cert.ScatterIdeal.S2x128x128 EltTy.f32)
local notation "sV" => (Memref.whole Cert.ScatterIdeal.cc0_scoped2 : Memref Cert.ScatterIdeal.sig Kind.scVector Space.vmem Cert.ScatterIdeal.S2x1x128 EltTy.i32)

/-! ## A scratch buffer and its two slots -/

omit [FloatOps F] in
theorem slotsR : (iprop(∃ f, (thr d L).loc cc0_scoped0 ↦{fullShare} f) : sProp 𝕄)
    = iprop((∃ f, (slotR 0).view.loc (thr d L) ↦[(slotR 0).view.set]{fullShare} f) ∗ ∃ f, (slotR 1).view.loc (thr d L) ↦[(slotR 1).view.set]{fullShare} f) := by
  refine halves (ℓ := (thr d L).loc cc0_scoped0) (A := (slotR 0).view.set) (B := (slotR 1).view.set) ?_ ?_
  · exact Finset.disjoint_left.mpr fun x h h' => absurd (((mem_slotR 0 x).mp h).symm.trans ((mem_slotR 1 x).mp h')) (by decide)
  · refine Finset.eq_univ_of_forall fun x => Finset.mem_union.mpr ?_
    have hx : ((x : S2x128x128.Idx) 0).val < 2 := ((x : S2x128x128.Idx) 0).isLt
    by_cases h : ((x : S2x128x128.Idx) 0).val = 0
    · exact .inl ((mem_slotR 0 x).mpr h)
    · exact .inr ((mem_slotR 1 x).mpr (show _ = 1 by omega))
omit [FloatOps F] in
theorem slotsI : (iprop(∃ f, (thr d L).loc cc0_scoped2 ↦{fullShare} f) : sProp 𝕄)
    = iprop((∃ f, (slotI 0).view.loc (thr d L) ↦[(slotI 0).view.set]{fullShare} f) ∗ ∃ f, (slotI 1).view.loc (thr d L) ↦[(slotI 1).view.set]{fullShare} f) := by
  refine halves (ℓ := (thr d L).loc cc0_scoped2) (A := (slotI 0).view.set) (B := (slotI 1).view.set) ?_ ?_
  · exact Finset.disjoint_left.mpr fun x h h' => absurd (((mem_slotI 0 x).mp h).symm.trans ((mem_slotI 1 x).mp h')) (by decide)
  · refine Finset.eq_univ_of_forall fun x => Finset.mem_union.mpr ?_
    have hx : ((x : S2x1x128.Idx) 0).val < 2 := ((x : S2x1x128.Idx) 0).isLt
    by_cases h : ((x : S2x1x128.Idx) 0).val = 0
    · exact .inl ((mem_slotI 0 x).mpr h)
    · exact .inr ((mem_slotI 1 x).mpr (show _ = 1 by omega))

/-! ## A tile's own buffers and counters -/

/-- The five counters a tile's copies credit. -/
def cells : Finset (SemLoc sig) := {.dma (semR 0), .dma (semR 1), .dma (semI 0), .dma (semI 1), .dma cc0_scoped4.sem}

omit [FloatOps F] in
theorem cells_own : cells.map ⟨fun s => (thr d L, s), fun _ _ h => (Prod.mk.inj h).2⟩ ⊆ ownCells (thr d L) := by
  intro g hg
  obtain ⟨s, hs, rfl⟩ := Finset.mem_map.mp hg
  exact mem_ownCells.mpr ⟨rfl, (by decide : ∀ s ∈ cells, s.isScoped .scVector = true) s hs⟩

omit [FloatOps F] in
theorem ownSems0_tile :
    (ownSems0 (thr d L) : sProp 𝕄)
      = iprop((semVal (thr d L, SemLoc.dma (semR 0)) 0 ∗ semVal (thr d L, SemLoc.dma (semR 1)) 0
          ∗ semVal (thr d L, SemLoc.dma (semI 0)) 0 ∗ semVal (thr d L, SemLoc.dma (semI 1)) 0 ∗ semVal (thr d L, SemLoc.dma cc0_scoped4.sem) 0)
          ∗ bigSep (ownCells (thr d L) \ cells.map ⟨fun s => (thr d L, s), fun _ _ h => (Prod.mk.inj h).2⟩) fun g => semVal g 0) := by
  unfold SparseCore.Cfg.ownSems0
  rw [SparseCore.bigSep_sdiff_split' (cells_own d L), bigSep_map, cells,
    SparseCore.bigSep_insert' (by decide), SparseCore.bigSep_insert' (by decide), SparseCore.bigSep_insert' (by decide),
    SparseCore.bigSep_insert' (by decide), bigSep_singleton]
  rfl

omit [FloatOps F] in
theorem ownBufs_tile :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## What is dealt, and the task -/

/-- The rows and the index list at a share, and some rows of the result. -/
def part (q : PosShare TreeShare) (rows : Finset S131072x128.Idx) (f : Buf (Elt F) (zLoc d)) : sProp 𝕄 :=
  iprop((yLoc d ↦{q} rowsIn m d) ∗ (iLoc d ↦{q} listIn m d) ∗ zLoc d ↦[rows]{fullShare} f)

instance part_storable (q : PosShare TreeShare) (rows : Finset S131072x128.Idx) (f : Buf (Elt F) (zLoc d)) :
    BI.Storable (upEmb : UEmb _ (MT nD τ sig (HIx 1) (Elt F) ℕ UU ℕ)) (part m d q rows f) := by
  unfold part; infer_instance

/-- A tile's counters at zero, its scratch, and its share of the arrays it copies from: what its slots, all free, hold. -/
def slotParts (q : PosShare TreeShare) : sProp 𝕄 :=
  iprop((semVal (thr d L, SemLoc.dma (semR 0)) 0 ∗ semVal (thr d L, SemLoc.dma (semR 1)) 0
          ∗ semVal (thr d L, SemLoc.dma (semI 0)) 0 ∗ semVal (thr d L, SemLoc.dma (semI 1)) 0)
        ∗ (held d L (slotR 0) ∗ held d L (slotR 1)) ∗ (held d L (slotI 0) ∗ held d L (slotI 1))
        ∗ (yLoc d ↦{q} rowsIn m d) ∗ iLoc d ↦{q} listIn m d)

theorem slots_free (q : PosShare TreeShare) :
    slotParts m d L q ⊢ (iprop(rowFree m d L q 0 ∗ rowFree m d L q 1 ∗ idxFree m d L q 0 ∗ idxFree m d L q 1) : sProp 𝕄) := by
  unfold slotParts
  unfold rowFree idxFree free
  iintro ⟨⟨Ha, Hb, Hc, Hd⟩, ⟨HR0, HR1⟩, ⟨HI0, HI1⟩, Hy, Hi⟩
  ihave Hy := (pointsTo_share (PosShare.mem_left_op_right q)).1 $$ Hy
  icases Hy with ⟨Hy0, Hy1⟩
  ihave Hi := (pointsTo_share (PosShare.mem_left_op_right q)).1 $$ Hi
  icases Hi with ⟨Hi0, Hi1⟩
  isplitl [Ha HR0 Hy0]
  · isplitl [Ha]; · iexact Ha
    isplitl [HR0]; · iexact HR0
    iexact Hy0
  isplitl [Hb HR1 Hy1]
  · isplitl [Hb]; · iexact Hb
    isplitl [HR1]; · iexact HR1
    iexact Hy1
  isplitl [Hc HI0 Hi0]
  · isplitl [Hc]; · iexact Hc
    isplitl [HI0]; · iexact HI0
    iexact Hi0
  isplitl [Hd]; · iexact Hd
  isplitl [HI1]; · iexact HI1
  iexact Hi1

theorem slots_of_free (q : PosShare TreeShare) :
    (iprop(rowFree m d L q 0 ∗ rowFree m d L q 1 ∗ idxFree m d L q 0 ∗ idxFree m d L q 1) : sProp 𝕄) ⊢ slotParts m d L q := by
  unfold slotParts
  unfold rowFree idxFree free
  iintro ⟨⟨Ha, HR0, Hy0⟩, ⟨Hb, HR1, Hy1⟩, ⟨Hc, HI0, Hi0⟩, ⟨Hd, HI1, Hi1⟩⟩
  isplitl [Ha Hb Hc Hd]
  · isplitl [Ha]; · iexact Ha
    isplitl [Hb]; · iexact Hb
    isplitl [Hc]; · iexact Hc
    iexact Hd
  isplitl [HR0 HR1]
  · isplitl [HR0]; · iexact HR0
    iexact HR1
  isplitl [HI0 HI1]
  · isplitl [HI0]; · iexact HI0
    iexact HI1
  isplitl [Hy0 Hy1]
  · iapply (pointsTo_share (PosShare.mem_left_op_right q)).2
    isplitl [Hy0]; · iexact Hy0
    iexact Hy1
  iapply (pointsTo_share (PosShare.mem_left_op_right q)).2
  isplitl [Hi0]; · iexact Hi0
  iexact Hi1

theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ part m d q (rowsOf m d L 0 8) (m (zLoc d))
        ∗ scopedBufs (thr d L) ∗ scopedSems0 (thr d L) ∗ owes (thr d L) O W)
      ⊢ wp frame (wpE (defs₀ (F := F)) 𝒱₀ (thr d L) none) Set.univ
          (cc0_run L yV (Memref.isWhole_whole _) iV (Memref.isWhole_whole _) zV (Memref.isWhole_whole _)
            rV (Memref.isWhole_whole _) cc0_scoped1 sV (Memref.isWhole_whole _) cc0_scoped3 cc0_scoped4)
          fun _ => iprop(part m d q (rowsOf m d L 0 8) (G m d)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  rw [ownSems0_tile, ownBufs_tile, slotsR, slotsI]
  unfold part
  iintro ⟨#Hlv, -, ⟨Hy, Hi, Hz⟩, ⟨HR, HI, Hbufs⟩, ⟨⟨Ha, Hb, Hc, Hd, He⟩, Hsems⟩, HO⟩
  ihave Hmw := (show levAts (K (F := F)).L (K (F := F)).lev ⊢ Transfers.MayWaits (thr d L) (default : HIx 1) O from
    (K (F := F)).mayWaits_none (thr := thr d L) hO) $$ Hlv
  ihave H := (slots_free m d L q) $$ [Ha Hb Hc Hd HR HI Hy Hi]
  · unfold slotParts
    isplitl [Ha Hb Hc Hd]
    · isplitl [Ha]; · iexact Ha
      isplitl [Hb]; · iexact Hb
      isplitl [Hc]; · iexact Hc
      iexact Hd
    isplitl [HR]; · iexact HR
    isplitl [HI]; · iexact HI
    isplitl [Hy]; · iexact Hy
    iexact Hi
  icases H with ⟨H1, H2, H3, H4⟩
  iapply (wp_wand_r frame _ _)
  isplitl [Hmw H1 H2 H3 H4 Hz He HO]
  · iapply (tile_core m d L hpre q O W)
    isplitl [Hmw]; · iexact Hmw
    isplitl [H1]; · iexact H1
    isplitl [H2]; · iexact H2
    isplitl [H3]; · iexact H3
    isplitl [H4]; · iexact H4
    unfold todo owing
    isplitl [Hz]; · iexact Hz
    isplitl [He]; · iexact He
    iexists W; isplitr
    · ipureintro; exact fun p hp => .inl hp
    · iexact HO
  iintro %_ H
  unfold done owing
  icases H with ⟨H1, H2, H3, H4, Hz, He, HO⟩
  ihave H := (slots_of_free m d L q) $$ [H1 H2 H3 H4]
  · isplitl [H1]; · iexact H1
    isplitl [H2]; · iexact H2
    isplitl [H3]; · iexact H3
    iexact H4
  unfold slotParts
  icases H with ⟨⟨Ha, Hb, Hc, Hd⟩, HR, HI, Hy, Hi⟩
  isplitl [Hy Hi Hz]
  · isplitl [Hy]; · iexact Hy
    isplitl [Hi]; · iexact Hi
    iexact Hz
  isplitl [HR HI Hbufs]
  · isplitl [HR]; · iexact HR
    isplitl [HI]; · iexact HI
    iexact Hbufs
  isplitl [Ha Hb Hc Hd He Hsems]
  · isplitr [Hsems]
    · isplitl [Ha]; · iexact Ha
      isplitl [Hb]; · iexact Hb
      isplitl [Hc]; · iexact Hc
      isplitl [Hd]; · iexact Hd
      iexact He
    iexact Hsems
  iexact HO

/-! ## The call's payments and its obligation -/

/-- The place of tile `s` of SparseCore `c` in the call's grid. -/
def coordsV (c : Fin (grid0.bound 0)) (s : Fin (grid0.bound 1)) : grid0.Coords :=
  fun | 0 => c | 1 => s | ⟨_ + 2, h⟩ => absurd h (Nat.not_lt.2 (Nat.le_add_left _ _))

/-- The rows of the result tile `i` of SparseCore `c` writes. -/
abbrev tileRows (c : Fin 2) (i : Fin 16) : Finset S131072x128.Idx := rowsOf m d (coordsV c i) 0 8

/-- The rows of the result SparseCore `c` writes. -/
def coreRows (c : Fin 2) : Finset S131072x128.Idx := Finset.univ.biUnion (tileRows m d c)

/-- The rows of the result the call writes. -/
def allRows : Finset S131072x128.Idx := Finset.univ.biUnion (coreRows m d)

/-- What a SparseCore, and a tile, is handed (`f` the result's first contents) and hands back (`f` the scattered rows). -/
abbrev corePart (c : Fin 2) (f : Buf (Elt F) (zLoc d)) : sProp 𝕄 := part m d (leaf 1 fullShare c) (coreRows m d c) f
abbrev tilePart (c : Fin 2) (i : Fin 16) (f : Buf (Elt F) (zLoc d)) : sProp 𝕄 :=
  part m d (leaf 4 (leaf 1 fullShare c) i) (tileRows m d c i) f

def P : (K (F := F)).Pay (nD := nD) (Val := Elt F) (Name := ℕ) (U := UU) where
  st := fun q d c => match q with | 0 => corePart m d (Fin.cast nCore_zero c) (m (zLoc d))
  dn := fun q d c => match q with | 0 => corePart m d (Fin.cast nCore_zero c) (G m d)
  go := fun q d c i => match q with | 0 => tilePart m d (Fin.cast nCore_zero c) (Fin.cast nSub_zero i) (m (zLoc d))
  td := fun q d c i => match q with | 0 => tilePart m d (Fin.cast nCore_zero c) (Fin.cast nSub_zero i) (G m d)
  x := fun _ _ => iprop(emp)

instance P_storable : (P (F := F) m).IsStorable where
  st q d _ := match q with | 0 => part_storable m d _ _ _
  dn q d _ := match q with | 0 => part_storable m d _ _ _
  go q d _ _ := match q with | 0 => part_storable m d _ _ _
  td q d _ _ := match q with | 0 => part_storable m d _ _ _

theorem defs₀_vector (c : Fin τ.nSC) (s : Fin τ.nSub) :
    defs₀ (F := F) (.scVector c s) 0 ()
      = SparseCore.onTile hcore0 hsub0 (fun c s => cc0_run (coordsV c s) yV (Memref.isWhole_whole _) iV (Memref.isWhole_whole _) zV (Memref.isWhole_whole _)
            rV (Memref.isWhole_whole _) cc0_scoped1 sV (Memref.isWhole_whole _) cc0_scoped3 cc0_scoped4) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre _ O W hO).trans (wp_mono frame _ _ fun _ => obl_post)

/-! ## The rows and shares dealt: to the SparseCores, to their tiles -/

theorem base_coordsV (c : Fin 2) (i : Fin 16) : base (coordsV c i) = 8 * i.val + 128 * c.val := rfl

/-- A row two tiles write would be named by one word of both. -/
theorem tile_of_row (hpre : PreOK m) {c c' : Fin 2} {i i' : Fin 16} {x : S131072x128.Idx} (h : x ∈ tileRows m d c i) (h' : x ∈ tileRows m d c' i') :
    c = c' ∧ i = i' := by
  obtain ⟨r, h1, h2, h3⟩ := (mem_rowsOf m d _).mp h
  obtain ⟨r', h1', h2', h3'⟩ := (mem_rowsOf m d _).mp h'
  have := (hpre d).2 (h3.trans h3'.symm)
  subst this
  rw [base_coordsV] at h1 h2 h1' h2'
  exact ⟨Fin.ext (by omega), Fin.ext (by omega)⟩

theorem tileRows_disjoint (hpre : PreOK m) (c : Fin 2) : ∀ i ∈ (Finset.univ : Finset (Fin 16)), ∀ j ∈ (Finset.univ : Finset (Fin 16)), i ≠ j → Disjoint (tileRows m d c i) (tileRows m d c j) :=
  fun _ _ _ _ h => Finset.disjoint_left.mpr fun _ hx hy => h (tile_of_row m d hpre hx hy).2
theorem coreRows_disjoint (hpre : PreOK m) : ∀ i ∈ (Finset.univ : Finset (Fin 2)), ∀ j ∈ (Finset.univ : Finset (Fin 2)), i ≠ j → Disjoint (coreRows m d i) (coreRows m d j) := by
  intro c _ c' _ h
  refine Finset.disjoint_left.mpr fun x hx hy => h ?_
  obtain ⟨i, -, hx⟩ := Finset.mem_biUnion.mp hx
  obtain ⟨i', -, hy⟩ := Finset.mem_biUnion.mp hy
  exact (tile_of_row m d hpre hx hy).1

/-- The rows written are those some word names. -/
theorem mem_allRows {x : S131072x128.Idx} : x ∈ allRows m d ↔ ∃ r : Fin 32768, target (listIn m d) r = (x 0).val := by
  constructor
  · intro h
    obtain ⟨c, -, h⟩ := Finset.mem_biUnion.mp h
    obtain ⟨i, -, h⟩ := Finset.mem_biUnion.mp h
    obtain ⟨r, -, -, h⟩ := (mem_rowsOf m d _).mp h
    exact ⟨r, h⟩
  · rintro ⟨r, h⟩
    have hr := r.isLt
    refine Finset.mem_biUnion.mpr ⟨⟨r.val / 16384, by omega⟩, Finset.mem_univ _, Finset.mem_biUnion.mpr ⟨⟨r.val % 16384 / 1024, by omega⟩, Finset.mem_univ _,
      (mem_rowsOf m d _).mpr ⟨r, ?_, ?_, h⟩⟩⟩ <;> rw [base_coordsV] <;> simp only <;> omega

/-- A share of the three buffers, dealt over disjoint parts of the rows by as many leaves of the share. -/
theorem part_deal (n : ℕ) (q : PosShare TreeShare) (R : Fin (2 ^ n) → Finset S131072x128.Idx)
    (hR : ∀ i ∈ Finset.univ, ∀ j ∈ Finset.univ, i ≠ j → Disjoint (R i) (R j)) (f : Buf (Elt F) (zLoc d)) :
    part m d q (Finset.univ.biUnion R) f = bigSep Finset.univ fun i : Fin (2 ^ n) => part m d (leaf n q i) (R i) f := by
  unfold part
  rw [bigSep_sep', bigSep_sep', ← pointsTo_leaves, ← pointsTo_leaves, ← pointsTo_biUnion Finset.univ (ℓ := zLoc d) R hR]

theorem cores_deal (hpre : PreOK m) (f : Buf (Elt F) (zLoc d)) :
    part m d fullShare (allRows m d) f = bigSep Finset.univ fun c : Fin 2 => corePart m d c f :=
  part_deal m d 1 fullShare (coreRows m d) (coreRows_disjoint m d hpre) f
theorem tiles_deal (hpre : PreOK m) (c : Fin 2) (f : Buf (Elt F) (zLoc d)) :
    corePart m d c f = bigSep Finset.univ fun i : Fin 16 => tilePart m d c i f :=
  part_deal m d 4 _ (tileRows m d c) (tileRows_disjoint m d hpre c) f

theorem vecSplit (hpre : PreOK m) : (K (F := F)).VecSplit' (P m) 0 := by
  intro d c
  show corePart m d (Fin.cast nCore_zero c) (m (zLoc d)) ⊢ |={Set.univ}=> iprop(
      (bigSep Finset.univ fun i : Fin 16 => tilePart m d (Fin.cast nCore_zero c) i (m (zLoc d)))
      ∗ ((bigSep Finset.univ fun i : Fin 16 => tilePart m d (Fin.cast nCore_zero c) i (G m d))
          -∗ corePart m d (Fin.cast nCore_zero c) (G m d)))
  rw [tiles_deal m d hpre (Fin.cast nCore_zero c) (m (zLoc d)), tiles_deal m d hpre (Fin.cast nCore_zero c) (G m d)]
  iintro H; imodintro
  isplitl [H]; · iexact H
  iintro H; iexact H

end Cert.Proof.Scatter

end
-- ==== Proof.ScatterCombine.lean ====
/-
  The combine kernel of the scatter program: a grid of eight points, each multiplying one block of 256 masked rows by the
  output weights.

  The body reads four staged blocks and stores one (`combined`), so its run is a few steps; the pipeline around it is the
  library's. The region is stated at an arbitrary valuation of the TensorCore's buffers (`region`): it hands every buffer
  back as it was but the result's, and hands back what the TensorCore owes with the bound the SparseCore call left on it.
-/
module

public import proofs.«01_k».proof.Proof.ScatterSetup
public import proofs.«01_k».proof.Proof.Gen.ScatterIdeal.Launch
public import proofs.«01_k».proof.Proof.Gen.ScatterIdeal.Points
public import proofs.«01_k».proof.Proof.Gen.ScatterIdeal.Skeleton
public import Idealize.ShloMosaic.Lib.Pipeline.Regions
public import Idealize.ShloMosaic.Lib.Pipeline.FrameBody
public import Idealize.ShloMosaic.Lib.Pipeline.FrameTail

@[expose] public section

noncomputable section

namespace Cert.Proof.Scatter

open Cert.ScatterIdeal Cert.ScatterIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The body -/

/-- The whole block of the result. -/
abbrev outRect : Rect S256x1024 := Rect.unit (s := S256x1024) ![0, 0] S256x1024.size inb_S256x1024_S256x1024_0_0

/-- What the body stores from the blocks it reads: rows `z`, mask `m`, mask spreading `e`, weights `w`. -/
def combined (z : Vec F S256x8192 .f32) (m : Vec F S256x64 .f32) (e : Vec F S64x8192 .bf16) (w : Vec F S8192x1024 .bf16) : Vec F S256x1024 .f32 :=
  View.canon [⟨outRect, k1_pay1 (View.ld m (Rect.unit (s := S256x64) ![0, 0] S256x64.size inb_S256x64_S256x64_0_0))
    (View.ld e (Rect.unit (s := S64x8192) ![0, 0] S64x8192.size inb_S64x8192_S64x8192_0_0))
    (View.ld z (Rect.unit (s := S256x8192) ![0, 0] S256x8192.size inb_S256x8192_S256x8192_0_0))
    (View.ld w (Rect.unit (s := S8192x1024) ![0, 0] S8192x1024.size inb_S8192x1024_S8192x1024_0_0))⟩]

theorem outRect_cover (p : Vec F S256x1024 .f32) (y : S256x1024.Idx) :
    ∃ pc ∈ ([⟨outRect, p⟩] : List (View.Piece (Elt F) S256x1024 .f32)), y ∈ pc.1.set :=
  View.cover_of_tiled [⟨outRect, p⟩] S256x1024.size (by rfl) y

theorem body_run (c : Dev nD) (E : Set ℕ) (i : grid1.Coords)
    (M1 : Memref sig .tc .vmem S256x8192 .f32) (h1 : M1.IsWhole) (M2 : Memref sig .tc .vmem S256x64 .f32) (h2 : M2.IsWhole)
    (M3 : Memref sig .tc .vmem S64x8192 .bf16) (h3 : M3.IsWhole) (M4 : Memref sig .tc .vmem S8192x1024 .bf16) (h4 : M4.IsWhole)
    (M5 : Memref sig .tc .vmem S256x1024 .f32) (h5 : M5.IsWhole)
    (z : Vec F S256x8192 .f32) (m : Vec F S256x64 .f32) (e : Vec F S64x8192 .bf16) (w : Vec F S8192x1024 .bf16)
    (Q : PUnit → sProp (MT nD τ sig (HIx 1) (Elt F) ℕ UU ℕ)) :
    iprop(owns (c : Thread nD τ) M1 fullShare z ∗ owns (c : Thread nD τ) M2 fullShare m ∗ owns (c : Thread nD τ) M3 fullShare e
        ∗ owns (c : Thread nD τ) M4 fullShare w ∗ (∃ d, owns (c : Thread nD τ) M5 fullShare d)
        ∗ (iprop(owns (c : Thread nD τ) M1 fullShare z ∗ owns (c : Thread nD τ) M2 fullShare m ∗ owns (c : Thread nD τ) M3 fullShare e
            ∗ owns (c : Thread nD τ) M4 fullShare w ∗ owns (c : Thread nD τ) M5 fullShare (combined z m e w)) -∗ Q ⟨⟩))
      ⊢ wp frame (wpE (defs₀ (F := F)) Variants.none (c : Thread nD τ) none) E (cc1__combine_body i M1 h1 M2 h2 M3 h3 M4 h4 M5 h5) Q := by
  simp only [cc1__combine_body_eq_skeleton]; unfold cc1__combine_body_skel
  unfold owns
  iintro ⟨⟨%f1, %e1, H1⟩, ⟨%f2, %e2, H2⟩, ⟨%f3, %e3, H3⟩, ⟨%f4, %e4, H4⟩, ⟨%d5, %f5, -, H5⟩, Hk⟩
  subst e1 e2 e3 e4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (outRect_cover _)

/-! ## The pipeline, at an entry valuation -/

variable (V : (c : Dev nD) → (b : Ref sig .tc) → Buf (Elt F) ((c : Thread nD τ).loc b))

/-- Window `w`'s block at point `t`. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the TensorCore's recorded waits may be when the region is entered: those the SparseCore call left. -/
abbrev recordedBy (c : Dev nD) : Set (SemLoc sig × HIx 1) := {p | (K (F := F)).lev (T c, p.1) p.2 ≤ 8 * (SparseCore.Cfg.Blocks.one 1).fst 1}

def dat (c : Dev nD) : Dat τ (Elt F) (HIx 1) ℕ UU ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => combined (blockAt V c 0 t) (blockAt V c 1 t) (blockAt V c 2 t) (blockAt V c 3 t)
  Φ _ := Pipeline.scopedRest (Ix := HIx 1) (Name := ℕ) (U := UU) (Lvl := ℕ) (Val := Elt F) spec1 c
  q _ := fullShare
  owed _ := 0
  recorded _ := recordedBy (F := F) c

theorem A_eq (c : Dev nD) (w : Fin cfg1.W) : (dat V c).A w = V c (Pipeline.arrRef spec1 w) := by dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t = combined (blockAt V c 0 t) (blockAt V c 1 t) (blockAt V c 2 t) (blockAt V c 3 t) := by
  dsimp only [dat]

/-- An input window's buffer holds its block at every point, fetched there or not. -/
theorem before_0 (c : Dev nD) (t : Fin cfg1.N) (d) : (dat V c).before 0 t d = blockAt V c 0 t :=
  ((dat V c).before_in_eq_fetched 0 rfl (fun _ => rfl) (fun _ _ _ => rfl)
    (fun t => by rw [after_0]; unfold Dat.blockOf blockAt; rw [A_eq]; try rfl) t d).trans (by unfold Dat.fetched Dat.blockOf blockAt; rw [A_eq]; try rfl)
theorem before_1 (c : Dev nD) (t : Fin cfg1.N) (d) : (dat V c).before 1 t d = blockAt V c 1 t :=
  ((dat V c).before_in_eq_fetched 1 rfl (fun _ => rfl) (fun _ _ _ => rfl)
    (fun t => by rw [after_1]; unfold Dat.blockOf blockAt; rw [A_eq]; try rfl) t d).trans (by unfold Dat.fetched Dat.blockOf blockAt; rw [A_eq]; try rfl)
theorem before_2 (c : Dev nD) (t : Fin cfg1.N) (d) : (dat V c).before 2 t d = blockAt V c 2 t :=
  ((dat V c).before_in_eq_fetched 2 rfl (fun _ => rfl) (fun _ _ _ => rfl)
    (fun t => by rw [after_2]; unfold Dat.blockOf blockAt; rw [A_eq]; try rfl) t d).trans (by unfold Dat.fetched Dat.blockOf blockAt; rw [A_eq]; try rfl)
theorem before_3 (c : Dev nD) (t : Fin cfg1.N) (d) : (dat V c).before 3 t d = blockAt V c 3 t :=
  ((dat V c).before_in_eq_fetched 3 rfl (fun _ => rfl) (fun _ _ _ => rfl)
    (fun t => by rw [after_3]; unfold Dat.blockOf blockAt; rw [A_eq]; try rfl) t d).trans (by unfold Dat.fetched Dat.blockOf blockAt; rw [A_eq]; try rfl)

theorem body_at (c : Dev nD) (t : Fin cfg1.N) :
    iprop((dat V c).Φ t.castSucc ∗ (dat V c).owesAt (none : HIx 1) t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d))
        ∗ (∃ d, owns (c : Thread nD τ) (st1_4 t) fullShare ((dat V c).before 4 t d)))
      ⊢ wp frame (wpE (defs₀ (F := F)) Variants.none (c : Thread nD τ) none) Set.univ (bodyAt1 t)
        (fun _ => iprop((dat V c).Φ t.succ ∗ (dat V c).owesAt (none : HIx 1) t.succ
          ∗ owns (c : Thread nD τ) (st1_0 t) fullShare ((dat V c).after 0 t)
          ∗ owns (c : Thread nD τ) (st1_1 t) fullShare ((dat V c).after 1 t)
          ∗ owns (c : Thread nD τ) (st1_2 t) fullShare ((dat V c).after 2 t)
          ∗ owns (c : Thread nD τ) (st1_3 t) fullShare ((dat V c).after 3 t)
          ∗ owns (c : Thread nD τ) (st1_4 t) fullShare ((dat V c).after 4 t))) := by
  unfold bodyAt1
  simp only [before_0, before_1, before_2, before_3]
  rw [show (dat V c).Φ t.succ = (dat V c).Φ t.castSucc from rfl,
    show (dat V c).owesAt (none : HIx 1) t.succ = (dat V c).owesAt (none : HIx 1) t.castSucc from rfl, after_0, after_1, after_2, after_3, after_4]
  iintro ⟨HΦ, HO, ⟨%d0, H0⟩, ⟨%d1, H1⟩, ⟨%d2, H2⟩, ⟨%d3, H3⟩, ⟨%d4, H4⟩⟩
  iapply (body_run c Set.univ (grid1.coords t) _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

theorem body_row (t : Fin cfg1.N) : defs₀ (F := F) .tc cfg1.body (cfg1.bodyArgs t (cfg1.slots t)) = bodyAt1 t := by
  unfold defs₀; rfl

theorem body_obligation (c : Dev nD) : BodyObligation (dat V c) (defs₀ (F := F)) Variants.none (none : HIx 1) Set.univ := fun t => by
  rw [bigSep_W1, bigSep_W1, body_row]
  exact triple_restated (body_at V c t) rfl .rfl fun _ => .rfl

/-! ## The region -/

abbrev adm : (p : Fin 1) → (pcfgs (F := F) p).Adm := fun p => (cfgs p).toPCfg_adm

def dats (_ : Fin 1) (c : Dev nD) : Dat τ (Elt F) (HIx 1) ℕ UU ℕ cfg1 c := dat V c

/-- What the result's array holds after the region. -/
def product (c : Dev nD) : Buf (Elt F) ((c : Thread nD τ).loc main_v16) := (dat V c).arrAt 4 cfg1.N

/-- What the TensorCore owes between the SparseCore call and the end: nothing, its recorded waits bounded. -/
abbrev idle (c : Dev nD) : sProp (MT nD τ sig (HIx 1) (Elt F) ℕ UU ℕ) :=
  iprop(∃ W, ⌜(K (F := F)).WBelow (T c) W (8 * (SparseCore.Cfg.Blocks.one 1).fst 1)⌝ ∗ owes (T c) (0 : CellTallies nD τ sig (HIx 1)) W)

theorem idle_to (c : Dev nD) : (idle (F := F) c) ⊢ (dat V c).owesAt (none : HIx 1) 0 := by
  unfold idle Pipeline.Dat.owesAt Pipeline.owesWithin
  iintro ⟨%W, %hW, HO⟩; iexists W; isplitr
  · ipureintro; exact fun p hp => Or.inl (hW p hp)
  iexact HO

theorem idle_of (c : Dev nD) : (dat V c).owesAt (none : HIx 1) (Fin.last cfg1.N) ⊢ (idle (F := F) c) := by
  unfold idle Pipeline.Dat.owesAt Pipeline.owesWithin
  iintro ⟨%W, %hW, HO⟩; iexists W; isplitr
  · ipureintro
    intro p hp
    rcases hW hp with h | ⟨w, s, h⟩
    · exact h
    · subst h; exact Nat.zero_le _
  iexact HO

variable (Vp : (c : Dev nD) → (b : Ref sig .tc) → Buf (Elt F) ((c : Thread nD τ).loc b))

set_option backward.isDefEq.respectTransparency.types false in
/-- The region, from every unscoped buffer at `V` to every unscoped buffer at `Vp`, which is `V` but for the result. -/
def region (hout : ∀ c, Vp c main_v16 = product V c) (hne : ∀ c (b : Ref sig .tc), b ≠ main_v16 → Vp c b = V c b) :
    Pipeline.RegionSeg (pcfgs (F := F)) adm (dats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ idle c)
  post c := iprop(unscopedBufs c (Vp c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (dats V) launch1.win launch1.arr_whole c
      ((dats V 0 c).share_full fun _ => rfl) (V c) fun w => A_eq V c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (idle_to V c); iexact HO
    isplitr; · iempintro
    iexact Hrest
  hin c := by
    rw [show (dats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (dats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (dats V) ((dats V 0 c).share_full fun _ => rfl) (V c) (Vp c) ((dats V 0 c).arrAt · cfg1.N)
      (fun w => by
        fin_cases w
        · exact ((dats V 0 c).arrAt_in 0 rfl _).trans (hne c main_v4 (by decide)).symm
        · exact ((dats V 0 c).arrAt_in 1 rfl _).trans (hne c main_arg2 (by decide)).symm
        · exact ((dats V 0 c).arrAt_in 2 rfl _).trans (hne c main_v15 (by decide)).symm
        · exact ((dats V 0 c).arrAt_in 3 rfl _).trans (hne c main_v7 (by decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    iapply (idle_of V c); iexact HO

end Cert.Proof.Scatter

end
-- ==== Proof.ScatterLaunch.lean ====
/-
  The scatter and the combine as one program: its host lines, the SparseCore call between them, the combine's pipeline
  after them; the launch; the program's run, which ends with the combined rows in the result and the arguments unchanged.
-/
module

public import proofs.«01_k».proof.Proof.ScatterTask
public import proofs.«01_k».proof.Proof.ScatterCombine

@[expose] public section

set_option maxRecDepth 16384

noncomputable section

namespace Cert.Proof.Scatter

open Cert.ScatterIdeal Cert.ScatterIdeal.Gen
open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Shared
open Idealize.ShloMosaic.ShareLeaves (leaf pointsTo_leaves)

variable {F : FTy → Type}

local notation "𝕄" => MT nD τ sig (HIx 1) (Elt F) ℕ UU ℕ

variable [FloatOps F] (m : (ℓ : Loc nD τ sig) → Buf (Elt F) ℓ) (ρ : Dev nD → PrngReg) (d : Dev nD)

/-! ## The lines of host operations -/

/-- Before the scatter: the index list transposed and laid out in a row, the rows' leading axes joined. -/
abbrev ops0 : List (HloOp τ sig (Elt F)) :=
  [ StableHlo.unary main_arg1 main_v0 ((transpose S16x2048 [1, 0] · transposes_S2048x16_S16x2048_1_0) : (⟨S2048x16, .i32⟩ : BufTy).Contents (Elt F) → (⟨S16x2048, .i32⟩ : BufTy).Contents (Elt F)),
    StableHlo.reshape main_v0 main_v1 (rfl : (.i32 : EltTy) = .i32) shapeCasts_S16x2048_S1x32768,
    StableHlo.reshape main_arg0 main_v2 (rfl : (.f32 : EltTy) = .f32) shapeCasts_S16x2048x128_S32768x128 ]

/-- Between the scatter and the combine: the result reshaped, the weights padded and rounded, the selection matrix built. -/
abbrev ops1 : List (HloOp τ sig (Elt F)) :=
  [ StableHlo.reshape main_v3 main_v4 (rfl : (.f32 : EltTy) = .f32) shapeCasts_S131072x128_S2048x8192,
    StableHlo.nullary main_c (constantI S_ 32 0#32),
    StableHlo.TRef.unary (StableHlo.TRef.of (T := ⟨S_, .i32⟩) main_c) (StableHlo.TRef.of (T := ⟨S_, .f32⟩) main_call0_v0) (sitofp .f32),
    StableHlo.TRef.binary (StableHlo.TRef.of (T := ⟨S64x64x1024, .f32⟩) main_arg3) (StableHlo.TRef.of (T := ⟨S_, .f32⟩) main_call0_v0) (StableHlo.TRef.of (T := ⟨S64x128x1024, .f32⟩) main_v5) (fun x v => pad S64x128x1024 ![0, 0, 0] ![0, 64, 0] ![0, 0, 0] x v pads_S64x64x1024_S64x128x1024_000_0640_000 h_S_),
    StableHlo.reshape main_v5 main_v6 (rfl : (.f32 : EltTy) = .f32) shapeCasts_S64x128x1024_S8192x1024,
    StableHlo.unary main_v6 main_v7 ((truncf .bf16 · bitsLt_bf16_f32) : (⟨S8192x1024, .f32⟩ : BufTy).Contents (Elt F) → (⟨S8192x1024, .bf16⟩ : BufTy).Contents (Elt F)),
    StableHlo.nullary main_v8 (iotaInDim S64x64 32 0),
    StableHlo.nullary main_v9 (iotaInDim S64x64 32 1),
    StableHlo.nullary main_c_0 (constantI S_ 32 0#32),
    StableHlo.unary main_c_0 main_v10 (broadcastInDim S64x64 ![] bcast_S_S64x64 : (⟨S_, .i32⟩ : BufTy).Contents (Elt F) → (⟨S64x64, .i32⟩ : BufTy).Contents (Elt F)),
    StableHlo.binary main_v8 main_v10 main_v11 (addi : (⟨S64x64, .i32⟩ : BufTy).Contents (Elt F) → (⟨S64x64, .i32⟩ : BufTy).Contents (Elt F) → (⟨S64x64, .i32⟩ : BufTy).Contents (Elt F)),
    StableHlo.binary main_v11 main_v9 main_v12 (cmpi .eq : (⟨S64x64, .i32⟩ : BufTy).Contents (Elt F) → (⟨S64x64, .i32⟩ : BufTy).Contents (Elt F) → (⟨S64x64, .i1⟩ : BufTy).Contents (Elt F)),
    StableHlo.unary main_v12 main_v13 (uitofp .bf16 : (⟨S64x64, .i1⟩ : BufTy).Contents (Elt F) → (⟨S64x64, .bf16⟩ : BufTy).Contents (Elt F)),
    StableHlo.unary main_v13 main_v14 (broadcastInDim S64x64x128 ![0, 1] bcast_S64x64_S64x64x128_0_1 : (⟨S64x64, .bf16⟩ : BufTy).Contents (Elt F) → (⟨S64x64x128, .bf16⟩ : BufTy).Contents (Elt F)),
    StableHlo.reshape main_v14 main_v15 (rfl : (.bf16 : EltTy) = .bf16) shapeCasts_S64x64x128_S64x8192 ]

theorem main_eq (d : Dev nD) :
    main (F := F) d = StableHlo.seq ops0 >>= fun _ => (K (F := F)).run d 0 >>= fun _ => StableHlo.seq ops1 >>= fun _ =>
      Prog.lift (.customCall (SparseCore.inner (Pipeline.entry 0)) ()) >>= fun _ => pure ⟨⟩ := rfl

theorem ops0_sub : ∀ op ∈ (ops0 : List (HloOp τ sig (Elt F))), op.bufs ⊆ Pipeline.ucRefs τ sig := fun op h =>
  Pipeline.sub_ucRefs op (List.forall_iff_forall_mem.mp (show (ops0 : List (HloOp τ sig (Elt F))).Forall fun op => op.bufs ⊆ StableHlo.tcRefs τ sig from
    ⟨StableHlo.unary_bufs_sub .., StableHlo.reshape_bufs_sub .., StableHlo.reshape_bufs_sub ..⟩) op h)
theorem ops1_sub : ∀ op ∈ (ops1 : List (HloOp τ sig (Elt F))), op.bufs ⊆ Pipeline.ucRefs τ sig := fun op h =>
  Pipeline.sub_ucRefs op (List.forall_iff_forall_mem.mp (show (ops1 : List (HloOp τ sig (Elt F))).Forall fun op => op.bufs ⊆ StableHlo.tcRefs τ sig from
    ⟨StableHlo.reshape_bufs_sub .., StableHlo.nullary_bufs_sub .., StableHlo.unary_bufs_sub .., StableHlo.binary_bufs_sub .., StableHlo.reshape_bufs_sub .., StableHlo.unary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.reshape_bufs_sub ..⟩) op h)
theorem ops0_fresh : ∀ op ∈ (ops0 : List (HloOp τ sig (Elt F))), op.fresh = ∅ := fun op h =>
  List.forall_iff_forall_mem.mp (show (ops0 : List (HloOp τ sig (Elt F))).Forall fun op => op.fresh = ∅ from ⟨rfl, rfl, rfl⟩) op h
theorem ops1_fresh : ∀ op ∈ (ops1 : List (HloOp τ sig (Elt F))), op.fresh = ∅ := fun op h =>
  List.forall_iff_forall_mem.mp (show (ops1 : List (HloOp τ sig (Elt F))).Forall fun op => op.fresh = ∅ from ⟨rfl, rfl, rfl, rfl, rfl, rfl, rfl, rfl, rfl, rfl, rfl, rfl, rfl, rfl, rfl⟩) op h

/-- What each line writes. -/
theorem ops0_writes : (ops0 : List (HloOp τ sig (Elt F))).map HloOp.writes = ([main_v0, main_v1, main_v2] : List (Ref sig .tc)).map fun w => {Proc.devRef (τ := τ) .tc w} := rfl
theorem ops1_writes : (ops1 : List (HloOp τ sig (Elt F))).map HloOp.writes
    = ([main_v4, main_c, main_call0_v0, main_v5, main_v6, main_v7, main_v8, main_v9, main_c_0, main_v10, main_v11, main_v12, main_v13, main_v14, main_v15] : List (Ref sig .tc)).map fun w => {Proc.devRef (τ := τ) .tc w} := rfl

/-! ## The contents along the way -/

/-- At the launch; -/
def V0 (d : Dev nD) : Valuation τ sig (Elt F) := fun b => m (d, b)
/-- before the scatter; -/
def V1 (d : Dev nD) : Valuation τ sig (Elt F) := StableHlo.after ops0 (V0 m d)
/-- after it; -/
def V2 (d : Dev nD) : Valuation τ sig (Elt F) := Function.update (V1 m d) (Proc.devRef .tc main_v3) (G m d)
/-- before the combine; -/
def V3 (d : Dev nD) : Valuation τ sig (Elt F) := StableHlo.after ops1 (V2 m d)
/-- the same, by reference; -/
abbrev W3 (d : Dev nD) (b : Ref sig .tc) : Buf (Elt F) ((d.tc : Thread nD τ).loc b) := V3 m d (Proc.devRef .tc b)
/-- after it. -/
def V4 (d : Dev nD) : Valuation τ sig (Elt F) := Function.update (V3 m d) (Proc.devRef .tc main_v16) (product (W3 m) d)
abbrev W4 (d : Dev nD) (b : Ref sig .tc) : Buf (Elt F) ((d.tc : Thread nD τ).loc b) := V4 m d (Proc.devRef .tc b)

theorem V1_rows : V1 m d (Proc.devRef .tc main_v2) = rowsIn m d := by
  unfold V1; after_results; rfl
theorem V1_list : V1 m d (Proc.devRef .tc main_v1) = listIn m d := by
  unfold V1; after_results; rfl
theorem V1_zeros : V1 m d (Proc.devRef .tc main_v3) = m (zLoc d) := by
  unfold V1
  exact StableHlo.after_of_writes_sub _ _ (StableHlo.forall_writes_sub_of_map ops0_writes) (by decide)

theorem W4_out (c : Dev nD) : W4 m c main_v16 = product (W3 m) c := Function.update_self _ _ _
theorem W4_ne (c : Dev nD) (b : Ref sig .tc) (h : b ≠ main_v16) : W4 m c b = W3 m c b :=
  Function.update_of_ne (fun e => h (Proc.devRef_injective _ e)) _ _

/-! ## The three arrays of the scatter, out of the TensorCore's buffers -/

/-- Their references. -/
def three : Finset (DevRef τ sig) := {Proc.devRef .tc main_v2, Proc.devRef .tc main_v1, Proc.devRef .tc main_v3}

theorem three_sub : three ⊆ Pipeline.ucRefs τ sig := by
  intro b hb
  unfold three at hb
  simp only [Finset.mem_insert, Finset.mem_singleton] at hb
  rcases hb with rfl | rfl | rfl <;> exact Finset.mem_filter.mpr ⟨StableHlo.devRef_mem_tcRefs _, by decide⟩

theorem held_three (V : Valuation τ sig (Elt F)) :
    (StableHlo.held (T d) three V : sProp 𝕄)
      = iprop((yLoc d ↦{fullShare} V (Proc.devRef .tc main_v2)) ∗ (iLoc d ↦{fullShare} V (Proc.devRef .tc main_v1)) ∗ zLoc d ↦{fullShare} V (Proc.devRef .tc main_v3)) := by
  unfold StableHlo.held three
  rw [SparseCore.bigSep_insert' (by decide), SparseCore.bigSep_insert' (by decide), bigSep_singleton]

/-- What the TensorCore keeps of the result during the call: the rows no word names. -/
def kept : sProp 𝕄 := zLoc d ↦[Finset.univ \ allRows m d]{fullShare} m (zLoc d)

theorem kept_same : (kept m d : sProp 𝕄) = (zLoc d ↦[Finset.univ \ allRows m d]{fullShare} G m d) := by
  unfold kept
  refine pointsTo_congr fun x hx => ?_
  exact (scattered_else fun h => (Finset.mem_sdiff.mp hx).2 ((mem_allRows m d).mpr h)).symm

/-- The result whole is its named rows and those the TensorCore keeps. -/
theorem rows_split (f : Buf (Elt F) (zLoc d)) :
    (zLoc d ↦{fullShare} f : sProp 𝕄) ⊢ iprop((zLoc d ↦[allRows m d]{fullShare} f) ∗ zLoc d ↦[Finset.univ \ allRows m d]{fullShare} f) := by
  refine (Entails.of_eq (congrArg (fun s => (zLoc d ↦[s]{fullShare} f : sProp 𝕄)) (Finset.union_sdiff_of_subset (Finset.subset_univ (allRows m d))).symm)).trans ?_
  exact (pointsTo_union Finset.disjoint_sdiff).1
theorem rows_join (f : Buf (Elt F) (zLoc d)) :
    iprop((zLoc d ↦[allRows m d]{fullShare} f) ∗ zLoc d ↦[Finset.univ \ allRows m d]{fullShare} f) ⊢ (zLoc d ↦{fullShare} f : sProp 𝕄) := by
  refine BI.Entails.trans (pointsTo_union Finset.disjoint_sdiff).2 ?_
  exact Entails.of_eq (congrArg (fun s => (zLoc d ↦[s]{fullShare} f : sProp 𝕄)) (Finset.union_sdiff_of_subset (Finset.subset_univ (allRows m d))))

/-- The TensorCore's buffers before the call: what the call is handed, and what stays. -/
theorem before_call (hpre : PreOK m) :
    (StableHlo.held (T d) (Pipeline.ucRefs τ sig) (V1 m d) : sProp 𝕄)
      ⊢ iprop((bigSep Finset.univ fun c : Fin 2 => corePart m d c (m (zLoc d))) ∗ kept m d
          ∗ StableHlo.held (T d) (Pipeline.ucRefs τ sig \ three) (V1 m d)) := by
  rw [StableHlo.held_sub_split _ three_sub, held_three, V1_rows, V1_list, V1_zeros, ← cores_deal m d hpre]
  unfold part kept
  iintro ⟨⟨Hy, Hi, Hz⟩, Hr⟩
  ihave Hz := (rows_split m d (m (zLoc d))) $$ Hz
  icases Hz with ⟨Hz, Hk⟩
  isplitl [Hy Hi Hz]
  · isplitl [Hy]; · iexact Hy
    isplitl [Hi]; · iexact Hi
    iexact Hz
  isplitl [Hk]; · iexact Hk
  iexact Hr

theorem V2_ne {b : DevRef τ sig} (h : b ≠ Proc.devRef .tc main_v3) : V2 m d b = V1 m d b := Function.update_of_ne h _ _

/-- And after it: the same buffers, the result at the scattered rows. -/
theorem after_call (hpre : PreOK m) :
    iprop((bigSep Finset.univ fun c : Fin 2 => corePart m d c (G m d)) ∗ kept m d
        ∗ StableHlo.held (T d) (Pipeline.ucRefs τ sig \ three) (V1 m d))
      ⊢ (StableHlo.held (T d) (Pipeline.ucRefs τ sig) (V2 m d) : sProp 𝕄) := by
  rw [StableHlo.held_sub_split (T d) three_sub (V2 m d), held_three, V2_ne m d (by decide), V2_ne m d (b := Proc.devRef .tc main_v1) (by decide), V1_rows, V1_list,
    show V2 m d (Proc.devRef .tc main_v3) = G m d from Function.update_self _ _ _, ← cores_deal m d hpre, kept_same,
    StableHlo.held_congr (T d) (S := Pipeline.ucRefs τ sig \ three) (V := V2 m d) (V' := V1 m d) fun b hb => V2_ne m d fun e => (Finset.mem_sdiff.mp hb).2 (by subst e; unfold three; decide)]
  unfold part
  iintro ⟨⟨Hy, Hi, Hz⟩, Hk, Hr⟩
  isplitr [Hr]
  · isplitl [Hy]; · iexact Hy
    isplitl [Hi]; · iexact Hi
    iapply (rows_join m d (G m d))
    isplitl [Hz]; · iexact Hz
    iexact Hk
  iexact Hr

/-! ## The launch's ghost state -/

def u₀ : UU := (initOf (K (F := F)).hsCells (K (F := F)).hsToks, (initOf (Pipeline.cells cfgs cellOf_inj) (Pipeline.launchToks cfgs cellOf_inj), 1))

omit [FloatOps F] in
theorem own_both (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The combine pipeline's ghost state on one device. -/
def ghost (d : Dev nD) : sProp 𝕄 := iprop(Pipeline.cellsGhost cfgs EP 0 d ∗ Pipeline.toksInit cfgs EP 0 d)

omit [FloatOps F] in
theorem ghosts : iprop((bigSep Finset.univ fun c : Dev nD => bigSep Finset.univ fun p : Fin 1 => Pipeline.cellsGhost cfgs EP p c)
      ∗ bigSep Finset.univ fun c : Dev nD => bigSep Finset.univ fun p : Fin 1 => Pipeline.toksInit cfgs EP p c)
    = (bigSep Finset.univ (ghost (F := F)) : sProp 𝕄) := by
  rw [← bigSep_sep']
  refine bigSep_congr fun c _ => ?_
  rw [bigSep_univ_of_subsingleton (0 : Fin 1), bigSep_univ_of_subsingleton (0 : Fin 1)]; rfl

theorem hu₀ : (ownU (u₀ (F := F)) : sProp 𝕄)
    ⊢ |={Set.univ}=> iprop(BI.own (EH (initOf (K (F := F)).hsCells (K (F := F)).hsToks)) ∗ (bigSep Finset.univ (ghost (F := F)))
        ∗ bigSep Finset.univ fun t : Thread nD τ => bigSep Finset.univ fun q : Fin 1 => (P m).x q t) := by
  unfold u₀
  iintro Hu
  ihave H := (own_both _ _) $$ Hu
  icases H with ⟨HH, HP⟩
  imod (Pipeline.fund_ghost cfgs EP cellOf_inj) $$ HP with HP
  ihave HP := (Entails.of_eq (ghosts (F := F))) $$ HP
  imodintro
  isplitl [HH]; · iexact HH
  isplitl [HP]; · iexact HP
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emps]
  iempintro

/-! ## The combine's region -/

theorem wp_region [∀ e, Nonempty (Elt F e)] (d : Dev nD) (Q : PUnit → sProp (MT nD τ sig (HIx 1) (Elt F) ℕ UU ℕ)) :
    iprop((iprop(boundary (d.tc : Thread nD τ) ∗ unscopedBufs d (W4 m d) ∗ idle d)
          -∗ wp frame (wpE (D (F := F)) 𝒱 (T d) none) Set.univ (.ret ⟨⟩ : Prog (TpuEff nD τ sig (Elt F) (ΛP (F := F)) .tc) PUnit) Q)
        ∗ boundary (d.tc : Thread nD τ) ∗ (unscopedBufs d (W3 m d) ∗ idle d) ∗ levAts (K (F := F)).L (K (F := F)).lev
        ∗ Pipeline.cellsGhost cfgs EP 0 d ∗ Pipeline.toksInit cfgs EP 0 d)
      ⊢ wp frame (wpE (D (F := F)) 𝒱 (T d) none) Set.univ
          (.op (.customCall (Pipeline.entry 0) ()) .ret : Prog (TpuEff nD τ sig (Elt F) (ΛP (F := F)) .tc) PUnit) Q :=
  Pipeline.RegionSeg.wp (pcfgs (F := F)) adm (dats (W3 m)) (none : HIx 1) cellOf_inj EP (defs₀ (F := F)) 𝒱₀ (K (F := F)).L (K (F := F)).lev
    (region (W3 m) (W4 m) (W4_out m) (W4_ne m)) d none (fun _ h => nomatch h) .ret Q

theorem wp_region_end [∀ e, Nonempty (Elt F e)] (d : Dev nD) (Q : PUnit → sProp (MT nD τ sig (HIx 1) (Elt F) ℕ UU ℕ)) :
    iprop((iprop(boundary (d.tc : Thread nD τ) ∗ unscopedBufs d (W4 m d) ∗ idle d) -∗ Q ⟨⟩)
        ∗ boundary (d.tc : Thread nD τ) ∗ (unscopedBufs d (W3 m d) ∗ idle d) ∗ levAts (K (F := F)).L (K (F := F)).lev
        ∗ Pipeline.cellsGhost cfgs EP 0 d ∗ Pipeline.toksInit cfgs EP 0 d)
      ⊢ wp frame (wpE (D (F := F)) 𝒱 (T d) none) Set.univ
          (.op (.customCall (Pipeline.entry 0) ()) .ret : Prog (TpuEff nD τ sig (Elt F) (ΛP (F := F)) .tc) PUnit) Q := by
  iintro ⟨Hk, H⟩
  iapply (wp_region m d Q)
  isplitl [Hk]
  · iintro Hp
    rw [wp_ret]; imodintro
    iapply Hk; iexact Hp
  iexact H

theorem wp_combine [∀ e, Nonempty (Elt F e)] (d : Dev nD) (Q : PUnit → sProp (MT nD τ sig (HIx 1) (Elt F) ℕ UU ℕ)) :
    iprop((iprop(boundary (d.tc : Thread nD τ) ∗ unscopedBufs d (W4 m d) ∗ idle d) -∗ Q ⟨⟩)
        ∗ boundary (d.tc : Thread nD τ) ∗ (unscopedBufs d (W3 m d) ∗ idle d) ∗ levAts (K (F := F)).L (K (F := F)).lev
        ∗ Pipeline.cellsGhost cfgs EP 0 d ∗ Pipeline.toksInit cfgs EP 0 d)
      ⊢ wp frame (wpE ((K (F := F)).defs (D (F := F))) 𝒱 (T d) none) Set.univ
          (Prog.lift (.customCall (SparseCore.inner (Pipeline.entry 0)) ())) Q := by
  have hl := (K (F := F)).wp_liftProg (Name := ℕ) (U := UU) (D (F := F)) 𝒱 (T d) Set.univ none
    (Prog.op (.customCall (Pipeline.entry 0) ()) .ret : Prog (TpuEff nD τ sig (Elt F) (ΛP (F := F)) .tc) PUnit) Q
  refine BI.Entails.trans ?_ hl
  exact wp_region_end m d Q

/-! ## The program on one device -/

theorem unscoped_launch (d : Dev nD) : (unscopedBufs d (fun b => m ((d.tc : Thread nD τ).loc b)) : sProp 𝕄) = StableHlo.held (d.tc : Thread nD τ) (Pipeline.ucRefs τ sig) (V0 m d) :=
  Pipeline.unscopedBufs_held d (V0 m d)
theorem unscoped_entry (d : Dev nD) : (StableHlo.held (d.tc : Thread nD τ) (Pipeline.ucRefs τ sig) (StableHlo.after ops1 (V2 m d)) : sProp 𝕄) = unscopedBufs d (W3 m d) :=
  (Pipeline.unscopedBufs_held d (V3 m d)).symm
theorem unscoped_end (d : Dev nD) : (unscopedBufs d (W4 m d) : sProp 𝕄) = StableHlo.held (d.tc : Thread nD τ) (Pipeline.ucRefs τ sig) (V4 m d) :=
  Pipeline.unscopedBufs_held d (V4 m d)

/-- What the thread holds of the launch's protocol after the last call, but for what it owes. -/
def spent (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((SparseCore.Cfg.Blocks.one 1).last q)) 1)))

theorem tcSt_last (d : Dev nD) : ((K (F := F)).tcSt EH d 1 : sProp 𝕄) = iprop(idle d ∗ spent d) := by
  unfold SparseCore.Cfg.tcSt
  rw [(K (F := F)).Otc_end d (le_refl 1)]
  rfl

theorem hmain [∀ e, Nonempty (Elt F e)] (hpre : PreOK m) (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ StableHlo.held (T d) (Pipeline.ucRefs τ sig) (V4 m d) ∗ (K (F := F)).tcEnd d) := by
  unfold SparseCore.Cfg.tcRes SparseCore.Cfg.tcEnd ghost
  rw [main_eq, unscoped_launch, tcSt_last]
  iintro ⟨#Hctx, Hst, ⟨Hb, Hu, Hts, -⟩, Hg⟩
  iapply (StableHlo.wp_seq 𝒱 none Set.univ d (Pipeline.ucRefs τ sig) _ (ops0 (F := F)) (ops0_sub (F := F)) (ops0_fresh (F := F)) (V0 m d)) $$ [Hb Hu]
  · isplitl [Hb] <;> iassumption
  iintro ⟨Hb, Hu⟩
  ihave Hu := (show StableHlo.held (T d) (Pipeline.ucRefs τ sig) (StableHlo.after ops0 (V0 m d)) ⊢ (_ : sProp 𝕄) from before_call m d hpre) $$ Hu
  icases Hu with ⟨H, Hk, Hu⟩
  rw [wp_bind]
  iapply ((K (F := F)).wp_run (D (F := F)) 𝒱 (EH := EH) (P := P m) κ d 0) $$ [Hst H Hb Hts Hk Hu Hg]
  isplitr; · iexact Hctx
  isplitl [Hst]; · iexact Hst
  isplitl [H]; · iexact H
  iintro ⟨Hst, H⟩
  ihave Hu := (after_call m d hpre) $$ [H Hk Hu]
  · isplitl [H]; · iexact H
    isplitl [Hk]; · iexact Hk
    iexact Hu
  iapply (StableHlo.wp_seq 𝒱 none Set.univ d (Pipeline.ucRefs τ sig) _ (ops1 (F := F)) (ops1_sub (F := F)) (ops1_fresh (F := F)) (V2 m d)) $$ [Hb Hu]
  · isplitl [Hb] <;> iassumption
  iintro ⟨Hb, Hu⟩
  ihave Hu := (Entails.of_eq (unscoped_entry m d)) $$ Hu
  ihave Hst := (show ((K (F := F)).tcSt EH d ((0 : Fin 1).val + 1) : sProp 𝕄) ⊢ iprop(idle d ∗ spent d) from Entails.of_eq (tcSt_last d)) $$ Hst
  icases Hst with ⟨HO, Hst⟩
  rw [wp_bind]
  iapply (wp_combine m d)
  isplitl [Hst Hts]
  · iintro ⟨Hb, Hu, HO⟩
    rw [wp_pure]; imodintro
    isplitl [HO Hst]
    · isplitl [HO]; · iexact HO
      iexact Hst
    isplitl [Hu]
    · iapply (Entails.of_eq (unscoped_end m d)) $$ Hu
    isplitl [Hb] <;> iassumption
  isplitl [Hb]; · iexact Hb
  isplitl [Hu HO]
  · isplitl [Hu] <;> iassumption
  isplitr; · iapply (SparseCore.Cfg.ctx_levAts κ) $$ Hctx
  iexact Hg

/-! ## The run -/

def fq (d : Dev nD) (s' : Phys nD τ sig (Elt F)) : Prop := ∀ b : Ref sig .tc, b.isScoped = false → s'.mem.mem ((d.tc : Thread nD τ).loc b) = W4 m d b

theorem hfin (d : Dev nD) (s' : Phys nD τ sig (Elt F)) :
    iprop(StableHlo.held (T d) (Pipeline.ucRefs τ sig) (V4 m d) ∗ SI s') ⊢ (⌜fq m d s'⌝ : sProp 𝕄) := by
  refine (Laws.forall_intro fun b => (Laws.forall_intro fun hb => ?_).trans Laws.pure_forall.2).trans Laws.pure_forall.2
  have hu : Proc.devRef (τ := τ) .tc b ∈ Pipeline.ucRefs τ sig :=
    Finset.mem_filter.mpr ⟨StableHlo.devRef_mem_tcRefs b, fun h => Bool.false_ne_true (hb.symm.trans h)⟩
  iintro ⟨H, HSI⟩
  ihave Hb := (show StableHlo.held (T d) (Pipeline.ucRefs τ sig) (V4 m d) ⊢ ((d.tc : Thread nD τ).loc b ↦{fullShare} W4 m d b : sProp 𝕄) from bigSep_elim hu) $$ H
  ihave H := (SI_pointsTo_agree (st := s') (ℓ := (d.tc : Thread nD τ).loc b) (I := Finset.univ) (q := fullShare) (f := W4 m d b)) $$ [HSI Hb]
  · isplitl [HSI] <;> iassumption
  icases H with %h
  ipureintro
  exact funext fun i => h i (Finset.mem_univ i)

/-- What every run ends in: every unscoped buffer at its last contents, every counter back at zero. -/
def QC : PUnit × MemSt nD τ sig (Elt F) → Prop := fun r =>
  (∀ (c : Dev nD) (b : Ref sig .tc), b.isScoped = false → r.2.mem ((c.tc : Thread nD τ).loc b) = W4 m c b) ∧ r.2.sem = fun _ => 0

theorem run_main [∀ e, Nonempty (Elt F e)] (hpre : PreOK m) :
    θ_run (Cert.ScatterIdeal.defs (F := F)) (Cert.ScatterIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m hpre))
    m ρ main ghost (fun d => StableHlo.held (T d) (Pipeline.ucRefs τ sig) (V4 m d)) (u₀ (F := F)) (sep_elim_left.trans (hu₀ m))
    (hmain m ρ hpre) (fq m) (hfin m) (QC m) (fun _ h hz => ⟨h, hz⟩)

end Cert.Proof.Scatter

end
-- ==== Proof.ScatterValue.lean ====
/-
  The scatter program's result at the extended reals: its arguments' precondition as the run asks for it, what the host
  lines make of the arguments, and the combine's product, element by element.
-/
module

public import proofs.«01_k».proof.Proof.ScatterSum
public import proofs.«01_k».proof.Proof.ScatterLaunch
public import Idealize.ShloMosaic.Lib.Pointwise
public import Idealize.ShloMosaic.Lib.Pipeline.Value
public import Idealize.ShloMosaic.Lib.Pipeline.ValueKit

@[expose] public section

set_option maxRecDepth 16384

noncomputable section

namespace Cert.Proof.Scatter

open Cert.ScatterIdeal Cert.ScatterIdeal.Gen
open Idealize.ShloMosaic Idealize.ShloMosaic.TcCoe

section Words

variable {F : FTy → Type} [FloatOps F] (m : (ℓ : Loc nD τ sig) → Buf (Elt F) ℓ) (d : Dev nD)

/-- The index array among the arguments. -/
abbrev words : IVec S2048x16 32 := m ((SparseCore.T d).loc main_arg1)

theorem list_apply (r : Fin 32768) :
    listIn m d (ix2 (0 : Fin 1) r) = words m d (ix2 (⟨r.val % 2048, Nat.mod_lt _ (by decide)⟩ : Fin 2048) (⟨r.val / 2048, by omega⟩ : Fin 16)) := by
  unfold listIn
  pointwise

theorem rows_apply (r : Fin 32768) (x : Fin 128) :
    rowsIn m d (ix2 r x) = (m ((SparseCore.T d).loc main_arg0) : S16x2048x128.Idx → Elt F .f32)
      (ix3 (⟨r.val / 2048, by omega⟩ : Fin 16) (⟨r.val % 2048, Nat.mod_lt _ (by decide)⟩ : Fin 2048) x) := by
  unfold rowsIn
  pointwise

/-- What the precondition says of the index array is what the run asks. -/
theorem preOK (h : ∀ d : Dev nD, Routed (words m d)) : PreOK m := by
  intro d
  have ht : ∀ r : Fin 32768, target (listIn m d) r = 64 * (r.val % 2048) + (expert (words m d) ⟨r.val % 2048, Nat.mod_lt _ (by decide)⟩ ⟨r.val / 2048, by omega⟩).toNat := by
    intro r
    unfold target
    rw [← ix2_eq_valueIdx, list_apply]
    exact (h d).row _ _
  refine ⟨fun r => ?_, fun r r' e => ?_⟩
  · rw [ht]
    have := (h d).lt ⟨r.val % 2048, Nat.mod_lt _ (by decide)⟩ ⟨r.val / 2048, by omega⟩
    have := Nat.mod_lt r.val (y := 2048) (by decide)
    omega
  · rw [ht, ht] at e
    have h1 := (h d).lt ⟨r.val % 2048, Nat.mod_lt _ (by decide)⟩ ⟨r.val / 2048, by omega⟩
    have h2 := (h d).lt ⟨r'.val % 2048, Nat.mod_lt _ (by decide)⟩ ⟨r'.val / 2048, by omega⟩
    have e1 : r.val % 2048 = r'.val % 2048 := by omega
    have et : (⟨r.val % 2048, Nat.mod_lt _ (by decide)⟩ : Fin 2048) = ⟨r'.val % 2048, Nat.mod_lt _ (by decide)⟩ := Fin.ext e1
    rw [et] at e h1
    have e2 := congrArg Fin.val ((h d).inj ⟨r'.val % 2048, Nat.mod_lt _ (by decide)⟩ ⟨r.val / 2048, by omega⟩ ⟨r'.val / 2048, by omega⟩ (BitVec.eq_of_toNat_eq (by omega)))
    have e2 : r.val / 2048 = r'.val / 2048 := e2
    exact Fin.ext (by omega)

/-- The row of token `t`'s expert `e`, selected by slot `k`, in the scattered rows. -/
theorem scattered_row (h : ∀ d : Dev nD, Routed (words m d)) (t : Fin 2048) (e : Fin 64) (x : Fin 128) (k : Fin 16)
    (hk : expert (words m d) t k = BitVec.ofNat 32 e.val) (n : Fin 131072) (hn : n.val = 64 * t.val + e.val) :
    G m d (ix2 n x) = (m ((SparseCore.T d).loc main_arg0) : S16x2048x128.Idx → Elt F .f32) (ix3 k t x) := by
  have hr : 2048 * k.val + t.val < 32768 := by omega
  have hw := (h d).row t k
  rw [hk, BitVec.toNat_ofNat, Nat.mod_eq_of_lt (by omega : e.val < 2 ^ 32)] at hw
  have e1 : (⟨(2048 * k.val + t.val) % 2048, Nat.mod_lt _ (by decide)⟩ : Fin 2048) = t := Fin.ext (by show (2048 * k.val + t.val) % 2048 = t.val; omega)
  have e2 : (⟨(2048 * k.val + t.val) / 2048, by omega⟩ : Fin 16) = k := Fin.ext (by show (2048 * k.val + t.val) / 2048 = k.val; omega)
  unfold G
  refine (scattered_at (preOK m h d).2 (r := ⟨2048 * k.val + t.val, hr⟩) ?_).trans ?_
  · unfold target
    rw [← ix2_eq_valueIdx, list_apply]
    refine (congrArg BitVec.toNat (congrArg (words m d) (congrArg₂ ix2 e1 e2))).trans (hw.trans hn.symm)
  · refine (rows_apply m d ⟨2048 * k.val + t.val, hr⟩ x).trans ?_
    exact congrArg _ (congrArg₂ (fun a b => ix3 a b x) e2 e1)

/-! ## The host lines -/

theorem V3_of_ops0 {b : Ref sig .tc} (h0 : b ∉ ([main_v0, main_v1, main_v2] : List (Ref sig .tc))) (h3 : b ≠ main_v3)
    (h1 : b ∉ ([main_v4, main_c, main_call0_v0, main_v5, main_v6, main_v7, main_v8, main_v9, main_c_0, main_v10, main_v11, main_v12, main_v13, main_v14, main_v15] : List (Ref sig .tc))) :
    W3 m d b = m ((d.tc : Thread nD τ).loc b) := by
  unfold W3 V3
  rw [StableHlo.after_of_writes_sub _ _ (StableHlo.forall_writes_sub_of_map ops1_writes) (by simpa using h1), V2_ne m d fun e => h3 (Proc.devRef_injective _ e)]
  unfold V1
  rw [StableHlo.after_of_writes_sub _ _ (StableHlo.forall_writes_sub_of_map ops0_writes) (by simpa using h0)]
  rfl

theorem V2_arg3 : V2 m d (Proc.devRef .tc main_arg3) = m ((d.tc : Thread nD τ).loc main_arg3) := by
  rw [V2_ne m d (by decide)]
  unfold V1
  rw [StableHlo.after_of_writes_sub _ _ (StableHlo.forall_writes_sub_of_map ops0_writes) (by decide)]
  rfl

theorem W3_rows : W3 m d main_v4 = shapeCast S2048x8192 (G m d : S131072x128.Idx → Elt F .f32) shapeCasts_S131072x128_S2048x8192 := by
  have e : V2 m d (Proc.devRef .tc main_v3) = G m d := Function.update_self _ _ _
  unfold W3 V3
  simp only [ops1, StableHlo.TRef.binary, StableHlo.TRef.nullary, StableHlo.TRef.unary, StableHlo.TRef.toBuf, StableHlo.TRef.ofBuf, cast_eq]
  after_results
  rw [e]; rfl

/-- The weights as the combine reads them: padded to 128 rows an expert, laid out in one matrix, rounded. -/
theorem W3_weights : W3 m d main_v7 = truncf .bf16 (shapeCast S8192x1024 (pad S64x128x1024 ![0, 0, 0] ![0, 64, 0] ![0, 0, 0]
    (m ((d.tc : Thread nD τ).loc main_arg3) : S64x64x1024.Idx → Elt F .f32) (sitofp .f32 (constantI S_ 32 0#32))
    pads_S64x64x1024_S64x128x1024_000_0640_000 h_S_) shapeCasts_S64x128x1024_S8192x1024) bitsLt_bf16_f32 := by
  have e := V2_arg3 m d
  unfold W3 V3
  simp only [ops1, StableHlo.TRef.binary, StableHlo.TRef.nullary, StableHlo.TRef.unary, StableHlo.TRef.toBuf, StableHlo.TRef.ofBuf, cast_eq]
  after_results
  rw [e]; rfl

/-- The matrix that spreads an expert's selection over its columns. -/
theorem W3_spread : W3 m d main_v15 = shapeCast S64x8192 (broadcastInDim S64x64x128 ![0, 1] bcast_S64x64_S64x64x128_0_1 (uitofp .bf16 (cmpi .eq
    (addi (iotaInDim S64x64 32 0) (broadcastInDim S64x64 ![] bcast_S_S64x64 (constantI S_ 32 0#32))) (iotaInDim S64x64 32 1)) : S64x64.Idx → Elt F .bf16))
      shapeCasts_S64x64x128_S64x8192 := by
  unfold W3 V3
  simp only [ops1, StableHlo.TRef.binary, StableHlo.TRef.nullary, StableHlo.TRef.unary, StableHlo.TRef.toBuf, StableHlo.TRef.ofBuf, cast_eq]
  after_results
  rfl

/-- The arguments end as they were. -/
theorem kept_args (b : Ref sig .tc) (hb : b ∈ ([main_arg0, main_arg1, main_arg2, main_arg3] : List (Ref sig .tc))) :
    W4 m d b = m ((d.tc : Thread nD τ).loc b) := by
  simp only [List.mem_cons, List.not_mem_nil, or_false] at hb
  rcases hb with rfl | rfl | rfl | rfl
  all_goals
    rw [W4_ne m d _ (by decide)]
    exact V3_of_ops0 m d (by decide) (by decide) (by decide)

end Words

section Product

variable (V : (c : Dev nD) → (b : Ref sig .tc) → Buf (Elt Ideal) ((c : Thread nD τ).loc b))

theorem payload_apply (z : Vec Ideal S256x8192 .f32) (mk : Vec Ideal S256x64 .f32) (e : Vec Ideal S64x8192 .bf16) (w : Vec Ideal S8192x1024 .bf16)
    (r : Fin 256) (c : Fin 1024) : k1_pay1 mk e z w (ix2 r c)
      = ∑ x : Fin 8192, (if Ideal.ofBits FTy.f32 1056964608#32 < ∑ x_1 : Fin 64, mk (ix2 r x_1) * e (ix2 x_1 x) then z (ix2 r x) else 0) * w (ix2 x c) := by
  pointwise [k1_pay1]

/-- The combine's result from its four arrays. -/
def multiplied (z : S2048x8192.Idx → EReal) (mk : S2048x64.Idx → EReal) (e : S64x8192.Idx → EReal) (w : S8192x1024.Idx → EReal) : S2048x1024.Idx → EReal := fun i =>
  ∑ x : Fin 8192, (if Ideal.ofBits FTy.f32 1056964608#32 < ∑ x_1 : Fin 64, mk (ix2 (i 0 : Fin 2048) x_1) * e (ix2 x_1 x) then z (ix2 (i 0 : Fin 2048) x) else 0) * w (ix2 x (i 1 : Fin 1024))

theorem zeros2 : (![0, 0] : Fin 2 → ℕ) = fun _ => 0 := funext fun a => by fin_cases a <;> rfl

theorem combined_eq (z : Vec Ideal S256x8192 .f32) (mk : Vec Ideal S256x64 .f32) (e : Vec Ideal S64x8192 .bf16) (w : Vec Ideal S8192x1024 .bf16) :
    combined z mk e w = k1_pay1 mk e z w := by
  unfold combined
  refine (View.canon_unit_zero zeros2 _ _).trans ?_
  congr 1 <;> exact View.ld_unit_zero zeros2 _ _

/-- Where the windows' blocks are. -/
theorem places : ∀ t : Fin cfg1.N, win1_0.index t = ![t.val, 0] ∧ win1_1.index t = ![t.val, 0] ∧ win1_2.index t = ![0, 0]
    ∧ win1_3.index t = ![0, 0] ∧ win1_4.index t = ![t.val, 0] := by decide +kernel

theorem product_eq (c : Dev nD) : product V c = multiplied (V c main_v4) (V c main_arg2) (V c main_v15) (V c main_v7) := by
  refine (dat V c).arrAt_eq_of_covers 4 _ (by decide +kernel) fun t hf y => ?_
  blk_simp
  rw [after_4, combined_eq]
  obtain ⟨r, x, rfl⟩ : ∃ (r : Fin 256) (x : Fin 1024), y = ix2 r x := ⟨y 0, y 1, eq_ix2 y⟩
  rw [payload_apply]
  unfold multiplied
  blk_point [blockAt, places t]

end Product

section Result

variable (m : (ℓ : Loc nD τ sig) → Buf (Elt Ideal) ℓ) (d : Dev nD)

theorem rows_laid (g : S131072x128.Idx → EReal) (t : Fin 2048) (e : Fin 64) (x : Fin 128) :
    shapeCast S2048x8192 g shapeCasts_S131072x128_S2048x8192 (ix2 t (column e x)) = g (ix2 (⟨64 * t.val + e.val, by omega⟩ : Fin 131072) x) := by
  pointwise
  exact congrArg g (congrArg₂ ix2 (Fin.ext (by simp only []; omega)) (Fin.ext (by simp only []; omega)))

theorem weights_laid (w : S64x64x1024.Idx → EReal) (e : Fin 64) (x : Fin 128) (c : Fin 1024) :
    (truncf .bf16 (shapeCast S8192x1024 (pad S64x128x1024 ![0, 0, 0] ![0, 64, 0] ![0, 0, 0] w (sitofp (F := Ideal) .f32 (constantI S_ 32 0#32))
      pads_S64x64x1024_S64x128x1024_000_0640_000 h_S_) shapeCasts_S64x128x1024_S8192x1024) bitsLt_bf16_f32 : FVec Ideal S8192x1024 .bf16) (ix2 (column e x) c)
      = if h : x.val < 64 then w (ix3 e ⟨x.val, h⟩ c) else 0 := by
  pointwise
  have e1 : (128 * e.val + x.val) / 128 = e.val := by omega
  have e2 : (128 * e.val + x.val) % 128 = x.val := by omega
  by_cases h : x.val < 64
  · rw [dif_pos h, dif_pos ⟨by omega, by omega⟩]
    exact congrArg w (congrArg₂ (fun a b => ix3 a b c) (Fin.ext e1) (Fin.ext e2))
  · rw [dif_neg h, dif_neg fun hh => h (e2 ▸ hh.2)]
    exact (congrArg Real.toEReal (Int.cast_zero)).trans EReal.coe_zero

theorem spread_laid (e e' : Fin 64) (x : Fin 128) :
    shapeCast S64x8192 (broadcastInDim S64x64x128 ![0, 1] bcast_S64x64_S64x64x128_0_1 (uitofp (F := Ideal) .bf16 (cmpi .eq
      (addi (iotaInDim S64x64 32 0) (broadcastInDim S64x64 ![] bcast_S_S64x64 (constantI S_ 32 0#32))) (iotaInDim S64x64 32 1))))
      shapeCasts_S64x64x128_S64x8192 (ix2 e' (column e x)) = if e' = e then (1 : EReal) else 0 := by
  pointwise
  rw [indicator]
  have h : (IntOp.addi (BitVec.ofNat 32 e'.val) 0#32 = BitVec.ofNat 32 ((128 * e.val + x.val) / 128)) ↔ e' = e := by
    rw [show (128 * e.val + x.val) / 128 = e.val by omega, show IntOp.addi (BitVec.ofNat 32 e'.val) 0#32 = BitVec.ofNat 32 e'.val from BitVec.add_zero _]
    refine ⟨fun h => Fin.ext ?_, fun h => h ▸ rfl⟩
    have h := congrArg BitVec.toNat h
    rw [BitVec.toNat_ofNat, BitVec.toNat_ofNat] at h
    omega
  simp only [h]

/-- The result, from the arguments. -/
theorem product_value (h : ∀ d : Dev nD, Routed (words m d))
    (hmk : ∀ (t : Fin 2048) (e : Fin 64), (m ((d.tc : Thread nD τ).loc main_arg2) : S2048x64.Idx → EReal) (ix2 t e) = selected (words m d) t e) (t : Fin 2048) (c : Fin 1024) :
    (product (W3 m) d : S2048x1024.Idx → EReal) (ix2 t c)
      = projected (m ((d.tc : Thread nD τ).loc main_arg0)) (words m d) (m ((d.tc : Thread nD τ).loc main_arg3)) t c := by
  rw [product_eq]
  unfold multiplied
  have e2 : W3 m d main_arg2 = m ((d.tc : Thread nD τ).loc main_arg2) := V3_of_ops0 m d (by decide) (by decide) (by decide)
  refine combine_eq (h d) _ _ t c (fun e => (W3 m d main_arg2 : S2048x64.Idx → EReal) (ix2 t e)) (fun e j => (W3 m d main_v15 : S64x8192.Idx → EReal) (ix2 e j))
    (fun j => (W3 m d main_v4 : S2048x8192.Idx → EReal) (ix2 t j)) (fun j => (W3 m d main_v7 : S8192x1024.Idx → EReal) (ix2 j c)) ?_ ?_ ?_ ?_ ?_
  · intro e; show (W3 m d main_arg2 : S2048x64.Idx → EReal) (ix2 t e) = _; rw [e2]; exact hmk t e
  · intro e e' x; exact (congrFun (W3_spread m d) _).trans (spread_laid e e' x)
  · intro e x k hk
    exact (congrFun (W3_rows m d) _).trans ((rows_laid (G m d) t e (wide x)).trans (scattered_row m d h t e (wide x) k hk _ rfl))
  · intro e x
    refine (congrFun (W3_weights m d) _).trans ((weights_laid _ e (wide x) c).trans (dif_pos x.isLt))
  · intro e x hx
    exact (congrFun (W3_weights m d) _).trans ((weights_laid _ e x c).trans (dif_neg (not_lt.2 hx)))

end Result

end Cert.Proof.Scatter

end
-- ==== Proof.ScatterClaims.lean ====
/-
  The scatter program's claims: its frames at both float instances, its reference's frame, and the value claim at the
  extended reals.
-/
module

public import proofs.«01_k».proof.Defs
public import proofs.«01_k».proof.Proof.Gen.Scatter
public import proofs.«01_k».proof.Proof.Gen.ScatterIdeal
public import proofs.«01_k».proof.Proof.Gen.CombinedIdeal
public import proofs.«01_k».proof.Proof.Gen.CombinedIdeal.Run
public import proofs.«01_k».proof.Proof.Gen.Pre_routed
public import proofs.«01_k».proof.Proof.ScatterValue

@[expose] public section

set_option maxRecDepth 16384

noncomputable section

namespace Cert.Proof.Scatter

open Idealize.ShloMosaic Idealize.ShloMosaic.TcCoe Idealize.SL.Sem

section Names

variable {F : FTy → Type} [FloatOps F]

/-- The two programs' bodies are the same, label by label. -/
theorem bodies_same : @Cert.Scatter.defs₀ F _ _ = @Cert.ScatterIdeal.defs₀ F _ _ := by
  funext p l a
  match p, l, a with
  | .tc, 0, _ => rfl
  | .tc, 1, (_, _) => rfl
  | .scScalar _, 0, _ => rfl
  | .scScalar _, 1, _ => rfl
  | .scVector _ _, 0, _ => rfl
  | .scVector _ _, 1, _ => rfl

theorem defs_same : @Cert.Scatter.defs F _ _ = @Cert.ScatterIdeal.defs F _ _ :=
  congrArg (fun d => Cert.ScatterIdeal.sc.defs (Pipeline.defs Cert.ScatterIdeal.pcfgs d)) bodies_same

end Names

/-- The run at the machine's floats, of the program as the claims name it there. -/
theorem scatter_run (m : (ℓ : Loc Cert.Scatter.nD Cert.Scatter.τ Cert.Scatter.sig) → Buf (Elt Bits) ℓ) (g : Dev Cert.Scatter.nD → PrngReg)
    (h : Cert.Pre_Scatter m) : θ_run (Cert.Scatter.defs (F := Bits)) (Cert.Scatter.threads (F := Bits)) ⟨m, fun _ => 0, g⟩ (QC (F := Bits) m) := by
  rw [defs_same]
  exact run_main (F := Bits) m g (preOK m fun d => routed_of (h d))

theorem scatterIdeal_run (m : (ℓ : Loc Cert.ScatterIdeal.nD Cert.ScatterIdeal.τ Cert.ScatterIdeal.sig) → Buf (Elt Ideal) ℓ) (g : Dev Cert.ScatterIdeal.nD → PrngReg)
    (h : Cert.Pre_ScatterIdeal m) : θ_run (Cert.ScatterIdeal.defs (F := Ideal)) (Cert.ScatterIdeal.threads (F := Ideal)) ⟨m, fun _ => 0, g⟩ (QC (F := Ideal) m) :=
  run_main (F := Ideal) m g (preOK m fun d => routed_of (h d))

section Args

open Cert.ScatterIdeal Cert.ScatterIdeal.Gen

variable {F : FTy → Type} [FloatOps F] (m : (ℓ : Loc nD τ sig) → Buf (Elt F) ℓ)

/-- The arguments after the run. -/
theorem args_kept {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h.1 c main_arg0 rfl).trans (kept_args m c main_arg0 (by decide)), (h.1 c main_arg1 rfl).trans (kept_args m c main_arg1 (by decide)),
    (h.1 c main_arg2 rfl).trans (kept_args m c main_arg2 (by decide)), (h.1 c main_arg3 rfl).trans (kept_args m c main_arg3 (by decide))⟩

end Args

theorem frame_Scatter : Cert.quiescent_Scatter := fun m g h =>
  (θ_run _ _ _).mono (fun _ hq => ⟨fun c => args_kept (F := Bits) m hq c, hq.2⟩) (scatter_run m g h)

theorem frame_ScatterIdeal : Cert.quiescent_ScatterIdeal := fun m g h =>
  (θ_run _ _ _).mono (fun _ hq => ⟨fun c => args_kept (F := Ideal) m hq c, hq.2⟩) (scatterIdeal_run m g h)

theorem frame_CombinedIdeal : Cert.quiescent_CombinedIdeal := fun m g _ =>
  (θ_run _ _ _).mono (fun _ hq => ⟨fun c => (hq c).2, sem_eq_zero_of_no_sems (by decide) _⟩) (Cert.CombinedIdeal.Value.run (F := Ideal) m g)

/-- The combine's result is the reference's, at every element. -/
theorem product_projected (m : (ℓ : Loc Cert.ScatterIdeal.nD Cert.ScatterIdeal.τ Cert.ScatterIdeal.sig) → Buf (Elt Ideal) ℓ) (h : Cert.Pre_ScatterIdeal m)
    (c : Dev Cert.ScatterIdeal.nD) (i : Cert.ScatterIdeal.S2048x1024.Idx) :
    (product (W3 m) c : Cert.ScatterIdeal.S2048x1024.Idx → EReal) i
      = projected (m ((c.tc : Thread Cert.ScatterIdeal.nD Cert.ScatterIdeal.τ).loc Cert.ScatterIdeal.main_arg0)) (words m c)
        (m ((c.tc : Thread Cert.ScatterIdeal.nD Cert.ScatterIdeal.τ).loc Cert.ScatterIdeal.main_arg3)) (i 0) (i 1) := by
  obtain ⟨t, x, rfl⟩ : ∃ (t : Fin 2048) (x : Fin 1024), i = ix2 t x := ⟨i 0, i 1, eq_ix2 i⟩
  exact product_value m c (fun d => routed_of (h d)) (fun t e => mask_of (h c) t e) t x

theorem algebraic_scatter : Cert.algebraic_ScatterIdeal_CombinedIdeal := fun m g m' g' h hm =>
  ⟨fun c => product (W3 m) c,
    (θ_run _ _ _).mono (fun _ hq c => ⟨(hq.1 c Cert.ScatterIdeal.main_v16 rfl).trans (W4_out m c), args_kept (F := Ideal) m hq c⟩) (scatterIdeal_run m g h),
    (θ_run _ _ _).mono (fun _ hq c => ⟨(hq c).1.trans (by
        rw [(hm c).1, (hm c).2.1, (hm c).2.2.2]
        funext i
        obtain ⟨t, x, rfl⟩ : ∃ (t : Fin 2048) (x : Fin 1024), i = ix2 t x := ⟨i 0, i 1, eq_ix2 i⟩
        exact (reference_apply _ _ _ t x).trans (product_projected m h c (ix2 t x)).symm), (hq c).2⟩)
      (Cert.CombinedIdeal.Value.run (F := Ideal) m' g')⟩

end Cert.Proof.Scatter

end
-- ==== Proof.Picks.lean ====
/-
  The sixteen rounds of the gating, over one row of 64 scores: each takes the greatest score, at its first place, and
  overwrites it by −∞. Where no score is −∞ to begin with, the places taken are those a stable sort puts first.
-/
module

public import Idealize.ShloMosaic.Lib.SortPrefix
public import Mathlib.Data.EReal.Basic

@[expose] public section

noncomputable section

namespace Cert.Proof.Gates

open Idealize.ShloMosaic

/-- A row's greatest score. -/
def best (f : Fin 64 → EReal) : EReal := Finset.univ.sup f

theorem le_best (f : Fin 64 → EReal) (e : Fin 64) : f e ≤ best f := Finset.le_sup (Finset.mem_univ e)

theorem exists_best (f : Fin 64 → EReal) : ∃ e, f e = best f := by
  obtain ⟨e, -, h⟩ := Finset.exists_mem_eq_sup Finset.univ ⟨0, Finset.mem_univ _⟩ f
  exact ⟨e, h.symm⟩

theorem places_nonempty (f : Fin 64 → EReal) : (Finset.univ.filter fun e => f e = best f).Nonempty := by
  obtain ⟨e, h⟩ := exists_best f
  exact ⟨e, by simpa using h⟩

/-- The first place that holds it. -/
def pick (f : Fin 64 → EReal) : Fin 64 := (Finset.univ.filter fun e => f e = best f).min' (places_nonempty f)

theorem pick_best (f : Fin 64 → EReal) : f (pick f) = best f := by
  exact (Finset.mem_filter.mp (Finset.min'_mem _ (places_nonempty f))).2

theorem pick_le (f : Fin 64 → EReal) (e : Fin 64) (h : f e = best f) : pick f ≤ e :=
  Finset.min'_le _ _ (by simpa using h)

/-- The row after `k` rounds. -/
def after (f : Fin 64 → EReal) : ℕ → Fin 64 → EReal
  | 0 => f
  | k + 1 => fun e => if e = pick (after f k) then ⊥ else after f k e

/-- The place round `k` takes. -/
def place (f : Fin 64 → EReal) (k : ℕ) : Fin 64 := pick (after f k)

theorem after_of_untaken (f : Fin 64 → EReal) (e : Fin 64) : ∀ k : ℕ, (∀ j < k, place f j ≠ e) → after f k e = f e
  | 0, _ => rfl
  | k + 1, h => by
      have hk : e ≠ pick (after f k) := fun he => h k (Nat.lt_succ_self k) he.symm
      show (if e = pick (after f k) then ⊥ else after f k e) = f e
      rw [if_neg hk]
      exact after_of_untaken f e k fun j hj => h j (Nat.lt_succ_of_lt hj)

theorem after_of_taken (f : Fin 64 → EReal) (e : Fin 64) : ∀ k : ℕ, (∃ j < k, place f j = e) → after f k e = ⊥
  | 0, h => absurd h.choose_spec.1 (Nat.not_lt_zero _)
  | k + 1, ⟨j, hj, he⟩ => by
      show (if e = pick (after f k) then ⊥ else after f k e) = ⊥
      by_cases hk : e = pick (after f k)
      · rw [if_pos hk]
      · rw [if_neg hk]
        refine after_of_taken f e k ⟨j, lt_of_le_of_ne (Nat.le_of_lt_succ hj) fun hjk => hk ?_, he⟩
        rw [← he, hjk]; rfl

variable {f : Fin 64 → EReal}

/-- Fewer than 64 rounds leave a place untaken. -/
theorem exists_untaken (f : Fin 64 → EReal) {k : ℕ} (hk : k < 64) : ∃ e, ∀ j < k, place f j ≠ e := by
  by_contra hn
  push Not at hn
  have hsub : (Finset.univ : Finset (Fin 64)) ⊆ (Finset.range k).image (place f) := fun e _ => by
    obtain ⟨j, hj, he⟩ := hn e
    exact Finset.mem_image.mpr ⟨j, Finset.mem_range.mpr hj, he⟩
  have h1 := (Finset.card_le_card hsub).trans Finset.card_image_le
  rw [Finset.card_univ, Fintype.card_fin, Finset.card_range] at h1
  omega

theorem place_untaken (hf : ∀ e, ⊥ < f e) {k : ℕ} (hk : k < 64) : ∀ j < k, place f j ≠ place f k := by
  intro j hj he
  obtain ⟨e, h⟩ := exists_untaken f hk
  have h1 : after f k (place f k) = ⊥ := after_of_taken f _ k ⟨j, hj, he⟩
  have h2 : after f k (place f k) = best (after f k) := pick_best _
  have h3 := le_best (after f k) e
  rw [after_of_untaken f e k h, ← h2, h1] at h3
  exact absurd (hf e) (not_lt.mpr h3)

/-- Round `k`'s greatest score is the one the row held at the place taken. -/
theorem best_after (hf : ∀ e, ⊥ < f e) {k : ℕ} (hk : k < 64) : best (after f k) = f (place f k) := by
  rw [← after_of_untaken f (place f k) k (place_untaken hf hk)]
  exact (pick_best _).symm

theorem place_injective (hf : ∀ e, ⊥ < f e) : Function.Injective fun k : Fin 16 => place f k.val := by
  intro i j h
  rcases lt_trichotomy i j with hij | hij | hij
  · exact absurd h (place_untaken hf (by omega) _ hij)
  · exact hij
  · exact absurd h.symm (place_untaken hf (by omega) _ hij)

/-- The order of a stable descending sort: the greater score first, of equal ones the earlier. -/
def ahead (f : Fin 64 → EReal) (p q : Fin 64) : Bool := decide (f q < f p) || (decide (f p = f q) && decide (p < q))

theorem not_ahead (hf : ∀ e, ⊥ < f e) {k : ℕ} (hk : k < 64) (p : Fin 64) (hp : ∀ j < k, place f j ≠ p) :
    ahead f p (place f k) = false := by
  have h1 := le_best (after f k) p
  rw [after_of_untaken f p k hp, best_after hf hk] at h1
  unfold ahead
  rw [Bool.or_eq_false_iff, Bool.and_eq_false_iff, decide_eq_false_iff_not, decide_eq_false_iff_not, decide_eq_false_iff_not, not_lt]
  refine ⟨h1, ?_⟩
  by_cases he : f p = f (place f k)
  · refine Or.inr (not_lt.mpr (pick_le _ p ?_))
    rw [after_of_untaken f p k hp, best_after hf hk, he]
  · exact Or.inl he

theorem ahead_total (f : Fin 64 → EReal) : StrictTotalBefore (ahead f) := by
  have := StrictTotalBefore.of_key_then_position (fun a b : EReal => decide (b < a)) f (fun a => by simp)
    (fun a b c hab hbc => by simp only [decide_eq_true_eq] at *; exact hbc.trans hab)
    (fun a b => by
      simp only [decide_eq_true_eq]
      rcases lt_trichotomy a b with h | h | h
      · exact .inr (.inr h)
      · exact .inr (.inl h)
      · exact .inl h)
  refine ⟨this.irrefl, this.trans, this.total⟩

/-! ### The sort by the scores alone keeps equal ones in their order -/

theorem insertBefore_congr (R R' : Fin 64 → Fin 64 → Bool) (a : Fin 64) : ∀ l : List (Fin 64), (∀ b ∈ l, R b a = R' b a) →
    insertBefore R a l = insertBefore R' a l
  | [], _ => rfl
  | b :: l, h => by
      unfold insertBefore
      rw [h b (List.mem_cons_self ..), insertBefore_congr R R' a l fun c hc => h c (List.mem_cons_of_mem _ hc)]

theorem stableSort_eq (R R' : Fin 64 → Fin 64 → Bool) (h : ∀ a b, a < b → R b a = R' b a) :
    ∀ l : List (Fin 64), l.Pairwise (· < ·) → stableSort R l = stableSort R' l
  | [], _ => rfl
  | a :: l, hl => by
      rw [List.pairwise_cons] at hl
      unfold stableSort
      rw [stableSort_eq R R' h l hl.2]
      exact insertBefore_congr R R' a _ fun b hb => h a b (hl.1 b ((perm_stableSort R' l).mem_iff.mp hb))

theorem get_congr {α : Type} {l m : List α} (e : l = m) (i : Fin l.length) (j : Fin m.length) (h : i.val = j.val) : l.get i = m.get j := by
  subst e; rw [Fin.ext h]

theorem sortedFrom_congr {n : ℕ} {R Q : Fin n → Fin n → Bool} (e : sortPositions n R = sortPositions n Q) (k : Fin n) :
    sortedFrom R k = sortedFrom Q k := by
  unfold sortedFrom
  exact get_congr e _ _ rfl

/-- The sort's `k`-th place, for the sixteen first, is the one round `k` takes. -/
theorem sortedFrom_place (hf : ∀ e, ⊥ < f e) (R : Fin 64 → Fin 64 → Bool) (hR : ∀ p q, R p q = decide (f q < f p)) (k : Fin 16) :
    sortedFrom R (k.castLE (by decide)) = place f k.val := by
  have e : sortPositions 64 R = sortPositions 64 (ahead f) :=
    stableSort_eq _ _ (fun a b hab => by
      rw [hR]; unfold ahead
      have : ¬b < a := not_lt.mpr hab.le
      simp [this]) _ (List.pairwise_lt_finRange 64)
  have same : sortedFrom R (k.castLE (by decide)) = sortedFrom (ahead f) (k.castLE (by decide)) := sortedFrom_congr e _
  rw [same]
  exact (ahead_total f).sortedFrom_eq_of_prefix (by decide) (fun k : Fin 16 => place f k.val) (place_injective hf)
    (fun i j hij => not_ahead hf (by omega) _ fun j' hj' => place_untaken hf (by omega) j' (by omega))
    (fun i p hp => not_ahead hf (by omega) p fun j hj => hp ⟨j, by omega⟩) k

end Cert.Proof.Gates

end
-- ==== Proof.GatesRounds.lean ====
/-
  The gating kernel's sixteen rounds, as vector expressions.

  A round reads the row maximum of what is left of the probabilities, the first column that holds it, and puts -∞ over
  that column. The kernel's printed lines cut the rounds at arbitrary places and name each value apart; here every one
  of those values is the round's own (`part2` … `part11`), so each array the kernel stores is an expression in the
  rounds' values (`gatesV`, `joinV`, `maskV`).
-/
module

public import proofs.«01_k».proof.Proof.Gen.GatingIdeal.Skeleton

@[expose] public section

noncomputable section

namespace Cert.Proof.Gates

open Cert.GatingIdeal Cert.GatingIdeal.Gen
open Idealize.ShloMosaic

variable {F : FTy → Type} [FloatOps F]

/-- The column numbers. -/
def eidx : IVec S256x64 32 := iota .tc S256x64 32 [1] iota_S256x64_d1_w32

/-- The row maxima of what is left. -/
def mxV (cur : FVec F S256x64 .f32) : FVec F S256x1 .f32 :=
  shapeCast S256x1 (multiReduction .maximumf [1] S256 cur 0xFF800000#32 reduces_S256x64_S256 (.inl rfl) rfl) shapeCasts_S256_S256x1

/-- Where the row maximum is held. -/
def hitV (cur : FVec F S256x64 .f32) : IVec S256x64 1 := cmpf .oeq cur (broadcastTo S256x64 (mxV cur) broadcasts_S256x1_S256x64)

/-- The first column that holds it. -/
def fsV (cur : FVec F S256x64 .f32) : IVec S256x1 32 :=
  shapeCast S256x1 (multiReductionI .minsi [1] S256 (select (hitV cur) eidx (broadcast S256x64 64#32)) 2147483647#32
    reduces_S256x64_S256 rfl) shapeCasts_S256_S256x1

/-- The place taken in each row, as flags, … -/
def selV (cur : FVec F S256x64 .f32) : IVec S256x64 1 := cmpi .eq eidx (broadcastTo S256x64 (fsV cur) broadcasts_S256x1_S256x64)

/-- … and as zeros and ones. -/
def hotV (cur : FVec F S256x64 .f32) : FVec F S256x64 .f32 := sitofp .f32 (extui 32 (selV cur) natLt_1_32)

/-- What a round leaves. -/
def nextV (cur : FVec F S256x64 .f32) : FVec F S256x64 .f32 := select (selV cur) (broadcast S256x64 (Scalar.ofBits .f32 0xFF800000#32)) cur

/-- What `k` rounds leave of the probabilities. -/
def curV (p : FVec F S256x64 .f32) : ℕ → FVec F S256x64 .f32
  | 0 => p
  | k + 1 => nextV (curV p k)

/-- The places taken by `k` rounds, as zeros and ones. -/
def maskV (p : FVec F S256x64 .f32) : ℕ → FVec F S256x64 .f32
  | 0 => k0_pay12
  | k + 1 => addf (maskV p k) (hotV (curV p k))

/-- The sum of the maxima `k` rounds read. -/
def gsumV (p : FVec F S256x64 .f32) : ℕ → FVec F S256x1 .f32
  | 0 => k0_pay13
  | k + 1 => addf (gsumV p k) (mxV (curV p k))

/-- Row `32 t + f / 2`, … -/
def qV (t f : IVec S256x1 32) : IVec S256x1 32 :=
  addi (muli t (broadcast S256x1 32#32)) (shrui f (broadcast S256x1 1#32))

/-- … parity of `f`, … -/
def parV (f : IVec S256x1 32) : IVec S256x1 32 := andi f (broadcast S256x1 1#32)

/-- … and place `64 t + f`. -/
def scatV (t f : IVec S256x1 32) : IVec S256x1 32 := addi (muli t (broadcast S256x1 64#32)) f

/-- Sixteen columns side by side. -/
def joinV {α : Type} (g : ℕ → S256x1.Idx → α) : S256x16.Idx → α :=
  concatenate S256x16 1 [⟨S256x1, g 0⟩, ⟨S256x1, g 1⟩, ⟨S256x1, g 2⟩, ⟨S256x1, g 3⟩, ⟨S256x1, g 4⟩, ⟨S256x1, g 5⟩, ⟨S256x1, g 6⟩,
    ⟨S256x1, g 7⟩, ⟨S256x1, g 8⟩, ⟨S256x1, g 9⟩, ⟨S256x1, g 10⟩, ⟨S256x1, g 11⟩, ⟨S256x1, g 12⟩, ⟨S256x1, g 13⟩, ⟨S256x1, g 14⟩, ⟨S256x1, g 15⟩]
    concatenates_S256x1_S256x1_S256x1_S256x1_S256x1_S256x1_S256x1_S256x1_S256x1_S256x1_S256x1_S256x1_S256x1_S256x1_S256x1_S256x1_S256x16_d1

/-- The gates: the sixteen maxima over their sum. -/
def gatesV (p : FVec F S256x64 .f32) : FVec F S256x16 .f32 :=
  divf (joinV fun k => mxV (curV p k))
    (broadcastTo S256x16 (addf (gsumV p 16) (broadcast S256x1 (Scalar.ofBits .f32 0x358637BD#32))) broadcasts_S256x1_S256x16)

theorem iota_eidx : iota .tc S256x64 32 [1] iota_S256x64_d1_w32 = eidx := rfl

theorem part1 (x : Vec F S256x1024 .f32) (w : Vec F S1024x64 .f32) :
    k0_pay14 x w = mxV (k0_pay9 x w) ∧ k0_pay15 x w = fsV (k0_pay9 x w) := ⟨rfl, rfl⟩

theorem part2 (p : FVec F S256x64 .f32) (t : IVec S256x1 32) :
    (k0_pay17 t (fsV p) = (qV t (fsV p)))
    ∧ (k0_pay18 (fsV p) = (parV (fsV p)))
    ∧ (k0_pay19 t (fsV p) = (scatV t (fsV p)))
    ∧ (k0_pay21 p eidx (fsV p) = (mxV (curV p 1)))
    ∧ (k0_pay24 p eidx k0_pay12 (fsV p) = (maskV p 2))
    ∧ (k0_pay25 p eidx k0_pay13 (mxV p) (fsV p) = (gsumV p 2))
    ∧ (k0_pay26 p eidx t (fsV p) = (qV t (fsV (curV p 1))))
    ∧ (k0_pay27 p eidx (fsV p) = (parV (fsV (curV p 1))))
    ∧ (k0_pay28 p eidx t (fsV p) = (scatV t (fsV (curV p 1))))
    ∧ (k0_pay29 p eidx (fsV p) = (curV p 2))
    ∧ (k0_pay30 p eidx (fsV p) = (mxV (curV p 2))) := by
  refine ⟨rfl, rfl, rfl, rfl, rfl, rfl, rfl, rfl, rfl, rfl, rfl⟩

theorem part3 (p : FVec F S256x64 .f32) (t : IVec S256x1 32) :
    (k0_pay33 eidx t (curV p 2) (mxV (curV p 2)) = (qV t (fsV (curV p 2))))
    ∧ (k0_pay34 eidx (curV p 2) (mxV (curV p 2)) = (parV (fsV (curV p 2))))
    ∧ (k0_pay35 eidx t (curV p 2) (mxV (curV p 2)) = (scatV t (fsV (curV p 2))))
    ∧ (k0_pay36 eidx (curV p 2) (mxV (curV p 2)) = (curV p 3))
    ∧ (k0_pay37 eidx (curV p 2) (mxV (curV p 2)) = (mxV (curV p 3)))
    ∧ (k0_pay38 eidx (curV p 2) (mxV (curV p 2)) = (fsV (curV p 3)))
    ∧ (k0_pay39 eidx (curV p 2) (mxV (curV p 2)) = (selV (curV p 3)))
    ∧ (k0_pay40 eidx (maskV p 2) (curV p 2) (mxV (curV p 2)) = (maskV p 4))
    ∧ (k0_pay41 eidx (gsumV p 2) (curV p 2) (mxV (curV p 2)) = (gsumV p 4))
    ∧ (k0_pay42 eidx t (curV p 2) (mxV (curV p 2)) = (qV t (fsV (curV p 3))))
    ∧ (k0_pay43 eidx (curV p 2) (mxV (curV p 2)) = (parV (fsV (curV p 3))))
    ∧ (k0_pay44 = (broadcast S256x1 64#32)) := by
  refine ⟨rfl, rfl, rfl, rfl, rfl, rfl, rfl, rfl, rfl, rfl, rfl, rfl⟩

theorem part4 (p : FVec F S256x64 .f32) (t : IVec S256x1 32) :
    (k0_pay45 t (fsV (curV p 3)) (broadcast S256x1 64#32) = (scatV t (fsV (curV p 3))))
    ∧ (k0_pay47 (curV p 3) (selV (curV p 3)) = (mxV (curV p 4)))
    ∧ (k0_pay50 eidx t (curV p 3) (selV (curV p 3)) = (qV t (fsV (curV p 4))))
    ∧ (k0_pay51 eidx (curV p 3) (selV (curV p 3)) = (parV (fsV (curV p 4))))
    ∧ (k0_pay52 eidx t (curV p 3) (selV (curV p 3)) = (scatV t (fsV (curV p 4))))
    ∧ (k0_pay53 eidx (curV p 3) (selV (curV p 3)) = (curV p 5))
    ∧ (k0_pay54 eidx (curV p 3) (selV (curV p 3)) = (mxV (curV p 5)))
    ∧ (k0_pay55 eidx (curV p 3) (selV (curV p 3)) = (fsV (curV p 5)))
    ∧ (k0_pay56 eidx (curV p 3) (selV (curV p 3)) = (selV (curV p 5)))
    ∧ (k0_pay57 eidx (curV p 3) (selV (curV p 3)) (maskV p 4) = (maskV p 6))
    ∧ (k0_pay58 eidx (curV p 3) (selV (curV p 3)) (gsumV p 4) = (gsumV p 6))
    ∧ (k0_pay59 t = (muli t (broadcast S256x1 32#32))) := by
  refine ⟨rfl, rfl, rfl, rfl, rfl, rfl, rfl, rfl, rfl, rfl, rfl, rfl⟩

theorem part5 (p : FVec F S256x64 .f32) (t : IVec S256x1 32) :
    (k0_pay60 (fsV (curV p 5)) (muli t (broadcast S256x1 32#32)) 1#32 = (qV t (fsV (curV p 5))))
    ∧ (k0_pay61 (fsV (curV p 5)) = (parV (fsV (curV p 5))))
    ∧ (k0_pay62 t (fsV (curV p 5)) = (scatV t (fsV (curV p 5))))
    ∧ (k0_pay64 (curV p 5) (selV (curV p 5)) = (mxV (curV p 6)))
    ∧ (k0_pay67 eidx (curV p 5) (selV (curV p 5)) (maskV p 6) = (maskV p 7))
    ∧ (k0_pay68 (curV p 5) (selV (curV p 5)) (gsumV p 6) = (gsumV p 7))
    ∧ (k0_pay69 eidx t (curV p 5) (selV (curV p 5)) = (qV t (fsV (curV p 6))))
    ∧ (k0_pay70 eidx (curV p 5) (selV (curV p 5)) = (parV (fsV (curV p 6))))
    ∧ (k0_pay71 eidx t (curV p 5) (selV (curV p 5)) = (scatV t (fsV (curV p 6))))
    ∧ (k0_pay72 eidx (curV p 5) (selV (curV p 5)) = (curV p 7))
    ∧ (k0_pay73 eidx (curV p 5) (selV (curV p 5)) = (mxV (curV p 7)))
    ∧ (k0_pay74 eidx (curV p 5) (selV (curV p 5)) = (fsV (curV p 7)))
    ∧ (k0_pay75 eidx (curV p 5) (selV (curV p 5)) = (selV (curV p 7))) := by
  refine ⟨rfl, rfl, rfl, rfl, rfl, rfl, rfl, rfl, rfl, rfl, rfl, rfl, rfl⟩

theorem part6 (p : FVec F S256x64 .f32) (t : IVec S256x1 32) :
    (k0_pay76 t (fsV (curV p 7)) = (qV t (fsV (curV p 7))))
    ∧ (k0_pay77 (fsV (curV p 7)) = (parV (fsV (curV p 7))))
    ∧ (k0_pay78 t (fsV (curV p 7)) = (scatV t (fsV (curV p 7))))
    ∧ (k0_pay80 (curV p 7) (selV (curV p 7)) = (mxV (curV p 8)))
    ∧ (k0_pay83 eidx (maskV p 7) (curV p 7) (selV (curV p 7)) = (maskV p 9))
    ∧ (k0_pay84 (gsumV p 7) (curV p 7) (mxV (curV p 7)) (selV (curV p 7)) = (gsumV p 9))
    ∧ (k0_pay85 eidx t (curV p 7) (selV (curV p 7)) = (qV t (fsV (curV p 8))))
    ∧ (k0_pay86 eidx (curV p 7) (selV (curV p 7)) = (parV (fsV (curV p 8))))
    ∧ (k0_pay87 eidx t (curV p 7) (selV (curV p 7)) = (scatV t (fsV (curV p 8))))
    ∧ (k0_pay88 eidx (curV p 7) (selV (curV p 7)) = (curV p 9))
    ∧ (k0_pay89 eidx (curV p 7) (selV (curV p 7)) = (mxV (curV p 9)))
    ∧ (k0_pay90 eidx (curV p 7) (selV (curV p 7)) = (hitV (curV p 9))) := by
  refine ⟨rfl, rfl, rfl, rfl, rfl, rfl, rfl, rfl, rfl, rfl, rfl, rfl⟩

theorem part7 (p : FVec F S256x64 .f32) (t : IVec S256x1 32) :
    (k0_pay93 eidx t (hitV (curV p 9)) = (qV t (fsV (curV p 9))))
    ∧ (k0_pay94 eidx (hitV (curV p 9)) = (parV (fsV (curV p 9))))
    ∧ (k0_pay95 eidx t (hitV (curV p 9)) = (scatV t (fsV (curV p 9))))
    ∧ (k0_pay96 eidx (curV p 9) (hitV (curV p 9)) = (curV p 10))
    ∧ (k0_pay97 eidx (curV p 9) (hitV (curV p 9)) = (mxV (curV p 10)))
    ∧ (k0_pay99 eidx (curV p 9) (hitV (curV p 9)) = (selV (curV p 10)))
    ∧ (k0_pay100 eidx (maskV p 9) (curV p 9) (hitV (curV p 9)) = (maskV p 11))
    ∧ (k0_pay101 eidx (gsumV p 9) (curV p 9) (mxV (curV p 9)) (hitV (curV p 9)) = (gsumV p 11))
    ∧ (k0_pay102 eidx t (curV p 9) (hitV (curV p 9)) = (qV t (fsV (curV p 10))))
    ∧ (k0_pay103 eidx (curV p 9) (hitV (curV p 9)) = (parV (fsV (curV p 10))))
    ∧ (k0_pay104 eidx t (curV p 9) (hitV (curV p 9)) = (scatV t (fsV (curV p 10)))) := by
  refine ⟨rfl, rfl, rfl, rfl, rfl, rfl, rfl, rfl, rfl, rfl, rfl⟩

theorem part8 (p : FVec F S256x64 .f32) (t : IVec S256x1 32) :
    (k0_pay106 (curV p 10) (selV (curV p 10)) = (mxV (curV p 11)))
    ∧ (k0_pay109 eidx t (curV p 10) (selV (curV p 10)) = (qV t (fsV (curV p 11))))
    ∧ (k0_pay110 eidx (curV p 10) (selV (curV p 10)) = (parV (fsV (curV p 11))))
    ∧ (k0_pay111 eidx t (curV p 10) (selV (curV p 10)) = (scatV t (fsV (curV p 11))))
    ∧ (k0_pay112 eidx (curV p 10) (selV (curV p 10)) = (curV p 12))
    ∧ (k0_pay113 eidx (curV p 10) (selV (curV p 10)) = (mxV (curV p 12)))
    ∧ (k0_pay114 eidx (curV p 10) (selV (curV p 10)) = (fsV (curV p 12)))
    ∧ (k0_pay115 eidx (curV p 10) (selV (curV p 10)) = (selV (curV p 12)))
    ∧ (k0_pay116 eidx (curV p 10) (selV (curV p 10)) (maskV p 11) = (maskV p 13))
    ∧ (k0_pay117 eidx (curV p 10) (selV (curV p 10)) (gsumV p 11) = (gsumV p 13))
    ∧ (k0_pay118 t = (muli t (broadcast S256x1 32#32)))
    ∧ (k0_pay119 eidx (curV p 10) (selV (curV p 10)) = (shrui (fsV (curV p 12)) (broadcast S256x1 1#32))) := by
  refine ⟨rfl, rfl, rfl, rfl, rfl, rfl, rfl, rfl, rfl, rfl, rfl, rfl⟩

theorem part9 (p : FVec F S256x64 .f32) (t : IVec S256x1 32) :
    (k0_pay120 (muli t (broadcast S256x1 32#32)) (shrui (fsV (curV p 12)) (broadcast S256x1 1#32)) = (qV t (fsV (curV p 12))))
    ∧ (k0_pay121 (fsV (curV p 12)) = (parV (fsV (curV p 12))))
    ∧ (k0_pay122 t (fsV (curV p 12)) = (scatV t (fsV (curV p 12))))
    ∧ (k0_pay124 (curV p 12) (selV (curV p 12)) = (mxV (curV p 13)))
    ∧ (k0_pay127 eidx (curV p 12) (selV (curV p 12)) (maskV p 13) = (maskV p 14))
    ∧ (k0_pay128 (curV p 12) (selV (curV p 12)) (gsumV p 13) = (gsumV p 14))
    ∧ (k0_pay129 eidx t (curV p 12) (selV (curV p 12)) = (qV t (fsV (curV p 13))))
    ∧ (k0_pay130 eidx (curV p 12) (selV (curV p 12)) = (parV (fsV (curV p 13))))
    ∧ (k0_pay131 eidx t (curV p 12) (selV (curV p 12)) = (scatV t (fsV (curV p 13))))
    ∧ (k0_pay132 eidx (curV p 12) (selV (curV p 12)) = (curV p 14))
    ∧ (k0_pay133 eidx (curV p 12) (selV (curV p 12)) = (mxV (curV p 14)))
    ∧ (k0_pay134 eidx (curV p 12) (selV (curV p 12)) = (fsV (curV p 14)))
    ∧ (k0_pay135 eidx (curV p 12) (selV (curV p 12)) = (selV (curV p 14)))
    ∧ (k0_pay136 eidx (curV p 12) (selV (curV p 12)) = (hotV (curV p 14))) := by
  refine ⟨rfl, rfl, rfl, rfl, rfl, rfl, rfl, rfl, rfl, rfl, rfl, rfl, rfl, rfl⟩

theorem part10 (p : FVec F S256x64 .f32) (t : IVec S256x1 32) :
    (k0_pay137 t (fsV (curV p 14)) = (qV t (fsV (curV p 14))))
    ∧ (k0_pay138 (fsV (curV p 14)) = (parV (fsV (curV p 14))))
    ∧ (k0_pay139 t (fsV (curV p 14)) = (scatV t (fsV (curV p 14))))
    ∧ (k0_pay143 eidx (maskV p 14) (curV p 14) (selV (curV p 14)) (hotV (curV p 14)) = (maskV p 16))
    ∧ (k0_pay144 eidx t (curV p 14) (selV (curV p 14)) = (qV t (fsV (curV p 15))))
    ∧ (k0_pay145 eidx (curV p 14) (selV (curV p 14)) = (parV (fsV (curV p 15))))
    ∧ (k0_pay146 eidx t (curV p 14) (selV (curV p 14)) = (scatV t (fsV (curV p 15))))
    ∧ (k0_pay147 (mxV p) (mxV (curV p 1)) (mxV (curV p 2)) (mxV (curV p 3)) (mxV (curV p 4)) (mxV (curV p 5)) (mxV (curV p 6)) (mxV (curV p 7)) (mxV (curV p 8)) (mxV (curV p 9)) (mxV (curV p 10)) (mxV (curV p 11)) (mxV (curV p 12)) (mxV (curV p 13)) (gsumV p 14) (curV p 14) (mxV (curV p 14)) (selV (curV p 14)) = gatesV p) := by
  refine ⟨rfl, rfl, rfl, rfl, rfl, rfl, rfl, rfl⟩

theorem part11 (p : FVec F S256x64 .f32) (t : IVec S256x1 32) :
    (k0_pay148 (qV t (fsV p)) (qV t (fsV (curV p 1))) (qV t (fsV (curV p 2))) (qV t (fsV (curV p 3))) (qV t (fsV (curV p 4))) (qV t (fsV (curV p 5))) (qV t (fsV (curV p 6))) (qV t (fsV (curV p 7))) (qV t (fsV (curV p 8))) (qV t (fsV (curV p 9))) (qV t (fsV (curV p 10))) (qV t (fsV (curV p 11))) (qV t (fsV (curV p 12))) (qV t (fsV (curV p 13))) (qV t (fsV (curV p 14))) (qV t (fsV (curV p 15))) = joinV fun k => qV t (fsV (curV p k)))
    ∧ (k0_pay149 (parV (fsV p)) (parV (fsV (curV p 1))) (parV (fsV (curV p 2))) (parV (fsV (curV p 3))) (parV (fsV (curV p 4))) (parV (fsV (curV p 5))) (parV (fsV (curV p 6))) (parV (fsV (curV p 7))) (parV (fsV (curV p 8))) (parV (fsV (curV p 9))) (parV (fsV (curV p 10))) (parV (fsV (curV p 11))) (parV (fsV (curV p 12))) (parV (fsV (curV p 13))) (parV (fsV (curV p 14))) (parV (fsV (curV p 15))) = joinV fun k => parV (fsV (curV p k)))
    ∧ (k0_pay150 (scatV t (fsV p)) (scatV t (fsV (curV p 1))) (scatV t (fsV (curV p 2))) (scatV t (fsV (curV p 3))) (scatV t (fsV (curV p 4))) (scatV t (fsV (curV p 5))) (scatV t (fsV (curV p 6))) (scatV t (fsV (curV p 7))) (scatV t (fsV (curV p 8))) (scatV t (fsV (curV p 9))) (scatV t (fsV (curV p 10))) (scatV t (fsV (curV p 11))) (scatV t (fsV (curV p 12))) (scatV t (fsV (curV p 13))) (scatV t (fsV (curV p 14))) (scatV t (fsV (curV p 15))) = joinV fun k => scatV t (fsV (curV p k))) := by
  refine ⟨rfl, rfl, rfl⟩

end Cert.Proof.Gates

end
-- ==== Proof.GatesRows.lean ====
/-
  One row of the gating kernel's rounds, at the ideal instance.

  Each round's vector expressions (`GatesRounds.lean`), read at a row: the greatest of what is left, the first place that
  holds it, and what the row is afterwards (`Picks.lean`).
-/
module

public import proofs.«01_k».proof.Proof.Picks
public import proofs.«01_k».proof.Proof.GatesRounds
public import Idealize.ShloMosaic.Lib.Pointwise

@[expose] public section

noncomputable section

namespace Cert.Proof.Gates

open Cert.GatingIdeal Cert.GatingIdeal.Gen
open Idealize.ShloMosaic

theorem ninf_eq : Ideal.ofBits FTy.f32 4286578688#32 = (⊥ : EReal) := by
  simp [Ideal.ofBits, Ideal.ieee]

/-- The least of some words, from a start. -/
theorem fold_least (g : Fin 64 → BitVec 32) (z : BitVec 32) (s : Finset (Fin 64)) :
    (∀ x ∈ s, (s.fold IntOp.minsi z g).toInt ≤ (g x).toInt) ∧ (s.fold IntOp.minsi z g = z ∨ ∃ x ∈ s, s.fold IntOp.minsi z g = g x) := by
  induction s using Finset.induction_on with
  | empty => exact ⟨fun x hx => absurd hx (Finset.notMem_empty x), .inl rfl⟩
  | insert a s ha ih =>
    rw [Finset.fold_insert ha]
    obtain ⟨h1, h2⟩ := ih
    generalize s.fold IntOp.minsi z g = w at h1 h2
    by_cases h : (g a).slt w
    · have e : IntOp.minsi (g a) w = g a := by unfold IntOp.minsi; rw [if_pos h]
      rw [BitVec.slt_iff_toInt_lt] at h
      rw [e]
      refine ⟨fun x hx => ?_, .inr ⟨a, Finset.mem_insert_self _ _, rfl⟩⟩
      rcases Finset.mem_insert.mp hx with rfl | hx
      · exact le_rfl
      · exact h.le.trans (h1 x hx)
    · have e : IntOp.minsi (g a) w = w := by unfold IntOp.minsi; rw [if_neg h]
      rw [BitVec.slt_iff_toInt_lt, not_lt] at h
      rw [e]
      refine ⟨fun x hx => ?_, ?_⟩
      · rcases Finset.mem_insert.mp hx with rfl | hx
        · exact h
        · exact h1 x hx
      · rcases h2 with h2 | ⟨x, hx, h2⟩
        · exact .inl h2
        · exact .inr ⟨x, Finset.mem_insert_of_mem hx, h2⟩

theorem toInt_small (n : ℕ) (h : n ≤ 64) : (BitVec.ofNat 32 n).toInt = n := by
  have e : (BitVec.ofNat 32 n).toNat = n := by rw [BitVec.toNat_ofNat]; omega
  rw [BitVec.toInt_eq_toNat_cond, e, if_pos (by omega)]

/-- The first place of the greatest score, as the kernel's reduction finds it. -/
theorem fold_pick (f : Fin 64 → EReal) :
    (Finset.univ.fold IntOp.minsi 2147483647#32 fun x : Fin 64 => if f x = best f then BitVec.ofNat 32 x.val else 64#32)
      = BitVec.ofNat 32 (pick f).val := by
  obtain ⟨h1, h2⟩ := fold_least (fun x : Fin 64 => if f x = best f then BitVec.ofNat 32 x.val else 64#32) 2147483647#32 Finset.univ
  generalize Finset.univ.fold IntOp.minsi 2147483647#32 (fun x : Fin 64 => if f x = best f then BitVec.ofNat 32 x.val else 64#32) = w at h1 h2
  have hp := h1 (pick f) (Finset.mem_univ _)
  rw [if_pos (pick_best f), toInt_small _ (pick f).isLt.le] at hp
  have hlt := (pick f).isLt
  rcases h2 with h2 | ⟨x, -, h2⟩
  · rw [h2] at hp
    have : (2147483647#32 : BitVec 32).toInt = 2147483647 := by decide
    omega
  · by_cases hx : f x = best f
    · rw [if_pos hx] at h2
      rw [h2, toInt_small _ x.isLt.le] at hp
      have := pick_le f x hx
      have hv : (pick f).val ≤ x.val := this
      have e : x = pick f := Fin.ext (by omega)
      rw [h2, e]
    · rw [if_neg hx] at h2
      rw [h2] at hp
      have : (64#32 : BitVec 32).toInt = 64 := by decide
      omega

/-- A row of a block. -/
abbrev row (p : FVec Ideal S256x64 .f32) (r : Fin 256) (e : Fin 64) : EReal := p (ix2 r e)

theorem mxV_row (p : FVec Ideal S256x64 .f32) (r : Fin 256) : mxV p (ix2 r 0) = best (row p r) := by
  unfold mxV
  pointwise
  rw [ninf_eq]
  rfl

theorem fsV_row (p : FVec Ideal S256x64 .f32) (r : Fin 256) : fsV p (ix2 r 0) = BitVec.ofNat 32 (pick (row p r)).val := by
  rw [← fold_pick]
  unfold fsV hitV eidx
  pointwise
  simp only [mxV_row]

theorem flag_eq (e : Fin 64) (q : Fin 64) : (BitVec.ofNat 32 e.val = BitVec.ofNat 32 q.val) ↔ e = q := by
  constructor
  · intro h
    have := congrArg BitVec.toNat h
    rw [BitVec.toNat_ofNat, BitVec.toNat_ofNat] at this
    exact Fin.ext (by omega)
  · rintro rfl; rfl

theorem flag_no {e q : Fin 64} (h : ¬e = q) : IntOp.cmpi .eq (BitVec.ofNat 32 e.val) (BitVec.ofNat 32 q.val) = 0#1 := by
  show BitVec.ofBool (BitVec.ofNat 32 e.val == BitVec.ofNat 32 q.val) = 0#1
  rw [beq_eq_false_iff_ne.mpr fun hh => h ((flag_eq _ _).mp hh)]; rfl

theorem nextV_row (p : FVec Ideal S256x64 .f32) (r : Fin 256) (e : Fin 64) :
    nextV p (ix2 r e) = if e = pick (row p r) then ⊥ else p (ix2 r e) := by
  unfold nextV selV eidx
  pointwise
  rw [fsV_row, ninf_eq]
  by_cases h : e = pick (row p r)
  · rw [if_pos h, IntOp.cmpi_eq.mpr ((flag_eq _ _).mpr h)]; rfl
  · rw [if_neg h, flag_no h]; rfl

theorem hotV_row (p : FVec Ideal S256x64 .f32) (r : Fin 256) (e : Fin 64) :
    hotV p (ix2 r e) = if e = pick (row p r) then (1 : EReal) else 0 := by
  unfold hotV selV eidx
  pointwise
  rw [fsV_row]
  by_cases h : e = pick (row p r)
  · rw [if_pos h, IntOp.cmpi_eq.mpr ((flag_eq _ _).mpr h)]
    show (((BitVec.setWidth 32 1#1).toInt : ℝ) : EReal) = 1
    norm_num
  · rw [if_neg h, flag_no h]
    show (((BitVec.setWidth 32 0#1).toInt : ℝ) : EReal) = 0
    norm_num

variable (p : FVec Ideal S256x64 .f32) (r : Fin 256)

theorem curV_row : ∀ (k : ℕ) , row (curV p k) r = after (row p r) k
  | 0 => rfl
  | k + 1 => by
      funext e
      show nextV (curV p k) (ix2 r e) = if e = pick (after (row p r) k) then ⊥ else after (row p r) k e
      rw [nextV_row, ← curV_row k]

theorem best_row (k : ℕ) : mxV (curV p k) (ix2 r 0) = best (after (row p r) k) := by rw [mxV_row, curV_row]

theorem place_row (k : ℕ) : fsV (curV p k) (ix2 r 0) = BitVec.ofNat 32 (place (row p r) k).val := by rw [fsV_row, curV_row]; rfl

theorem maskV_row (e : Fin 64) : ∀ k : ℕ, maskV p k (ix2 r e) = ∑ j : Fin k, if e = place (row p r) j.val then (1 : EReal) else 0
  | 0 => by
      show k0_pay12 (ix2 r e) = _
      unfold k0_pay12
      pointwise
      simp
  | k + 1 => by
      show maskV p k (ix2 r e) + hotV (curV p k) (ix2 r e) = _
      rw [maskV_row e k, hotV_row, curV_row, Fin.sum_univ_castSucc]
      rfl

theorem gsumV_row : ∀ k : ℕ, gsumV p k (ix2 r 0) = ∑ j : Fin k, best (after (row p r) j.val)
  | 0 => by
      show k0_pay13 (ix2 r 0) = _
      unfold k0_pay13
      pointwise
      simp
  | k + 1 => by
      show gsumV p k (ix2 r 0) + mxV (curV p k) (ix2 r 0) = _
      rw [gsumV_row k, best_row, Fin.sum_univ_castSucc]
      rfl

theorem joinV_row {α : Type} (g : ℕ → S256x1.Idx → α) (k : Fin 16) : joinV g (ix2 r k) = g k.val (ix2 r 0) := by
  unfold joinV
  refine (concatenate_ofFn_unit_apply' (N := 16) (s₁ := S256x1) (t := S256x16) 1 (fun n => g n.val) _ rfl (ix2 r k)).trans ?_
  refine congrArg (g k.val) ?_
  funext a
  apply Fin.ext
  match a with
  | ⟨0, _⟩ => rfl
  | ⟨1, _⟩ => rfl

/-- Round `k`'s gate. -/
theorem gatesV_row (k : Fin 16) : gatesV p (ix2 r k)
    = Ideal.div (best (after (row p r) k.val)) ((∑ j : Fin 16, best (after (row p r) j.val)) + Ideal.ofBits FTy.f32 897988541#32) := by
  unfold gatesV
  pointwise
  rw [joinV_row, best_row, gsumV_row]

end Cert.Proof.Gates

end
-- ==== Proof.GatesMath.lean ====
/-
  The router's probabilities over one row of real logits, and the blocks' rows that compute them.
-/
module

public import proofs.«01_k».proof.Proof.GatesRows
public import proofs.«01_k».proof.Pre_finite
public import Idealize.ShloMosaic.Lib.ReduceAll

@[expose] public section

noncomputable section

namespace Cert.Proof.Gates

open Idealize.ShloMosaic

/-- A real number. -/
def Finite (x : EReal) : Prop := ∃ r : ℝ, x = (r : EReal)

theorem coe_sum {ι : Type} (s : Finset ι) (g : ι → ℝ) : (∑ x ∈ s, (g x : EReal)) = ((∑ x ∈ s, g x : ℝ) : EReal) := by
  classical
  induction s using Finset.induction_on with
  | empty => simp
  | insert a s ha ih => rw [Finset.sum_insert ha, Finset.sum_insert ha, ih, EReal.coe_add]

theorem finite_dot {ι : Type} [Fintype ι] (x w : ι → EReal) (hx : ∀ k, Finite (x k)) (hw : ∀ k, Finite (w k)) : Finite (∑ k, x k * w k) := by
  choose a ha using hx
  choose b hb using hw
  refine ⟨∑ k, a k * b k, ?_⟩
  rw [← coe_sum]
  exact Finset.sum_congr rfl fun k _ => by rw [ha, hb, EReal.coe_mul]

theorem finite_of_abs {x : EReal} (h : max x (-x) < ⊤) : Finite x := by
  induction x with
  | bot => exact absurd (h.trans_le le_top) (by simp)
  | top => exact absurd h (by simp)
  | coe r => exact ⟨r, rfl⟩

/-- The row's exponentials, shifted by the greatest logit, … -/
def part (l : Fin 64 → EReal) (e : Fin 64) : EReal := Ideal.exp (l e - best l)

/-- … and as shares of their sum. -/
def soft (l : Fin 64 → EReal) (e : Fin 64) : EReal := Ideal.div (part l e) (∑ x, part l x)

variable {l : Fin 64 → EReal}

theorem soft_pos (hl : ∀ e, Finite (l e)) (e : Fin 64) : ⊥ < soft l e := by
  choose a ha using hl
  obtain ⟨e0, he0⟩ := exists_best l
  have hp : ∀ x, part l x = ((Real.exp (a x - a e0) : ℝ) : EReal) := fun x => by
    unfold part
    rw [← he0, ha x, ha e0, ← EReal.coe_sub, Ideal.exp_coe]
  unfold soft
  simp only [hp]
  rw [coe_sum, Ideal.div_coe (ne_of_gt (Finset.sum_pos (fun x _ => Real.exp_pos _) ⟨e0, Finset.mem_univ _⟩)), ← EReal.coe_mul]
  exact EReal.bot_lt_coe _

theorem lse_eq (hl : ∀ e, Finite (l e)) : best l + Ideal.log (∑ x, part l x) = Ideal.log (∑ x, Ideal.exp (l x)) := by
  choose a ha using hl
  obtain ⟨e0, he0⟩ := exists_best l
  have hp : ∀ x, part l x = ((Real.exp (a x - a e0) : ℝ) : EReal) := fun x => by
    unfold part
    rw [← he0, ha x, ha e0, ← EReal.coe_sub, Ideal.exp_coe]
  have hq : ∀ x, Ideal.exp (l x) = ((Real.exp (a x) : ℝ) : EReal) := fun x => by rw [ha x, Ideal.exp_coe]
  have h0 : 0 < ∑ x, Real.exp (a x - a e0) := Finset.sum_pos (fun x _ => Real.exp_pos _) ⟨e0, Finset.mem_univ _⟩
  have hs : ∑ x, Real.exp (a x) = Real.exp (a e0) * ∑ x, Real.exp (a x - a e0) := by
    rw [Finset.mul_sum]
    refine Finset.sum_congr rfl fun x _ => ?_
    rw [← Real.exp_add]; congr 1; ring
  simp only [hp, hq]
  rw [coe_sum, coe_sum, hs, ← he0, ha e0, Ideal.log_coe, Ideal.log_coe, if_neg (not_le.mpr h0),
    if_neg (not_le.mpr (mul_pos (Real.exp_pos _) h0)), ← EReal.coe_add, Real.log_mul (Real.exp_pos _).ne' h0.ne', Real.log_exp]

section Rows

open Cert.GatingIdeal Cert.GatingIdeal.Gen

/-- A row's logits, of the row and the router's weights. -/
def logits (x : Fin 1024 → EReal) (w : S1024x64.Idx → EReal) (e : Fin 64) : EReal := ∑ k, x k * w (ix2 k e)

variable (x : Vec Ideal S256x1024 .f32) (w : Vec Ideal S1024x64 .f32) (r : Fin 256)

theorem probs_row (e : Fin 64) : k0_pay9 x w (ix2 r e) = soft (logits (fun k => x (ix2 r k)) w) e := by
  unfold soft part best logits
  pointwise [k0_pay9, k0_pay8, k0_pay7, k0_pay6, k0_pay4, k0_pay3]
  rw [ninf_eq]
  rfl

theorem lse_row : k0_pay10 x w (ix2 r 0) = best (logits (fun k => x (ix2 r k)) w) + Ideal.log (∑ e, part (logits (fun k => x (ix2 r k)) w) e) := by
  unfold part best logits
  pointwise [k0_pay10, k0_pay8, k0_pay7, k0_pay6, k0_pay4, k0_pay3]
  rw [ninf_eq]
  rfl

end Rows

/-- The precondition, read. -/
theorem finite_args [Cert.Pre_finite.Facts] (a0 : Cert.Pre_finite.S1x2048x1024.Idx → EReal) (t : Cert.Pre_finite.S_.Idx → BitVec 32)
    (a2 : Cert.Pre_finite.S9x1024x64.Idx → EReal) (a3 : Cert.Pre_finite.S1024x128.Idx → EReal) (a4 : Cert.Pre_finite.S128.Idx → EReal)
    (h : Cert.Pre_finite.fn (F := Ideal) a0 t a2 a3 a4 = fun _ => 1#1) : (∀ i, Finite (a0 i)) ∧ (∀ i, Finite (a2 i)) := by
  have : Subsingleton Cert.Pre_finite.S_.Idx := ⟨fun a b => funext fun k : Fin 0 => k.elim0⟩
  obtain ⟨e1, e2⟩ := IntOp.andi_eq_one.1 (congrFun h (fun k : Fin 0 => k.elim0))
  have inf : Ideal.ofBits FTy.f32 0x7F800000#32 = (⊤ : EReal) := by simp [Ideal.ofBits, Ideal.ieee]
  have one : ∀ b : Bool, BitVec.ofBool b = 1#1 → b = true := by decide
  constructor
  · intro i
    have e := Host.reduce_andi_all _ _ _ _ _ e1 i
    have e : BitVec.ofBool (decide (max (a0 i) (-(a0 i)) < Ideal.ofBits FTy.f32 0x7F800000#32)) = 1#1 := e
    rw [inf] at e
    exact finite_of_abs (of_decide_eq_true (one _ e))
  · intro i
    have e := Host.reduce_andi_all _ _ _ _ _ e2 i
    have e : BitVec.ofBool (decide (max (a2 i) (-(a2 i)) < Ideal.ofBits FTy.f32 0x7F800000#32)) = 1#1 := e
    rw [inf] at e
    exact finite_of_abs (of_decide_eq_true (one _ e))

end Cert.Proof.Gates

end
-- ==== Proof.GatesBlocks.lean ====
/-
  What the gating kernel leaves at a grid point.

  Each of its seven output blocks and three carried sums, as an expression in the blocks the point reads: the printed run's
  own terms for them are opened and the lines' values replaced by the rounds' (`GatesRounds.lean`).
-/
module

public import proofs.«01_k».proof.Proof.GatesRounds
public import proofs.«01_k».proof.Proof.Gen.GatingIdeal.Value
public import Idealize.ShloMosaic.Lib.WholeRead

@[expose] public section

noncomputable section

namespace Cert.Proof.Gates

open Cert.GatingIdeal Cert.GatingIdeal.Gen
open Idealize.ShloMosaic Idealize.ShloMosaic.TcCoe

variable {F : FTy → Type} [FloatOps F]

set_option maxHeartbeats 4000000

/-! ### Whole buffers stored and loaded -/

theorem zeros : (![0, 0] : Fin 2 → ℕ) = fun _ => 0 := funext fun a => by fin_cases a <;> rfl

section Whole

variable {κ : Kind} {sp : Space} {n0 n1 : ℕ} {e : EltTy}

theorem read_store (v : View sig κ sp (⟨2, ![n0, n1]⟩ : Shape) e) (f : v.ty.Contents (Elt F)) (inb : ∀ a, (![0, 0] : Fin 2 → ℕ) a + (⟨2, ![n0, n1]⟩ : Shape).size a ≤ (⟨2, ![n0, n1]⟩ : Shape).size a)
    (x : (⟨2, ![n0, n1]⟩ : Shape).Idx → Elt F e) (L : List (View.Piece (Elt F) (⟨2, ![n0, n1]⟩ : Shape) e)) :
    v.read (Elt F) (v.writes (Elt F) f (⟨Rect.unit ![0, 0] (⟨2, ![n0, n1]⟩ : Shape).size inb, x⟩ :: L)) = x := by
  rw [View.read_writes_eq_canon v f _ fun y => ⟨_, List.mem_cons_self .., View.mem_set_unit_zero zeros inb y⟩]
  exact View.canon_cons_unit_zero zeros inb x L

theorem load_store (v : View sig κ sp (⟨2, ![n0, n1]⟩ : Shape) e) (inb inb' : ∀ a, (![0, 0] : Fin 2 → ℕ) a + (⟨2, ![n0, n1]⟩ : Shape).size a ≤ (⟨2, ![n0, n1]⟩ : Shape).size a)
    (x : (⟨2, ![n0, n1]⟩ : Shape).Idx → Elt F e) (L : List (View.Piece (Elt F) (⟨2, ![n0, n1]⟩ : Shape) e)) :
    v.readCov (⟨Rect.unit ![0, 0] (⟨2, ![n0, n1]⟩ : Shape).size inb, x⟩ :: L) (Rect.unit ![0, 0] (⟨2, ![n0, n1]⟩ : Shape).size inb').toLoadRect = x := by
  rw [View.readCov_eq_canon_ld _ _ _ (fun y => ⟨_, List.mem_cons_self .., View.mem_set_unit_zero zeros inb y⟩)]
  rw [View.canon_cons_unit_zero zeros inb x L]
  exact View.ld_unit_zero zeros inb' x

theorem load_whole {M : Memref sig κ sp (⟨2, ![n0, n1]⟩ : Shape) e} (h : M.IsWhole) (x : (⟨2, ![n0, n1]⟩ : Shape).Idx → Elt F e)
    (inb : ∀ a, (![0, 0] : Fin 2 → ℕ) a + (⟨2, ![n0, n1]⟩ : Shape).size a ≤ (⟨2, ![n0, n1]⟩ : Shape).size a) :
    View.readAt (Elt F) M.view (Rect.unit ![0, 0] (⟨2, ![n0, n1]⟩ : Shape).size inb).toLoadRect (h.unread x) = x := by
  funext y
  rw [h.readAt_unread]
  exact congrFun (View.ld_unit_zero zeros inb x) y

end Whole

theorem load_x {M : Memref sig .tc .vmem S256x1024 .f32} (h : M.IsWhole) (x : Vec F S256x1024 .f32) :
    View.readAt (Elt F) M.view (Rect.unit (s := S256x1024) ![0, 0] ![256, 1024] inb_S256x1024_S256x1024_0_0).toLoadRect (h.unread x) = x := load_whole h x _
theorem load_w {M : Memref sig .tc .vmem S1024x64 .f32} (h : M.IsWhole) (x : Vec F S1024x64 .f32) :
    View.readAt (Elt F) M.view (Rect.unit (s := S1024x64) ![0, 0] ![1024, 64] inb_S1024x64_S1024x64_0_0).toLoadRect (h.unread x) = x := load_whole h x _
theorem load_k {M : Memref sig .tc .vmem S1024x128 .f32} (h : M.IsWhole) (x : Vec F S1024x128 .f32) :
    View.readAt (Elt F) M.view (Rect.unit (s := S1024x128) ![0, 0] ![1024, 128] inb_S1024x128_S1024x128_0_0).toLoadRect (h.unread x) = x := load_whole h x _
theorem load_b {M : Memref sig .tc .vmem S1x128 .f32} (h : M.IsWhole) (x : Vec F S1x128 .f32) :
    View.readAt (Elt F) M.view (Rect.unit (s := S1x128) ![0, 0] ![1, 128] inb_S1x128_S1x128_0_0).toLoadRect (h.unread x) = x := load_whole h x _
variable (m : (ℓ : Loc nD τ sig) → Buf (Elt F) ℓ)

theorem v23_A : kernelRun0_A.sl.v23 = eidx := rfl
theorem v23_B : kernelRun0_B.sl.v23 = eidx := rfl
theorem v23_C : kernelRun0_C.sl.v23 = eidx := rfl

/-- The probabilities of point `t`'s rows. -/
abbrev probs (c : Dev nD) (t : Fin cfg0.N) : FVec F S256x64 .f32 := k0_pay9 (iblk m c 0 t) (iblk m c 1 t)

/-- Its row numbers. -/
abbrev rows (t : Fin cfg0.N) : IVec S256x1 32 := k0_pay11 (grid0.coords t)

/-- The six blocks a point writes, whatever it found. -/
def blocks (c : Dev nD) (t : Fin cfg0.N) : Vec F S256x128 .f32 × Vec F S256x16 .f32 × Vec F S256x16 .i32 × Vec F S256x16 .i32 × Vec F S256x16 .i32 × Vec F S256x64 .f32 :=
  (k0_pay5 (iblk m c 0 t) (iblk m c 2 t) (iblk m c 3 t), gatesV (probs m c t), joinV fun k => qV (rows t) (fsV (curV (probs m c t) k)),
    joinV fun k => parV (fsV (curV (probs m c t) k)), joinV fun k => scatV (rows t) (fsV (curV (probs m c t) k)), maskV (probs m c t) 16)

/-- The three sums after a point that found `s`. -/
def sums (c : Dev nD) (t : Fin cfg0.N) (s : Vec F S1x64 .f32 × Vec F S1x64 .f32 × Vec F S1x1 .f32) : Vec F S1x64 .f32 × Vec F S1x64 .f32 × Vec F S1x1 .f32 :=
  (k0_pay155 (probs m c t) s.1, k0_pay156 (maskV (probs m c t) 16) s.2.1, k0_pay1 s.2.2 (k0_pay157 (k0_pay10 (iblk m c 0 t) (iblk m c 1 t))))

theorem blocks_A (c : Dev nD) (t : Fin cfg0.N) (h0 : t.val % 8 = 0) (h1 : ¬t.val % 8 = 7) :
    ((outsAt0 m c t.val t.isLt).1, (outsAt0 m c t.val t.isLt).2.1, (outsAt0 m c t.val t.isLt).2.2.1, (outsAt0 m c t.val t.isLt).2.2.2.1, (outsAt0 m c t.val t.isLt).2.2.2.2.1, (outsAt0 m c t.val t.isLt).2.2.2.2.2.1) = blocks m c t := by
  rw [outsAt0_A m c t h0 h1]
  dsimp only
  unfold blocks
  refine Prod.ext ?_ ?_
  · unfold out0_A_4 kernelRun0_A; dsimp only; refine (read_store (F := F) _ _ _ _ _).trans ?_
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]; try rfl
  refine Prod.ext ?_ ?_
  · unfold out0_A_5 kernelRun0_A; dsimp only; refine (read_store (F := F) _ _ _ _ _).trans ?_
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]; try rfl
  refine Prod.ext ?_ ?_
  · unfold out0_A_6 kernelRun0_A; dsimp only; refine (read_store (F := F) _ _ _ _ _).trans ?_
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]; try rfl
  refine Prod.ext ?_ ?_
  · unfold out0_A_7 kernelRun0_A; dsimp only; refine (read_store (F := F) _ _ _ _ _).trans ?_
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]; try rfl
  refine Prod.ext ?_ ?_
  · unfold out0_A_8 kernelRun0_A; dsimp only; refine (read_store (F := F) _ _ _ _ _).trans ?_
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]; try rfl
  · unfold out0_A_9 kernelRun0_A; dsimp only; refine (read_store (F := F) _ _ _ _ _).trans ?_
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]; try rfl

theorem sums_A (c : Dev nD) (t : Fin cfg0.N) (h0 : t.val % 8 = 0) (h1 : ¬t.val % 8 = 7) :
    (outsAt0 m c t.val t.isLt).2.2.2.2.2.2.2 = sums m c t (k0_pay151, k0_pay152, k0_pay153) := by
  rw [outsAt0_A m c t h0 h1]
  dsimp only
  unfold sums
  refine Prod.ext ?_ ?_
  · unfold sout0_A_0 kernelRun0_A; dsimp only
    refine (read_store (F := F) _ _ _ _ _).trans ?_
    have e : kernelRun0_A.sl.v460 c scM0_0 = (k0_pay151 (F := F)) := load_store (F := F) _ _ _ _ _
    rw [e]
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]
  refine Prod.ext ?_ ?_
  · unfold sout0_A_1 kernelRun0_A; dsimp only
    refine (read_store (F := F) _ _ _ _ _).trans ?_
    have e : kernelRun0_A.sl.v467 c scM0_1 = (k0_pay152 (F := F)) := load_store (F := F) _ _ _ _ _
    rw [e]
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]
  · unfold sout0_A_2 kernelRun0_A; dsimp only
    refine (read_store (F := F) _ _ _ _ _).trans ?_
    have e : kernelRun0_A.sl.v474 c scM0_2 = (k0_pay153 (F := F)) := load_store (F := F) _ _ _ _ _
    rw [e]
    simp only [load_x, load_w, load_k, load_b, v23_A, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107]
    try rfl

theorem blocks_B (c : Dev nD) (t : Fin cfg0.N) (h0 : ¬t.val % 8 = 0) (h1 : ¬t.val % 8 = 7) :
    ((outsAt0 m c t.val t.isLt).1, (outsAt0 m c t.val t.isLt).2.1, (outsAt0 m c t.val t.isLt).2.2.1, (outsAt0 m c t.val t.isLt).2.2.2.1, (outsAt0 m c t.val t.isLt).2.2.2.2.1, (outsAt0 m c t.val t.isLt).2.2.2.2.2.1) = blocks m c t := by
  rw [outsAt0_B m c t h0 h1]
  dsimp only
  unfold blocks
  refine Prod.ext ?_ ?_
  · unfold out0_B_4 kernelRun0_B; dsimp only; refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]; try rfl
  refine Prod.ext ?_ ?_
  · unfold out0_B_5 kernelRun0_B; dsimp only; refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]; try rfl
  refine Prod.ext ?_ ?_
  · unfold out0_B_6 kernelRun0_B; dsimp only; refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]; try rfl
  refine Prod.ext ?_ ?_
  · unfold out0_B_7 kernelRun0_B; dsimp only; refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]; try rfl
  refine Prod.ext ?_ ?_
  · unfold out0_B_8 kernelRun0_B; dsimp only; refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]; try rfl
  · unfold out0_B_9 kernelRun0_B; dsimp only; refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]; try rfl

theorem sums_B (c : Dev nD) (t : Fin cfg0.N) (h0 : ¬t.val % 8 = 0) (h1 : ¬t.val % 8 = 7) :
    (outsAt0 m c t.val t.isLt).2.2.2.2.2.2.2 = sums m c t (outsAt0 m c (t.val - 1) (Nat.lt_of_le_of_lt (Nat.sub_le _ _) t.isLt)).2.2.2.2.2.2.2 := by
  rw [outsAt0_B m c t h0 h1]
  dsimp only
  unfold sums
  refine Prod.ext ?_ ?_
  · unfold sout0_B_0 kernelRun0_B; dsimp only
    refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]
    exact congrArg (k0_pay155 _) (load_whole (M := scM0_0) (Memref.isWhole_whole _) _ _)
  refine Prod.ext ?_ ?_
  · unfold sout0_B_1 kernelRun0_B; dsimp only
    refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]
    exact congrArg (k0_pay156 _) (load_whole (M := scM0_1) (Memref.isWhole_whole _) _ _)
  · unfold sout0_B_2 kernelRun0_B; dsimp only
    refine (read_store (F := F) _ _ _ _ _).trans ?_
    simp only [load_x, load_w, load_k, load_b, v23_B, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108]
    exact congrArg (fun s => k0_pay1 s _) (load_whole (M := scM0_2) (Memref.isWhole_whole _) _ _)

theorem blocks_C (c : Dev nD) (t : Fin cfg0.N) (h0 : ¬t.val % 8 = 0) (h1 : t.val % 8 = 7) :
    ((outsAt0 m c t.val t.isLt).1, (outsAt0 m c t.val t.isLt).2.1, (outsAt0 m c t.val t.isLt).2.2.1, (outsAt0 m c t.val t.isLt).2.2.2.1, (outsAt0 m c t.val t.isLt).2.2.2.2.1, (outsAt0 m c t.val t.isLt).2.2.2.2.2.1) = blocks m c t := by
  rw [outsAt0_C m c t h0 h1]
  dsimp only
  unfold blocks
  refine Prod.ext ?_ ?_
  · unfold out0_C_4 kernelRun0_C; dsimp only; refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]; try rfl
  refine Prod.ext ?_ ?_
  · unfold out0_C_5 kernelRun0_C; dsimp only; refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]; try rfl
  refine Prod.ext ?_ ?_
  · unfold out0_C_6 kernelRun0_C; dsimp only; refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]; try rfl
  refine Prod.ext ?_ ?_
  · unfold out0_C_7 kernelRun0_C; dsimp only; refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]; try rfl
  refine Prod.ext ?_ ?_
  · unfold out0_C_8 kernelRun0_C; dsimp only; refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]; try rfl
  · unfold out0_C_9 kernelRun0_C; dsimp only; refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]; try rfl

theorem sums_C (c : Dev nD) (t : Fin cfg0.N) (h0 : ¬t.val % 8 = 0) (h1 : t.val % 8 = 7) :
    (outsAt0 m c t.val t.isLt).2.2.2.2.2.2.2 = sums m c t (outsAt0 m c (t.val - 1) (Nat.lt_of_le_of_lt (Nat.sub_le _ _) t.isLt)).2.2.2.2.2.2.2 := by
  rw [outsAt0_C m c t h0 h1]
  dsimp only
  unfold sums
  refine Prod.ext ?_ ?_
  · unfold sout0_C_0 kernelRun0_C; dsimp only
    unfold kernelRun0_C.sl.HS0_1
    refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]
    exact congrArg (k0_pay155 _) (load_whole (M := scM0_0) (Memref.isWhole_whole _) _ _)
  refine Prod.ext ?_ ?_
  · unfold sout0_C_1 kernelRun0_C; dsimp only
    unfold kernelRun0_C.sl.HS1_1
    refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]
    exact congrArg (k0_pay156 _) (load_whole (M := scM0_1) (Memref.isWhole_whole _) _ _)
  · unfold sout0_C_2 kernelRun0_C; dsimp only
    unfold kernelRun0_C.sl.HS2_1
    refine (read_store (F := F) _ _ _ _ _).trans ?_
    simp only [load_x, load_w, load_k, load_b, v23_C, part1, part2 (k0_pay9 (iblk m c 0 t) (iblk m c 1 t)) (k0_pay11 (grid0.coords t)), part3 (k0_pay9 (iblk m c 0 t) (iblk m c 1 t)) (k0_pay11 (grid0.coords t)), part4 (k0_pay9 (iblk m c 0 t) (iblk m c 1 t)) (k0_pay11 (grid0.coords t)), part5 (k0_pay9 (iblk m c 0 t) (iblk m c 1 t)) (k0_pay11 (grid0.coords t)), part6 (k0_pay9 (iblk m c 0 t) (iblk m c 1 t)) (k0_pay11 (grid0.coords t)), part7 (k0_pay9 (iblk m c 0 t) (iblk m c 1 t)) (k0_pay11 (grid0.coords t)), part8 (k0_pay9 (iblk m c 0 t) (iblk m c 1 t)) (k0_pay11 (grid0.coords t)), part9 (k0_pay9 (iblk m c 0 t) (iblk m c 1 t)) (k0_pay11 (grid0.coords t)), part10 (k0_pay9 (iblk m c 0 t) (iblk m c 1 t)) (k0_pay11 (grid0.coords t)), part11 (k0_pay9 (iblk m c 0 t) (iblk m c 1 t)) (k0_pay11 (grid0.coords t)),
        kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108]
    exact congrArg (fun s => k0_pay1 s _) (load_whole (M := scM0_2) (Memref.isWhole_whole _) _ _)

/-- The last point's seventh block is computed of the sums it leaves. -/
theorem aux_C (c : Dev nD) (t : Fin cfg0.N) (h0 : ¬t.val % 8 = 0) (h1 : t.val % 8 = 7) :
    (outsAt0 m c t.val t.isLt).2.2.2.2.2.2.1 = k0_pay2 (outsAt0 m c t.val t.isLt).2.2.2.2.2.2.2.1
      (outsAt0 m c t.val t.isLt).2.2.2.2.2.2.2.2.1 (outsAt0 m c t.val t.isLt).2.2.2.2.2.2.2.2.2 := by
  rw [outsAt0_C m c t h0 h1]
  dsimp only
  unfold out0_C_10 sout0_C_0 sout0_C_1 sout0_C_2 kernelRun0_C; dsimp only; refine (read_store (F := F) _ _ _ _ _).trans ?_
  unfold kernelRun0_C.sl.v488 kernelRun0_C.sl.v489 kernelRun0_C.sl.v512 kernelRun0_C.sl.HS0_1 kernelRun0_C.sl.HS1_1 kernelRun0_C.sl.HS2_1
  refine congr (congr (congrArg k0_pay2 ?_) ?_) ?_
  · exact (load_store (F := F) _ _ _ _ _).trans (Eq.symm (read_store (n0 := 1) (n1 := 64) (F := F) _ _ _ _ _))
  · exact (load_store (F := F) _ _ _ _ _).trans (Eq.symm (read_store (n0 := 1) (n1 := 64) (F := F) _ _ _ _ _))
  · exact (load_store (F := F) _ _ _ _ _).trans (Eq.symm (read_store (n0 := 1) (n1 := 1) (F := F) _ _ _ _ _))

end Cert.Proof.Gates

end
-- ==== Proof.GatesInputs.lean ====
/-
  The gating kernel's input blocks, read off the launch contents.
-/
module

public import proofs.«01_k».proof.Proof.GatesBlocks
public import Idealize.ShloMosaic.Lib.Pointwise
public import Idealize.ShloMosaic.Lib.Pipeline.ValueKit.Point
public import Idealize.ShloMosaic.Lib.StableHlo.RunClose

@[expose] public section

noncomputable section

namespace Cert.Proof.Gates

open Cert.GatingIdeal Cert.GatingIdeal.Gen
open Idealize.ShloMosaic Idealize.ShloMosaic.TcCoe

variable {F : FTy → Type} [FloatOps F]
variable (m : (ℓ : Loc nD τ sig) → Buf (Elt F) ℓ) (c : Dev nD)

/-- The tokens, … -/
abbrev argX : S1x2048x1024.Idx → Elt F .f32 := m ((c : Thread nD τ).loc main_arg0)
/-- the task, … -/
abbrev argT : S_.Idx → BitVec 32 := m ((c : Thread nD τ).loc main_arg1)
/-- the tasks' router weights, … -/
abbrev argW : S9x1024x64.Idx → Elt F .f32 := m ((c : Thread nD τ).loc main_arg2)
/-- the keys' and values' weights … -/
abbrev argK : S1024x128.Idx → Elt F .f32 := m ((c : Thread nD τ).loc main_arg3)
/-- and offset. -/
abbrev argB : S128.Idx → Elt F .f32 := m ((c : Thread nD τ).loc main_arg4)

/-- The router weights of the task the argument names (a negative one counted from the end). -/
def router (w : S9x1024x64.Idx → Elt F .f32) (t : S_.Idx → BitVec 32) : S1024x64.Idx → Elt F .f32 :=
  shapeCast S1024x64 (Host.dynamicSlice S1x1024x64 w (fun k => ((![select (cmpi .slt t (constantI S_ 32 0#32)) (addi t (constantI S_ 32 9#32)) t,
    constantI S_ 32 0#32, constantI S_ 32 0#32] : Fin 3 → S_.Idx → BitVec 32) k (Shape.Idx.first h_S_)).toInt) sliceFits_S9x1024x64_S1x1024x64)
    shapeCasts_S1x1024x64_S1024x64

theorem V_tokens : V m c main_v0 = shapeCast S2048x1024 (argX m c) shapeCasts_S1x2048x1024_S2048x1024 := by
  unfold V
  simp only [hostOps0, hostOps0_1, hostOps0_2, StableHlo.TRef.binary, StableHlo.TRef.nullary, StableHlo.TRef.unary, StableHlo.TRef.ternary, StableHlo.TRef.unaryIndexed, StableHlo.TRef.reshape, StableHlo.TRef.toBuf, StableHlo.TRef.ofBuf, cast_eq,
    List.flatten_cons, List.flatten_nil, List.append_nil, List.cons_append, List.nil_append]
  after_results
  rfl

theorem V_router : V m c main_v1 = router (argW m c) (argT m c) := by
  unfold V
  simp only [hostOps0, hostOps0_1, hostOps0_2, StableHlo.TRef.binary, StableHlo.TRef.nullary, StableHlo.TRef.unary, StableHlo.TRef.ternary, StableHlo.TRef.toBuf, StableHlo.TRef.ofBuf, cast_eq,
    List.flatten_cons, List.flatten_nil, List.append_nil, List.cons_append, List.nil_append]
  after_results_entrywise [router, cast_eq]

theorem V_offset : V m c main_v2 = shapeCast S1x128 (argB m c) shapeCasts_S128_S1x128 := by
  unfold V
  simp only [hostOps0, hostOps0_1, hostOps0_2, StableHlo.TRef.binary, StableHlo.TRef.nullary, StableHlo.TRef.unary, StableHlo.TRef.ternary, StableHlo.TRef.unaryIndexed, StableHlo.TRef.reshape, StableHlo.TRef.toBuf, StableHlo.TRef.ofBuf, cast_eq,
    List.flatten_cons, List.flatten_nil, List.append_nil, List.cons_append, List.nil_append]
  after_results
  rfl

theorem idx_in : ∀ t : Fin cfg0.N, win0_0.index t = ![t.val, 0] ∧ win0_1.index t = ![0, 0] ∧ win0_2.index t = ![0, 0] ∧ win0_3.index t = ![0, 0] :=
  (by decide +kernel : ∀ t : Fin grid0.N, _)

theorem point_lt (t : Fin cfg0.N) : t.val < 8 := lt_of_lt_of_eq t.isLt (show cfg0.N = 8 from N_0)

theorem block_x (t : Fin cfg0.N) (r : Fin 256) (k : Fin 1024) (n : Fin 2048) (hn : n.val = 256 * t.val + r.val) :
    (iblk m c 0 t : S256x1024.Idx → Elt F .f32) (ix2 r k) = argX m c (ix3 0 n k) := by
  have e : (V m c main_v0 : S2048x1024.Idx → Elt F .f32) (ix2 n k) = argX m c (ix3 0 n k) := by
    rw [V_tokens]; pointwise
  rw [← e]
  have := point_lt t
  blk_ext! [iblk, idx_in t]

theorem block_w (t : Fin cfg0.N) : (iblk m c 1 t : S1024x64.Idx → Elt F .f32) = router (argW m c) (argT m c) := by
  rw [← V_router]
  blk_ext! [iblk, idx_in t]

theorem block_k (t : Fin cfg0.N) : (iblk m c 2 t : S1024x128.Idx → Elt F .f32) = argK m c := by
  show _ = (m ((c : Thread nD τ).loc main_arg3) : S1024x128.Idx → Elt F .f32)
  blk_ext! [iblk, V, idx_in t]

theorem block_b (t : Fin cfg0.N) (k : Fin 128) : (iblk m c 3 t : S1x128.Idx → Elt F .f32) (ix2 0 k) = argB m c (ix1 k) := by
  have e : (V m c main_v2 : S1x128.Idx → Elt F .f32) (ix2 0 k) = argB m c (ix1 k) := by
    rw [V_offset]; pointwise
  rw [← e]
  blk_ext! [iblk, idx_in t]

end Cert.Proof.Gates

end
-- ==== Proof.GatesRef.lean ====
/-
  The gating call's reference, read at an index: each token's logits, its experts' shares, the 16 places it takes.
-/
module

public import proofs.«01_k».proof.Proof.Gen.GatedIdeal.Run
public import proofs.«01_k».proof.Proof.GatesMath
public import proofs.«01_k».proof.Proof.GatesInputs
public import Idealize.ShloMosaic.Lib.Routing.Words

@[expose] public section

noncomputable section

namespace Cert.Proof.Gated

open Cert.GatedIdeal Cert.GatedIdeal.Gen Cert.GatedIdeal.Value Cert.Proof.Gates
open Idealize Idealize.ShloMosaic

variable (V : Valuation τ sig (Elt Ideal))

abbrev tokens : S1x2048x1024.Idx → EReal := V (Proc.devRef .tc main_arg0)
abbrev task : S_.Idx → BitVec 32 := V (Proc.devRef .tc main_arg1)
abbrev routers : S9x1024x64.Idx → EReal := V (Proc.devRef .tc main_arg2)
abbrev weights : S1024x128.Idx → EReal := V (Proc.devRef .tc main_arg3)
abbrev offset : S128.Idx → EReal := V (Proc.devRef .tc main_arg4)

/-- Token `n`'s logits, … -/
def scores (x : S1x2048x1024.Idx → EReal) (w : S1024x64.Idx → EReal) (n : Fin 2048) : Fin 64 → EReal :=
  logits (fun k => x (ix3 0 n k)) w

abbrev mine (n : Fin 2048) : Fin 64 → EReal := scores (tokens V) (router (F := Ideal) (routers V) (task V)) n

/-- The floor of a small word's half, as the host's signed division and its correction give it. -/
theorem half_word {n h : ℕ} (hn : n < 2 ^ 31) (hh : h = n / 2) :
    Scalar.select (IntOp.andi (IntOp.cmpi CmpIPredicate.ne
          (if BitVec.ofNat 32 n = 0 then 0 else if (BitVec.ofNat 32 n).msb = true then -1 else 1)
          (if (2#32 : BitVec 32) = 0 then 0 else if BitVec.msb (2#32 : BitVec 32) = true then -1 else (1 : BitVec 32)))
        (IntOp.cmpi CmpIPredicate.ne (IntOp.remsi ArithUnit.host (BitVec.ofNat 32 n) 2#32) 0#32))
      (IntOp.subi (IntOp.divsi ArithUnit.host (BitVec.ofNat 32 n) 2#32) 1#32)
      (IntOp.divsi ArithUnit.host (BitVec.ofNat 32 n) 2#32) = BitVec.ofNat 32 h := by
  rw [show (2#32 : BitVec 32) = BitVec.ofNat 32 2 from rfl, Routing.divsi_word _ hn (by decide) (by decide), Routing.remsi_word _ hn (by decide) (by decide), hh]
  have msb : (BitVec.ofNat 32 n).msb = false := by
    rw [BitVec.msb_eq_decide, BitVec.toNat_ofNat, decide_eq_false_iff_not]; omega
  by_cases h0 : n = 0
  · rw [h0]; rfl
  · have hz : ¬(BitVec.ofNat 32 n = 0) := fun q => h0 (by
      have q := congrArg BitVec.toNat q
      rw [BitVec.toNat_ofNat] at q
      have : (0 : BitVec 32).toNat = 0 := rfl
      omega)
    rw [if_neg hz, msb]
    have one : IntOp.cmpi CmpIPredicate.ne (if false = true then -1 else 1)
          (if (BitVec.ofNat 32 2 : BitVec 32) = 0 then 0 else if BitVec.msb (BitVec.ofNat 32 2 : BitVec 32) = true then -1 else (1 : BitVec 32)) = 0#1 := by decide
    rw [one]
    unfold IntOp.andi
    rw [BitVec.zero_and]
    rfl

/-- A small word's parity, as the host's signed remainder and its correction give it. -/
theorem odd_word (p : Fin 64) :
    Scalar.select (IntOp.andi (IntOp.cmpi CmpIPredicate.ne
          (IntOp.cmpi CmpIPredicate.slt (IntOp.remsi ArithUnit.host (BitVec.ofNat 32 p.val) (Scalar.select (IntOp.cmpi CmpIPredicate.eq 2#32 0#32) (1#32) 2#32)) 0#32)
          (IntOp.cmpi CmpIPredicate.slt (Scalar.select (IntOp.cmpi CmpIPredicate.eq 2#32 0#32) (1#32) 2#32) 0#32))
        (IntOp.cmpi CmpIPredicate.ne (IntOp.remsi ArithUnit.host (BitVec.ofNat 32 p.val) (Scalar.select (IntOp.cmpi CmpIPredicate.eq 2#32 0#32) (1#32) 2#32)) 0#32))
      (IntOp.addi (IntOp.remsi ArithUnit.host (BitVec.ofNat 32 p.val) (Scalar.select (IntOp.cmpi CmpIPredicate.eq 2#32 0#32) (1#32) 2#32))
        (Scalar.select (IntOp.cmpi CmpIPredicate.eq 2#32 0#32) (1#32) 2#32))
      (IntOp.remsi ArithUnit.host (BitVec.ofNat 32 p.val) (Scalar.select (IntOp.cmpi CmpIPredicate.eq 2#32 0#32) (1#32) 2#32))
      = BitVec.ofNat 32 (p.val % 2) := by
  have e : Scalar.select (IntOp.cmpi CmpIPredicate.eq 2#32 0#32) (1#32) 2#32 = BitVec.ofNat 32 2 := by decide
  rw [e, Routing.remsi_word _ (by omega) (by decide) (by decide)]
  have h : p.val % 2 = 0 ∨ p.val % 2 = 1 := by omega
  rcases h with h | h <;> rw [h] <;> decide

theorem v0_apply (a : Fin 2048) (b : Fin 1024) : res_main_v0 V (ix2 a b) = tokens V (ix3 0 a b) := by
  unfold res_main_v0
  pointwise

theorem v12_apply (a : Fin 2048) (b : Fin 64) : res_main_v12 V (ix2 a b) = mine V a b := by
  have e : (shapeCast S1024x64 (Host.dynamicSlice S1x1024x64 (routers V) (fun k => (((![select (cmpi .slt (task V) (constantI S_ 32 0#32)) (addi (task V) (constantI S_ 32 9#32)) (task V), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 64#32)) (constantI S_ 32 0#32)] : Fin 3 → S_.Idx → BitVec 32)) k (Shape.Idx.first h_S_)).toInt) sliceFits_S9x1024x64_S1x1024x64) shapeCasts_S1x1024x64_S1024x64)
      = router (F := Ideal) (routers V) (task V) := by
    unfold router
    congr 2
  unfold res_main_v12
  refine Eq.trans (congrArg (fun z : FVec Ideal S1024x64 .f32 => Host.dotGeneral (F := Ideal) dot_S2048x1024_S1024x64_S2048x64_1_0_0_1_n_n none (res_main_v0 V : FVec Ideal S2048x1024 .f32) z (ix2 a b)) e) ?_
  unfold mine
  generalize router (F := Ideal) (routers V) (task V) = w
  unfold scores logits
  pointwise
  simp only [v0_apply]

theorem v19_apply (a : Fin 2048) (b : Fin 64) : res_main_v19 V (ix2 a b) = Gates.part (mine V a) b := by
  have e : Finset.fold max (Ideal.ofBits FTy.f32 4286578688#32) (res_main_v12 V : S2048x64.Idx → EReal)
      (Finset.univ.filter fun i => reducesTo_S2048x64_S2048_d1.drop i = ix1 a) = best (mine V a) := by
    rw [ninf_eq]
    refine (Shape.ReducesTo.fold_fiber_r2_a1 (n0 := 2048) (n1 := 64) reducesTo_S2048x64_S2048_d1 (ix1 a) max ⊥ _).trans ?_
    exact congrArg (Finset.fold max (⊥ : EReal) · Finset.univ) (funext fun k => v12_apply V a k)
  unfold res_main_v19
  pointwise
  have g : ∀ x z : EReal, x = mine V a b → z = best (mine V a) → Ideal.exp (x - max (Ideal.ofBits FTy.f32 4286578688#32) z) = Gates.part (mine V a) b := by
    rintro _ _ rfl rfl
    rw [ninf_eq, max_eq_right bot_le]
    rfl
  exact g _ _ (v12_apply V a b) e

theorem v23_apply (a : Fin 2048) (b : Fin 64) : res_main_v23 V (ix2 a b) = soft (mine V a) b := by
  unfold res_main_v23
  pointwise
  simp only [v19_apply]
  rfl

section Sorted

variable (x : S2048x64.Idx → EReal) (y : S2048x64.Idx → BitVec 32) (h : S2048x64.Slices (fun _ => 0) S2048x16) (a : Fin 2048) (b : Fin 16)

/-- The positions a row's scores take when sorted, greatest first. -/
abbrev sorted : Fin 64 :=
  sortedFrom (fun k k2 : Fin 64 => FloatOps.cmpfTotal (F := Ideal) (φ := .f32) .gt (x (ix2 a k)) (x (ix2 a k2)) == 1#1) (b.castLE (by decide))

theorem along_row (b2 : Fin 64) (k : Fin 64) : (ix2 a b2 : S2048x64.Idx).along (1 : Fin 2) k = ix2 a k := by
  funext d
  match d with
  | ⟨0, _⟩ => rfl
  | ⟨1, _⟩ => rfl

theorem sort_at : (ix2 a (b.castLE (by decide)) : S2048x64.Idx).along (1 : Fin 2) (sortedFrom (fun k k2 : Fin 64 =>
      FloatOps.cmpfTotal (F := Ideal) (φ := .f32) .gt (x ((ix2 a (b.castLE (by decide)) : S2048x64.Idx).along (1 : Fin 2) k)) (x ((ix2 a (b.castLE (by decide)) : S2048x64.Idx).along (1 : Fin 2) k2)) == 1#1) (b.castLE (by decide)))
    = ix2 a (sorted x a b) :=
  (along_row a _ _).trans (congrArg (fun R : Fin 64 → Fin 64 → Bool => (ix2 a (sortedFrom R (b.castLE (by decide))) : S2048x64.Idx))
    (funext fun k => funext fun k2 => by rw [along_row a _ k, along_row a _ k2]))

theorem sort_fst : (Host.sort2 S2048x64 1 (fun l r => FloatOps.cmpfTotal (F := Ideal) (φ := .f32) .gt l.1 r.1) x y).1 (ix2 a (b.castLE (by decide))) = x (ix2 a (sorted x a b)) := by
  rw [← sort_at x a b]
  rfl

theorem sort_snd : (Host.sort2 S2048x64 1 (fun l r => FloatOps.cmpfTotal (F := Ideal) (φ := .f32) .gt l.1 r.1) x y).2 (ix2 a (b.castLE (by decide))) = y (ix2 a (sorted x a b)) := by
  rw [← sort_at x a b]
  rfl

theorem topK_fst : (Host.topK S2048x16 1 (FloatOps.cmpfTotal (F := Ideal) (φ := .f32) .gt) x h).1 (ix2 a b) = x (ix2 a (sorted x a b)) := by
  unfold Host.topK
  pointwise
  exact sort_fst x _ a b

theorem topK_snd : (Host.topK S2048x16 1 (FloatOps.cmpfTotal (F := Ideal) (φ := .f32) .gt) x h).2 (ix2 a b) = BitVec.ofNat 32 (sorted x a b).val := by
  unfold Host.topK
  pointwise
  exact sort_snd x _ a b

end Sorted

variable (hl : ∀ n e, Finite (mine V n e))

/-- … its experts' shares, and the `k`-th place it takes. -/
abbrev taken (n : Fin 2048) (k : ℕ) : Fin 64 := place (soft (mine V n)) k

include hl

theorem order (a : Fin 2048) (b : Fin 16) :
    sortedFrom (fun k k2 : Fin 64 => FloatOps.cmpfTotal (F := Ideal) (φ := .f32) .gt (res_main_v23 V (ix2 a k)) (res_main_v23 V (ix2 a k2)) == 1#1) (b.castLE (by decide))
      = taken V a b :=
  sortedFrom_place (soft_pos (hl a)) _ (fun p q => by
    rw [v23_apply, v23_apply]
    show (Ideal.cmpTotal _ _ _ == 1#1) = _
    unfold Ideal.cmpTotal
    by_cases h : soft (mine V a) q < soft (mine V a) p <;> simp [Ideal.cmp, CmpDirection.ordered, h]) b

theorem values_apply (a : Fin 2048) (b : Fin 16) : res_main_values V (ix2 a b) = soft (mine V a) (taken V a b) := by
  rw [← order V hl, ← v23_apply]
  exact topK_fst (res_main_v23 V) _ a b

theorem indices_apply (a : Fin 2048) (b : Fin 16) : res_main_indices V (ix2 a b) = BitVec.ofNat 32 (taken V a b).val := by
  rw [← order V hl]
  exact topK_snd (res_main_v23 V) _ a b

theorem v30_apply (a : Fin 2048) (b : Fin 16) (e : Fin 64) : res_main_v30 V (ix3 a b e) = (if e = taken V a b then 1 else 0 : EReal) := by
  unfold res_main_v30
  pointwise
  rw [indices_apply V hl]
  by_cases h : e = taken V a b
  · rw [if_pos h, h]
    show (((IntOp.cmpi .eq _ _).toNat : ℝ) : EReal) = 1
    have : IntOp.cmpi .eq (BitVec.ofNat 32 (taken V a b).val) (BitVec.ofNat 32 (taken V a b).val) = 1#1 := by
      show BitVec.ofBool (_ == _) = 1#1
      rw [beq_self_eq_true]; rfl
    rw [this]
    norm_num
  · rw [if_neg h]
    show (((IntOp.cmpi .eq _ _).toNat : ℝ) : EReal) = 0
    have : IntOp.cmpi .eq (BitVec.ofNat 32 (taken V a b).val) (BitVec.ofNat 32 e.val) = 0#1 := by
      show BitVec.ofBool (_ == _) = 0#1
      rw [beq_eq_false_iff_ne.mpr (fun q => h (Fin.ext (by
        have q := congrArg BitVec.toNat q
        rw [BitVec.toNat_ofNat, BitVec.toNat_ofNat] at q
        have := (taken V a b).isLt
        have := e.isLt
        omega)))]; rfl
    rw [this]
    norm_num

theorem v31_apply (e : Fin 64) : res_main_v31 V (ix1 e) = ∑ n, soft (mine V n) e := by
  unfold res_main_v31
  pointwise
  simp only [v23_apply]

theorem v32_apply (e : Fin 64) : res_main_v32 V (ix1 e) = ∑ n, ∑ k : Fin 16, if e = taken V n k then (1 : EReal) else 0 := by
  have fib : ∀ i : S2048x16x64.Idx, reducesTo_S2048x16x64_S64_d0_1.drop i = ix1 e ↔ ∃ k : Fin 2048 × Fin 16, ix3 k.1 k.2 e = i := by
    intro i
    constructor
    · intro h
      refine ⟨(i 0, i 1), ?_⟩
      have h2 : (i 2).val = e.val := congrArg Fin.val (congrFun h 0)
      funext a; apply Fin.ext
      match a with
      | ⟨0, _⟩ => rfl
      | ⟨1, _⟩ => rfl
      | ⟨2, _⟩ => exact h2.symm
    · rintro ⟨k, rfl⟩
      funext b
      match b with
      | ⟨0, _⟩ => rfl
  unfold res_main_v32
  pointwise
  have z : ∀ f : S2048x16x64.Idx → EReal, Ideal.hostReduceAdd reducesTo_S2048x16x64_S64_d0_1 f 0 (ix1 e)
      = ∑ i ∈ Finset.univ.filter (fun i => reducesTo_S2048x16x64_S64_d0_1.drop i = ix1 e), f i := fun f => zero_add _
  refine (z _).trans ?_
  refine (Finset.sum_filter_eq_sum_of_fiber _ (fun k : Fin 2048 × Fin 16 => (ix3 k.1 k.2 e : S2048x16x64.Idx))
    (fun _ _ e => Prod.ext (congrFun e 0) (congrFun e 1)) fib _).trans ?_
  rw [Fintype.sum_prod_type]
  simp only [v30_apply V hl]

theorem v59_apply (n : Fin 2048) : res_main_v59 V (ix1 n) = Ideal.log (∑ e, Ideal.exp (mine V n e)) := by
  unfold res_main_v59
  pointwise
  simp only [v12_apply]

theorem v77_apply (a : Fin 2048) (b : Fin 16) : res_main_v77 V (ix2 a b) = BitVec.ofNat 32 (64 * a.val + (taken V a b).val) := by
  unfold res_main_v77
  pointwise
  rw [indices_apply V hl, IntOp.addi, IntOp.muli, ← BitVec.ofNat_mul, ← BitVec.ofNat_add, Nat.add_comm]

theorem v78_apply (a : Fin 2048) (b : Fin 16) : val3 V (no_index (Proc.devRef .tc main_v78)) (ix2 a b) = BitVec.ofNat 32 (32 * a.val + (taken V a b).val / 2) := by
  rw [val3_main_v78]; unfold res_main_call2_v2 res_main_call2_v0
  pointwise
  rw [v77_apply V hl]
  have h1 := a.isLt
  have h2 := (taken V a b).isLt
  generalize taken V a b = p at h2 ⊢
  exact half_word (by omega) (by omega)

theorem v79_apply (a : Fin 2048) (b : Fin 16) : val3 V (no_index (Proc.devRef .tc main_v79)) (ix2 a b) = BitVec.ofNat 32 ((taken V a b).val % 2) := by
  rw [val3_main_v79]; unfold res_main_call3_v4 res_main_call3_v2 res_main_call3_v0
  pointwise
  rw [indices_apply V hl]
  generalize taken V a b = p
  exact odd_word p

theorem v80_apply (a : Fin 2048) (e : Fin 64) : val3 V (no_index (Proc.devRef .tc main_v80)) (ix2 a e) = ∑ k : Fin 16, if e = taken V a k then (1 : EReal) else 0 := by
  rw [val3_main_v80]
  pointwise
  simp only [v30_apply V hl]

omit hl in
theorem v71_apply (a : Fin 2048) (b : Fin 128) : val3 V (no_index (Proc.devRef .tc main_v71)) (ix2 a b) = (∑ k, tokens V (ix3 0 a k) * weights V (ix2 k b)) + offset V (ix1 b) := by
  rw [val3_main_v71]
  pointwise
  simp only [v0_apply]

theorem v29_apply (a : Fin 2048) (b : Fin 16) : val3 V (no_index (Proc.devRef .tc main_v29)) (ix2 a b)
    = Ideal.div (soft (mine V a) (taken V a b)) ((∑ k : Fin 16, soft (mine V a) (taken V a k)) + Ideal.ofBits .f32 0x358637BD#32) := by
  rw [val3_main_v29]
  pointwise
  simp only [values_apply V hl]

end Cert.Proof.Gated

end
-- ==== Proof.GatesAux.lean ====
/-
  The auxiliary loss, as a number of the experts' shares and counts and the tokens' squares, on both sides.
-/
module

public import proofs.«01_k».proof.Proof.GatesRef

@[expose] public section

noncomputable section

namespace Cert.Proof.Gates

open Idealize.ShloMosaic

/-- A share of what the numbers' sizes add up to. -/
def share (f : Fin 64 → EReal) (e : Fin 64) : EReal := Ideal.div (f e) (max (∑ x, max (f x) (-(f x))) (Ideal.ofBits .f32 730643660#32))

def loss (imp frq : Fin 64 → EReal) (z : EReal) : EReal :=
  Ideal.ofBits .f32 1036831949#32 * ((∑ e, share imp e * share frq e) * Ideal.ofBits .f32 1115684864#32)
    + Ideal.ofBits .f32 981668463#32 * Ideal.div z (Ideal.ofBits .f32 1157627904#32)

theorem absf_eq (x : EReal) : FloatOps.absf (F := Ideal) (φ := .f32) x = max x (-x) := rfl

open Cert.GatingIdeal Cert.GatingIdeal.Gen in
theorem loss_row (imp frq : Vec Ideal S1x64 .f32) (z : Vec Ideal S1x1 .f32) :
    k0_pay2 imp frq z (ix2 0 0) = loss (fun e => imp (ix2 0 e)) (fun e => frq (ix2 0 e)) (z (ix2 0 0)) := by
  unfold loss share
  pointwise [k0_pay2]
  simp only [absf_eq, Finset.univ_unique, Finset.sum_singleton]

end Cert.Proof.Gates

namespace Cert.Proof.Gated

open Cert.GatedIdeal Cert.GatedIdeal.Gen Cert.GatedIdeal.Value Cert.Proof.Gates
open Idealize Idealize.ShloMosaic

/-- The host's closing expression, over what it is given. -/
theorem tail_apply (a b u : FVec Ideal S64 .f32) (v w : FVec Ideal S_ .f32) (d : FVec Ideal S2048 .f32) :
    (shapeCast S1x1 (addf (addf (mulf (constant S_ .f32 0x00000000#32) (Host.divf (select (cmpf .ogt v (constant S_ .f32 0x00000000#32)) (Host.divf (Host.reduceAdd (mulf u u) (constant S_ .f32 0x00000000#32) reducesTo_S64_S_d0 h_S_) v) (id (constant S_ .f32 0x7FC00000#32))) (addf (mulf w w) (constant S_ .f32 0x2EDBE6FF#32)))) (mulf (constant S_ .f32 0x3DCCCCCD#32) (mulf (Host.reduceAdd (mulf (Host.divf a (broadcastInDim S64 ![] bcast_S_S64 (maximumf (Host.reduceAdd (Host.absf a) (constant S_ .f32 0x00000000#32) reducesTo_S64_S_d0 h_S_) (constant S_ .f32 0x2B8CBCCC#32)))) (Host.divf b (broadcastInDim S64 ![] bcast_S_S64 (maximumf (Host.reduceAdd (Host.absf b) (constant S_ .f32 0x00000000#32) reducesTo_S64_S_d0 h_S_) (constant S_ .f32 0x2B8CBCCC#32))))) (constant S_ .f32 0x00000000#32) reducesTo_S64_S_d0 h_S_) (constant S_ .f32 0x42800000#32)))) (mulf (constant S_ .f32 0x3A83126F#32) (Host.divf (Host.reduceAdd (mulf d d) (constant S_ .f32 0x00000000#32) reducesTo_S2048_S_d0 h_S_) (constant S_ .f32 0x45000000#32)))) shapeCasts_S_S1x1) (ix2 0 0)
      = loss (fun e => a (ix1 e)) (fun e => b (ix1 e)) (∑ n, d (ix1 n) * d (ix1 n)) := by
  unfold loss share
  pointwise
  simp only [absf_eq]
  rw [zero_mul, zero_add]

variable (V : Valuation τ sig (Elt Ideal)) (hl : ∀ n e, Finite (mine V n e))

include hl

theorem v81_apply : val3 V (no_index (Proc.devRef .tc main_v81)) (ix2 0 0) = loss (fun e => ∑ n, soft (mine V n) e)
    (fun e => ∑ n, ∑ k : Fin 16, if e = taken V n k then (1 : EReal) else 0)
    (∑ n, Ideal.log (∑ e, Ideal.exp (mine V n e)) * Ideal.log (∑ e, Ideal.exp (mine V n e))) := by
  rw [val3_main_v81]
  refine (tail_apply (res_main_v31 V) (res_main_v32 V) (res_main_call1_v5 V) (res_main_call1_v8 V) (res_main_v40 V) (res_main_v59 V)).trans ?_
  rw [show (fun e : Fin 64 => (res_main_v31 V (ix1 e) : EReal)) = _ from funext fun e => v31_apply V hl e,
    show (fun e : Fin 64 => (res_main_v32 V (ix1 e) : EReal)) = _ from funext fun e => v32_apply V hl e]
  exact congrArg (loss _ _) (Finset.sum_congr rfl fun n _ => congrArg₂ (fun x y : EReal => x * y) (v59_apply V hl n) (v59_apply V hl n))

end Cert.Proof.Gated

end
-- ==== Proof.GatesKernel.lean ====
/-
  What the gating kernel leaves in its results, token by token.
-/
module

public import proofs.«01_k».proof.Proof.GatesAux

@[expose] public section

noncomputable section

namespace Cert.Proof.Gates

open Cert.GatingIdeal Cert.GatingIdeal.Gen Cert.GatingIdeal.Value
open Idealize.ShloMosaic Idealize.ShloMosaic.TcCoe

variable (m : (ℓ : Loc nD τ sig) → Buf (Elt Ideal) ℓ) (c : Dev nD)

/-- Token `n`'s logits … -/
abbrev seen (n : Fin 2048) : Fin 64 → EReal := Gated.scores (argX m c) (router (F := Ideal) (argW m c) (argT m c)) n

/-- … and the `k`-th place it takes. -/
abbrev got (n : Fin 2048) (k : ℕ) : Fin 64 := place (soft (seen m c n)) k

theorem coords_at : ∀ t : Fin cfg0.N, ((grid0.coords t) 0).val = t.val :=
  (by decide +kernel : ∀ t : Fin grid0.N, ((grid0.coords t) 0).val = t.val)

section Points

variable (t : Fin cfg0.N) (r : Fin 256) (n : Fin 2048) (hn : n.val = 256 * t.val + r.val)

include hn

theorem logits_at : logits (fun k => (iblk m c 0 t : S256x1024.Idx → EReal) (ix2 r k)) (iblk m c 1 t : S1024x64.Idx → EReal) = seen m c n := by
  rw [block_w]
  unfold seen Gated.scores
  exact congrArg (logits · _) (funext fun k => block_x m c t r k n hn)

theorem probs_at : row (probs m c t) r = soft (seen m c n) := by
  rw [← logits_at m c t r n hn]
  exact funext fun e => probs_row _ _ r e

theorem rows_at : rows t (ix2 r 0) = BitVec.ofNat 32 n.val := by
  unfold rows
  pointwise [k0_pay11]
  have h : ((grid0.coords t) 0).val = t.val := by
    exact coords_at t
  rw [h, hn, IntOp.addi, Scalar.muli, IntOp.muli, BitVec.ofNat_add, BitVec.ofNat_mul, BitVec.mul_comm]

end Points

theorem q_word {n p : ℕ} (hp : p < 64) (hn : n < 2048) :
    IntOp.addi (IntOp.muli (BitVec.ofNat 32 n) 32#32) (IntOp.shrui .vector (BitVec.ofNat 32 p) 1#32) = BitVec.ofNat 32 (32 * n + p / 2) := by
  have e : IntOp.shrui .vector (BitVec.ofNat 32 p) 1#32 = BitVec.ofNat 32 (p / 2) := by
    exact (by decide +kernel : ∀ p : Fin 64, IntOp.shrui .vector (BitVec.ofNat 32 p.val) 1#32 = BitVec.ofNat 32 (p.val / 2)) ⟨p, hp⟩
  rw [e, IntOp.addi, IntOp.muli, ← BitVec.ofNat_mul, ← BitVec.ofNat_add, Nat.mul_comm]

theorem par_word : ∀ p : Fin 64, IntOp.andi (BitVec.ofNat 32 p.val) 1#32 = BitVec.ofNat 32 (p.val % 2) := by decide +kernel

section Results

variable (hl : ∀ n e, Finite (seen m c n e))

theorem outs_blocks (t : Fin cfg0.N) :
    ((outsAt0 m c t.val t.isLt).1, (outsAt0 m c t.val t.isLt).2.1, (outsAt0 m c t.val t.isLt).2.2.1, (outsAt0 m c t.val t.isLt).2.2.2.1, (outsAt0 m c t.val t.isLt).2.2.2.2.1, (outsAt0 m c t.val t.isLt).2.2.2.2.2.1) = blocks m c t := by
  by_cases h0 : t.val % 8 = 0
  · exact blocks_A m c t h0 (by omega)
  · by_cases h1 : t.val % 8 = 7
    · exact blocks_C m c t h0 h1
    · exact blocks_B m c t h0 h1

theorem point_of (n : Fin 2048) : ∃ (t : Fin cfg0.N) (r : Fin 256), n.val = 256 * t.val + r.val :=
  ⟨⟨n.val / 256, lt_of_lt_of_eq (by have := n.isLt; omega : n.val / 256 < 8) (N_0).symm⟩, ⟨n.val % 256, by omega⟩, by simp only; omega⟩

include hl

theorem kv_at (t : Fin cfg0.N) (r : Fin 256) (n : Fin 2048) (hn : n.val = 256 * t.val + r.val) (j : Fin 128) : (blocks m c t).1 (ix2 r j) = (∑ k, argX m c (ix3 0 n k) * argK m c (ix2 k j)) + argB m c (ix1 j) := by
  show k0_pay5 _ _ _ (ix2 r j) = _
  pointwise [k0_pay5, k0_pay3]
  simp only [block_x m c t r _ n hn, block_k, block_b]

theorem kv_result (n : Fin 2048) (j : Fin 128) : G4 m c (ix2 n j) = ((∑ k, argX m c (ix3 0 n k) * argK m c (ix2 k j)) + argB m c (ix1 j)) := by
  obtain ⟨t, r, hn⟩ := point_of n
  refine Eq.trans ?_ (kv_at m c hl t r n hn j)
  rw [← outs_blocks m c t]
  have hp : pt4Of (ix2 n j : S2048x128.Idx) = t.val := by
    show 1 * (n.val / 256 - 0) + 1 * (j.val / 128 - 0) = t.val
    omega
  have hloc : loc4Of (ix2 n j : S2048x128.Idx) = ix2 r j := by
    funext a; apply Fin.ext
    match a with
    | ⟨0, _⟩ => show n.val % 256 = r.val; omega
    | ⟨1, _⟩ => show j.val % 128 = j.val; omega
  unfold G4
  rw [dif_pos (by rw [hp]; exact t.isLt), hloc, fold0_congr m c _ _ _ (by rw [Nat.zero_add]; exact t.isLt) hp, ← outsAt0_sweep]

theorem gates_at (t : Fin cfg0.N) (r : Fin 256) (n : Fin 2048) (hn : n.val = 256 * t.val + r.val) (j : Fin 16) : (blocks m c t).2.1 (ix2 r j) = Ideal.div (soft (seen m c n) (got m c n j)) ((∑ k : Fin 16, soft (seen m c n) (got m c n k)) + Ideal.ofBits .f32 0x358637BD#32) := by
  show gatesV _ (ix2 r j) = _
  rw [gatesV_row, probs_at m c t r n hn]
  have b : ∀ k : Fin 16, best (after (soft (seen m c n)) k.val) = soft (seen m c n) (got m c n k) := fun k =>
    best_after (soft_pos (hl n)) (by omega)
  simp only [b]

theorem gates_result (n : Fin 2048) (j : Fin 16) : G5 m c (ix2 n j) = (Ideal.div (soft (seen m c n) (got m c n j)) ((∑ k : Fin 16, soft (seen m c n) (got m c n k)) + Ideal.ofBits .f32 0x358637BD#32)) := by
  obtain ⟨t, r, hn⟩ := point_of n
  refine Eq.trans ?_ (gates_at m c hl t r n hn j)
  rw [← outs_blocks m c t]
  have hp : pt5Of (ix2 n j : S2048x16.Idx) = t.val := by
    show 1 * (n.val / 256 - 0) + 1 * (j.val / 16 - 0) = t.val
    omega
  have hloc : loc5Of (ix2 n j : S2048x16.Idx) = ix2 r j := by
    funext a; apply Fin.ext
    match a with
    | ⟨0, _⟩ => show n.val % 256 = r.val; omega
    | ⟨1, _⟩ => show j.val % 16 = j.val; omega
  unfold G5
  rw [dif_pos (by rw [hp]; exact t.isLt), hloc, fold0_congr m c _ _ _ (by rw [Nat.zero_add]; exact t.isLt) hp, ← outsAt0_sweep]

theorem q_at (t : Fin cfg0.N) (r : Fin 256) (n : Fin 2048) (hn : n.val = 256 * t.val + r.val) (j : Fin 16) : (blocks m c t).2.2.1 (ix2 r j) = BitVec.ofNat 32 (32 * n.val + (got m c n j).val / 2) := by
  unfold blocks
  dsimp only
  rw [joinV_row]
  unfold qV
  pointwise
  rw [place_row, probs_at m c t r n hn, rows_at t r n hn]
  have h := (got m c n j).isLt
  have h2 := n.isLt
  show IntOp.addi (IntOp.muli _ _) (IntOp.shrui .vector _ _) = _
  exact q_word h h2

theorem q_result (n : Fin 2048) (j : Fin 16) : G6 m c (ix2 n j) = (BitVec.ofNat 32 (32 * n.val + (got m c n j).val / 2)) := by
  obtain ⟨t, r, hn⟩ := point_of n
  refine Eq.trans ?_ (q_at m c hl t r n hn j)
  rw [← outs_blocks m c t]
  have hp : pt6Of (ix2 n j : S2048x16.Idx) = t.val := by
    show 1 * (n.val / 256 - 0) + 1 * (j.val / 16 - 0) = t.val
    omega
  have hloc : loc6Of (ix2 n j : S2048x16.Idx) = ix2 r j := by
    funext a; apply Fin.ext
    match a with
    | ⟨0, _⟩ => show n.val % 256 = r.val; omega
    | ⟨1, _⟩ => show j.val % 16 = j.val; omega
  unfold G6
  rw [dif_pos (by rw [hp]; exact t.isLt), hloc, fold0_congr m c _ _ _ (by rw [Nat.zero_add]; exact t.isLt) hp, ← outsAt0_sweep]

theorem parity_at (t : Fin cfg0.N) (r : Fin 256) (n : Fin 2048) (hn : n.val = 256 * t.val + r.val) (j : Fin 16) : (blocks m c t).2.2.2.1 (ix2 r j) = BitVec.ofNat 32 ((got m c n j).val % 2) := by
  unfold blocks
  dsimp only
  rw [joinV_row]
  unfold parV
  pointwise
  rw [place_row, probs_at m c t r n hn]
  exact par_word (got m c n j)

theorem parity_result (n : Fin 2048) (j : Fin 16) : G7 m c (ix2 n j) = (BitVec.ofNat 32 ((got m c n j).val % 2)) := by
  obtain ⟨t, r, hn⟩ := point_of n
  refine Eq.trans ?_ (parity_at m c hl t r n hn j)
  rw [← outs_blocks m c t]
  have hp : pt7Of (ix2 n j : S2048x16.Idx) = t.val := by
    show 1 * (n.val / 256 - 0) + 1 * (j.val / 16 - 0) = t.val
    omega
  have hloc : loc7Of (ix2 n j : S2048x16.Idx) = ix2 r j := by
    funext a; apply Fin.ext
    match a with
    | ⟨0, _⟩ => show n.val % 256 = r.val; omega
    | ⟨1, _⟩ => show j.val % 16 = j.val; omega
  unfold G7
  rw [dif_pos (by rw [hp]; exact t.isLt), hloc, fold0_congr m c _ _ _ (by rw [Nat.zero_add]; exact t.isLt) hp, ← outsAt0_sweep]

theorem index_at (t : Fin cfg0.N) (r : Fin 256) (n : Fin 2048) (hn : n.val = 256 * t.val + r.val) (j : Fin 16) : (blocks m c t).2.2.2.2.1 (ix2 r j) = BitVec.ofNat 32 (64 * n.val + (got m c n j).val) := by
  unfold blocks
  dsimp only
  rw [joinV_row]
  unfold scatV
  pointwise
  rw [place_row, probs_at m c t r n hn, rows_at t r n hn]
  rw [IntOp.addi, IntOp.muli, ← BitVec.ofNat_mul, ← BitVec.ofNat_add, Nat.mul_comm]

theorem index_result (n : Fin 2048) (j : Fin 16) : G8 m c (ix2 n j) = (BitVec.ofNat 32 (64 * n.val + (got m c n j).val)) := by
  obtain ⟨t, r, hn⟩ := point_of n
  refine Eq.trans ?_ (index_at m c hl t r n hn j)
  rw [← outs_blocks m c t]
  have hp : pt8Of (ix2 n j : S2048x16.Idx) = t.val := by
    show 1 * (n.val / 256 - 0) + 1 * (j.val / 16 - 0) = t.val
    omega
  have hloc : loc8Of (ix2 n j : S2048x16.Idx) = ix2 r j := by
    funext a; apply Fin.ext
    match a with
    | ⟨0, _⟩ => show n.val % 256 = r.val; omega
    | ⟨1, _⟩ => show j.val % 16 = j.val; omega
  unfold G8
  rw [dif_pos (by rw [hp]; exact t.isLt), hloc, fold0_congr m c _ _ _ (by rw [Nat.zero_add]; exact t.isLt) hp, ← outsAt0_sweep]

theorem mask_at (t : Fin cfg0.N) (r : Fin 256) (n : Fin 2048) (hn : n.val = 256 * t.val + r.val) (j : Fin 64) : (blocks m c t).2.2.2.2.2 (ix2 r j) = ∑ k : Fin 16, if j = got m c n k then (1 : EReal) else 0 := by
  show maskV _ 16 (ix2 r j) = _
  rw [maskV_row, probs_at m c t r n hn]

theorem mask_result (n : Fin 2048) (j : Fin 64) : G9 m c (ix2 n j) = (∑ k : Fin 16, if j = got m c n k then (1 : EReal) else 0) := by
  obtain ⟨t, r, hn⟩ := point_of n
  refine Eq.trans ?_ (mask_at m c hl t r n hn j)
  rw [← outs_blocks m c t]
  have hp : pt9Of (ix2 n j : S2048x64.Idx) = t.val := by
    show 1 * (n.val / 256 - 0) + 1 * (j.val / 64 - 0) = t.val
    omega
  have hloc : loc9Of (ix2 n j : S2048x64.Idx) = ix2 r j := by
    funext a; apply Fin.ext
    match a with
    | ⟨0, _⟩ => show n.val % 256 = r.val; omega
    | ⟨1, _⟩ => show j.val % 64 = j.val; omega
  unfold G9
  rw [dif_pos (by rw [hp]; exact t.isLt), hloc, fold0_congr m c _ _ _ (by rw [Nat.zero_add]; exact t.isLt) hp, ← outsAt0_sweep]

end Results

end Cert.Proof.Gates

end
-- ==== Proof.GatesSums.lean ====
/-
  The gating kernel's three running sums, over the grid, and the loss it leaves at its last point.
-/
module

public import proofs.«01_k».proof.Proof.GatesKernel

@[expose] public section

noncomputable section

namespace Cert.Proof.Gates

open Cert.GatingIdeal Cert.GatingIdeal.Gen Cert.GatingIdeal.Value
open Idealize.ShloMosaic Idealize.ShloMosaic.TcCoe

/-- A number per token, by the token's number. -/
def numbered (g : Fin 2048 → EReal) (n : ℕ) : EReal := if h : n < 2048 then g ⟨n, h⟩ else 0

theorem all_numbered (g : Fin 2048 → EReal) : ∑ i ∈ Finset.range 2048, numbered g i = ∑ n, g n := by
  rw [Finset.sum_range]
  exact Finset.sum_congr rfl fun n _ => dif_pos n.isLt

theorem block_sum (g : Fin 2048 → EReal) {t : ℕ} (ht : t < 8) (h : Fin 256 → EReal) (hh : ∀ (r : Fin 256) (n : Fin 2048), n.val = 256 * t + r.val → h r = g n)
    (a : EReal) (ha : a = ∑ i ∈ Finset.range (256 * t), numbered g i) : a + ∑ r, h r = ∑ i ∈ Finset.range (256 * (t + 1)), numbered g i := by
  rw [show 256 * (t + 1) = 256 * t + 256 from rfl, Finset.sum_range_add, ha]
  congr 1
  rw [Finset.sum_range]
  refine Finset.sum_congr rfl fun r _ => ?_
  have hr := r.isLt
  unfold numbered
  rw [dif_pos (show 256 * t + r.val < 2048 by omega)]
  exact hh r ⟨256 * t + r.val, by omega⟩ rfl

variable (m : (ℓ : Loc nD τ sig) → Buf (Elt Ideal) ℓ) (c : Dev nD)

theorem shares_step (p : FVec Ideal S256x64 .f32) (s : Vec Ideal S1x64 .f32) (e : Fin 64) : k0_pay155 p s (ix2 0 e) = s (ix2 0 e) + ∑ r : Fin 256, p (ix2 r e) := by
  pointwise [k0_pay155]

theorem counts_step (p : FVec Ideal S256x64 .f32) (s : Vec Ideal S1x64 .f32) (e : Fin 64) : k0_pay156 p s (ix2 0 e) = s (ix2 0 e) + ∑ r : Fin 256, p (ix2 r e) := by
  pointwise [k0_pay156]

theorem squares_step (v : FVec Ideal S256x1 .f32) (s : Vec Ideal S1x1 .f32) : k0_pay1 s (k0_pay157 v) (ix2 0 0) = s (ix2 0 0) + ∑ r : Fin 256, v (ix2 r 0) * v (ix2 r 0) := by
  pointwise [k0_pay1, k0_pay157]
  simp only [Finset.univ_unique, Finset.sum_singleton]

variable (hl : ∀ n e, Finite (seen m c n e))

/-- A token's logarithm of its exponentials' sum. -/
abbrev lse (n : Fin 2048) : EReal := Ideal.log (∑ e, Ideal.exp (seen m c n e))

/-- The sums over the tokens before number `n`. -/
def Holds (s : Vec Ideal S1x64 .f32 × Vec Ideal S1x64 .f32 × Vec Ideal S1x1 .f32) (n : ℕ) : Prop :=
  (∀ e : Fin 64, s.1 (ix2 0 e) = ∑ i ∈ Finset.range n, numbered (fun n => soft (seen m c n) e) i)
  ∧ (∀ e : Fin 64, s.2.1 (ix2 0 e) = ∑ i ∈ Finset.range n, numbered (fun n => ∑ k : Fin 16, if e = got m c n k then (1 : EReal) else 0) i)
  ∧ s.2.2 (ix2 0 0) = ∑ i ∈ Finset.range n, numbered (fun n => lse m c n * lse m c n) i

theorem holds_start : Holds m c (k0_pay151 (F := Ideal), k0_pay152 (F := Ideal), k0_pay153 (F := Ideal)) (256 * 0) := by
  refine ⟨fun e => ?_, fun e => ?_, ?_⟩
  · pointwise [k0_pay151]; rfl
  · pointwise [k0_pay152]; rfl
  · pointwise [k0_pay153]; rfl

include hl

theorem holds_step (t : Fin cfg0.N) (s : Vec Ideal S1x64 .f32 × Vec Ideal S1x64 .f32 × Vec Ideal S1x1 .f32) (h : Holds m c s (256 * t.val)) :
    Holds m c (sums m c t s) (256 * (t.val + 1)) := by
  obtain ⟨h1, h2, h3⟩ := h
  have ht := point_lt t
  refine ⟨fun e => ?_, fun e => ?_, ?_⟩
  · refine (shares_step _ _ e).trans (block_sum _ ht _ (fun r n hn => ?_) _ (h1 e))
    exact congrFun (probs_at m c t r n hn) e
  · refine (counts_step _ _ e).trans (block_sum _ ht _ (fun r n hn => ?_) _ (h2 e))
    rw [maskV_row, probs_at m c t r n hn]
  · refine (squares_step _ _).trans (block_sum _ ht _ (fun r n hn => ?_) _ h3)
    rw [lse_row, logits_at m c t r n hn, lse_eq (hl n)]

theorem holds_after : ∀ (n : ℕ) (hn : n < cfg0.N), Holds m c (outsAt0 m c n hn).2.2.2.2.2.2.2 (256 * (n + 1))
  | 0, hn => by
      rw [sums_A m c ⟨0, hn⟩ rfl (by simp only; omega)]
      exact holds_step m c hl ⟨0, hn⟩ _ (holds_start m c)
  | n + 1, hn => by
      have hlt : n + 1 < 8 := lt_of_lt_of_eq hn N_0
      have ih := holds_after n (Nat.lt_of_succ_lt hn)
      by_cases h7 : (n + 1) % 8 = 7
      · rw [sums_C m c ⟨n + 1, hn⟩ (by simp only; omega) h7]
        exact holds_step m c hl ⟨n + 1, hn⟩ _ ih
      · rw [sums_B m c ⟨n + 1, hn⟩ (by simp only; omega) h7]
        exact holds_step m c hl ⟨n + 1, hn⟩ _ ih

theorem loss_result : (G10 m c : S1x1.Idx → EReal) (ix2 0 0) = loss (fun e => ∑ n, soft (seen m c n) e)
    (fun e => ∑ n, ∑ k : Fin 16, if e = got m c n k then (1 : EReal) else 0) (∑ n, lse m c n * lse m c n) := by
  have h7 : 7 < cfg0.N := lt_of_lt_of_eq (by decide : 7 < 8) (N_0).symm
  have key : ∀ s : Vec Ideal S1x64 .f32 × Vec Ideal S1x64 .f32 × Vec Ideal S1x1 .f32, Holds m c s 2048 →
      k0_pay2 s.1 s.2.1 s.2.2 (ix2 0 0) = loss (fun e => ∑ n, soft (seen m c n) e)
        (fun e => ∑ n, ∑ k : Fin 16, if e = got m c n k then (1 : EReal) else 0) (∑ n, lse m c n * lse m c n) := by
    rintro s ⟨h1, h2, h3⟩
    rw [loss_row, h3, all_numbered]
    simp only [h1, h2, all_numbered]
  have last : ∀ t : Fin cfg0.N, t.val = 7 → (G10 m c : S1x1.Idx → EReal) (ix2 0 0) = loss (fun e => ∑ n, soft (seen m c n) e)
      (fun e => ∑ n, ∑ k : Fin 16, if e = got m c n k then (1 : EReal) else 0) (∑ n, lse m c n * lse m c n) := by
    intro t ht
    have hs := holds_after m c hl t.val t.isLt
    rw [show 256 * (t.val + 1) = 2048 by omega] at hs
    refine Eq.trans (congrFun ?_ _) (key _ hs)
    rw [G10_last, fold0_congr m c 7 _ t.val (by rw [Nat.zero_add]; exact t.isLt) ht.symm, ← outsAt0_sweep]
    exact aux_C m c t (by omega) (by omega)
  exact last ⟨7, h7⟩ rfl

end Cert.Proof.Gates
-- ==== Proof.GatesClaims.lean ====
/-
  The gating call's claims: what the kernel leaves in its seven results is what the reference computes of the arguments.
-/
module

public import proofs.«01_k».proof.Defs
public import proofs.«01_k».proof.Proof.Gen.Gating.Frame
public import proofs.«01_k».proof.Proof.GatesSums
public import Idealize.ShloMosaic.Lib.QuiescentFlight

@[expose] public section

noncomputable section

namespace Cert.Proof.Gates

open Cert.GatingIdeal Cert.GatingIdeal.Gen Cert.GatingIdeal.Value
open Idealize.ShloMosaic Idealize.ShloMosaic.TcCoe Idealize.SL.Sem

/-- The shape relations the precondition's operations take. -/
theorem finite_facts : Cert.Pre_finite.Facts where
  bcast_S_S1x2048x1024 := by decide
  reducesTo_S1x2048x1024_S_d0_1_2 := by decide
  h_S_ := by decide
  bcast_S_S9x1024x64 := by decide
  reducesTo_S9x1024x64_S_d0_1_2 := by decide

theorem router_finite (w : S9x1024x64.Idx → EReal) (t : S_.Idx → BitVec 32) (hw : ∀ i, Finite (w i)) (i : S1024x64.Idx) : Finite (router (F := Ideal) w t i) := by
  unfold router shapeCast Host.dynamicSlice extractStridedSlice
  exact hw _

theorem scores_finite (x : S1x2048x1024.Idx → EReal) (w : S9x1024x64.Idx → EReal) (t : S_.Idx → BitVec 32) (hx : ∀ i, Finite (x i)) (hw : ∀ i, Finite (w i))
    (n : Fin 2048) (e : Fin 64) : Finite (Gated.scores x (router (F := Ideal) w t) n e) :=
  finite_dot (fun k => x (ix3 0 n k)) (fun k => router (F := Ideal) w t (ix2 k e)) (fun _ => hx _) fun _ => router_finite w t hw _

variable (m : (ℓ : Loc nD τ sig) → Buf (Elt Ideal) ℓ) (c : Dev nD)
variable (V : Valuation Cert.GatedIdeal.τ Cert.GatedIdeal.sig (Elt Ideal))

/-- The reference's arguments are the kernel's. -/
structure Same : Prop where
  x : Gated.tokens V = argX m c
  t : Gated.task V = argT m c
  w : Gated.routers V = argW m c
  k : Gated.weights V = argK m c
  b : Gated.offset V = argB m c

section Agree

variable (s : Same m c V) (hl : ∀ n e, Finite (seen m c n e))

include s

theorem mine_eq (n : Fin 2048) : Gated.mine V n = seen m c n := by
  show Gated.scores (Gated.tokens V) (router (F := Ideal) (Gated.routers V) (Gated.task V)) n = _
  rw [s.x, s.t, s.w]

include hl

theorem mine_finite (n : Fin 2048) (e : Fin 64) : Finite (Gated.mine V n e) := by
  rw [mine_eq m c V s]; exact hl n e

theorem taken_eq (n : Fin 2048) (k : ℕ) : Gated.taken V n k = got m c n k := by
  show place (soft (Gated.mine V n)) k = place (soft (seen m c n)) k
  rw [mine_eq m c V s]

theorem kv_agree (a : Fin 2048) (b : Fin 128) : Cert.GatedIdeal.Value.val3 V (Proc.devRef .tc Cert.GatedIdeal.main_v71) (ix2 a b) = G4 m c (ix2 a b) := by
  refine (Gated.v71_apply V a b).trans (Eq.trans ?_ (kv_result m c hl a b).symm)
  rw [s.x, s.k, s.b]

theorem gates_agree (a : Fin 2048) (b : Fin 16) : Cert.GatedIdeal.Value.val3 V (Proc.devRef .tc Cert.GatedIdeal.main_v29) (ix2 a b) = G5 m c (ix2 a b) := by
  refine (Gated.v29_apply V (mine_finite m c V s hl) a b).trans (Eq.trans ?_ (gates_result m c hl a b).symm)
  simp only [taken_eq m c V s hl, mine_eq m c V s]

theorem q_agree (a : Fin 2048) (b : Fin 16) : Cert.GatedIdeal.Value.val3 V (Proc.devRef .tc Cert.GatedIdeal.main_v78) (ix2 a b) = G6 m c (ix2 a b) := by
  refine (Gated.v78_apply V (mine_finite m c V s hl) a b).trans (Eq.trans ?_ (q_result m c hl a b).symm)
  rw [taken_eq m c V s hl]

theorem parity_agree (a : Fin 2048) (b : Fin 16) : Cert.GatedIdeal.Value.val3 V (Proc.devRef .tc Cert.GatedIdeal.main_v79) (ix2 a b) = G7 m c (ix2 a b) := by
  refine (Gated.v79_apply V (mine_finite m c V s hl) a b).trans (Eq.trans ?_ (parity_result m c hl a b).symm)
  rw [taken_eq m c V s hl]

theorem index_agree (a : Fin 2048) (b : Fin 16) : Cert.GatedIdeal.Value.res_main_v77 V (ix2 a b) = G8 m c (ix2 a b) := by
  refine (Gated.v77_apply V (mine_finite m c V s hl) a b).trans (Eq.trans ?_ (index_result m c hl a b).symm)
  rw [taken_eq m c V s hl]

theorem mask_agree (a : Fin 2048) (b : Fin 64) : Cert.GatedIdeal.Value.val3 V (Proc.devRef .tc Cert.GatedIdeal.main_v80) (ix2 a b) = G9 m c (ix2 a b) := by
  refine (Gated.v80_apply V (mine_finite m c V s hl) a b).trans (Eq.trans ?_ (mask_result m c hl a b).symm)
  simp only [taken_eq m c V s hl]

theorem loss_agree : Cert.GatedIdeal.Value.val3 V (Proc.devRef .tc Cert.GatedIdeal.main_v81) (ix2 0 0) = G10 m c (ix2 0 0) := by
  refine (Gated.v81_apply V (mine_finite m c V s hl)).trans (Eq.trans ?_ (loss_result m c hl).symm)
  simp only [taken_eq m c V s hl, mine_eq m c V s]

end Agree

/-- Two arrays of two coordinates that agree at every pair of them are one. -/
theorem all_pairs {n0 n1 : ℕ} {α : Type} {f g : (⟨2, ![n0, n1]⟩ : Shape).Idx → α} (h : ∀ a b, f (ix2 a b) = g (ix2 a b)) : f = g := by
  funext i
  rw [eq_ix2 i]
  exact h _ _

end Cert.Proof.Gates

namespace Cert.Proof.Gating

open Cert.Proof.Gates
open Idealize.ShloMosaic Idealize.SL.Sem

theorem frame_Gating : Cert.quiescent_Gating := fun m g _ => Cert.Gating.Gen.frame m g

theorem frame_GatingIdeal : Cert.quiescent_GatingIdeal := fun m g _ => Cert.GatingIdeal.Gen.frame m g

theorem frame_GatedIdeal : Cert.quiescent_GatedIdeal := fun m g _ =>
  (θ_run _ _ _).mono (fun _ hq => ⟨fun c => (hq c).2.2.2.2.2.2.2, sem_eq_zero_of_no_sems (by decide) _⟩) (Cert.GatedIdeal.Value.run (F := Ideal) m g)

theorem algebraic_gating [Cert.Pre_finite.Facts] : Cert.algebraic_GatingIdeal_GatedIdeal_pre_finite := by
  intro m g m' g' hp hm
  have hl : ∀ c n e, Finite (seen m c n e) := fun c n e => by
    obtain ⟨hx, hw⟩ := finite_args _ _ _ _ _ (hp c)
    exact scores_finite _ _ _ hx hw n e
  have s : ∀ c, Same m c (StableHlo.launchContents m' c) := fun c => ⟨(hm c).1, (hm c).2.1, (hm c).2.2.1, (hm c).2.2.2.1, (hm c).2.2.2.2⟩
  refine ⟨fun c => Cert.GatingIdeal.Value.G4 m c, fun c => Cert.GatingIdeal.Value.G5 m c, fun c => Cert.GatingIdeal.Value.G6 m c, fun c => Cert.GatingIdeal.Value.G7 m c,
    fun c => Cert.GatingIdeal.Value.G8 m c, fun c => Cert.GatingIdeal.Value.G9 m c, fun c => Cert.GatingIdeal.Value.G10 m c, Cert.GatingIdeal.Value.run m g, ?_⟩
  refine (θ_run _ _ _).mono (fun _ h c => ?_) (Cert.GatedIdeal.Value.run (F := Ideal) m' g')
  obtain ⟨h0, h1, h2, h3, h4, h5, h6, rest⟩ := h c
  exact ⟨(h0.trans (Cert.GatedIdeal.Value.val3_main_v71 _).symm).trans (all_pairs (kv_agree m c _ (s c) (hl c))),
    (h1.trans (Cert.GatedIdeal.Value.val3_main_v29 _).symm).trans (all_pairs (gates_agree m c _ (s c) (hl c))),
    (h2.trans (Cert.GatedIdeal.Value.val3_main_v78 _).symm).trans (all_pairs (q_agree m c _ (s c) (hl c))),
    (h3.trans (Cert.GatedIdeal.Value.val3_main_v79 _).symm).trans (all_pairs (parity_agree m c _ (s c) (hl c))),
    h4.trans (all_pairs (index_agree m c _ (s c) (hl c))),
    (h5.trans (Cert.GatedIdeal.Value.val3_main_v80 _).symm).trans (all_pairs (mask_agree m c _ (s c) (hl c))),
    (h6.trans (Cert.GatedIdeal.Value.val3_main_v81 _).symm).trans (all_pairs (n0 := 1) (n1 := 1) fun a b => by
      rw [Subsingleton.elim a 0, Subsingleton.elim b 0]; exact loss_agree m c _ (s c) (hl c)), rest⟩

end Cert.Proof.Gating

end
-- ==== Proof.QueryClaims.lean ====
/-
  The experts' query products: the kernel's blocks of rows make up the product of the tokens with every expert's weights, and
  the reference computes the same.
-/
module

public import proofs.«01_k».proof.Defs
public import proofs.«01_k».proof.Proof.Gen.Query.Frame
public import proofs.«01_k».proof.Proof.Gen.QueryIdeal.Value
public import proofs.«01_k».proof.Proof.Gen.QueriedIdeal.Run
public import Idealize.ShloMosaic.Lib.Pointwise
public import Idealize.ShloMosaic.Lib.Pipeline.Value
public import Idealize.ShloMosaic.Lib.Pipeline.ValueKit
public import Idealize.ShloMosaic.Lib.QuiescentFlight

@[expose] public section

set_option maxRecDepth 4096

noncomputable section

namespace Cert.Proof.Query

open Cert.QueryIdeal Cert.QueryIdeal.Gen
open Idealize.ShloMosaic Idealize.ShloMosaic.TcCoe Idealize.SL.Sem

variable (m : (ℓ : Loc nD τ sig) → Buf (Elt Ideal) ℓ) (c : Dev nD)

/-- The tokens … -/
abbrev argX : S1x2048x1024.Idx → EReal := m ((c : Thread nD τ).loc main_arg0)
/-- … and the experts' query weights. -/
abbrev argM : S64x1024x64.Idx → EReal := m ((c : Thread nD τ).loc main_arg1)

/-- What the kernel reads them as: the tokens' rows … -/
abbrev rows : S2048x1024.Idx → EReal := V m c main_v1
/-- … and the weights, one column for every place of every expert's query. -/
abbrev columns : S1024x4096.Idx → EReal := V m c main_v4

/-- A token's query at place `j` of the experts' queries set side by side, … -/
def query (x : S1x2048x1024.Idx → EReal) (w : S64x1024x64.Idx → EReal) (n : Fin 2048) (j : Fin 4096) : EReal :=
  ∑ k : Fin 1024, x (ix3 0 n k) * w (ix3 (⟨j.val / 64, by omega⟩ : Fin 64) k (⟨j.val % 64, Nat.mod_lt _ (by decide)⟩ : Fin 64))

/-- … and all of them. -/
def queries (x : S1x2048x1024.Idx → EReal) (w : S64x1024x64.Idx → EReal) : S2048x4096.Idx → EReal := fun i => query x w (i 0) (i 1)

theorem payload_apply (x : Vec Ideal S256x1024 .bf16) (w : Vec Ideal S1024x4096 .bf16) (r : Fin 256) (j : Fin 4096) :
    k0_pay1 x w (ix2 r j) = ∑ k : Fin 1024, x (ix2 r k) * w (ix2 k j) := by
  pointwise [k0_pay1]

theorem stored_eq (x : Vec Ideal S256x1024 .bf16) (w : Vec Ideal S1024x4096 .bf16) : out0_2 x w = k0_pay1 x w := by
  have zeros : (![0, 0] : Fin 2 → ℕ) = fun _ => 0 := funext fun a => by fin_cases a <;> rfl
  unfold out0_2
  refine (View.canon_unit_zero zeros _ _).trans ?_
  congr 1 <;> exact View.ld_unit_zero zeros _ _

theorem V_tokens (n : Fin 2048) (k : Fin 1024) : rows m c (ix2 n k) = argX m c (ix3 0 n k) := by
  have e : rows m c = (truncf .bf16 (shapeCast S2048x1024 (argX m c) shapeCasts_S1x2048x1024_S2048x1024 : FVec Ideal S2048x1024 .f32) bitsLt_bf16_f32 : FVec Ideal S2048x1024 .bf16) := by
    unfold rows V
    simp only [hostOps0]
    after_results
    rfl
  rw [e]
  pointwise

theorem V_weights (k : Fin 1024) (j : Fin 4096) : columns m c (ix2 k j)
    = argM m c (ix3 (⟨j.val / 64, by omega⟩ : Fin 64) k (⟨j.val % 64, Nat.mod_lt _ (by decide)⟩ : Fin 64)) := by
  have e : columns m c = (truncf .bf16 (shapeCast S1024x4096 (transpose S1024x64x64 [1, 0, 2] (argM m c) transposes_S64x1024x64_S1024x64x64_1_0_2)
      shapeCasts_S1024x64x64_S1024x4096 : FVec Ideal S1024x4096 .f32) bitsLt_bf16_f32 : FVec Ideal S1024x4096 .bf16) := by
    unfold columns V
    simp only [hostOps0]
    after_results
    rfl
  rw [e]
  pointwise

theorem places : ∀ t : Fin cfg0.N, win0_0.index t = ![t.val, 0] ∧ win0_1.index t = ![0, 0] ∧ win0_2.index t = ![t.val, 0] := by decide +kernel

/-- What the result's array holds after the run. -/
theorem result_eq : (dats m 0 c).arrAt 2 cfg0.N = queries (argX m c) (argM m c) := by
  have point : ∀ (n : Fin 2048) (j : Fin 4096), query (argX m c) (argM m c) n j = ∑ k : Fin 1024, rows m c (ix2 n k) * columns m c (ix2 k j) := fun n j =>
    Finset.sum_congr rfl fun k _ => (congrArg₂ (· * ·) (V_tokens m c n k) (V_weights m c k j)).symm
  have e : queries (argX m c) (argM m c) = fun i : S2048x4096.Idx => ∑ k : Fin 1024, rows m c (ix2 (i 0 : Fin 2048) k)
      * columns m c (ix2 k (i 1 : Fin 4096)) := by
    funext i
    exact point (i 0) (i 1)
  rw [e]
  refine (dats m 0 c).arrAt_eq_of_covers 2 _ (by decide +kernel) fun t hf y => ?_
  blk_simp
  rw [after0_2, stored_eq]
  obtain ⟨r, x, rfl⟩ : ∃ (r : Fin 256) (x : Fin 4096), y = ix2 r x := ⟨y 0, y 1, eq_ix2 y⟩
  rw [payload_apply]
  blk_point [iblk, places t]

theorem reference_apply (x : S1x2048x1024.Idx → EReal) (w : S64x1024x64.Idx → EReal) (n : Fin 2048) (j : Fin 4096) :
    (shapeCast Cert.QueriedIdeal.S2048x4096 (Host.dotGeneral (φ₁ := .f32) (φ₂ := .f32) Cert.QueriedIdeal.dot_S2048x1024_S64x1024x64_S2048x64x64_1_1_0_02_n_n none
      (shapeCast Cert.QueriedIdeal.S2048x1024 x Cert.QueriedIdeal.Facts₀.shapeCasts_S1x2048x1024_S2048x1024 : FVec Ideal Cert.QueriedIdeal.S2048x1024 .f32) (w : FVec Ideal Cert.QueriedIdeal.S64x1024x64 .f32) : FVec Ideal Cert.QueriedIdeal.S2048x64x64 .f32)
      Cert.QueriedIdeal.Facts₀.shapeCasts_S2048x64x64_S2048x4096 : FVec Ideal Cert.QueriedIdeal.S2048x4096 .f32) (ix2 n j) = query x w n j := by
  unfold query
  pointwise

theorem frame_Query : Cert.quiescent_Query := fun m g _ => Cert.Query.Gen.frame m g

theorem frame_QueryIdeal : Cert.quiescent_QueryIdeal := fun m g _ => Cert.QueryIdeal.Gen.frame m g

theorem frame_QueriedIdeal : Cert.quiescent_QueriedIdeal := fun m g _ =>
  (θ_run _ _ _).mono (fun _ hq => ⟨fun c => (hq c).2, sem_eq_zero_of_no_sems (by decide) _⟩) (Cert.QueriedIdeal.Value.run (F := Ideal) m g)

theorem algebraic_query : Cert.algebraic_QueryIdeal_QueriedIdeal := fun m g m' g' _ hm =>
  ⟨fun c => queries (argX m c) (argM m c),
    (θ_run _ _ _).mono (fun _ hq c => ⟨(hq c).1.trans (result_eq m c), (hq c).2⟩) (Cert.QueryIdeal.Value.run_blocks (F := Ideal) m g),
    (θ_run _ _ _).mono (fun _ hq c => ⟨(hq c).1.trans (by
        rw [(hm c).1, (hm c).2]
        funext i
        obtain ⟨n, j, rfl⟩ : ∃ (n : Fin 2048) (j : Fin 4096), i = ix2 n j := ⟨i 0, i 1, eq_ix2 i⟩
        exact reference_apply _ _ n j), (hq c).2⟩) (Cert.QueriedIdeal.Value.run (F := Ideal) m' g')⟩

end Cert.Proof.Query

end
-- ==== Proof.AttentionRows.lean ====
/-
  The attention: the kernel divides each token's gate by the sum of its weights and scales the weighted sum of the values with
  it, the reference divides every weight by the sum first.
-/
module

public import proofs.«01_k».proof.Proof.GatesMath
public import proofs.«01_k».proof.Defs
public import proofs.«01_k».proof.Proof.Gen.AttentionIdeal.Value
public import Idealize.ShloMosaic.Lib.Pointwise
public import Idealize.ShloMosaic.Lib.Pipeline.Value
public import Idealize.ShloMosaic.Lib.Pipeline.ValueKit
public import Idealize.ShloMosaic.Lib.QuiescentFlight

@[expose] public section

set_option maxRecDepth 4096

noncomputable section

namespace Cert.Proof.Attend

open Cert.AttentionIdeal Cert.AttentionIdeal.Gen
open Idealize.ShloMosaic Idealize.ShloMosaic.TcCoe Idealize.SL.Sem
open Cert.Proof.Gates (Finite coe_sum finite_dot finite_of_abs)

/-- The greatest of a row's scores, … -/
def top (s : Fin 2048 → EReal) : EReal := Finset.univ.sup s

/-- … the scores' exponentials, shifted by it, … -/
def weight (s : Fin 2048 → EReal) (j : Fin 2048) : EReal := Ideal.exp (s j - top s)

/-- … and their sum. -/
def mass (s : Fin 2048 → EReal) : EReal := ∑ j, weight s j

/-- Dividing the gate by the sum of the weights, or every weight, is the same: the sum is a positive real. -/
theorem share_eq (s v : Fin 2048 → EReal) (g : EReal) (hs : ∀ j, Finite (s j)) :
    (∑ j, weight s j * v j) * Ideal.div g (mass s) = (∑ j, Ideal.div (weight s j) (mass s) * v j) * g := by
  choose a ha using hs
  obtain ⟨e0, -, he0⟩ := Finset.exists_mem_eq_sup Finset.univ ⟨(0 : Fin 2048), Finset.mem_univ _⟩ s
  have hw : ∀ j, weight s j = ((Real.exp (a j - a e0) : ℝ) : EReal) := fun j => by
    unfold weight top
    rw [he0, ha j, ha e0, ← EReal.coe_sub, Ideal.exp_coe]
  have h0 : 0 < ∑ j, Real.exp (a j - a e0) := Finset.sum_pos (fun _ _ => Real.exp_pos _) ⟨e0, Finset.mem_univ _⟩
  have hm : mass s = ((∑ j, Real.exp (a j - a e0) : ℝ) : EReal) := by
    unfold mass
    simp only [hw]
    exact coe_sum _ _
  rw [hm]
  simp only [Ideal.div_coe h0.ne']
  have inner : ∀ t : Finset (Fin 2048), ((1 / ∑ j, Real.exp (a j - a e0) : ℝ) : EReal) * ∑ j ∈ t, weight s j * v j
      = ∑ j ∈ t, weight s j * ((1 / ∑ j, Real.exp (a j - a e0) : ℝ) : EReal) * v j := fun t => by
    classical
    induction t using Finset.induction_on with
    | empty => simp
    | insert x t hx ih =>
      rw [Finset.sum_insert hx, Finset.sum_insert hx, EReal.left_distrib_of_nonneg_of_ne_top (EReal.coe_nonneg.mpr (by positivity)) (EReal.coe_ne_top _), ih]
      congr 1
      rw [mul_left_comm, mul_assoc]
  rw [← inner, mul_comm g, ← mul_assoc, mul_comm (∑ j, weight s j * v j)]

/-- A row's scores: of its query and the keys. -/
def scores (q : Fin 64 → EReal) (key : S2048x64.Idx → EReal) (j : Fin 2048) : EReal :=
  (∑ d, q d * key (ix2 j d)) * Ideal.ofBits FTy.f32 0x3E000000#32

theorem scores_finite (q : Fin 64 → EReal) (key : S2048x64.Idx → EReal) (hq : ∀ d, Finite (q d)) (hk : ∀ i, Finite (key i)) (j : Fin 2048) :
    Finite (scores q key j) := by
  obtain ⟨r, hr⟩ := finite_dot q (fun d => key (ix2 j d)) hq (fun d => hk _)
  obtain ⟨x, hx⟩ : ∃ x : ℝ, Ideal.ofBits FTy.f32 0x3E000000#32 = (x : EReal) := by
    simp only [Ideal.ofBits, Ideal.ieee]
    exact ⟨8388608 * (2 ^ 26)⁻¹, by simp⟩
  unfold scores
  rw [hr, hx, ← EReal.coe_mul]
  exact ⟨_, rfl⟩

/-- One expert's query, of the two that lie side by side. -/
def half (b : BitVec 32) (p : Fin 128 → EReal) (d : Fin 64) : EReal :=
  if b = 0#32 then p ⟨d.val, by omega⟩ else p ⟨64 + d.val, by omega⟩

theorem is_head : ∀ x k : Fin 16, IntOp.cmpi CmpIPredicate.eq (BitVec.ofNat 32 x.val) (BitVec.ofNat 32 k.val) = if x = k then 1#1 else 0#1 := by decide

theorem select_zero {α : Type} (b : BitVec 32) (x y : α) : Scalar.select (IntOp.cmpi CmpIPredicate.eq b 0#32) x y = if b = 0#32 then x else y := by
  unfold Scalar.select IntOp.cmpi
  by_cases h : b = 0#32
  · subst h; rfl
  · have e : (b == 0#32) = false := by simpa using h
    rw [if_neg h, if_neg]
    show ¬BitVec.ofBool (b == 0#32) = 1#1
    rw [e]
    decide

theorem select_head {α : Type} (x k : Fin 16) (a b : α) :
    Scalar.select (IntOp.cmpi CmpIPredicate.eq (BitVec.ofNat 32 x.val) (BitVec.ofNat 32 k.val)) a b = if x = k then a else b := by
  rw [is_head]
  unfold Scalar.select
  by_cases h : x = k <;> simp [h]

/-- A sum of words of which one head's counts. -/
theorem words_head (k : Fin 16) (f : Fin 16 → BitVec 32) :
    Finset.fold IntOp.addi (0#32) (fun x => if x = k then f x else 0#32) Finset.univ = f k := by
  have none : ∀ t : Finset (Fin 16), k ∉ t → Finset.fold IntOp.addi (0#32) (fun x => if x = k then f x else 0#32) t = 0#32 := fun t => by
    classical
    induction t using Finset.induction_on with
    | empty => exact fun _ => rfl
    | insert x t hx ih =>
      intro h
      rw [Finset.mem_insert, not_or] at h
      rw [Finset.fold_insert hx, ih h.2, if_neg (Ne.symm h.1)]
      rfl
  rw [← Finset.insert_erase (Finset.mem_univ k), Finset.fold_insert (Finset.notMem_erase k _), none _ (Finset.notMem_erase k _), if_pos rfl]
  exact BitVec.add_zero _

theorem weight_row (i : grid0.Coords) (p : Vec Ideal S256x16 .i32) (q : Vec Ideal S1x256x128 .f32) (key : Vec Ideal S2048x64 .bf16)
    (r : Fin 256) (j : Fin 2048) : k0_pay3 i p q key (ix2 r j)
      = weight (scores (half (p (ix2 r (i 1 : Fin 16))) fun x => q (ix3 0 r x)) key) j := by
  obtain ⟨k, hk⟩ : ∃ k : Fin 16, i 1 = k := ⟨_, rfl⟩
  unfold weight top scores half
  pointwise [k0_pay3, k0_pay2]
  rw [hk]
  simp only [select_head, words_head, select_zero, Cert.Proof.Gates.ninf_eq]
  rfl

/-- A row of results, from its scores, the values and its gate. -/
def mixed (s : Fin 2048 → EReal) (val : S2048x64.Idx → EReal) (g : EReal) (x : Fin 128) : EReal :=
  if h : x.val < 64 then (∑ j, weight s j * val (ix2 j ⟨x.val, h⟩)) * Ideal.div g (mass s) else 0

theorem gate_row (i : grid0.Coords) (g : Vec Ideal S256x16 .f32) (r : Fin 256) :
    (∑ k : Fin 16, k0_pay6 i g (ix2 r k)) = g (ix2 r (i 1 : Fin 16)) := by
  obtain ⟨k, hk⟩ : ∃ k : Fin 16, i 1 = k := ⟨_, rfl⟩
  pointwise [k0_pay6, k0_pay2]
  rw [hk]
  simp only [select_head]
  simp

theorem payload_row (i : grid0.Coords) (q : Vec Ideal S1x256x128 .f32) (key val : Vec Ideal S2048x64 .bf16) (g : Vec Ideal S256x16 .f32)
    (p : Vec Ideal S256x16 .i32) (r : Fin 256) (x : Fin 128) :
    k0_pay1 (k0_pay4 i p q key) (k0_pay5 i p q key val) (k0_pay6 i g) (ix3 0 r x)
      = mixed (scores (half (p (ix2 r (i 1 : Fin 16))) fun x => q (ix3 0 r x)) key) val (g (ix2 r (i 1 : Fin 16))) x := by
  rw [← gate_row i g r]
  have hw := weight_row i p q key r
  unfold mixed mass k0_pay4 k0_pay5
  generalize k0_pay3 i p q key = w at hw ⊢
  generalize scores (half (p (ix2 r (i 1 : Fin 16))) fun x => q (ix3 0 r x)) key = s at hw ⊢
  generalize k0_pay6 i g = gm
  pointwise [k0_pay1]
  simp only [hw]

theorem stored_eq (i : grid0.Coords) (q : Vec Ideal S1x256x128 .f32) (key val : Vec Ideal S2048x64 .bf16) (g : Vec Ideal S256x16 .f32)
    (p : Vec Ideal S256x16 .i32) : out0_5 i q key val g p = k0_pay1 (k0_pay4 i p q key) (k0_pay5 i p q key val) (k0_pay6 i g) := by
  have zeros : (![0, 0] : Fin 2 → ℕ) = fun _ => 0 := funext fun a => by fin_cases a <;> rfl
  have zeros3 : (![0, 0, 0] : Fin 3 → ℕ) = fun _ => 0 := funext fun a => by fin_cases a <;> rfl
  unfold out0_5
  refine (View.canon_unit_zero zeros3 _ _).trans ?_
  rw [View.ld_unit_zero zeros _ p, View.ld_unit_zero zeros _ g, View.ld_unit_zero zeros _ key, View.ld_unit_zero zeros _ val, View.ld_unit_zero zeros3 _ q]

section Run

variable (m : (ℓ : Loc nD τ sig) → Buf (Elt Ideal) ℓ) (c : Dev nD)

/-- The pairs of queries, … -/
abbrev argQ : S16x2048x128.Idx → EReal := m ((c : Thread nD τ).loc main_arg0)
/-- … the keys and the values, side by side, … -/
abbrev argK : S2048x128.Idx → EReal := m ((c : Thread nD τ).loc main_arg1)
/-- … the gates … -/
abbrev argG : S2048x16.Idx → EReal := m ((c : Thread nD τ).loc main_arg2)
/-- … and which half of a pair each token's expert is. -/
abbrev argP : S2048x16.Idx → BitVec 32 := m ((c : Thread nD τ).loc main_arg3)

/-- The keys … -/
def keys (a : S2048x128.Idx → EReal) : S2048x64.Idx → EReal := fun i => a (ix2 (i 0 : Fin 2048) (⟨(i 1 : Fin 64).val, (i 1 : Fin 64).isLt.trans (by decide)⟩ : Fin 128))
/-- … and the values. -/
def values (a : S2048x128.Idx → EReal) : S2048x64.Idx → EReal := fun i => a (ix2 (i 0 : Fin 2048) (⟨64 + (i 1 : Fin 64).val, Nat.add_lt_add_left (i 1 : Fin 64).isLt 64⟩ : Fin 128))

theorem V_keys : V m c main_v1 = keys (argK m c) := by
  have e : V m c main_v1 = (truncf .bf16 (extractStridedSlice S2048x64 ![0, 0] (argK m c) slices_S2048x128_S2048x64_0_0 : FVec Ideal S2048x64 .f32) bitsLt_bf16_f32 : FVec Ideal S2048x64 .bf16) := by
    unfold V
    simp only [hostOps0]
    after_results
  rw [e]
  funext i
  obtain ⟨j, d, rfl⟩ : ∃ (j : Fin 2048) (d : Fin 64), i = ix2 j d := ⟨i 0, i 1, eq_ix2 i⟩
  pointwise
  rfl

theorem V_values : V m c main_v3 = values (argK m c) := by
  have e : V m c main_v3 = (truncf .bf16 (extractStridedSlice S2048x64 ![0, 64] (argK m c) slices_S2048x128_S2048x64_0_64 : FVec Ideal S2048x64 .f32) bitsLt_bf16_f32 : FVec Ideal S2048x64 .bf16) := by
    unfold V
    simp only [hostOps0]
    after_results
  rw [e]
  funext i
  obtain ⟨j, d, rfl⟩ : ∃ (j : Fin 2048) (d : Fin 64), i = ix2 j d := ⟨i 0, i 1, eq_ix2 i⟩
  pointwise
  rfl

theorem places : ∀ t : Fin cfg0.N, win0_0.index t = ![t.val % 16, t.val / 16, 0] ∧ win0_1.index t = ![0, 0] ∧ win0_2.index t = ![0, 0]
    ∧ win0_3.index t = ![t.val / 16, 0] ∧ win0_4.index t = ![t.val / 16, 0] ∧ win0_5.index t = ![t.val % 16, t.val / 16, 0] := by decide +kernel

theorem coords_head : ∀ t : Fin cfg0.N, (grid0.coords t 1).val = t.val % 16 :=
  (by decide +kernel : ∀ t : Fin grid0.N, (grid0.coords t 1).val = t.val % 16)

/-- The expert of point `t`'s block. -/
def head (t : Fin cfg0.N) : Fin 16 := ⟨t.val % 16, Nat.mod_lt _ (by decide)⟩

theorem coords_eq (t : Fin cfg0.N) : (grid0.coords t 1 : Fin 16) = head t := Fin.ext (coords_head t)

/-- The token at row `r` of point `t`'s block. -/
def token (t : Fin cfg0.N) (r : Fin 256) : Fin 2048 := ⟨t.val / 16 * 256 + r.val, by have : t.val < 128 := t.isLt; omega⟩

variable (t : Fin cfg0.N)

theorem key_block : (iblk m c 1 t : S2048x64.Idx → EReal) = keys (argK m c) := by
  rw [← V_keys]
  funext y
  obtain ⟨j, d, rfl⟩ : ∃ (j : Fin 2048) (d : Fin 64), y = ix2 j d := ⟨y 0, y 1, eq_ix2 y⟩
  blk_point [iblk, places t]

theorem value_block : (iblk m c 2 t : S2048x64.Idx → EReal) = values (argK m c) := by
  rw [← V_values]
  funext y
  obtain ⟨j, d, rfl⟩ : ∃ (j : Fin 2048) (d : Fin 64), y = ix2 j d := ⟨y 0, y 1, eq_ix2 y⟩
  blk_point [iblk, places t]

theorem gate_block (r : Fin 256) (k : Fin 16) : (iblk m c 3 t : S256x16.Idx → EReal) (ix2 r k) = argG m c (ix2 (token t r) k) := by
  unfold token
  have e : argG m c = V m c main_arg2 := (V_main_arg2 m c).symm
  rw [e]
  blk_point [iblk, places t]

theorem half_block (r : Fin 256) (k : Fin 16) : (iblk m c 4 t : S256x16.Idx → BitVec 32) (ix2 r k) = argP m c (ix2 (token t r) k) := by
  unfold token
  have e : argP m c = V m c main_arg3 := (V_main_arg3 m c).symm
  rw [e]
  blk_point [iblk, places t]

theorem query_block (r : Fin 256) (x : Fin 128) : (iblk m c 0 t : S1x256x128.Idx → EReal) (ix3 0 r x) = argQ m c (ix3 (head t) (token t r) x) := by
  unfold token head
  have e : argQ m c = V m c main_arg0 := (V_main_arg0 m c).symm
  rw [e]
  blk_point [iblk, places t]

end Run

/-- A token's scores for its `k`-th expert … -/
def tokenScores (q : S16x2048x128.Idx → EReal) (a : S2048x128.Idx → EReal) (p : S2048x16.Idx → BitVec 32) (k : Fin 16) (n : Fin 2048) : Fin 2048 → EReal :=
  scores (half (p (ix2 n k)) fun x => q (ix3 k n x)) (keys a)

/-- … and what the attention returns. -/
def attended (q : S16x2048x128.Idx → EReal) (a : S2048x128.Idx → EReal) (g : S2048x16.Idx → EReal) (p : S2048x16.Idx → BitVec 32) :
    S16x2048x128.Idx → EReal := fun i =>
  mixed (tokenScores q a p (i 0) (i 1)) (values a) (g (ix2 (i 1 : Fin 2048) (i 0 : Fin 16))) (i 2)

section Run

variable (m : (ℓ : Loc nD τ sig) → Buf (Elt Ideal) ℓ) (c : Dev nD)

/-- What the result's array holds after the run. -/
theorem result_eq : (dats m 0 c).arrAt 5 cfg0.N = attended (argQ m c) (argK m c) (argG m c) (argP m c) := by
  generalize hG : attended (argQ m c) (argK m c) (argG m c) (argP m c) = G
  refine (dats m 0 c).arrAt_eq_of_covers 5 _ (by decide +kernel) fun t hf y => ?_
  blk_simp
  rw [after0_5, stored_eq]
  obtain ⟨z, r, x, rfl⟩ : ∃ (z : Fin 1) (r : Fin 256) (x : Fin 128), y = ix3 z r x := ⟨y 0, y 1, y 2, eq_ix3 y⟩
  obtain rfl : z = 0 := Subsingleton.elim _ _
  refine (payload_row _ _ _ _ _ _ _ _).trans ?_
  rw [coords_eq, key_block, value_block, gate_block, half_block, funext (query_block m c t r)]
  have e : mixed (scores (half (argP m c (ix2 (token t r) (head t))) fun x => argQ m c (ix3 (head t) (token t r) x)) (keys (argK m c))) (values (argK m c))
      (argG m c (ix2 (token t r) (head t))) x = G (ix3 (head t) (token t r) x) := by
    rw [← hG]
    rfl
  rw [e]
  unfold token head
  blk_point [places t]

end Run

end Cert.Proof.Attend

end
-- ==== Proof.AttentionRef.lean ====
/-
  The attention as the reference computes it, step by step.
-/
module

public import proofs.«01_k».proof.Proof.AttentionRows
public import proofs.«01_k».proof.Proof.Gen.AttendedIdeal.Run

@[expose] public section

set_option maxRecDepth 4096

noncomputable section

namespace Cert.Proof.Attend

open Cert.AttendedIdeal Cert.AttendedIdeal.Gen
open Idealize.ShloMosaic Idealize.ShloMosaic.TcCoe Idealize.SL.Sem

/-- Which half of a pair each token's expert is, in the reference, … -/
def refMask (p : IVec S2048x16 32) : IVec S16x2048x1 1 :=
  cmpi .eq (broadcastInDim S16x2048x1 ![0, 1] bcast_S16x2048_S16x2048x1_0_1 (transpose S16x2048 [1, 0] p transposes_S2048x16_S16x2048_1_0))
    (broadcastInDim S16x2048x1 ![] bcast_S_S16x2048x1 (constantI S_ 32 0#32))

/-- … the queries, … -/
def refQueries (c : IVec S16x2048x1 1) (q : FVec Ideal S16x2048x128 .f32) : FVec Ideal S16x2048x64 .f32 :=
  select (broadcastInDim S16x2048x64 ![0, 1, 2] bcast_S16x2048x1_S16x2048x64_0_1_2 c)
    (extractStridedSlice S16x2048x64 ![0, 0, 0] q slices_S16x2048x128_S16x2048x64_0_0_0) (extractStridedSlice S16x2048x64 ![0, 0, 64] q slices_S16x2048x128_S16x2048x64_0_0_64)

/-- … the scores, … -/
def refScores (z : FVec Ideal S16x2048x64 .f32) (a : FVec Ideal S2048x128 .f32) : FVec Ideal S16x2048x2048 .f32 :=
  mulf (Host.dotGeneral (φ₁ := .f32) (φ₂ := .f32) dot_S16x2048x64_S2048x64_S16x2048x2048_2_1_01_0_n_n none z
    (extractStridedSlice S2048x64 ![0, 0] a slices_S2048x128_S2048x64_0_0)) (broadcastInDim S16x2048x2048 ![] bcast_S_S16x2048x2048 (constant S_ .f32 0x3E000000#32))

/-- … the greatest of every row, … -/
def refTop (s : FVec Ideal S16x2048x2048 .f32) : FVec Ideal S16x2048 .f32 :=
  maximumf (broadcastInDim S16x2048 ![] bcast_S_S16x2048 (constant S_ .f32 0xFF800000#32))
    (Host.reduce FloatOps.maximumf s (constant S_ .f32 0xFF800000#32) reducesTo_S16x2048x2048_S16x2048_d2 h_S_)

/-- … the weights, … -/
def refWeights (s : FVec Ideal S16x2048x2048 .f32) (t : FVec Ideal S16x2048 .f32) : FVec Ideal S16x2048x2048 .f32 :=
  Host.exp (subf s (broadcastInDim S16x2048x2048 ![0, 1, 2] bcast_S16x2048x1_S16x2048x2048_0_1_2 (broadcastInDim S16x2048x1 ![0, 1] bcast_S16x2048_S16x2048x1_0_1 t)))

/-- … their shares … -/
def refShares (w : FVec Ideal S16x2048x2048 .f32) : FVec Ideal S16x2048x2048 .f32 :=
  Host.divf w (broadcastInDim S16x2048x2048 ![0, 1, 2] bcast_S16x2048x1_S16x2048x2048_0_1_2 (broadcastInDim S16x2048x1 ![0, 1] bcast_S16x2048_S16x2048x1_0_1
    (Host.reduceAdd w (constant S_ .f32 0x00000000#32) reducesTo_S16x2048x2048_S16x2048_d2 h_S_)))

/-- … and the result. -/
def refOut (w : FVec Ideal S16x2048x2048 .f32) (a : FVec Ideal S2048x128 .f32) (g : FVec Ideal S2048x16 .f32) : FVec Ideal S16x2048x128 .f32 :=
  concatenate S16x2048x128 2 [⟨S16x2048x64, (mulf (Host.dotGeneral (φ₁ := .f32) (φ₂ := .f32) dot_S16x2048x2048_S2048x64_S16x2048x64_2_0_01_1_n_n none w
      (extractStridedSlice S2048x64 ![0, 64] a slices_S2048x128_S2048x64_0_64)) (broadcastInDim S16x2048x64 ![0, 1, 2] bcast_S16x2048x1_S16x2048x64_0_1_2
      (broadcastInDim S16x2048x1 ![0, 1] bcast_S16x2048_S16x2048x1_0_1 (transpose S16x2048 [1, 0] g transposes_S2048x16_S16x2048_1_0))) : FVec Ideal S16x2048x64 .f32)⟩,
    ⟨S16x2048x64, (broadcastInDim S16x2048x64 ![] bcast_S_S16x2048x64 (constant S_ .f32 0x00000000#32) : FVec Ideal S16x2048x64 .f32)⟩]
    concatenates_S16x2048x64_S16x2048x64_S16x2048x128_d2

theorem refMask_apply (p : IVec S2048x16 32) (k : Fin 16) (n : Fin 2048) : refMask p (ix3 k n 0) = IntOp.cmpi CmpIPredicate.eq (p (ix2 n k)) 0#32 := by
  pointwise [refMask]

theorem refQueries_apply (c : IVec S16x2048x1 1) (q : FVec Ideal S16x2048x128 .f32) (k : Fin 16) (n : Fin 2048) (d : Fin 64) :
    refQueries c q (ix3 k n d) = Scalar.select (c (ix3 k n 0)) (q (ix3 k n ⟨d.val, by omega⟩)) (q (ix3 k n ⟨64 + d.val, by omega⟩)) := by
  pointwise [refQueries]

theorem refScores_apply (z : FVec Ideal S16x2048x64 .f32) (a : FVec Ideal S2048x128 .f32) (k : Fin 16) (n j : Fin 2048) :
    refScores z a (ix3 k n j) = scores (fun d => z (ix3 k n d)) (keys a) j := by
  unfold scores
  pointwise [refScores]
  rfl

/-- The reference's scores, of its arguments. -/
def refAll (q : FVec Ideal S16x2048x128 .f32) (a : FVec Ideal S2048x128 .f32) (p : IVec S2048x16 32) : FVec Ideal S16x2048x2048 .f32 :=
  refScores (refQueries (refMask p) q) a

theorem refAll_apply (q : FVec Ideal S16x2048x128 .f32) (a : FVec Ideal S2048x128 .f32) (p : IVec S2048x16 32) (k : Fin 16) (n j : Fin 2048) :
    refAll q a p (ix3 k n j) = tokenScores q a p k n j := by
  unfold refAll tokenScores
  rw [refScores_apply]
  have e : (fun d => refQueries (refMask p) q (ix3 k n d)) = half (p (ix2 n k)) fun x => q (ix3 k n x) := funext fun d => by
    rw [refQueries_apply, refMask_apply, select_zero]
    rfl
  rw [e]

theorem refTop_apply (s : FVec Ideal S16x2048x2048 .f32) (k : Fin 16) (n : Fin 2048) : refTop s (ix2 k n) = top fun j => s (ix3 k n j) := by
  have e : Finset.fold max (⊥ : EReal) (s : S16x2048x2048.Idx → EReal) (Finset.univ.filter fun i => reducesTo_S16x2048x2048_S16x2048_d2.drop i = ix2 k n)
      = top fun j => s (ix3 k n j) :=
    Shape.ReducesTo.fold_fiber_r3_a2 (n0 := 16) (n1 := 2048) (n2 := 2048) reducesTo_S16x2048x2048_S16x2048_d2 (ix2 k n) max ⊥ _
  have f : ∀ z : S_.Idx → EReal, Host.reduce (FloatOps.maximumf (F := Ideal) (φ := .f32)) s z reducesTo_S16x2048x2048_S16x2048_d2 h_S_ (ix2 k n)
      = Finset.fold max (z (Shape.Idx.first h_S_)) (s : S16x2048x2048.Idx → EReal) (Finset.univ.filter fun i => reducesTo_S16x2048x2048_S16x2048_d2.drop i = ix2 k n) :=
    fun z => Host.reduce_eq_fold (max : EReal → EReal → EReal) s z _ _ _
  unfold refTop
  have split : ∀ a b : FVec Ideal S16x2048 .f32, maximumf a b (ix2 k n) = max (a (ix2 k n) : EReal) (b (ix2 k n)) := fun _ _ => rfl
  rw [split, f]
  have z : (constant S_ .f32 0xFF800000#32 : FVec Ideal S_ .f32) (Shape.Idx.first h_S_) = (⊥ : EReal) := Cert.Proof.Gates.ninf_eq
  have y : (broadcastInDim S16x2048 ![] bcast_S_S16x2048 (constant S_ .f32 0xFF800000#32 : FVec Ideal S_ .f32)) (ix2 k n) = (⊥ : EReal) := Cert.Proof.Gates.ninf_eq
  rw [z, e, y, max_eq_right bot_le]

theorem refWeights_apply (s : FVec Ideal S16x2048x2048 .f32) (k : Fin 16) (n j : Fin 2048) :
    refWeights s (refTop s) (ix3 k n j) = weight (fun j => s (ix3 k n j)) j := by
  unfold weight
  rw [← refTop_apply]
  generalize refTop s = t
  pointwise [refWeights]

theorem refShares_apply (w : FVec Ideal S16x2048x2048 .f32) (k : Fin 16) (n j : Fin 2048) :
    refShares w (ix3 k n j) = Ideal.div (w (ix3 k n j)) (∑ j, w (ix3 k n j)) := by
  pointwise [refShares]

theorem refOut_apply (w : FVec Ideal S16x2048x2048 .f32) (a : FVec Ideal S2048x128 .f32) (g : FVec Ideal S2048x16 .f32) (k : Fin 16) (n : Fin 2048) (x : Fin 128) :
    refOut w a g (ix3 k n x) = if h : x.val < 64 then (∑ j, w (ix3 k n j) * values a (ix2 j ⟨x.val, h⟩)) * g (ix2 n k) else 0 := by
  pointwise [refOut]
  rfl

/-- What the reference returns, in those steps, … -/
theorem reference_steps (m : (ℓ : Loc nD τ sig) → Buf (Elt Ideal) ℓ) (c : Dev nD)
    (q : FVec Ideal S16x2048x128 .f32) (a : FVec Ideal S2048x128 .f32) (g : FVec Ideal S2048x16 .f32) (p : IVec S2048x16 32)
    (hq : m ((c.tc : Thread nD τ).loc main_arg0) = q) (ha : m ((c.tc : Thread nD τ).loc main_arg1) = a)
    (hg : m ((c.tc : Thread nD τ).loc main_arg2) = g) (hp : m ((c.tc : Thread nD τ).loc main_arg3) = p) :
    Cert.AttendedIdeal.Value.res_main_v29 m c = refOut (refShares (refWeights (refAll q a p) (refTop (refAll q a p)))) a g := by
  unfold Cert.AttendedIdeal.Value.res_main_v29
  rw [hq, ha, hg, hp]
  rfl

/-- … and at a point. -/
theorem reference_row (q : FVec Ideal S16x2048x128 .f32) (a : FVec Ideal S2048x128 .f32) (g : FVec Ideal S2048x16 .f32) (p : IVec S2048x16 32)
    (k : Fin 16) (n : Fin 2048) (x : Fin 128) :
    refOut (refShares (refWeights (refAll q a p) (refTop (refAll q a p)))) a g (ix3 k n x) = if h : x.val < 64 then
      (∑ j, Ideal.div (weight (tokenScores q a p k n) j) (mass (tokenScores q a p k n)) * values a (ix2 j ⟨x.val, h⟩)) * g (ix2 n k) else 0 := by
  have hs : (fun j => refAll q a p (ix3 k n j)) = tokenScores q a p k n := funext (refAll_apply q a p k n)
  rw [refOut_apply]
  unfold mass
  simp only [refShares_apply, refWeights_apply]
  rw [hs]

end Cert.Proof.Attend

end
-- ==== Proof.AttentionClaims.lean ====
/-
  The attention's claims: both programs run to their end, and on real queries and keys they return the same.
-/
module

public import proofs.«01_k».proof.Pre_scored
public import proofs.«01_k».proof.Defs
public import proofs.«01_k».proof.Proof.AttentionRef
public import proofs.«01_k».proof.Proof.Gen.Attention.Frame
public import Idealize.ShloMosaic.Lib.ReduceAll
public import Idealize.ShloMosaic.Lib.QuiescentFlight

@[expose] public section

noncomputable section

namespace Cert.Proof.Attend

open Idealize.ShloMosaic Idealize.ShloMosaic.TcCoe Idealize.SL.Sem
open Cert.Proof.Gates (Finite finite_of_abs)

/-- The precondition, read: the queries that are used, and the keys, are real. -/
theorem real_args [Cert.Pre_scored.Facts] (q : Cert.Pre_scored.S16x2048x128.Idx → EReal) (a : Cert.Pre_scored.S2048x128.Idx → EReal)
    (g : Cert.Pre_scored.S2048x16.Idx → EReal) (p : Cert.Pre_scored.S2048x16.Idx → BitVec 32)
    (h : Cert.Pre_scored.fn (F := Ideal) q a g p = fun _ => 1#1) :
    (∀ (k : Fin 16) (n : Fin 2048) (d : Fin 64), Finite (half (p (ix2 n k)) (fun x => q (ix3 k n x)) d)) ∧ (∀ i, Finite (keys a i)) := by
  have : Subsingleton Cert.Pre_scored.S_.Idx := ⟨fun a b => funext fun k : Fin 0 => k.elim0⟩
  obtain ⟨e1, e2⟩ := IntOp.andi_eq_one.1 (congrFun h (fun k : Fin 0 => k.elim0))
  have inf : Ideal.ofBits FTy.f32 0x7F800000#32 = (⊤ : EReal) := by simp [Ideal.ofBits, Ideal.ieee]
  have one : ∀ b : Bool, BitVec.ofBool b = 1#1 → b = true := by decide
  have real : ∀ x : EReal, BitVec.ofBool (decide (max x (-x) < Ideal.ofBits FTy.f32 0x7F800000#32)) = 1#1 → Finite x := fun x e => by
    rw [inf] at e
    exact finite_of_abs (of_decide_eq_true (one _ e))
  constructor
  · intro k n d
    have f := real _ (Host.reduce_andi_all _ _ _ _ _ e1 (ix3 k n d))
    have s : half (p (ix2 n k)) (fun x => q (ix3 k n x)) d
        = Scalar.select (IntOp.cmpi CmpIPredicate.eq (p (ix2 n k)) 0#32) (q (ix3 k n ⟨d.val, by omega⟩)) (q (ix3 k n ⟨64 + d.val, by omega⟩)) :=
      (select_zero _ _ _).symm
    rw [s]
    pointwise [Cert.Pre_scored.fn_where] at f
    exact f
  · intro i
    obtain ⟨j, d, rfl⟩ : ∃ (j : Fin 2048) (d : Fin 64), i = ix2 j d := ⟨i 0, i 1, eq_ix2 i⟩
    have f := real _ (Host.reduce_andi_all _ _ _ _ _ e2 (ix2 j d))
    pointwise at f
    exact f

theorem frame_Attention : Cert.quiescent_Attention := fun m g _ => Cert.Attention.Gen.frame m g

theorem frame_AttentionIdeal : Cert.quiescent_AttentionIdeal := fun m g _ => Cert.AttentionIdeal.Gen.frame m g

theorem frame_AttendedIdeal : Cert.quiescent_AttendedIdeal := fun m g _ =>
  (θ_run _ _ _).mono (fun _ hq => ⟨fun c => (hq c).2, sem_eq_zero_of_no_sems (by decide) _⟩) (Cert.AttendedIdeal.Value.run (F := Ideal) m g)

/-- On real queries and keys the two ways to divide agree. -/
theorem steps_eq (q : Cert.AttendedIdeal.S16x2048x128.Idx → EReal) (a : Cert.AttendedIdeal.S2048x128.Idx → EReal)
    (g : Cert.AttendedIdeal.S2048x16.Idx → EReal) (p : Cert.AttendedIdeal.S2048x16.Idx → BitVec 32)
    (hq : ∀ (k : Fin 16) (n : Fin 2048) (d : Fin 64), Finite (half (p (ix2 n k)) (fun x => q (ix3 k n x)) d)) (hk : ∀ i, Finite (keys a i)) :
    refOut (refShares (refWeights (refAll q a p) (refTop (refAll q a p)))) a g = attended q a g p := by
  funext i
  obtain ⟨k, n, x, rfl⟩ : ∃ (k : Fin 16) (n : Fin 2048) (x : Fin 128), i = ix3 k n x := ⟨i 0, i 1, i 2, eq_ix3 i⟩
  refine (reference_row q a g p k n x).trans ?_
  have e : attended q a g p (ix3 k n x) = mixed (tokenScores q a p k n) (values a) (g (ix2 n k)) x := rfl
  rw [e]
  unfold mixed
  by_cases h : x.val < 64
  · rw [dif_pos h, dif_pos h]
    exact (share_eq _ _ _ (scores_finite _ _ (hq k n) hk)).symm
  · rw [dif_neg h, dif_neg h]

theorem algebraic_attention [Cert.Pre_scored.Facts] : Cert.algebraic_AttentionIdeal_AttendedIdeal_pre_scored := fun m g m' g' hp hm =>
  ⟨fun c => attended (argQ m c) (argK m c) (argG m c) (argP m c),
    (θ_run _ _ _).mono (fun _ h c => ⟨(h c).1.trans (result_eq m c), (h c).2⟩) (Cert.AttentionIdeal.Value.run_blocks (F := Ideal) m g),
    (θ_run _ _ _).mono (fun _ h c => ⟨(h c).1.trans ((reference_steps m' c (argQ m c) (argK m c) (argG m c) (argP m c) (hm c).1 (hm c).2.1 (hm c).2.2.1 (hm c).2.2.2).trans
        (steps_eq _ _ _ _ (real_args _ _ _ _ (hp c)).1 (real_args _ _ _ _ (hp c)).2)), (h c).2⟩) (Cert.AttendedIdeal.Value.run (F := Ideal) m' g')⟩

end Cert.Proof.Attend

end
-- ==== Proof.lean ====
/-
  The certificate's claim, put together: the frames and the value claims of the gather, from the kernel's run and the
  references', those of the scatter with the combine, and those of the gating, the query products and the attention.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_pre
public import proofs.«01_k».proof.Proof.Gen.Scatter
public import proofs.«01_k».proof.Proof.Gen.Scatter.Skeleton
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.CombinedIdeal
public import proofs.«01_k».proof.Proof.Gen.CombinedIdeal.Run
public import proofs.«01_k».proof.Proof.Gen.Pre_routed
public import proofs.«01_k».proof.Proof.Gen.Gating
public import proofs.«01_k».proof.Proof.Gen.GatingIdeal
public import proofs.«01_k».proof.Proof.Gen.Gating.Frame
public import proofs.«01_k».proof.Proof.Gen.GatingIdeal.Value
public import proofs.«01_k».proof.Proof.Gen.GatedIdeal
public import proofs.«01_k».proof.Proof.Gen.GatedIdeal.Run
public import proofs.«01_k».proof.Proof.Gen.Query
public import proofs.«01_k».proof.Proof.Gen.Query.Frame
public import proofs.«01_k».proof.Proof.Gen.QueryIdeal
public import proofs.«01_k».proof.Proof.Gen.QueryIdeal.Value
public import proofs.«01_k».proof.Proof.Gen.QueriedIdeal
public import proofs.«01_k».proof.Proof.Gen.QueriedIdeal.Run
public import proofs.«01_k».proof.Proof.Gen.Attention
public import proofs.«01_k».proof.Proof.Gen.Attention.Frame
public import proofs.«01_k».proof.Proof.Gen.AttentionIdeal
public import proofs.«01_k».proof.Proof.Gen.AttentionIdeal.Value
public import proofs.«01_k».proof.Proof.Gen.AttendedIdeal
public import proofs.«01_k».proof.Proof.Gen.AttendedIdeal.Run
public import proofs.«01_k».proof.Proof.Gen.Pre_scored
public import proofs.«01_k».proof.Proof.Gen.Pre_finite
public import proofs.«01_k».proof.Proof.Launch
public import proofs.«01_k».proof.Proof.Value
public import proofs.«01_k».proof.Proof.ScatterClaims
public import proofs.«01_k».proof.Proof.GatesClaims
public import proofs.«01_k».proof.Proof.QueryClaims
public import proofs.«01_k».proof.Proof.AttentionClaims

@[expose] public section

noncomputable section

namespace Cert.Proof

open Idealize.ShloMosaic Idealize.SL.Sem Cert.Proof.Gather

/-- The kernel's run at the machine's floats: what `run_main` says, of the program as the claims name it there. -/
theorem kernel_run (m : (ℓ : Loc Cert.Kernel.nD Cert.Kernel.τ Cert.Kernel.sig) → Buf (Elt Bits) ℓ) (g : Dev Cert.Kernel.nD → PrngReg)
    (h : Cert.Pre_Kernel m) : θ_run (Cert.Kernel.defs (F := Bits)) (Cert.Kernel.threads (F := Bits)) ⟨m, fun _ => 0, g⟩ (QC (F := Bits) m) :=
  run_main (F := Bits) m g fun d => index_lt (h d)

theorem kernelIdeal_run (m : (ℓ : Loc Cert.KernelIdeal.nD Cert.KernelIdeal.τ Cert.KernelIdeal.sig) → Buf (Elt Ideal) ℓ) (g : Dev Cert.KernelIdeal.nD → PrngReg)
    (h : Cert.Pre_KernelIdeal m) : θ_run (Cert.KernelIdeal.defs (F := Ideal)) (Cert.KernelIdeal.threads (F := Ideal)) ⟨m, fun _ => 0, g⟩ (QC (F := Ideal) m) :=
  run_main (F := Ideal) m g fun d => index_lt (h d)

theorem frame_Kernel : Cert.quiescent_Kernel := fun m g h =>
  (θ_run _ _ _).mono (fun _ hq => ⟨fun c => (hq.1 c).2, hq.2⟩) (kernel_run m g h)

theorem frame_KernelIdeal : Cert.quiescent_KernelIdeal := fun m g h =>
  (θ_run _ _ _).mono (fun _ hq => ⟨fun c => (hq.1 c).2, hq.2⟩) (kernelIdeal_run m g h)

theorem frame_ReferenceIdeal : Cert.quiescent_ReferenceIdeal := fun m g _ =>
  (θ_run _ _ _).mono (fun _ hq => ⟨fun c => (hq c).2, sem_eq_zero_of_no_sems (by decide) _⟩) (Cert.ReferenceIdeal.Value.run (F := Ideal) m g)

theorem frame_Reference : Cert.quiescent_Reference := fun m g _ =>
  (θ_run _ _ _).mono (fun _ hq => ⟨fun c => (hq c).2, sem_eq_zero_of_no_sems (by decide) _⟩) (Cert.Reference.Value.run (F := Bits) m g)

theorem algebraic : Cert.algebraic_KernelIdeal_ReferenceIdeal := fun m g m' g' h hm =>
  ⟨fun c => G (F := Ideal) m c,
    (θ_run _ _ _).mono (fun _ hq c => hq.1 c) (kernelIdeal_run m g h),
    (θ_run _ _ _).mono (fun _ hq c => ⟨(hq c).1.trans (by
        rw [(hm c).1, (hm c).2]; exact take_eq (F := Ideal) _ _ (index_lt (h c))), (hq c).2⟩)
      (Cert.ReferenceIdeal.Value.run (F := Ideal) m' g')⟩

theorem bitexact : Cert.bitexact_Kernel_Reference := fun m g m' g' h hm =>
  ⟨fun c => G (F := Bits) m c,
    (θ_run _ _ _).mono (fun _ hq c => hq.1 c) (kernel_run m g h),
    (θ_run _ _ _).mono (fun _ hq c => ⟨(hq c).1.trans (by
        rw [(hm c).1, (hm c).2]; exact take_eq (F := Bits) _ _ (index_lt (h c))), (hq c).2⟩)
      (Cert.Reference.Value.run (F := Bits) m' g')⟩

theorem claim : Cert.Claim :=
  have finite : Cert.Pre_finite.Facts := Gates.finite_facts
  ⟨Cert.Query.Gen.facts, Cert.QueryIdeal.Gen.facts, Cert.QueriedIdeal.Gen.facts, Cert.Attention.Gen.facts, Cert.AttentionIdeal.Gen.facts,
    Cert.AttendedIdeal.Gen.facts, Cert.Gating.Gen.facts, Cert.GatingIdeal.Gen.facts, Cert.GatedIdeal.Gen.facts, Cert.Kernel.Gen.facts, Cert.KernelIdeal.Gen.facts,
    Cert.ReferenceIdeal.Gen.facts, Cert.Reference.Gen.facts, Cert.Scatter.Gen.facts, Cert.ScatterIdeal.Gen.facts, Cert.CombinedIdeal.Gen.facts,
    Cert.Pre_scored.Gen.facts, finite, Cert.Pre_pre.Gen.facts, Cert.Pre_routed.Gen.facts,
    Query.frame_Query, Query.frame_QueryIdeal, Query.frame_QueriedIdeal, Attend.frame_Attention, Attend.frame_AttentionIdeal,
    fun m g _ => Attend.frame_AttentionIdeal m g ⟨⟩, Attend.frame_AttendedIdeal, fun m g _ => Attend.frame_AttendedIdeal m g ⟨⟩,
    Gating.frame_Gating, Gating.frame_GatingIdeal, fun m g _ => Gating.frame_GatingIdeal m g ⟨⟩, Gating.frame_GatedIdeal, fun m g _ => Gating.frame_GatedIdeal m g ⟨⟩,
    frame_Kernel, frame_KernelIdeal, frame_ReferenceIdeal, frame_Reference, Scatter.frame_Scatter, Scatter.frame_ScatterIdeal, Scatter.frame_CombinedIdeal,
    trivial, Query.algebraic_query, trivial, Attend.algebraic_attention, trivial, Gating.algebraic_gating, trivial, algebraic, bitexact, trivial, Scatter.algebraic_scatter⟩

end Cert.Proof

end
